-- ==== Defs.lean ====
def Pre_Kernel (m : (ℓ : Loc Cert.Kernel.nD Cert.Kernel.τ Cert.Kernel.sig) → Buf (Elt Bits) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Sg (m : (ℓ : Loc Cert.Sg.nD Cert.Sg.τ Cert.Sg.sig) → Buf (Elt Bits) ℓ) : Prop :=
  True

def Pre_SgIdeal (m : (ℓ : Loc Cert.SgIdeal.nD Cert.SgIdeal.τ Cert.SgIdeal.sig) → Buf (Elt Ideal) ℓ) : Prop :=
  True

def Pre_SgRefIdeal (m : (ℓ : Loc Cert.SgRefIdeal.nD Cert.SgRefIdeal.τ Cert.SgRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_finite_keys [hPre_finite_keys : Cert.Pre_finite_keys.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_finite_keys.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3))).1 = (fun _ => 1#1)
    ∧ (Cert.Pre_finite_keys.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3))).2 = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_finite_keys [hPre_finite_keys : Cert.Pre_finite_keys.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_finite_keys.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2)) (m ((c.tc : Thread Cert.MemAttnRefIdeal.nD Cert.MemAttnRefIdeal.τ).loc Cert.MemAttnRefIdeal.main_arg3))).1 = (fun _ => 1#1)
    ∧ (Cert.Pre_finite_keys.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2)) (m ((c.tc : Thread Cert.MemAttnRefIdeal.nD Cert.MemAttnRefIdeal.τ).loc Cert.MemAttnRefIdeal.main_arg3))).2 = (fun _ => 1#1)

def Pre_Ssd (m : (ℓ : Loc Cert.Ssd.nD Cert.Ssd.τ Cert.Ssd.sig) → Buf (Elt Bits) ℓ) : Prop :=
  True

def Pre_Gdn (m : (ℓ : Loc Cert.Gdn.nD Cert.Gdn.τ Cert.Gdn.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Sg [hSg : Cert.Sg.Facts] : Prop :=
  ∀ (m : (ℓ : Loc Cert.Sg.nD Cert.Sg.τ Cert.Sg.sig) → Buf (Elt Bits) ℓ) (g : Dev Cert.Sg.nD → PrngReg), Pre_Sg m →
    θ_run (Cert.Sg.defs (F := Bits)) (onTc (τ := Cert.Sg.τ) (Cert.Sg.main (F := Bits))) ⟨m, fun _ => 0, g⟩ (fun r => (∀ c : Dev Cert.Sg.nD,
      r.2.mem ((c.tc : Thread Cert.Sg.nD Cert.Sg.τ).loc Cert.Sg.main_arg0) = m ((c.tc : Thread Cert.Sg.nD Cert.Sg.τ).loc Cert.Sg.main_arg0)
      ∧ r.2.mem ((c.tc : Thread Cert.Sg.nD Cert.Sg.τ).loc Cert.Sg.main_arg1) = m ((c.tc : Thread Cert.Sg.nD Cert.Sg.τ).loc Cert.Sg.main_arg1)
      ∧ r.2.mem ((c.tc : Thread Cert.Sg.nD Cert.Sg.τ).loc Cert.Sg.main_arg2) = m ((c.tc : Thread Cert.Sg.nD Cert.Sg.τ).loc Cert.Sg.main_arg2)
      ∧ r.2.mem ((c.tc : Thread Cert.Sg.nD Cert.Sg.τ).loc Cert.Sg.main_arg3) = m ((c.tc : Thread Cert.Sg.nD Cert.Sg.τ).loc Cert.Sg.main_arg3)
      ∧ r.2.mem ((c.tc : Thread Cert.Sg.nD Cert.Sg.τ).loc Cert.Sg.main_arg4) = m ((c.tc : Thread Cert.Sg.nD Cert.Sg.τ).loc Cert.Sg.main_arg4))
      ∧ r.2.sem = fun _ => 0)

def quiescent_SgIdeal [hSgIdeal : Cert.SgIdeal.Facts] : Prop :=
  ∀ (m : (ℓ : Loc Cert.SgIdeal.nD Cert.SgIdeal.τ Cert.SgIdeal.sig) → Buf (Elt Ideal) ℓ) (g : Dev Cert.SgIdeal.nD → PrngReg), Pre_SgIdeal m →
    θ_run (Cert.SgIdeal.defs (F := Ideal)) (onTc (τ := Cert.SgIdeal.τ) (Cert.SgIdeal.main (F := Ideal))) ⟨m, fun _ => 0, g⟩ (fun r => (∀ c : Dev Cert.SgIdeal.nD,
      r.2.mem ((c.tc : Thread Cert.SgIdeal.nD Cert.SgIdeal.τ).loc Cert.SgIdeal.main_arg0) = m ((c.tc : Thread Cert.SgIdeal.nD Cert.SgIdeal.τ).loc Cert.SgIdeal.main_arg0)
      ∧ r.2.mem ((c.tc : Thread Cert.SgIdeal.nD Cert.SgIdeal.τ).loc Cert.SgIdeal.main_arg1) = m ((c.tc : Thread Cert.SgIdeal.nD Cert.SgIdeal.τ).loc Cert.SgIdeal.main_arg1)
      ∧ r.2.mem ((c.tc : Thread Cert.SgIdeal.nD Cert.SgIdeal.τ).loc Cert.SgIdeal.main_arg2) = m ((c.tc : Thread Cert.SgIdeal.nD Cert.SgIdeal.τ).loc Cert.SgIdeal.main_arg2)
      ∧ r.2.mem ((c.tc : Thread Cert.SgIdeal.nD Cert.SgIdeal.τ).loc Cert.SgIdeal.main_arg3) = m ((c.tc : Thread Cert.SgIdeal.nD Cert.SgIdeal.τ).loc Cert.SgIdeal.main_arg3)
      ∧ r.2.mem ((c.tc : Thread Cert.SgIdeal.nD Cert.SgIdeal.τ).loc Cert.SgIdeal.main_arg4) = m ((c.tc : Thread Cert.SgIdeal.nD Cert.SgIdeal.τ).loc Cert.SgIdeal.main_arg4))
      ∧ r.2.sem = fun _ => 0)

def quiescent_SgRefIdeal [hSgRefIdeal : Cert.SgRefIdeal.Facts] : Prop :=
  ∀ (m : (ℓ : Loc Cert.SgRefIdeal.nD Cert.SgRefIdeal.τ Cert.SgRefIdeal.sig) → Buf (Elt Ideal) ℓ) (g : Dev Cert.SgRefIdeal.nD → PrngReg), Pre_SgRefIdeal m →
    θ_run (Cert.SgRefIdeal.defs (F := Ideal)) (onTc (τ := Cert.SgRefIdeal.τ) (Cert.SgRefIdeal.main (F := Ideal))) ⟨m, fun _ => 0, g⟩ (fun r => (∀ c : Dev Cert.SgRefIdeal.nD,
      r.2.mem ((c.tc : Thread Cert.SgRefIdeal.nD Cert.SgRefIdeal.τ).loc Cert.SgRefIdeal.main_arg0) = m ((c.tc : Thread Cert.SgRefIdeal.nD Cert.SgRefIdeal.τ).loc Cert.SgRefIdeal.main_arg0)
      ∧ r.2.mem ((c.tc : Thread Cert.SgRefIdeal.nD Cert.SgRefIdeal.τ).loc Cert.SgRefIdeal.main_arg1) = m ((c.tc : Thread Cert.SgRefIdeal.nD Cert.SgRefIdeal.τ).loc Cert.SgRefIdeal.main_arg1)
      ∧ r.2.mem ((c.tc : Thread Cert.SgRefIdeal.nD Cert.SgRefIdeal.τ).loc Cert.SgRefIdeal.main_arg2) = m ((c.tc : Thread Cert.SgRefIdeal.nD Cert.SgRefIdeal.τ).loc Cert.SgRefIdeal.main_arg2)
      ∧ r.2.mem ((c.tc : Thread Cert.SgRefIdeal.nD Cert.SgRefIdeal.τ).loc Cert.SgRefIdeal.main_arg3) = m ((c.tc : Thread Cert.SgRefIdeal.nD Cert.SgRefIdeal.τ).loc Cert.SgRefIdeal.main_arg3)
      ∧ r.2.mem ((c.tc : Thread Cert.SgRefIdeal.nD Cert.SgRefIdeal.τ).loc Cert.SgRefIdeal.main_arg4) = m ((c.tc : Thread Cert.SgRefIdeal.nD Cert.SgRefIdeal.τ).loc Cert.SgRefIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ r.2.sem = fun _ => 0)

def quiescent_MemAttnIdeal_pre_finite_keys [hMemAttnIdeal : Cert.MemAttnIdeal.Facts] [hPre_finite_keys : Cert.Pre_finite_keys.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_finite_keys m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3))
      ∧ r.2.sem = fun _ => 0)

def quiescent_MemAttnRefIdeal_pre_finite_keys [hMemAttnRefIdeal : Cert.MemAttnRefIdeal.Facts] [hPre_finite_keys : Cert.Pre_finite_keys.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_finite_keys m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v91) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v37_0)) (v1 : (c : Dev Cert.InProjIdeal.nD) → Buf (Elt Ideal) ((c.tc : Thread Cert.InProjIdeal.nD Cert.InProjIdeal.τ).loc Cert.InProjIdeal.main_v37_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v37_0) = v0 c
          ∧ r.2.mem ((c.tc : Thread Cert.InProjIdeal.nD Cert.InProjIdeal.τ).loc Cert.InProjIdeal.main_v37_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v39) = v0 c
          ∧ r.2.mem ((c.tc : Thread Cert.InProjRefIdeal.nD Cert.InProjRefIdeal.τ).loc Cert.InProjRefIdeal.main_v40) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Sg_SgIdeal : Prop :=
  True

def algebraic_SgIdeal_SgRefIdeal [hSgIdeal : Cert.SgIdeal.Facts] [hSgRefIdeal : Cert.SgRefIdeal.Facts] : Prop :=
  ∀ (m : (ℓ : Loc Cert.SgIdeal.nD Cert.SgIdeal.τ Cert.SgIdeal.sig) → Buf (Elt Ideal) ℓ) (g : Dev Cert.SgIdeal.nD → PrngReg)
    (m' : (ℓ : Loc Cert.SgRefIdeal.nD Cert.SgRefIdeal.τ Cert.SgRefIdeal.sig) → Buf (Elt Ideal) ℓ) (g' : Dev Cert.SgRefIdeal.nD → PrngReg), Pre_SgIdeal m →
    (∀ c : Dev Cert.SgIdeal.nD,
      m' ((c.tc : Thread Cert.SgRefIdeal.nD Cert.SgRefIdeal.τ).loc Cert.SgRefIdeal.main_arg0) = m ((c.tc : Thread Cert.SgIdeal.nD Cert.SgIdeal.τ).loc Cert.SgIdeal.main_arg0)
      ∧ m' ((c.tc : Thread Cert.SgRefIdeal.nD Cert.SgRefIdeal.τ).loc Cert.SgRefIdeal.main_arg1) = m ((c.tc : Thread Cert.SgIdeal.nD Cert.SgIdeal.τ).loc Cert.SgIdeal.main_arg1)
      ∧ m' ((c.tc : Thread Cert.SgRefIdeal.nD Cert.SgRefIdeal.τ).loc Cert.SgRefIdeal.main_arg2) = m ((c.tc : Thread Cert.SgIdeal.nD Cert.SgIdeal.τ).loc Cert.SgIdeal.main_arg2)
      ∧ m' ((c.tc : Thread Cert.SgRefIdeal.nD Cert.SgRefIdeal.τ).loc Cert.SgRefIdeal.main_arg3) = m ((c.tc : Thread Cert.SgIdeal.nD Cert.SgIdeal.τ).loc Cert.SgIdeal.main_arg3)
      ∧ m' ((c.tc : Thread Cert.SgRefIdeal.nD Cert.SgRefIdeal.τ).loc Cert.SgRefIdeal.main_arg4) = m ((c.tc : Thread Cert.SgIdeal.nD Cert.SgIdeal.τ).loc Cert.SgIdeal.main_arg4)) →
    ∃ (v0 : (c : Dev Cert.SgIdeal.nD) → Buf (Elt Ideal) ((c.tc : Thread Cert.SgIdeal.nD Cert.SgIdeal.τ).loc Cert.SgIdeal.main_v5)),
      θ_run (Cert.SgIdeal.defs (F := Ideal)) (onTc (τ := Cert.SgIdeal.τ) (Cert.SgIdeal.main (F := Ideal))) ⟨m, fun _ => 0, g⟩ (fun r => ∀ c : Dev Cert.SgIdeal.nD,
          r.2.mem ((c.tc : Thread Cert.SgIdeal.nD Cert.SgIdeal.τ).loc Cert.SgIdeal.main_v5) = v0 c
          ∧ r.2.mem ((c.tc : Thread Cert.SgIdeal.nD Cert.SgIdeal.τ).loc Cert.SgIdeal.main_arg0) = m ((c.tc : Thread Cert.SgIdeal.nD Cert.SgIdeal.τ).loc Cert.SgIdeal.main_arg0)
          ∧ r.2.mem ((c.tc : Thread Cert.SgIdeal.nD Cert.SgIdeal.τ).loc Cert.SgIdeal.main_arg1) = m ((c.tc : Thread Cert.SgIdeal.nD Cert.SgIdeal.τ).loc Cert.SgIdeal.main_arg1)
          ∧ r.2.mem ((c.tc : Thread Cert.SgIdeal.nD Cert.SgIdeal.τ).loc Cert.SgIdeal.main_arg2) = m ((c.tc : Thread Cert.SgIdeal.nD Cert.SgIdeal.τ).loc Cert.SgIdeal.main_arg2)
          ∧ r.2.mem ((c.tc : Thread Cert.SgIdeal.nD Cert.SgIdeal.τ).loc Cert.SgIdeal.main_arg3) = m ((c.tc : Thread Cert.SgIdeal.nD Cert.SgIdeal.τ).loc Cert.SgIdeal.main_arg3)
          ∧ r.2.mem ((c.tc : Thread Cert.SgIdeal.nD Cert.SgIdeal.τ).loc Cert.SgIdeal.main_arg4) = m ((c.tc : Thread Cert.SgIdeal.nD Cert.SgIdeal.τ).loc Cert.SgIdeal.main_arg4))
      ∧ θ_run (Cert.SgRefIdeal.defs (F := Ideal)) (onTc (τ := Cert.SgRefIdeal.τ) (Cert.SgRefIdeal.main (F := Ideal))) ⟨m', fun _ => 0, g'⟩ (fun r => ∀ c : Dev Cert.SgRefIdeal.nD,
          r.2.mem ((c.tc : Thread Cert.SgRefIdeal.nD Cert.SgRefIdeal.τ).loc Cert.SgRefIdeal.main_v70) = v0 c
          ∧ r.2.mem ((c.tc : Thread Cert.SgRefIdeal.nD Cert.SgRefIdeal.τ).loc Cert.SgRefIdeal.main_arg0) = m' ((c.tc : Thread Cert.SgRefIdeal.nD Cert.SgRefIdeal.τ).loc Cert.SgRefIdeal.main_arg0)
          ∧ r.2.mem ((c.tc : Thread Cert.SgRefIdeal.nD Cert.SgRefIdeal.τ).loc Cert.SgRefIdeal.main_arg1) = m' ((c.tc : Thread Cert.SgRefIdeal.nD Cert.SgRefIdeal.τ).loc Cert.SgRefIdeal.main_arg1)
          ∧ r.2.mem ((c.tc : Thread Cert.SgRefIdeal.nD Cert.SgRefIdeal.τ).loc Cert.SgRefIdeal.main_arg2) = m' ((c.tc : Thread Cert.SgRefIdeal.nD Cert.SgRefIdeal.τ).loc Cert.SgRefIdeal.main_arg2)
          ∧ r.2.mem ((c.tc : Thread Cert.SgRefIdeal.nD Cert.SgRefIdeal.τ).loc Cert.SgRefIdeal.main_arg3) = m' ((c.tc : Thread Cert.SgRefIdeal.nD Cert.SgRefIdeal.τ).loc Cert.SgRefIdeal.main_arg3)
          ∧ r.2.mem ((c.tc : Thread Cert.SgRefIdeal.nD Cert.SgRefIdeal.τ).loc Cert.SgRefIdeal.main_arg4) = m' ((c.tc : Thread Cert.SgRefIdeal.nD Cert.SgRefIdeal.τ).loc Cert.SgRefIdeal.main_arg4))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v3_0)) (v1 : (c : Dev Cert.MemKvIdeal.nD) → Buf (Elt Ideal) ((c.tc : Thread Cert.MemKvIdeal.nD Cert.MemKvIdeal.τ).loc Cert.MemKvIdeal.main_v3_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3_0) = v0 c
          ∧ r.2.mem ((c.tc : Thread Cert.MemKvIdeal.nD Cert.MemKvIdeal.τ).loc Cert.MemKvIdeal.main_v3_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v31) = v0 c
          ∧ r.2.mem ((c.tc : Thread Cert.MemKvRefIdeal.nD Cert.MemKvRefIdeal.τ).loc Cert.MemKvRefIdeal.main_v32) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_MemAttn_MemAttnIdeal : Prop :=
  True

def algebraic_MemAttnIdeal_MemAttnRefIdeal_pre_finite_keys [hMemAttnIdeal : Cert.MemAttnIdeal.Facts] [hMemAttnRefIdeal : Cert.MemAttnRefIdeal.Facts] [hPre_finite_keys : Cert.Pre_finite_keys.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_finite_keys m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)
      ∧ m' ((c.tc : Thread Cert.MemAttnRefIdeal.nD Cert.MemAttnRefIdeal.τ).loc Cert.MemAttnRefIdeal.main_arg3) = m ((c.tc : Thread Cert.MemAttnIdeal.nD Cert.MemAttnIdeal.τ).loc Cert.MemAttnIdeal.main_arg3)) →
    ∃ (v0 : (c : Dev Cert.MemAttnIdeal.nD) → Buf (Elt Ideal) ((c.tc : Thread Cert.MemAttnIdeal.nD Cert.MemAttnIdeal.τ).loc Cert.MemAttnIdeal.main_v1)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v1) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v41) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2)
          ∧ r.2.mem ((c.tc : Thread Cert.MemAttnRefIdeal.nD Cert.MemAttnRefIdeal.τ).loc Cert.MemAttnRefIdeal.main_arg3) = m' ((c.tc : Thread Cert.MemAttnRefIdeal.nD Cert.MemAttnRefIdeal.τ).loc Cert.MemAttnRefIdeal.main_arg3))

def Claim : Prop :=
  ∃ (hKernel : Cert.Kernel.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hSg : Cert.Sg.Facts) (hSgIdeal : Cert.SgIdeal.Facts) (hSgRefIdeal : Cert.SgRefIdeal.Facts) (hMemKv : Cert.MemKv.Facts) (hMemKvIdeal : Cert.MemKvIdeal.Facts) (hMemKvRefIdeal : Cert.MemKvRefIdeal.Facts) (hMemAttn : Cert.MemAttn.Facts) (hMemAttnIdeal : Cert.MemAttnIdeal.Facts) (hMemAttnRefIdeal : Cert.MemAttnRefIdeal.Facts) (hSsd : Cert.Ssd.Facts) (hGdn : Cert.Gdn.Facts) (hPre_finite_keys : Cert.Pre_finite_keys.Facts),
    quiescent_Kernel (hKernel := hKernel)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_Sg (hSg := hSg)
    ∧ quiescent_SgIdeal (hSgIdeal := hSgIdeal)
    ∧ quiescent_SgRefIdeal (hSgRefIdeal := hSgRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemAttn (hMemAttn := hMemAttn)
    ∧ quiescent_MemAttnIdeal (hMemAttnIdeal := hMemAttnIdeal)
    ∧ quiescent_MemAttnIdeal_pre_finite_keys (hMemAttnIdeal := hMemAttnIdeal) (hPre_finite_keys := hPre_finite_keys)
    ∧ quiescent_MemAttnRefIdeal (hMemAttnRefIdeal := hMemAttnRefIdeal)
    ∧ quiescent_MemAttnRefIdeal_pre_finite_keys (hMemAttnRefIdeal := hMemAttnRefIdeal) (hPre_finite_keys := hPre_finite_keys)
    ∧ quiescent_Ssd (hSsd := hSsd)
    ∧ quiescent_Gdn (hGdn := hGdn)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_Sg_SgIdeal
    ∧ algebraic_SgIdeal_SgRefIdeal (hSgIdeal := hSgIdeal) (hSgRefIdeal := hSgRefIdeal)
    ∧ preserves_MemKv_MemKvIdeal
    ∧ algebraic_MemKvIdeal_MemKvRefIdeal (hMemKvIdeal := hMemKvIdeal) (hMemKvRefIdeal := hMemKvRefIdeal)
    ∧ preserves_MemAttn_MemAttnIdeal
    ∧ algebraic_MemAttnIdeal_MemAttnRefIdeal_pre_finite_keys (hMemAttnIdeal := hMemAttnIdeal) (hMemAttnRefIdeal := hMemAttnRefIdeal) (hPre_finite_keys := hPre_finite_keys)
-- ==== Pre_finite_keys.lean ====
abbrev S8x4096x8064 : Shape := ⟨3, ![8, 4096, 8064]⟩
abbrev S8x256x512 : Shape := ⟨3, ![8, 256, 512]⟩
abbrev S128 : Shape := ⟨1, ![128]⟩
abbrev S_ : Shape := ⟨0, ![]⟩

class Facts : Prop where
  bitsLt_bf16_f32 : FTy.bits .bf16 < FTy.bits .f32
  bcast_S_S8x256x512 : S_.BroadcastsInDim S8x256x512 (![] : Fin 0 → Fin S8x256x512.rank)
  bcast_S_S128 : S_.BroadcastsInDim S128 (![] : Fin 0 → Fin S128.rank)

variable [Facts]

def fn {F : FTy → Type} [FloatOps F] (main_arg0 : FVec F S8x4096x8064 .bf16) (main_arg1 : FVec F S8x256x512 .bf16) (main_arg2 : FVec F S8x256x512 .bf16) (main_arg3 : FVec F S128 .f32) : IVec S8x256x512 1 × IVec S128 1 :=
  let main_v0 : FVec F S8x256x512 .f32 := (extf .f32 · bitsLt_bf16_f32) main_arg1
  let main_v1 : FVec F S8x256x512 .f32 := Host.absf main_v0
  let main_cst : FVec F S_ .f32 := constant S_ .f32 0x7F7FFFFF#32
  let main_v2 : FVec F S8x256x512 .f32 := broadcastInDim S8x256x512 ![] bcast_S_S8x256x512 main_cst
  let main_v3 : IVec S8x256x512 1 := cmpf .ole main_v1 main_v2
  let main_v4 : FVec F S128 .f32 := Host.absf main_arg3
  let main_cst_0 : FVec F S_ .f32 := constant S_ .f32 0x7F7FFFFF#32
  let main_v5 : FVec F S128 .f32 := broadcastInDim S128 ![] bcast_S_S128 main_cst_0
  let main_v6 : IVec S128 1 := cmpf .ole main_v4 main_v5
  (main_v3, main_v6)
-- ==== Kernel.lean ====
abbrev S8x4096x8064 : Shape := ⟨3, ![8, 4096, 8064]⟩
abbrev S8x4096x128 : Shape := ⟨3, ![8, 4096, 128]⟩
abbrev S64 : Shape := ⟨1, ![64]⟩
abbrev S256x256 : Shape := ⟨2, ![256, 256]⟩
abbrev S128 : Shape := ⟨1, ![128]⟩
abbrev S1x128 : Shape := ⟨2, ![1, 128]⟩
abbrev S8x4096x512 : Shape := ⟨3, ![8, 4096, 512]⟩
abbrev S1x128x512 : Shape := ⟨3, ![1, 128, 512]⟩
abbrev S1x128x128 : Shape := ⟨3, ![1, 128, 128]⟩
abbrev S1x4096x128 : Shape := ⟨3, ![1, 4096, 128]⟩
abbrev S16x256x128 : Shape := ⟨3, ![16, 256, 128]⟩
abbrev S16x128x256 : Shape := ⟨3, ![16, 128, 256]⟩
abbrev S16x32x8x128 : Shape := ⟨4, ![16, 32, 8, 128]⟩
abbrev S16x256x1024 : Shape := ⟨3, ![16, 256, 1024]⟩
abbrev S8x128 : Shape := ⟨2, ![8, 128]⟩
abbrev S128x1024 : Shape := ⟨2, ![128, 1024]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S128x128 : Shape := ⟨2, ![128, 128]⟩
abbrev S128x256 : Shape := ⟨2, ![128, 256]⟩
abbrev S1x128x256 : Shape := ⟨3, ![1, 128, 256]⟩
abbrev S32x8x128 : Shape := ⟨3, ![32, 8, 128]⟩
abbrev S1x32x8x128 : Shape := ⟨4, ![1, 32, 8, 128]⟩
abbrev S128x512 : Shape := ⟨2, ![128, 512]⟩
abbrev S1024x128 : Shape := ⟨2, ![1024, 128]⟩
abbrev S1x1024 : Shape := ⟨2, ![1, 1024]⟩
abbrev S128x1 : Shape := ⟨2, ![128, 1]⟩
abbrev S256x1024 : Shape := ⟨2, ![256, 1024]⟩
abbrev S1x256x1024 : Shape := ⟨3, ![1, 256, 1024]⟩
abbrev S1x1x8x128 : Shape := ⟨4, ![1, 1, 8, 128]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 10
  | .vmem => 26
  | .smem => 0
  | _ => 0

abbrev bufTy : (tb : Table) → Fin (tcTables nBuf tb) → BufTy
  | .hbm, ⟨0, _⟩ => ⟨S8x4096x8064, .bf16⟩
  | .hbm, ⟨1, _⟩ => ⟨S8x4096x128, .f32⟩
  | .hbm, ⟨2, _⟩ => ⟨S64, .f32⟩
  | .hbm, ⟨3, _⟩ => ⟨S64, .f32⟩
  | .hbm, ⟨4, _⟩ => ⟨S256x256, .bf16⟩
  | .hbm, ⟨5, _⟩ => ⟨S128, .f32⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S8x4096x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x128, .f32⟩
  | .local _ .vmem, ⟨5, _⟩ => ⟨S1x128x128, .f32⟩
  | .local _ .vmem, ⟨6, _⟩ => ⟨S1x128x512, .bf16⟩
  | .local _ .vmem, ⟨7, _⟩ => ⟨S1x128x512, .bf16⟩
  | .local _ .vmem, ⟨8, _⟩ => ⟨S1x128, .f32⟩
  | .local _ .vmem, ⟨9, _⟩ => ⟨S1x4096x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x128, .f32⟩
  | .local _ .vmem, ⟨13, _⟩ => ⟨S256x256, .bf16⟩
  | .local _ .vmem, ⟨14, _⟩ => ⟨S1x128x512, .bf16⟩
  | .local _ .vmem, ⟨15, _⟩ => ⟨S1x128x512, .bf16⟩
  | .local _ .vmem, ⟨16, _⟩ => ⟨S16x256x128, .bf16⟩
  | .local _ .vmem, ⟨17, _⟩ => ⟨S16x128x256, .bf16⟩
  | .local _ .vmem, ⟨18, _⟩ => ⟨S16x256x128, .bf16⟩
  | .local _ .vmem, ⟨19, _⟩ => ⟨S16x256x128, .i32⟩
  | .local _ .vmem, ⟨20, _⟩ => ⟨S16x32x8x128, .i32⟩
  | .local _ .vmem, ⟨21, _⟩ => ⟨S16x256x1024, .f32⟩
  | .local _ .vmem, ⟨22, _⟩ => ⟨S8x128, .i32⟩
  | .local _ .vmem, ⟨23, _⟩ => ⟨S8x128, .f32⟩
  | .local _ .vmem, ⟨24, _⟩ => ⟨S8x128, .f32⟩
  | .local _ .vmem, ⟨25, _⟩ => ⟨S128x1024, .f32⟩
  | _, _ => ⟨S8x4096x8064, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [BitOps F]

abbrev grid0 : Pipeline.Grid := ⟨2, ![8, 32], ![false, false]⟩

def k0_cond1 (i : grid0.Coords) : BitVec 1 :=
  let arg1 : BitVec 32 := BitVec.ofNat 32 (i 1).val
  let c0_i32 : BitVec 32 := 0#32
  let v10 : BitVec 1 := Scalar.cmpi .eq arg1 c0_i32
  let v11 : BitVec 32 := Scalar.extui v10
  let c0_i32_0 : BitVec 32 := 0#32
  let v12 : BitVec 1 := Scalar.cmpi .ne v11 c0_i32_0
  v12

@[reducible] def k0_t1_loop : Scf.Loop 32 :=
  let c0_i32_165 : BitVec 32 := 0#32
  let c16_i32 : BitVec 32 := 16#32
  let v384 : BitVec 32 := Scalar.addi c0_i32_165 c16_i32
  let c1_i32_166 : BitVec 32 := 1#32
  ⟨c0_i32_165, v384, c1_i32_166⟩
def k0_mult1 (k0_t1 : Fin k0_t1_loop.trips) : BitVec 32 :=
  let c0_i32_165 : BitVec 32 := 0#32
  let c1_i32_166 : BitVec 32 := 1#32
  let arg23 : BitVec 32 := Scf.iv c0_i32_165 c1_i32_166 k0_t1
  let c256_i32_168 : BitVec 32 := 256#32
  let v385 : BitVec 32 := Scalar.muli arg23 c256_i32_168
  v385
def k0_off1 (k0_t1 : Fin k0_t1_loop.trips) : Fin 3 → Nat :=
  let c0_172 : Index := 0#32
  let c0_i32_165 : BitVec 32 := 0#32
  let c1_i32_166 : BitVec 32 := 1#32
  let arg23 : BitVec 32 := Scf.iv c0_i32_165 c1_i32_166 k0_t1
  let c256_i32_168 : BitVec 32 := 256#32
  let v385 : BitVec 32 := Scalar.muli arg23 c256_i32_168
  let v386 : BitVec 32 := v385
  let v395 : Index := Scalar.indexCast v386
  let c0_173 : Index := 0#32
  ![0, v395.toNat, 0]
def k0_off2 (k0_t1 : Fin k0_t1_loop.trips) : Fin 3 → Nat :=
  let c0_i32_165 : BitVec 32 := 0#32
  let c1_i32_166 : BitVec 32 := 1#32
  let arg23 : BitVec 32 := Scf.iv c0_i32_165 c1_i32_166 k0_t1
  let v417 : Index := Scalar.indexCast arg23
  let c0_180 : Index := 0#32
  let c0_181 : Index := 0#32
  ![v417.toNat, 0, 0]
def k0_off3 (k0_t1 : Fin k0_t1_loop.trips) : Fin 3 → Nat :=
  let c0_i32_165 : BitVec 32 := 0#32
  let c1_i32_166 : BitVec 32 := 1#32
  let arg23 : BitVec 32 := Scf.iv c0_i32_165 c1_i32_166 k0_t1
  let v435 : Index := Scalar.indexCast arg23
  let c0_186 : Index := 0#32
  let c0_187 : Index := 0#32
  ![v435.toNat, 0, 0]
def k0_off4 (k0_t1 : Fin k0_t1_loop.trips) : Fin 4 → Nat :=
  let c0_i32_165 : BitVec 32 := 0#32
  let c1_i32_166 : BitVec 32 := 1#32
  let arg23 : BitVec 32 := Scf.iv c0_i32_165 c1_i32_166 k0_t1
  let v447 : Index := Scalar.indexCast arg23
  let c0_193 : Index := 0#32
  let c0_194 : Index := 0#32
  let c0_195 : Index := 0#32
  ![v447.toNat, 0, 0, 0]
@[reducible] def k0_t2_loop (i : grid0.Coords) : Scf.Loop 32 :=
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_97 : BitVec 32 := 1#32
  ⟨c0_i32_95, v257, c1_i32_97⟩
def k0_off5 (i : grid0.Coords) (k0_t2 : Fin (k0_t2_loop i).trips) : Fin 3 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v387 : Index := Scalar.indexCast v384
  let c0_168 : Index := 0#32
  let c0_169 : Index := 0#32
  ![v387.toNat, 0, 0]
def k0_off6 (i : grid0.Coords) (k0_t2 : Fin (k0_t2_loop i).trips) : Fin 3 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v391 : Index := Scalar.indexCast v386
  let c0_171 : Index := 0#32
  let c0_172 : Index := 0#32
  ![v391.toNat, 0, 0]
def k0_off7 (i : grid0.Coords) (k0_t2 : Fin (k0_t2_loop i).trips) : Fin 3 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v399 : Index := Scalar.indexCast v384
  let c0_177 : Index := 0#32
  let c0_178 : Index := 0#32
  ![v399.toNat, 0, 0]
def k0_off8 (i : grid0.Coords) (k0_t2 : Fin (k0_t2_loop i).trips) : Fin 3 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v407 : Index := Scalar.indexCast v386
  let c0_182 : Index := 0#32
  let c0_183 : Index := 0#32
  ![v407.toNat, 0, 0]
def k0_off9 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1200 : Index := Scalar.indexCast v384
  let c0_422 : Index := 0#32
  let c0_423 : Index := 0#32
  let c0_424 : Index := 0#32
  ![v1200.toNat, 0, 0, 0]
def k0_off10 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1204 : Index := Scalar.indexCast v384
  let c1 : Index := 1#32
  let c0_425 : Index := 0#32
  let c0_426 : Index := 0#32
  ![v1204.toNat, 1, 0, 0]
def k0_off11 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1208 : Index := Scalar.indexCast v384
  let c2 : Index := 2#32
  let c0_427 : Index := 0#32
  let c0_428 : Index := 0#32
  ![v1208.toNat, 2, 0, 0]
def k0_off12 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1212 : Index := Scalar.indexCast v384
  let c3 : Index := 3#32
  let c0_429 : Index := 0#32
  let c0_430 : Index := 0#32
  ![v1212.toNat, 3, 0, 0]
def k0_off13 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1216 : Index := Scalar.indexCast v384
  let c4 : Index := 4#32
  let c0_431 : Index := 0#32
  let c0_432 : Index := 0#32
  ![v1216.toNat, 4, 0, 0]
def k0_off14 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1220 : Index := Scalar.indexCast v384
  let c5 : Index := 5#32
  let c0_433 : Index := 0#32
  let c0_434 : Index := 0#32
  ![v1220.toNat, 5, 0, 0]
def k0_off15 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1224 : Index := Scalar.indexCast v384
  let c6 : Index := 6#32
  let c0_435 : Index := 0#32
  let c0_436 : Index := 0#32
  ![v1224.toNat, 6, 0, 0]
def k0_off16 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1228 : Index := Scalar.indexCast v384
  let c7 : Index := 7#32
  let c0_437 : Index := 0#32
  let c0_438 : Index := 0#32
  ![v1228.toNat, 7, 0, 0]
def k0_off17 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1232 : Index := Scalar.indexCast v384
  let c8 : Index := 8#32
  let c0_439 : Index := 0#32
  let c0_440 : Index := 0#32
  ![v1232.toNat, 8, 0, 0]
def k0_off18 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1236 : Index := Scalar.indexCast v384
  let c9 : Index := 9#32
  let c0_441 : Index := 0#32
  let c0_442 : Index := 0#32
  ![v1236.toNat, 9, 0, 0]
def k0_off19 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1240 : Index := Scalar.indexCast v384
  let c10 : Index := 10#32
  let c0_443 : Index := 0#32
  let c0_444 : Index := 0#32
  ![v1240.toNat, 10, 0, 0]
def k0_off20 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1244 : Index := Scalar.indexCast v384
  let c11 : Index := 11#32
  let c0_445 : Index := 0#32
  let c0_446 : Index := 0#32
  ![v1244.toNat, 11, 0, 0]
def k0_off21 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1248 : Index := Scalar.indexCast v384
  let c12 : Index := 12#32
  let c0_447 : Index := 0#32
  let c0_448 : Index := 0#32
  ![v1248.toNat, 12, 0, 0]
def k0_off22 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1252 : Index := Scalar.indexCast v384
  let c13 : Index := 13#32
  let c0_449 : Index := 0#32
  let c0_450 : Index := 0#32
  ![v1252.toNat, 13, 0, 0]
def k0_off23 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1256 : Index := Scalar.indexCast v384
  let c14 : Index := 14#32
  let c0_451 : Index := 0#32
  let c0_452 : Index := 0#32
  ![v1256.toNat, 14, 0, 0]
def k0_off24 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1260 : Index := Scalar.indexCast v384
  let c15 : Index := 15#32
  let c0_453 : Index := 0#32
  let c0_454 : Index := 0#32
  ![v1260.toNat, 15, 0, 0]
def k0_off25 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1264 : Index := Scalar.indexCast v384
  let c16 : Index := 16#32
  let c0_455 : Index := 0#32
  let c0_456 : Index := 0#32
  ![v1264.toNat, 16, 0, 0]
def k0_off26 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1268 : Index := Scalar.indexCast v384
  let c17 : Index := 17#32
  let c0_457 : Index := 0#32
  let c0_458 : Index := 0#32
  ![v1268.toNat, 17, 0, 0]
def k0_off27 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1272 : Index := Scalar.indexCast v384
  let c18 : Index := 18#32
  let c0_459 : Index := 0#32
  let c0_460 : Index := 0#32
  ![v1272.toNat, 18, 0, 0]
def k0_off28 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1276 : Index := Scalar.indexCast v384
  let c19 : Index := 19#32
  let c0_461 : Index := 0#32
  let c0_462 : Index := 0#32
  ![v1276.toNat, 19, 0, 0]
def k0_off29 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1280 : Index := Scalar.indexCast v384
  let c20 : Index := 20#32
  let c0_463 : Index := 0#32
  let c0_464 : Index := 0#32
  ![v1280.toNat, 20, 0, 0]
def k0_off30 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1284 : Index := Scalar.indexCast v384
  let c21 : Index := 21#32
  let c0_465 : Index := 0#32
  let c0_466 : Index := 0#32
  ![v1284.toNat, 21, 0, 0]
def k0_off31 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1288 : Index := Scalar.indexCast v384
  let c22 : Index := 22#32
  let c0_467 : Index := 0#32
  let c0_468 : Index := 0#32
  ![v1288.toNat, 22, 0, 0]
def k0_off32 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1292 : Index := Scalar.indexCast v384
  let c23 : Index := 23#32
  let c0_469 : Index := 0#32
  let c0_470 : Index := 0#32
  ![v1292.toNat, 23, 0, 0]
def k0_off33 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1296 : Index := Scalar.indexCast v384
  let c24 : Index := 24#32
  let c0_471 : Index := 0#32
  let c0_472 : Index := 0#32
  ![v1296.toNat, 24, 0, 0]
def k0_off34 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1300 : Index := Scalar.indexCast v384
  let c25 : Index := 25#32
  let c0_473 : Index := 0#32
  let c0_474 : Index := 0#32
  ![v1300.toNat, 25, 0, 0]
def k0_off35 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1304 : Index := Scalar.indexCast v384
  let c26 : Index := 26#32
  let c0_475 : Index := 0#32
  let c0_476 : Index := 0#32
  ![v1304.toNat, 26, 0, 0]
def k0_off36 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1308 : Index := Scalar.indexCast v384
  let c27 : Index := 27#32
  let c0_477 : Index := 0#32
  let c0_478 : Index := 0#32
  ![v1308.toNat, 27, 0, 0]
def k0_off37 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1312 : Index := Scalar.indexCast v384
  let c28 : Index := 28#32
  let c0_479 : Index := 0#32
  let c0_480 : Index := 0#32
  ![v1312.toNat, 28, 0, 0]
def k0_off38 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1316 : Index := Scalar.indexCast v384
  let c29 : Index := 29#32
  let c0_481 : Index := 0#32
  let c0_482 : Index := 0#32
  ![v1316.toNat, 29, 0, 0]
def k0_off39 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1320 : Index := Scalar.indexCast v384
  let c30 : Index := 30#32
  let c0_483 : Index := 0#32
  let c0_484 : Index := 0#32
  ![v1320.toNat, 30, 0, 0]
def k0_off40 (i : grid0.Coords) (k0_t2 : Fin (k0_t2_loop i).trips) : Fin 4 → Nat :=
  let c2_i32_165 : BitVec 32 := 2#32
  let c0_i32_95 : BitVec 32 := 0#32
  let c1_i32_97 : BitVec 32 := 1#32
  let arg23 : BitVec 32 := Scf.iv c0_i32_95 c1_i32_97 k0_t2
  let v384 : BitVec 32 := Scalar.muli c2_i32_165 arg23
  let v1324 : Index := Scalar.indexCast v384
  let c31 : Index := 31#32
  let c0_485 : Index := 0#32
  let c0_486 : Index := 0#32
  ![v1324.toNat, 31, 0, 0]
def k0_off41 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2117 : Index := Scalar.indexCast v386
  let c0_735 : Index := 0#32
  let c0_736 : Index := 0#32
  let c0_737 : Index := 0#32
  ![v2117.toNat, 0, 0, 0]
def k0_off42 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2121 : Index := Scalar.indexCast v386
  let c1_738 : Index := 1#32
  let c0_739 : Index := 0#32
  let c0_740 : Index := 0#32
  ![v2121.toNat, 1, 0, 0]
def k0_off43 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2125 : Index := Scalar.indexCast v386
  let c2_741 : Index := 2#32
  let c0_742 : Index := 0#32
  let c0_743 : Index := 0#32
  ![v2125.toNat, 2, 0, 0]
def k0_off44 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2129 : Index := Scalar.indexCast v386
  let c3_744 : Index := 3#32
  let c0_745 : Index := 0#32
  let c0_746 : Index := 0#32
  ![v2129.toNat, 3, 0, 0]
def k0_off45 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2133 : Index := Scalar.indexCast v386
  let c4_747 : Index := 4#32
  let c0_748 : Index := 0#32
  let c0_749 : Index := 0#32
  ![v2133.toNat, 4, 0, 0]
def k0_off46 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2137 : Index := Scalar.indexCast v386
  let c5_750 : Index := 5#32
  let c0_751 : Index := 0#32
  let c0_752 : Index := 0#32
  ![v2137.toNat, 5, 0, 0]
def k0_off47 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2141 : Index := Scalar.indexCast v386
  let c6_753 : Index := 6#32
  let c0_754 : Index := 0#32
  let c0_755 : Index := 0#32
  ![v2141.toNat, 6, 0, 0]
def k0_off48 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2145 : Index := Scalar.indexCast v386
  let c7_756 : Index := 7#32
  let c0_757 : Index := 0#32
  let c0_758 : Index := 0#32
  ![v2145.toNat, 7, 0, 0]
def k0_off49 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2149 : Index := Scalar.indexCast v386
  let c8_759 : Index := 8#32
  let c0_760 : Index := 0#32
  let c0_761 : Index := 0#32
  ![v2149.toNat, 8, 0, 0]
def k0_off50 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2153 : Index := Scalar.indexCast v386
  let c9_762 : Index := 9#32
  let c0_763 : Index := 0#32
  let c0_764 : Index := 0#32
  ![v2153.toNat, 9, 0, 0]
def k0_off51 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2157 : Index := Scalar.indexCast v386
  let c10_765 : Index := 10#32
  let c0_766 : Index := 0#32
  let c0_767 : Index := 0#32
  ![v2157.toNat, 10, 0, 0]
def k0_off52 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2161 : Index := Scalar.indexCast v386
  let c11_768 : Index := 11#32
  let c0_769 : Index := 0#32
  let c0_770 : Index := 0#32
  ![v2161.toNat, 11, 0, 0]
def k0_off53 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2165 : Index := Scalar.indexCast v386
  let c12_771 : Index := 12#32
  let c0_772 : Index := 0#32
  let c0_773 : Index := 0#32
  ![v2165.toNat, 12, 0, 0]
def k0_off54 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2169 : Index := Scalar.indexCast v386
  let c13_774 : Index := 13#32
  let c0_775 : Index := 0#32
  let c0_776 : Index := 0#32
  ![v2169.toNat, 13, 0, 0]
def k0_off55 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2173 : Index := Scalar.indexCast v386
  let c14_777 : Index := 14#32
  let c0_778 : Index := 0#32
  let c0_779 : Index := 0#32
  ![v2173.toNat, 14, 0, 0]
def k0_off56 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2177 : Index := Scalar.indexCast v386
  let c15_780 : Index := 15#32
  let c0_781 : Index := 0#32
  let c0_782 : Index := 0#32
  ![v2177.toNat, 15, 0, 0]
def k0_off57 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2181 : Index := Scalar.indexCast v386
  let c16_783 : Index := 16#32
  let c0_784 : Index := 0#32
  let c0_785 : Index := 0#32
  ![v2181.toNat, 16, 0, 0]
def k0_off58 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2185 : Index := Scalar.indexCast v386
  let c17_786 : Index := 17#32
  let c0_787 : Index := 0#32
  let c0_788 : Index := 0#32
  ![v2185.toNat, 17, 0, 0]
def k0_off59 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2189 : Index := Scalar.indexCast v386
  let c18_789 : Index := 18#32
  let c0_790 : Index := 0#32
  let c0_791 : Index := 0#32
  ![v2189.toNat, 18, 0, 0]
def k0_off60 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2193 : Index := Scalar.indexCast v386
  let c19_792 : Index := 19#32
  let c0_793 : Index := 0#32
  let c0_794 : Index := 0#32
  ![v2193.toNat, 19, 0, 0]
def k0_off61 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2197 : Index := Scalar.indexCast v386
  let c20_795 : Index := 20#32
  let c0_796 : Index := 0#32
  let c0_797 : Index := 0#32
  ![v2197.toNat, 20, 0, 0]
def k0_off62 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2201 : Index := Scalar.indexCast v386
  let c21_798 : Index := 21#32
  let c0_799 : Index := 0#32
  let c0_800 : Index := 0#32
  ![v2201.toNat, 21, 0, 0]
def k0_off63 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2205 : Index := Scalar.indexCast v386
  let c22_801 : Index := 22#32
  let c0_802 : Index := 0#32
  let c0_803 : Index := 0#32
  ![v2205.toNat, 22, 0, 0]
def k0_off64 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2209 : Index := Scalar.indexCast v386
  let c23_804 : Index := 23#32
  let c0_805 : Index := 0#32
  let c0_806 : Index := 0#32
  ![v2209.toNat, 23, 0, 0]
def k0_off65 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2213 : Index := Scalar.indexCast v386
  let c24_807 : Index := 24#32
  let c0_808 : Index := 0#32
  let c0_809 : Index := 0#32
  ![v2213.toNat, 24, 0, 0]
def k0_off66 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2217 : Index := Scalar.indexCast v386
  let c25_810 : Index := 25#32
  let c0_811 : Index := 0#32
  let c0_812 : Index := 0#32
  ![v2217.toNat, 25, 0, 0]
def k0_off67 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2221 : Index := Scalar.indexCast v386
  let c26_813 : Index := 26#32
  let c0_814 : Index := 0#32
  let c0_815 : Index := 0#32
  ![v2221.toNat, 26, 0, 0]
def k0_off68 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2225 : Index := Scalar.indexCast v386
  let c27_816 : Index := 27#32
  let c0_817 : Index := 0#32
  let c0_818 : Index := 0#32
  ![v2225.toNat, 27, 0, 0]
def k0_off69 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2229 : Index := Scalar.indexCast v386
  let c28_819 : Index := 28#32
  let c0_820 : Index := 0#32
  let c0_821 : Index := 0#32
  ![v2229.toNat, 28, 0, 0]
def k0_off70 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2233 : Index := Scalar.indexCast v386
  let c29_822 : Index := 29#32
  let c0_823 : Index := 0#32
  let c0_824 : Index := 0#32
  ![v2233.toNat, 29, 0, 0]
def k0_off71 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2237 : Index := Scalar.indexCast v386
  let c30_825 : Index := 30#32
  let c0_826 : Index := 0#32
  let c0_827 : Index := 0#32
  ![v2237.toNat, 30, 0, 0]
def k0_off72 (i : grid0.Coords) (k0_t2 : Fin (k0_t2_loop i).trips) : Fin 4 → Nat :=
  let c2_i32_166 : BitVec 32 := 2#32
  let c0_i32_95 : BitVec 32 := 0#32
  let c1_i32_97 : BitVec 32 := 1#32
  let arg23 : BitVec 32 := Scf.iv c0_i32_95 c1_i32_97 k0_t2
  let v385 : BitVec 32 := Scalar.muli c2_i32_166 arg23
  let c1_i32_167 : BitVec 32 := 1#32
  let v386 : BitVec 32 := Scalar.addi v385 c1_i32_167
  let v2241 : Index := Scalar.indexCast v386
  let c31_828 : Index := 31#32
  let c0_829 : Index := 0#32
  let c0_830 : Index := 0#32
  ![v2241.toNat, 31, 0, 0]
@[reducible] def k0_t3_loop (i : grid0.Coords) : Scf.Loop 32 :=
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let v254 : BitVec 32 := Scalar.addi c0_i32_95 v253
  let c1_i32_98 : BitVec 32 := 1#32
  ⟨v257, v254, c1_i32_98⟩
def k0_off73 (i : grid0.Coords) (k0_t3 : Fin (k0_t3_loop i).trips) : Fin 3 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v387 : Index := Scalar.indexCast v384
  let c0_168 : Index := 0#32
  let c0_169 : Index := 0#32
  ![v387.toNat, 0, 0]
def k0_off74 (i : grid0.Coords) (k0_t3 : Fin (k0_t3_loop i).trips) : Fin 3 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v391 : Index := Scalar.indexCast v386
  let c0_171 : Index := 0#32
  let c0_172 : Index := 0#32
  ![v391.toNat, 0, 0]
def k0_off75 (i : grid0.Coords) (k0_t3 : Fin (k0_t3_loop i).trips) : Fin 3 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v399 : Index := Scalar.indexCast v384
  let c0_177 : Index := 0#32
  let c0_178 : Index := 0#32
  ![v399.toNat, 0, 0]
def k0_off76 (i : grid0.Coords) (k0_t3 : Fin (k0_t3_loop i).trips) : Fin 3 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v407 : Index := Scalar.indexCast v386
  let c0_182 : Index := 0#32
  let c0_183 : Index := 0#32
  ![v407.toNat, 0, 0]
def k0_off77 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1200 : Index := Scalar.indexCast v384
  let c0_422 : Index := 0#32
  let c0_423 : Index := 0#32
  let c0_424 : Index := 0#32
  ![v1200.toNat, 0, 0, 0]
def k0_off78 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1204 : Index := Scalar.indexCast v384
  let c1 : Index := 1#32
  let c0_425 : Index := 0#32
  let c0_426 : Index := 0#32
  ![v1204.toNat, 1, 0, 0]
def k0_off79 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1208 : Index := Scalar.indexCast v384
  let c2 : Index := 2#32
  let c0_427 : Index := 0#32
  let c0_428 : Index := 0#32
  ![v1208.toNat, 2, 0, 0]
def k0_off80 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1212 : Index := Scalar.indexCast v384
  let c3 : Index := 3#32
  let c0_429 : Index := 0#32
  let c0_430 : Index := 0#32
  ![v1212.toNat, 3, 0, 0]
def k0_off81 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1216 : Index := Scalar.indexCast v384
  let c4 : Index := 4#32
  let c0_431 : Index := 0#32
  let c0_432 : Index := 0#32
  ![v1216.toNat, 4, 0, 0]
def k0_off82 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1220 : Index := Scalar.indexCast v384
  let c5 : Index := 5#32
  let c0_433 : Index := 0#32
  let c0_434 : Index := 0#32
  ![v1220.toNat, 5, 0, 0]
def k0_off83 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1224 : Index := Scalar.indexCast v384
  let c6 : Index := 6#32
  let c0_435 : Index := 0#32
  let c0_436 : Index := 0#32
  ![v1224.toNat, 6, 0, 0]
def k0_off84 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1228 : Index := Scalar.indexCast v384
  let c7 : Index := 7#32
  let c0_437 : Index := 0#32
  let c0_438 : Index := 0#32
  ![v1228.toNat, 7, 0, 0]
def k0_off85 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1232 : Index := Scalar.indexCast v384
  let c8 : Index := 8#32
  let c0_439 : Index := 0#32
  let c0_440 : Index := 0#32
  ![v1232.toNat, 8, 0, 0]
def k0_off86 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1236 : Index := Scalar.indexCast v384
  let c9 : Index := 9#32
  let c0_441 : Index := 0#32
  let c0_442 : Index := 0#32
  ![v1236.toNat, 9, 0, 0]
def k0_off87 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1240 : Index := Scalar.indexCast v384
  let c10 : Index := 10#32
  let c0_443 : Index := 0#32
  let c0_444 : Index := 0#32
  ![v1240.toNat, 10, 0, 0]
def k0_off88 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1244 : Index := Scalar.indexCast v384
  let c11 : Index := 11#32
  let c0_445 : Index := 0#32
  let c0_446 : Index := 0#32
  ![v1244.toNat, 11, 0, 0]
def k0_off89 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1248 : Index := Scalar.indexCast v384
  let c12 : Index := 12#32
  let c0_447 : Index := 0#32
  let c0_448 : Index := 0#32
  ![v1248.toNat, 12, 0, 0]
def k0_off90 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1252 : Index := Scalar.indexCast v384
  let c13 : Index := 13#32
  let c0_449 : Index := 0#32
  let c0_450 : Index := 0#32
  ![v1252.toNat, 13, 0, 0]
def k0_off91 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1256 : Index := Scalar.indexCast v384
  let c14 : Index := 14#32
  let c0_451 : Index := 0#32
  let c0_452 : Index := 0#32
  ![v1256.toNat, 14, 0, 0]
def k0_off92 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1260 : Index := Scalar.indexCast v384
  let c15 : Index := 15#32
  let c0_453 : Index := 0#32
  let c0_454 : Index := 0#32
  ![v1260.toNat, 15, 0, 0]
def k0_off93 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1264 : Index := Scalar.indexCast v384
  let c16 : Index := 16#32
  let c0_455 : Index := 0#32
  let c0_456 : Index := 0#32
  ![v1264.toNat, 16, 0, 0]
def k0_off94 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1268 : Index := Scalar.indexCast v384
  let c17 : Index := 17#32
  let c0_457 : Index := 0#32
  let c0_458 : Index := 0#32
  ![v1268.toNat, 17, 0, 0]
def k0_off95 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1272 : Index := Scalar.indexCast v384
  let c18 : Index := 18#32
  let c0_459 : Index := 0#32
  let c0_460 : Index := 0#32
  ![v1272.toNat, 18, 0, 0]
def k0_off96 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1276 : Index := Scalar.indexCast v384
  let c19 : Index := 19#32
  let c0_461 : Index := 0#32
  let c0_462 : Index := 0#32
  ![v1276.toNat, 19, 0, 0]
def k0_off97 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1280 : Index := Scalar.indexCast v384
  let c20 : Index := 20#32
  let c0_463 : Index := 0#32
  let c0_464 : Index := 0#32
  ![v1280.toNat, 20, 0, 0]
def k0_off98 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1284 : Index := Scalar.indexCast v384
  let c21 : Index := 21#32
  let c0_465 : Index := 0#32
  let c0_466 : Index := 0#32
  ![v1284.toNat, 21, 0, 0]
def k0_off99 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1288 : Index := Scalar.indexCast v384
  let c22 : Index := 22#32
  let c0_467 : Index := 0#32
  let c0_468 : Index := 0#32
  ![v1288.toNat, 22, 0, 0]
def k0_off100 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1292 : Index := Scalar.indexCast v384
  let c23 : Index := 23#32
  let c0_469 : Index := 0#32
  let c0_470 : Index := 0#32
  ![v1292.toNat, 23, 0, 0]
def k0_off101 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1296 : Index := Scalar.indexCast v384
  let c24 : Index := 24#32
  let c0_471 : Index := 0#32
  let c0_472 : Index := 0#32
  ![v1296.toNat, 24, 0, 0]
def k0_off102 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1300 : Index := Scalar.indexCast v384
  let c25 : Index := 25#32
  let c0_473 : Index := 0#32
  let c0_474 : Index := 0#32
  ![v1300.toNat, 25, 0, 0]
def k0_off103 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1304 : Index := Scalar.indexCast v384
  let c26 : Index := 26#32
  let c0_475 : Index := 0#32
  let c0_476 : Index := 0#32
  ![v1304.toNat, 26, 0, 0]
def k0_off104 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1308 : Index := Scalar.indexCast v384
  let c27 : Index := 27#32
  let c0_477 : Index := 0#32
  let c0_478 : Index := 0#32
  ![v1308.toNat, 27, 0, 0]
def k0_off105 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1312 : Index := Scalar.indexCast v384
  let c28 : Index := 28#32
  let c0_479 : Index := 0#32
  let c0_480 : Index := 0#32
  ![v1312.toNat, 28, 0, 0]
def k0_off106 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1316 : Index := Scalar.indexCast v384
  let c29 : Index := 29#32
  let c0_481 : Index := 0#32
  let c0_482 : Index := 0#32
  ![v1316.toNat, 29, 0, 0]
def k0_off107 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1320 : Index := Scalar.indexCast v384
  let c30 : Index := 30#32
  let c0_483 : Index := 0#32
  let c0_484 : Index := 0#32
  ![v1320.toNat, 30, 0, 0]
def k0_off108 (i : grid0.Coords) (k0_t3 : Fin (k0_t3_loop i).trips) : Fin 4 → Nat :=
  let c2_i32_165 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v384 : BitVec 32 := Scalar.muli c2_i32_165 arg23
  let v1324 : Index := Scalar.indexCast v384
  let c31 : Index := 31#32
  let c0_485 : Index := 0#32
  let c0_486 : Index := 0#32
  ![v1324.toNat, 31, 0, 0]
def k0_off109 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2117 : Index := Scalar.indexCast v386
  let c0_735 : Index := 0#32
  let c0_736 : Index := 0#32
  let c0_737 : Index := 0#32
  ![v2117.toNat, 0, 0, 0]
def k0_off110 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2121 : Index := Scalar.indexCast v386
  let c1_738 : Index := 1#32
  let c0_739 : Index := 0#32
  let c0_740 : Index := 0#32
  ![v2121.toNat, 1, 0, 0]
def k0_off111 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2125 : Index := Scalar.indexCast v386
  let c2_741 : Index := 2#32
  let c0_742 : Index := 0#32
  let c0_743 : Index := 0#32
  ![v2125.toNat, 2, 0, 0]
def k0_off112 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2129 : Index := Scalar.indexCast v386
  let c3_744 : Index := 3#32
  let c0_745 : Index := 0#32
  let c0_746 : Index := 0#32
  ![v2129.toNat, 3, 0, 0]
def k0_off113 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2133 : Index := Scalar.indexCast v386
  let c4_747 : Index := 4#32
  let c0_748 : Index := 0#32
  let c0_749 : Index := 0#32
  ![v2133.toNat, 4, 0, 0]
def k0_off114 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2137 : Index := Scalar.indexCast v386
  let c5_750 : Index := 5#32
  let c0_751 : Index := 0#32
  let c0_752 : Index := 0#32
  ![v2137.toNat, 5, 0, 0]
def k0_off115 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2141 : Index := Scalar.indexCast v386
  let c6_753 : Index := 6#32
  let c0_754 : Index := 0#32
  let c0_755 : Index := 0#32
  ![v2141.toNat, 6, 0, 0]
def k0_off116 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2145 : Index := Scalar.indexCast v386
  let c7_756 : Index := 7#32
  let c0_757 : Index := 0#32
  let c0_758 : Index := 0#32
  ![v2145.toNat, 7, 0, 0]
def k0_off117 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2149 : Index := Scalar.indexCast v386
  let c8_759 : Index := 8#32
  let c0_760 : Index := 0#32
  let c0_761 : Index := 0#32
  ![v2149.toNat, 8, 0, 0]
def k0_off118 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2153 : Index := Scalar.indexCast v386
  let c9_762 : Index := 9#32
  let c0_763 : Index := 0#32
  let c0_764 : Index := 0#32
  ![v2153.toNat, 9, 0, 0]
def k0_off119 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2157 : Index := Scalar.indexCast v386
  let c10_765 : Index := 10#32
  let c0_766 : Index := 0#32
  let c0_767 : Index := 0#32
  ![v2157.toNat, 10, 0, 0]
def k0_off120 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2161 : Index := Scalar.indexCast v386
  let c11_768 : Index := 11#32
  let c0_769 : Index := 0#32
  let c0_770 : Index := 0#32
  ![v2161.toNat, 11, 0, 0]
def k0_off121 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2165 : Index := Scalar.indexCast v386
  let c12_771 : Index := 12#32
  let c0_772 : Index := 0#32
  let c0_773 : Index := 0#32
  ![v2165.toNat, 12, 0, 0]
def k0_off122 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2169 : Index := Scalar.indexCast v386
  let c13_774 : Index := 13#32
  let c0_775 : Index := 0#32
  let c0_776 : Index := 0#32
  ![v2169.toNat, 13, 0, 0]
def k0_off123 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2173 : Index := Scalar.indexCast v386
  let c14_777 : Index := 14#32
  let c0_778 : Index := 0#32
  let c0_779 : Index := 0#32
  ![v2173.toNat, 14, 0, 0]
def k0_off124 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2177 : Index := Scalar.indexCast v386
  let c15_780 : Index := 15#32
  let c0_781 : Index := 0#32
  let c0_782 : Index := 0#32
  ![v2177.toNat, 15, 0, 0]
def k0_off125 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2181 : Index := Scalar.indexCast v386
  let c16_783 : Index := 16#32
  let c0_784 : Index := 0#32
  let c0_785 : Index := 0#32
  ![v2181.toNat, 16, 0, 0]
def k0_off126 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2185 : Index := Scalar.indexCast v386
  let c17_786 : Index := 17#32
  let c0_787 : Index := 0#32
  let c0_788 : Index := 0#32
  ![v2185.toNat, 17, 0, 0]
def k0_off127 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2189 : Index := Scalar.indexCast v386
  let c18_789 : Index := 18#32
  let c0_790 : Index := 0#32
  let c0_791 : Index := 0#32
  ![v2189.toNat, 18, 0, 0]
def k0_off128 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2193 : Index := Scalar.indexCast v386
  let c19_792 : Index := 19#32
  let c0_793 : Index := 0#32
  let c0_794 : Index := 0#32
  ![v2193.toNat, 19, 0, 0]
def k0_off129 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2197 : Index := Scalar.indexCast v386
  let c20_795 : Index := 20#32
  let c0_796 : Index := 0#32
  let c0_797 : Index := 0#32
  ![v2197.toNat, 20, 0, 0]
def k0_off130 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2201 : Index := Scalar.indexCast v386
  let c21_798 : Index := 21#32
  let c0_799 : Index := 0#32
  let c0_800 : Index := 0#32
  ![v2201.toNat, 21, 0, 0]
def k0_off131 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2205 : Index := Scalar.indexCast v386
  let c22_801 : Index := 22#32
  let c0_802 : Index := 0#32
  let c0_803 : Index := 0#32
  ![v2205.toNat, 22, 0, 0]
def k0_off132 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2209 : Index := Scalar.indexCast v386
  let c23_804 : Index := 23#32
  let c0_805 : Index := 0#32
  let c0_806 : Index := 0#32
  ![v2209.toNat, 23, 0, 0]
def k0_off133 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2213 : Index := Scalar.indexCast v386
  let c24_807 : Index := 24#32
  let c0_808 : Index := 0#32
  let c0_809 : Index := 0#32
  ![v2213.toNat, 24, 0, 0]
def k0_off134 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2217 : Index := Scalar.indexCast v386
  let c25_810 : Index := 25#32
  let c0_811 : Index := 0#32
  let c0_812 : Index := 0#32
  ![v2217.toNat, 25, 0, 0]
def k0_off135 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2221 : Index := Scalar.indexCast v386
  let c26_813 : Index := 26#32
  let c0_814 : Index := 0#32
  let c0_815 : Index := 0#32
  ![v2221.toNat, 26, 0, 0]
def k0_off136 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2225 : Index := Scalar.indexCast v386
  let c27_816 : Index := 27#32
  let c0_817 : Index := 0#32
  let c0_818 : Index := 0#32
  ![v2225.toNat, 27, 0, 0]
def k0_off137 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2229 : Index := Scalar.indexCast v386
  let c28_819 : Index := 28#32
  let c0_820 : Index := 0#32
  let c0_821 : Index := 0#32
  ![v2229.toNat, 28, 0, 0]
def k0_off138 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2233 : Index := Scalar.indexCast v386
  let c29_822 : Index := 29#32
  let c0_823 : Index := 0#32
  let c0_824 : Index := 0#32
  ![v2233.toNat, 29, 0, 0]
def k0_off139 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2237 : Index := Scalar.indexCast v386
  let c30_825 : Index := 30#32
  let c0_826 : Index := 0#32
  let c0_827 : Index := 0#32
  ![v2237.toNat, 30, 0, 0]
def k0_off140 (i : grid0.Coords) (k0_t3 : Fin (k0_t3_loop i).trips) : Fin 4 → Nat :=
  let c2_i32_166 : BitVec 32 := 2#32
  let c0_i32_95 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v253 : BitVec 32 := Scalar.subi v48 c0_i32_95
  let c1_i32_96 : BitVec 32 := 1#32
  let v255 : BitVec 32 := Scalar.divsi v253 c1_i32_96
  let v256 : BitVec 32 := Scalar.muli v255 c1_i32_96
  let v257 : BitVec 32 := Scalar.addi c0_i32_95 v256
  let c1_i32_98 : BitVec 32 := 1#32
  let arg23 : BitVec 32 := Scf.iv v257 c1_i32_98 k0_t3
  let v385 : BitVec 32 := Scalar.muli c2_i32_166 arg23
  let c1_i32_167 : BitVec 32 := 1#32
  let v386 : BitVec 32 := Scalar.addi v385 c1_i32_167
  let v2241 : Index := Scalar.indexCast v386
  let c31_828 : Index := 31#32
  let c0_829 : Index := 0#32
  let c0_830 : Index := 0#32
  ![v2241.toNat, 31, 0, 0]
def k0_cond2 (i : grid0.Coords) : BitVec 1 :=
  let arg1 : BitVec 32 := BitVec.ofNat 32 (i 1).val
  let c1_i32_107 : BitVec 32 := 1#32
  let v270 : BitVec 32 := Scalar.addi arg1 c1_i32_107
  let c128_i32_108 : BitVec 32 := 128#32
  let v271 : BitVec 32 := Scalar.muli v270 c128_i32_108
  let c256_i32 : BitVec 32 := 256#32
  let v272 : BitVec 1 := Scalar.cmpi .sgt v271 c256_i32
  let v273 : BitVec 32 := Scalar.extui v272
  let c0_i32_109 : BitVec 32 := 0#32
  let v274 : BitVec 1 := Scalar.cmpi .ne v273 c0_i32_109
  v274

@[reducible] def k0_t4_loop : Scf.Loop 32 :=
  let c0_i32_267 : BitVec 32 := 0#32
  let c32_i32 : BitVec 32 := 32#32
  let v550 : BitVec 32 := Scalar.addi c0_i32_267 c32_i32
  let c1_i32_268 : BitVec 32 := 1#32
  ⟨c0_i32_267, v550, c1_i32_268⟩
def k0_off141 (k0_t4 : Fin k0_t4_loop.trips) : Fin 4 → Nat :=
  let c0_287 : Index := 0#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let v627 : Index := Scalar.indexCast v616
  let c0_288 : Index := 0#32
  let c0_289 : Index := 0#32
  ![0, v627.toNat, 0, 0]
def k0_off142 (k0_t4 : Fin k0_t4_loop.trips) : Fin 4 → Nat :=
  let c0_290 : Index := 0#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let c1_i32_284 : BitVec 32 := 1#32
  let v624 : BitVec 32 := Scalar.subi v616 c1_i32_284
  let c0_i32_285 : BitVec 32 := 0#32
  let v625 : BitVec 32 := Scalar.maxsi v624 c0_i32_285
  let v635 : Index := Scalar.indexCast v625
  let c0_291 : Index := 0#32
  let c0_292 : Index := 0#32
  ![0, v635.toNat, 0, 0]
def k0_off143 (k0_t4 : Fin k0_t4_loop.trips) : Fin 4 → Nat :=
  let c1_293 : Index := 1#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let v641 : Index := Scalar.indexCast v616
  let c0_294 : Index := 0#32
  let c0_295 : Index := 0#32
  ![1, v641.toNat, 0, 0]
def k0_off144 (k0_t4 : Fin k0_t4_loop.trips) : Fin 4 → Nat :=
  let c1_296 : Index := 1#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let c1_i32_284 : BitVec 32 := 1#32
  let v624 : BitVec 32 := Scalar.subi v616 c1_i32_284
  let c0_i32_285 : BitVec 32 := 0#32
  let v625 : BitVec 32 := Scalar.maxsi v624 c0_i32_285
  let v649 : Index := Scalar.indexCast v625
  let c0_297 : Index := 0#32
  let c0_298 : Index := 0#32
  ![1, v649.toNat, 0, 0]
def k0_off145 (k0_t4 : Fin k0_t4_loop.trips) : Fin 4 → Nat :=
  let c2_299 : Index := 2#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let v655 : Index := Scalar.indexCast v616
  let c0_300 : Index := 0#32
  let c0_301 : Index := 0#32
  ![2, v655.toNat, 0, 0]
def k0_off146 (k0_t4 : Fin k0_t4_loop.trips) : Fin 4 → Nat :=
  let c2_302 : Index := 2#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let c1_i32_284 : BitVec 32 := 1#32
  let v624 : BitVec 32 := Scalar.subi v616 c1_i32_284
  let c0_i32_285 : BitVec 32 := 0#32
  let v625 : BitVec 32 := Scalar.maxsi v624 c0_i32_285
  let v663 : Index := Scalar.indexCast v625
  let c0_303 : Index := 0#32
  let c0_304 : Index := 0#32
  ![2, v663.toNat, 0, 0]
def k0_off147 (k0_t4 : Fin k0_t4_loop.trips) : Fin 4 → Nat :=
  let c3_305 : Index := 3#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let v669 : Index := Scalar.indexCast v616
  let c0_306 : Index := 0#32
  let c0_307 : Index := 0#32
  ![3, v669.toNat, 0, 0]
def k0_off148 (k0_t4 : Fin k0_t4_loop.trips) : Fin 4 → Nat :=
  let c3_308 : Index := 3#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let c1_i32_284 : BitVec 32 := 1#32
  let v624 : BitVec 32 := Scalar.subi v616 c1_i32_284
  let c0_i32_285 : BitVec 32 := 0#32
  let v625 : BitVec 32 := Scalar.maxsi v624 c0_i32_285
  let v677 : Index := Scalar.indexCast v625
  let c0_309 : Index := 0#32
  let c0_310 : Index := 0#32
  ![3, v677.toNat, 0, 0]
def k0_off149 (k0_t4 : Fin k0_t4_loop.trips) : Fin 4 → Nat :=
  let c4_311 : Index := 4#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let v683 : Index := Scalar.indexCast v616
  let c0_312 : Index := 0#32
  let c0_313 : Index := 0#32
  ![4, v683.toNat, 0, 0]
def k0_off150 (k0_t4 : Fin k0_t4_loop.trips) : Fin 4 → Nat :=
  let c4_314 : Index := 4#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let c1_i32_284 : BitVec 32 := 1#32
  let v624 : BitVec 32 := Scalar.subi v616 c1_i32_284
  let c0_i32_285 : BitVec 32 := 0#32
  let v625 : BitVec 32 := Scalar.maxsi v624 c0_i32_285
  let v691 : Index := Scalar.indexCast v625
  let c0_315 : Index := 0#32
  let c0_316 : Index := 0#32
  ![4, v691.toNat, 0, 0]
def k0_off151 (k0_t4 : Fin k0_t4_loop.trips) : Fin 4 → Nat :=
  let c5_317 : Index := 5#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let v697 : Index := Scalar.indexCast v616
  let c0_318 : Index := 0#32
  let c0_319 : Index := 0#32
  ![5, v697.toNat, 0, 0]
def k0_off152 (k0_t4 : Fin k0_t4_loop.trips) : Fin 4 → Nat :=
  let c5_320 : Index := 5#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let c1_i32_284 : BitVec 32 := 1#32
  let v624 : BitVec 32 := Scalar.subi v616 c1_i32_284
  let c0_i32_285 : BitVec 32 := 0#32
  let v625 : BitVec 32 := Scalar.maxsi v624 c0_i32_285
  let v705 : Index := Scalar.indexCast v625
  let c0_321 : Index := 0#32
  let c0_322 : Index := 0#32
  ![5, v705.toNat, 0, 0]
def k0_off153 (k0_t4 : Fin k0_t4_loop.trips) : Fin 4 → Nat :=
  let c6_323 : Index := 6#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let v711 : Index := Scalar.indexCast v616
  let c0_324 : Index := 0#32
  let c0_325 : Index := 0#32
  ![6, v711.toNat, 0, 0]
def k0_off154 (k0_t4 : Fin k0_t4_loop.trips) : Fin 4 → Nat :=
  let c6_326 : Index := 6#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let c1_i32_284 : BitVec 32 := 1#32
  let v624 : BitVec 32 := Scalar.subi v616 c1_i32_284
  let c0_i32_285 : BitVec 32 := 0#32
  let v625 : BitVec 32 := Scalar.maxsi v624 c0_i32_285
  let v719 : Index := Scalar.indexCast v625
  let c0_327 : Index := 0#32
  let c0_328 : Index := 0#32
  ![6, v719.toNat, 0, 0]
def k0_off155 (k0_t4 : Fin k0_t4_loop.trips) : Fin 4 → Nat :=
  let c7_329 : Index := 7#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let v725 : Index := Scalar.indexCast v616
  let c0_330 : Index := 0#32
  let c0_331 : Index := 0#32
  ![7, v725.toNat, 0, 0]
def k0_off156 (k0_t4 : Fin k0_t4_loop.trips) : Fin 4 → Nat :=
  let c7_332 : Index := 7#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let c1_i32_284 : BitVec 32 := 1#32
  let v624 : BitVec 32 := Scalar.subi v616 c1_i32_284
  let c0_i32_285 : BitVec 32 := 0#32
  let v625 : BitVec 32 := Scalar.maxsi v624 c0_i32_285
  let v733 : Index := Scalar.indexCast v625
  let c0_333 : Index := 0#32
  let c0_334 : Index := 0#32
  ![7, v733.toNat, 0, 0]
def k0_off157 (k0_t4 : Fin k0_t4_loop.trips) : Fin 4 → Nat :=
  let c8_335 : Index := 8#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let v739 : Index := Scalar.indexCast v616
  let c0_336 : Index := 0#32
  let c0_337 : Index := 0#32
  ![8, v739.toNat, 0, 0]
def k0_off158 (k0_t4 : Fin k0_t4_loop.trips) : Fin 4 → Nat :=
  let c8_338 : Index := 8#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let c1_i32_284 : BitVec 32 := 1#32
  let v624 : BitVec 32 := Scalar.subi v616 c1_i32_284
  let c0_i32_285 : BitVec 32 := 0#32
  let v625 : BitVec 32 := Scalar.maxsi v624 c0_i32_285
  let v747 : Index := Scalar.indexCast v625
  let c0_339 : Index := 0#32
  let c0_340 : Index := 0#32
  ![8, v747.toNat, 0, 0]
def k0_off159 (k0_t4 : Fin k0_t4_loop.trips) : Fin 4 → Nat :=
  let c9_341 : Index := 9#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let v753 : Index := Scalar.indexCast v616
  let c0_342 : Index := 0#32
  let c0_343 : Index := 0#32
  ![9, v753.toNat, 0, 0]
def k0_off160 (k0_t4 : Fin k0_t4_loop.trips) : Fin 4 → Nat :=
  let c9_344 : Index := 9#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let c1_i32_284 : BitVec 32 := 1#32
  let v624 : BitVec 32 := Scalar.subi v616 c1_i32_284
  let c0_i32_285 : BitVec 32 := 0#32
  let v625 : BitVec 32 := Scalar.maxsi v624 c0_i32_285
  let v761 : Index := Scalar.indexCast v625
  let c0_345 : Index := 0#32
  let c0_346 : Index := 0#32
  ![9, v761.toNat, 0, 0]
def k0_off161 (k0_t4 : Fin k0_t4_loop.trips) : Fin 4 → Nat :=
  let c10_347 : Index := 10#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let v767 : Index := Scalar.indexCast v616
  let c0_348 : Index := 0#32
  let c0_349 : Index := 0#32
  ![10, v767.toNat, 0, 0]
def k0_off162 (k0_t4 : Fin k0_t4_loop.trips) : Fin 4 → Nat :=
  let c10_350 : Index := 10#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let c1_i32_284 : BitVec 32 := 1#32
  let v624 : BitVec 32 := Scalar.subi v616 c1_i32_284
  let c0_i32_285 : BitVec 32 := 0#32
  let v625 : BitVec 32 := Scalar.maxsi v624 c0_i32_285
  let v775 : Index := Scalar.indexCast v625
  let c0_351 : Index := 0#32
  let c0_352 : Index := 0#32
  ![10, v775.toNat, 0, 0]
def k0_off163 (k0_t4 : Fin k0_t4_loop.trips) : Fin 4 → Nat :=
  let c11_353 : Index := 11#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let v781 : Index := Scalar.indexCast v616
  let c0_354 : Index := 0#32
  let c0_355 : Index := 0#32
  ![11, v781.toNat, 0, 0]
def k0_off164 (k0_t4 : Fin k0_t4_loop.trips) : Fin 4 → Nat :=
  let c11_356 : Index := 11#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let c1_i32_284 : BitVec 32 := 1#32
  let v624 : BitVec 32 := Scalar.subi v616 c1_i32_284
  let c0_i32_285 : BitVec 32 := 0#32
  let v625 : BitVec 32 := Scalar.maxsi v624 c0_i32_285
  let v789 : Index := Scalar.indexCast v625
  let c0_357 : Index := 0#32
  let c0_358 : Index := 0#32
  ![11, v789.toNat, 0, 0]
def k0_off165 (k0_t4 : Fin k0_t4_loop.trips) : Fin 4 → Nat :=
  let c12_359 : Index := 12#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let v795 : Index := Scalar.indexCast v616
  let c0_360 : Index := 0#32
  let c0_361 : Index := 0#32
  ![12, v795.toNat, 0, 0]
def k0_off166 (k0_t4 : Fin k0_t4_loop.trips) : Fin 4 → Nat :=
  let c12_362 : Index := 12#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let c1_i32_284 : BitVec 32 := 1#32
  let v624 : BitVec 32 := Scalar.subi v616 c1_i32_284
  let c0_i32_285 : BitVec 32 := 0#32
  let v625 : BitVec 32 := Scalar.maxsi v624 c0_i32_285
  let v803 : Index := Scalar.indexCast v625
  let c0_363 : Index := 0#32
  let c0_364 : Index := 0#32
  ![12, v803.toNat, 0, 0]
def k0_off167 (k0_t4 : Fin k0_t4_loop.trips) : Fin 4 → Nat :=
  let c13_365 : Index := 13#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let v809 : Index := Scalar.indexCast v616
  let c0_366 : Index := 0#32
  let c0_367 : Index := 0#32
  ![13, v809.toNat, 0, 0]
def k0_off168 (k0_t4 : Fin k0_t4_loop.trips) : Fin 4 → Nat :=
  let c13_368 : Index := 13#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let c1_i32_284 : BitVec 32 := 1#32
  let v624 : BitVec 32 := Scalar.subi v616 c1_i32_284
  let c0_i32_285 : BitVec 32 := 0#32
  let v625 : BitVec 32 := Scalar.maxsi v624 c0_i32_285
  let v817 : Index := Scalar.indexCast v625
  let c0_369 : Index := 0#32
  let c0_370 : Index := 0#32
  ![13, v817.toNat, 0, 0]
def k0_off169 (k0_t4 : Fin k0_t4_loop.trips) : Fin 4 → Nat :=
  let c14_371 : Index := 14#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let v823 : Index := Scalar.indexCast v616
  let c0_372 : Index := 0#32
  let c0_373 : Index := 0#32
  ![14, v823.toNat, 0, 0]
def k0_off170 (k0_t4 : Fin k0_t4_loop.trips) : Fin 4 → Nat :=
  let c14_374 : Index := 14#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let c1_i32_284 : BitVec 32 := 1#32
  let v624 : BitVec 32 := Scalar.subi v616 c1_i32_284
  let c0_i32_285 : BitVec 32 := 0#32
  let v625 : BitVec 32 := Scalar.maxsi v624 c0_i32_285
  let v831 : Index := Scalar.indexCast v625
  let c0_375 : Index := 0#32
  let c0_376 : Index := 0#32
  ![14, v831.toNat, 0, 0]
def k0_off171 (k0_t4 : Fin k0_t4_loop.trips) : Fin 4 → Nat :=
  let c15_377 : Index := 15#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let v837 : Index := Scalar.indexCast v616
  let c0_378 : Index := 0#32
  let c0_379 : Index := 0#32
  ![15, v837.toNat, 0, 0]
def k0_off172 (k0_t4 : Fin k0_t4_loop.trips) : Fin 4 → Nat :=
  let c15_380 : Index := 15#32
  let c31_i32 : BitVec 32 := 31#32
  let c0_i32_267 : BitVec 32 := 0#32
  let c1_i32_268 : BitVec 32 := 1#32
  let arg23 : BitVec 32 := Scf.iv c0_i32_267 c1_i32_268 k0_t4
  let v616 : BitVec 32 := Scalar.subi c31_i32 arg23
  let c1_i32_284 : BitVec 32 := 1#32
  let v624 : BitVec 32 := Scalar.subi v616 c1_i32_284
  let c0_i32_285 : BitVec 32 := 0#32
  let v625 : BitVec 32 := Scalar.maxsi v624 c0_i32_285
  let v845 : Index := Scalar.indexCast v625
  let c0_381 : Index := 0#32
  let c0_382 : Index := 0#32
  ![15, v845.toNat, 0, 0]
@[reducible] def k0_t5_loop (i : grid0.Coords) : Scf.Loop 32 :=
  let c0_i32_166 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v385 : BitVec 32 := Scalar.subi v384 c0_i32_166
  let c1_i32_167 : BitVec 32 := 1#32
  let v387 : BitVec 32 := Scalar.divsi v385 c1_i32_167
  let v388 : BitVec 32 := Scalar.muli v387 c1_i32_167
  let v389 : BitVec 32 := Scalar.addi c0_i32_166 v388
  let c1_i32_168 : BitVec 32 := 1#32
  ⟨c0_i32_166, v389, c1_i32_168⟩
def k0_off173 (i : grid0.Coords) (k0_t5 : Fin (k0_t5_loop i).trips) : Fin 3 → Nat :=
  let c0_i32_166 : BitVec 32 := 0#32
  let c1_i32_168 : BitVec 32 := 1#32
  let arg23 : BitVec 32 := Scf.iv c0_i32_166 c1_i32_168 k0_t5
  let v392 : Index := Scalar.indexCast arg23
  let c0_170 : Index := 0#32
  let c0_171 : Index := 0#32
  ![v392.toNat, 0, 0]
def k0_off174 (i : grid0.Coords) (k0_t5 : Fin (k0_t5_loop i).trips) : Fin 3 → Nat :=
  let c0_i32_166 : BitVec 32 := 0#32
  let c1_i32_168 : BitVec 32 := 1#32
  let arg23 : BitVec 32 := Scf.iv c0_i32_166 c1_i32_168 k0_t5
  let v397 : Index := Scalar.indexCast arg23
  let c0_172 : Index := 0#32
  let c0_173 : Index := 0#32
  ![v397.toNat, 0, 0]
def k0_off175 (i : grid0.Coords) (k0_t5 : Fin (k0_t5_loop i).trips) : Fin 3 → Nat :=
  let c0_i32_166 : BitVec 32 := 0#32
  let c1_i32_168 : BitVec 32 := 1#32
  let arg23 : BitVec 32 := Scf.iv c0_i32_166 c1_i32_168 k0_t5
  let v466 : Index := Scalar.indexCast arg23
  let c0_175 : Index := 0#32
  let c128_176 : Index := 128#32
  ![v466.toNat, 0, 128]
def k0_off176 (i : grid0.Coords) (k0_t5 : Fin (k0_t5_loop i).trips) : Fin 3 → Nat :=
  let c0_i32_166 : BitVec 32 := 0#32
  let c1_i32_168 : BitVec 32 := 1#32
  let arg23 : BitVec 32 := Scf.iv c0_i32_166 c1_i32_168 k0_t5
  let v535 : Index := Scalar.indexCast arg23
  let c0_178 : Index := 0#32
  let c256_179 : Index := 256#32
  ![v535.toNat, 0, 256]
def k0_off177 (i : grid0.Coords) (k0_t5 : Fin (k0_t5_loop i).trips) : Fin 3 → Nat :=
  let c0_i32_166 : BitVec 32 := 0#32
  let c1_i32_168 : BitVec 32 := 1#32
  let arg23 : BitVec 32 := Scf.iv c0_i32_166 c1_i32_168 k0_t5
  let v604 : Index := Scalar.indexCast arg23
  let c0_181 : Index := 0#32
  let c384_182 : Index := 384#32
  ![v604.toNat, 0, 384]
def k0_off178 (i : grid0.Coords) (k0_t5 : Fin (k0_t5_loop i).trips) : Fin 3 → Nat :=
  let c0_i32_166 : BitVec 32 := 0#32
  let c1_i32_168 : BitVec 32 := 1#32
  let arg23 : BitVec 32 := Scf.iv c0_i32_166 c1_i32_168 k0_t5
  let v673 : Index := Scalar.indexCast arg23
  let c0_184 : Index := 0#32
  let c512_185 : Index := 512#32
  ![v673.toNat, 0, 512]
def k0_off179 (i : grid0.Coords) (k0_t5 : Fin (k0_t5_loop i).trips) : Fin 3 → Nat :=
  let c0_i32_166 : BitVec 32 := 0#32
  let c1_i32_168 : BitVec 32 := 1#32
  let arg23 : BitVec 32 := Scf.iv c0_i32_166 c1_i32_168 k0_t5
  let v742 : Index := Scalar.indexCast arg23
  let c0_187 : Index := 0#32
  let c640_188 : Index := 640#32
  ![v742.toNat, 0, 640]
def k0_off180 (i : grid0.Coords) (k0_t5 : Fin (k0_t5_loop i).trips) : Fin 3 → Nat :=
  let c0_i32_166 : BitVec 32 := 0#32
  let c1_i32_168 : BitVec 32 := 1#32
  let arg23 : BitVec 32 := Scf.iv c0_i32_166 c1_i32_168 k0_t5
  let v811 : Index := Scalar.indexCast arg23
  let c0_190 : Index := 0#32
  let c768_191 : Index := 768#32
  ![v811.toNat, 0, 768]
def k0_off181 (i : grid0.Coords) (k0_t5 : Fin (k0_t5_loop i).trips) : Fin 3 → Nat :=
  let c0_i32_166 : BitVec 32 := 0#32
  let c1_i32_168 : BitVec 32 := 1#32
  let arg23 : BitVec 32 := Scf.iv c0_i32_166 c1_i32_168 k0_t5
  let v880 : Index := Scalar.indexCast arg23
  let c0_193 : Index := 0#32
  let c896_194 : Index := 896#32
  ![v880.toNat, 0, 896]
@[reducible] def k0_t6_loop (i : grid0.Coords) : Scf.Loop 32 :=
  let c0_i32_166 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v385 : BitVec 32 := Scalar.subi v384 c0_i32_166
  let c1_i32_167 : BitVec 32 := 1#32
  let v387 : BitVec 32 := Scalar.divsi v385 c1_i32_167
  let v388 : BitVec 32 := Scalar.muli v387 c1_i32_167
  let v389 : BitVec 32 := Scalar.addi c0_i32_166 v388
  let v386 : BitVec 32 := Scalar.addi c0_i32_166 v385
  let c1_i32_169 : BitVec 32 := 1#32
  ⟨v389, v386, c1_i32_169⟩
def k0_off182 (i : grid0.Coords) (k0_t6 : Fin (k0_t6_loop i).trips) : Fin 3 → Nat :=
  let c0_i32_166 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v385 : BitVec 32 := Scalar.subi v384 c0_i32_166
  let c1_i32_167 : BitVec 32 := 1#32
  let v387 : BitVec 32 := Scalar.divsi v385 c1_i32_167
  let v388 : BitVec 32 := Scalar.muli v387 c1_i32_167
  let v389 : BitVec 32 := Scalar.addi c0_i32_166 v388
  let c1_i32_169 : BitVec 32 := 1#32
  let arg23 : BitVec 32 := Scf.iv v389 c1_i32_169 k0_t6
  let v392 : Index := Scalar.indexCast arg23
  let c0_170 : Index := 0#32
  let c0_171 : Index := 0#32
  ![v392.toNat, 0, 0]
def k0_off183 (i : grid0.Coords) (k0_t6 : Fin (k0_t6_loop i).trips) : Fin 3 → Nat :=
  let c0_i32_166 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v385 : BitVec 32 := Scalar.subi v384 c0_i32_166
  let c1_i32_167 : BitVec 32 := 1#32
  let v387 : BitVec 32 := Scalar.divsi v385 c1_i32_167
  let v388 : BitVec 32 := Scalar.muli v387 c1_i32_167
  let v389 : BitVec 32 := Scalar.addi c0_i32_166 v388
  let c1_i32_169 : BitVec 32 := 1#32
  let arg23 : BitVec 32 := Scf.iv v389 c1_i32_169 k0_t6
  let v397 : Index := Scalar.indexCast arg23
  let c0_172 : Index := 0#32
  let c0_173 : Index := 0#32
  ![v397.toNat, 0, 0]
def k0_off184 (i : grid0.Coords) (k0_t6 : Fin (k0_t6_loop i).trips) : Fin 3 → Nat :=
  let c0_i32_166 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v385 : BitVec 32 := Scalar.subi v384 c0_i32_166
  let c1_i32_167 : BitVec 32 := 1#32
  let v387 : BitVec 32 := Scalar.divsi v385 c1_i32_167
  let v388 : BitVec 32 := Scalar.muli v387 c1_i32_167
  let v389 : BitVec 32 := Scalar.addi c0_i32_166 v388
  let c1_i32_169 : BitVec 32 := 1#32
  let arg23 : BitVec 32 := Scf.iv v389 c1_i32_169 k0_t6
  let v466 : Index := Scalar.indexCast arg23
  let c0_175 : Index := 0#32
  let c128_176 : Index := 128#32
  ![v466.toNat, 0, 128]
def k0_off185 (i : grid0.Coords) (k0_t6 : Fin (k0_t6_loop i).trips) : Fin 3 → Nat :=
  let c0_i32_166 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v385 : BitVec 32 := Scalar.subi v384 c0_i32_166
  let c1_i32_167 : BitVec 32 := 1#32
  let v387 : BitVec 32 := Scalar.divsi v385 c1_i32_167
  let v388 : BitVec 32 := Scalar.muli v387 c1_i32_167
  let v389 : BitVec 32 := Scalar.addi c0_i32_166 v388
  let c1_i32_169 : BitVec 32 := 1#32
  let arg23 : BitVec 32 := Scf.iv v389 c1_i32_169 k0_t6
  let v535 : Index := Scalar.indexCast arg23
  let c0_178 : Index := 0#32
  let c256_179 : Index := 256#32
  ![v535.toNat, 0, 256]
def k0_off186 (i : grid0.Coords) (k0_t6 : Fin (k0_t6_loop i).trips) : Fin 3 → Nat :=
  let c0_i32_166 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v385 : BitVec 32 := Scalar.subi v384 c0_i32_166
  let c1_i32_167 : BitVec 32 := 1#32
  let v387 : BitVec 32 := Scalar.divsi v385 c1_i32_167
  let v388 : BitVec 32 := Scalar.muli v387 c1_i32_167
  let v389 : BitVec 32 := Scalar.addi c0_i32_166 v388
  let c1_i32_169 : BitVec 32 := 1#32
  let arg23 : BitVec 32 := Scf.iv v389 c1_i32_169 k0_t6
  let v604 : Index := Scalar.indexCast arg23
  let c0_181 : Index := 0#32
  let c384_182 : Index := 384#32
  ![v604.toNat, 0, 384]
def k0_off187 (i : grid0.Coords) (k0_t6 : Fin (k0_t6_loop i).trips) : Fin 3 → Nat :=
  let c0_i32_166 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v385 : BitVec 32 := Scalar.subi v384 c0_i32_166
  let c1_i32_167 : BitVec 32 := 1#32
  let v387 : BitVec 32 := Scalar.divsi v385 c1_i32_167
  let v388 : BitVec 32 := Scalar.muli v387 c1_i32_167
  let v389 : BitVec 32 := Scalar.addi c0_i32_166 v388
  let c1_i32_169 : BitVec 32 := 1#32
  let arg23 : BitVec 32 := Scf.iv v389 c1_i32_169 k0_t6
  let v673 : Index := Scalar.indexCast arg23
  let c0_184 : Index := 0#32
  let c512_185 : Index := 512#32
  ![v673.toNat, 0, 512]
def k0_off188 (i : grid0.Coords) (k0_t6 : Fin (k0_t6_loop i).trips) : Fin 3 → Nat :=
  let c0_i32_166 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v385 : BitVec 32 := Scalar.subi v384 c0_i32_166
  let c1_i32_167 : BitVec 32 := 1#32
  let v387 : BitVec 32 := Scalar.divsi v385 c1_i32_167
  let v388 : BitVec 32 := Scalar.muli v387 c1_i32_167
  let v389 : BitVec 32 := Scalar.addi c0_i32_166 v388
  let c1_i32_169 : BitVec 32 := 1#32
  let arg23 : BitVec 32 := Scf.iv v389 c1_i32_169 k0_t6
  let v742 : Index := Scalar.indexCast arg23
  let c0_187 : Index := 0#32
  let c640_188 : Index := 640#32
  ![v742.toNat, 0, 640]
def k0_off189 (i : grid0.Coords) (k0_t6 : Fin (k0_t6_loop i).trips) : Fin 3 → Nat :=
  let c0_i32_166 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v385 : BitVec 32 := Scalar.subi v384 c0_i32_166
  let c1_i32_167 : BitVec 32 := 1#32
  let v387 : BitVec 32 := Scalar.divsi v385 c1_i32_167
  let v388 : BitVec 32 := Scalar.muli v387 c1_i32_167
  let v389 : BitVec 32 := Scalar.addi c0_i32_166 v388
  let c1_i32_169 : BitVec 32 := 1#32
  let arg23 : BitVec 32 := Scf.iv v389 c1_i32_169 k0_t6
  let v811 : Index := Scalar.indexCast arg23
  let c0_190 : Index := 0#32
  let c768_191 : Index := 768#32
  ![v811.toNat, 0, 768]
def k0_off190 (i : grid0.Coords) (k0_t6 : Fin (k0_t6_loop i).trips) : Fin 3 → Nat :=
  let c0_i32_166 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v385 : BitVec 32 := Scalar.subi v384 c0_i32_166
  let c1_i32_167 : BitVec 32 := 1#32
  let v387 : BitVec 32 := Scalar.divsi v385 c1_i32_167
  let v388 : BitVec 32 := Scalar.muli v387 c1_i32_167
  let v389 : BitVec 32 := Scalar.addi c0_i32_166 v388
  let c1_i32_169 : BitVec 32 := 1#32
  let arg23 : BitVec 32 := Scf.iv v389 c1_i32_169 k0_t6
  let v880 : Index := Scalar.indexCast arg23
  let c0_193 : Index := 0#32
  let c896_194 : Index := 896#32
  ![v880.toNat, 0, 896]
@[reducible] def k0_t7_loop (i : grid0.Coords) : Scf.Loop 32 :=
  let c0_i32_167 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v386 : BitVec 32 := Scalar.subi v384 c0_i32_167
  let c1_i32_168 : BitVec 32 := 1#32
  let v388 : BitVec 32 := Scalar.divsi v386 c1_i32_168
  let v389 : BitVec 32 := Scalar.muli v388 c1_i32_168
  let v390 : BitVec 32 := Scalar.addi c0_i32_167 v389
  let c1_i32_169 : BitVec 32 := 1#32
  ⟨c0_i32_167, v390, c1_i32_169⟩
def k0_off191 (i : grid0.Coords) (k0_t7 : Fin (k0_t7_loop i).trips) : Fin 3 → Nat :=
  let c0_i32_167 : BitVec 32 := 0#32
  let c1_i32_169 : BitVec 32 := 1#32
  let arg23 : BitVec 32 := Scf.iv c0_i32_167 c1_i32_169 k0_t7
  let v393 : Index := Scalar.indexCast arg23
  let c0_171 : Index := 0#32
  let c0_172 : Index := 0#32
  ![v393.toNat, 0, 0]
def k0_off192 (i : grid0.Coords) (k0_t7 : Fin (k0_t7_loop i).trips) : Fin 3 → Nat :=
  let c0_i32_167 : BitVec 32 := 0#32
  let c1_i32_169 : BitVec 32 := 1#32
  let arg23 : BitVec 32 := Scf.iv c0_i32_167 c1_i32_169 k0_t7
  let v412 : Index := Scalar.indexCast arg23
  let c0_178 : Index := 0#32
  let c0_179 : Index := 0#32
  ![v412.toNat, 0, 0]
def k0_off193 (i : grid0.Coords) (k0_t7 : Fin (k0_t7_loop i).trips) : Fin 3 → Nat :=
  let c0_i32_167 : BitVec 32 := 0#32
  let c1_i32_169 : BitVec 32 := 1#32
  let arg23 : BitVec 32 := Scf.iv c0_i32_167 c1_i32_169 k0_t7
  let v481 : Index := Scalar.indexCast arg23
  let c0_181 : Index := 0#32
  let c128_182 : Index := 128#32
  ![v481.toNat, 0, 128]
def k0_off194 (i : grid0.Coords) (k0_t7 : Fin (k0_t7_loop i).trips) : Fin 3 → Nat :=
  let c0_i32_167 : BitVec 32 := 0#32
  let c1_i32_169 : BitVec 32 := 1#32
  let arg23 : BitVec 32 := Scf.iv c0_i32_167 c1_i32_169 k0_t7
  let v550 : Index := Scalar.indexCast arg23
  let c0_184 : Index := 0#32
  let c256_185 : Index := 256#32
  ![v550.toNat, 0, 256]
def k0_off195 (i : grid0.Coords) (k0_t7 : Fin (k0_t7_loop i).trips) : Fin 3 → Nat :=
  let c0_i32_167 : BitVec 32 := 0#32
  let c1_i32_169 : BitVec 32 := 1#32
  let arg23 : BitVec 32 := Scf.iv c0_i32_167 c1_i32_169 k0_t7
  let v619 : Index := Scalar.indexCast arg23
  let c0_187 : Index := 0#32
  let c384_188 : Index := 384#32
  ![v619.toNat, 0, 384]
def k0_off196 (i : grid0.Coords) (k0_t7 : Fin (k0_t7_loop i).trips) : Fin 3 → Nat :=
  let c0_i32_167 : BitVec 32 := 0#32
  let c1_i32_169 : BitVec 32 := 1#32
  let arg23 : BitVec 32 := Scf.iv c0_i32_167 c1_i32_169 k0_t7
  let v688 : Index := Scalar.indexCast arg23
  let c0_190 : Index := 0#32
  let c512_191 : Index := 512#32
  ![v688.toNat, 0, 512]
def k0_off197 (i : grid0.Coords) (k0_t7 : Fin (k0_t7_loop i).trips) : Fin 3 → Nat :=
  let c0_i32_167 : BitVec 32 := 0#32
  let c1_i32_169 : BitVec 32 := 1#32
  let arg23 : BitVec 32 := Scf.iv c0_i32_167 c1_i32_169 k0_t7
  let v757 : Index := Scalar.indexCast arg23
  let c0_193 : Index := 0#32
  let c640_194 : Index := 640#32
  ![v757.toNat, 0, 640]
def k0_off198 (i : grid0.Coords) (k0_t7 : Fin (k0_t7_loop i).trips) : Fin 3 → Nat :=
  let c0_i32_167 : BitVec 32 := 0#32
  let c1_i32_169 : BitVec 32 := 1#32
  let arg23 : BitVec 32 := Scf.iv c0_i32_167 c1_i32_169 k0_t7
  let v826 : Index := Scalar.indexCast arg23
  let c0_196 : Index := 0#32
  let c768_197 : Index := 768#32
  ![v826.toNat, 0, 768]
def k0_off199 (i : grid0.Coords) (k0_t7 : Fin (k0_t7_loop i).trips) : Fin 3 → Nat :=
  let c0_i32_167 : BitVec 32 := 0#32
  let c1_i32_169 : BitVec 32 := 1#32
  let arg23 : BitVec 32 := Scf.iv c0_i32_167 c1_i32_169 k0_t7
  let v895 : Index := Scalar.indexCast arg23
  let c0_199 : Index := 0#32
  let c896_200 : Index := 896#32
  ![v895.toNat, 0, 896]
@[reducible] def k0_t8_loop (i : grid0.Coords) : Scf.Loop 32 :=
  let c0_i32_167 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v386 : BitVec 32 := Scalar.subi v384 c0_i32_167
  let c1_i32_168 : BitVec 32 := 1#32
  let v388 : BitVec 32 := Scalar.divsi v386 c1_i32_168
  let v389 : BitVec 32 := Scalar.muli v388 c1_i32_168
  let v390 : BitVec 32 := Scalar.addi c0_i32_167 v389
  let v387 : BitVec 32 := Scalar.addi c0_i32_167 v386
  let c1_i32_170 : BitVec 32 := 1#32
  ⟨v390, v387, c1_i32_170⟩
def k0_off200 (i : grid0.Coords) (k0_t8 : Fin (k0_t8_loop i).trips) : Fin 3 → Nat :=
  let c0_i32_167 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v386 : BitVec 32 := Scalar.subi v384 c0_i32_167
  let c1_i32_168 : BitVec 32 := 1#32
  let v388 : BitVec 32 := Scalar.divsi v386 c1_i32_168
  let v389 : BitVec 32 := Scalar.muli v388 c1_i32_168
  let v390 : BitVec 32 := Scalar.addi c0_i32_167 v389
  let c1_i32_170 : BitVec 32 := 1#32
  let arg23 : BitVec 32 := Scf.iv v390 c1_i32_170 k0_t8
  let v393 : Index := Scalar.indexCast arg23
  let c0_171 : Index := 0#32
  let c0_172 : Index := 0#32
  ![v393.toNat, 0, 0]
def k0_off201 (i : grid0.Coords) (k0_t8 : Fin (k0_t8_loop i).trips) : Fin 3 → Nat :=
  let c0_i32_167 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v386 : BitVec 32 := Scalar.subi v384 c0_i32_167
  let c1_i32_168 : BitVec 32 := 1#32
  let v388 : BitVec 32 := Scalar.divsi v386 c1_i32_168
  let v389 : BitVec 32 := Scalar.muli v388 c1_i32_168
  let v390 : BitVec 32 := Scalar.addi c0_i32_167 v389
  let c1_i32_170 : BitVec 32 := 1#32
  let arg23 : BitVec 32 := Scf.iv v390 c1_i32_170 k0_t8
  let v412 : Index := Scalar.indexCast arg23
  let c0_178 : Index := 0#32
  let c0_179 : Index := 0#32
  ![v412.toNat, 0, 0]
def k0_off202 (i : grid0.Coords) (k0_t8 : Fin (k0_t8_loop i).trips) : Fin 3 → Nat :=
  let c0_i32_167 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v386 : BitVec 32 := Scalar.subi v384 c0_i32_167
  let c1_i32_168 : BitVec 32 := 1#32
  let v388 : BitVec 32 := Scalar.divsi v386 c1_i32_168
  let v389 : BitVec 32 := Scalar.muli v388 c1_i32_168
  let v390 : BitVec 32 := Scalar.addi c0_i32_167 v389
  let c1_i32_170 : BitVec 32 := 1#32
  let arg23 : BitVec 32 := Scf.iv v390 c1_i32_170 k0_t8
  let v481 : Index := Scalar.indexCast arg23
  let c0_181 : Index := 0#32
  let c128_182 : Index := 128#32
  ![v481.toNat, 0, 128]
def k0_off203 (i : grid0.Coords) (k0_t8 : Fin (k0_t8_loop i).trips) : Fin 3 → Nat :=
  let c0_i32_167 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v386 : BitVec 32 := Scalar.subi v384 c0_i32_167
  let c1_i32_168 : BitVec 32 := 1#32
  let v388 : BitVec 32 := Scalar.divsi v386 c1_i32_168
  let v389 : BitVec 32 := Scalar.muli v388 c1_i32_168
  let v390 : BitVec 32 := Scalar.addi c0_i32_167 v389
  let c1_i32_170 : BitVec 32 := 1#32
  let arg23 : BitVec 32 := Scf.iv v390 c1_i32_170 k0_t8
  let v550 : Index := Scalar.indexCast arg23
  let c0_184 : Index := 0#32
  let c256_185 : Index := 256#32
  ![v550.toNat, 0, 256]
def k0_off204 (i : grid0.Coords) (k0_t8 : Fin (k0_t8_loop i).trips) : Fin 3 → Nat :=
  let c0_i32_167 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v386 : BitVec 32 := Scalar.subi v384 c0_i32_167
  let c1_i32_168 : BitVec 32 := 1#32
  let v388 : BitVec 32 := Scalar.divsi v386 c1_i32_168
  let v389 : BitVec 32 := Scalar.muli v388 c1_i32_168
  let v390 : BitVec 32 := Scalar.addi c0_i32_167 v389
  let c1_i32_170 : BitVec 32 := 1#32
  let arg23 : BitVec 32 := Scf.iv v390 c1_i32_170 k0_t8
  let v619 : Index := Scalar.indexCast arg23
  let c0_187 : Index := 0#32
  let c384_188 : Index := 384#32
  ![v619.toNat, 0, 384]
def k0_off205 (i : grid0.Coords) (k0_t8 : Fin (k0_t8_loop i).trips) : Fin 3 → Nat :=
  let c0_i32_167 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v386 : BitVec 32 := Scalar.subi v384 c0_i32_167
  let c1_i32_168 : BitVec 32 := 1#32
  let v388 : BitVec 32 := Scalar.divsi v386 c1_i32_168
  let v389 : BitVec 32 := Scalar.muli v388 c1_i32_168
  let v390 : BitVec 32 := Scalar.addi c0_i32_167 v389
  let c1_i32_170 : BitVec 32 := 1#32
  let arg23 : BitVec 32 := Scf.iv v390 c1_i32_170 k0_t8
  let v688 : Index := Scalar.indexCast arg23
  let c0_190 : Index := 0#32
  let c512_191 : Index := 512#32
  ![v688.toNat, 0, 512]
def k0_off206 (i : grid0.Coords) (k0_t8 : Fin (k0_t8_loop i).trips) : Fin 3 → Nat :=
  let c0_i32_167 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v386 : BitVec 32 := Scalar.subi v384 c0_i32_167
  let c1_i32_168 : BitVec 32 := 1#32
  let v388 : BitVec 32 := Scalar.divsi v386 c1_i32_168
  let v389 : BitVec 32 := Scalar.muli v388 c1_i32_168
  let v390 : BitVec 32 := Scalar.addi c0_i32_167 v389
  let c1_i32_170 : BitVec 32 := 1#32
  let arg23 : BitVec 32 := Scf.iv v390 c1_i32_170 k0_t8
  let v757 : Index := Scalar.indexCast arg23
  let c0_193 : Index := 0#32
  let c640_194 : Index := 640#32
  ![v757.toNat, 0, 640]
def k0_off207 (i : grid0.Coords) (k0_t8 : Fin (k0_t8_loop i).trips) : Fin 3 → Nat :=
  let c0_i32_167 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v386 : BitVec 32 := Scalar.subi v384 c0_i32_167
  let c1_i32_168 : BitVec 32 := 1#32
  let v388 : BitVec 32 := Scalar.divsi v386 c1_i32_168
  let v389 : BitVec 32 := Scalar.muli v388 c1_i32_168
  let v390 : BitVec 32 := Scalar.addi c0_i32_167 v389
  let c1_i32_170 : BitVec 32 := 1#32
  let arg23 : BitVec 32 := Scf.iv v390 c1_i32_170 k0_t8
  let v826 : Index := Scalar.indexCast arg23
  let c0_196 : Index := 0#32
  let c768_197 : Index := 768#32
  ![v826.toNat, 0, 768]
def k0_off208 (i : grid0.Coords) (k0_t8 : Fin (k0_t8_loop i).trips) : Fin 3 → Nat :=
  let c0_i32_167 : BitVec 32 := 0#32
  let c2_i32_165 : BitVec 32 := 2#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v384 : BitVec 32 := Scalar.muli c2_i32_165 v48
  let v386 : BitVec 32 := Scalar.subi v384 c0_i32_167
  let c1_i32_168 : BitVec 32 := 1#32
  let v388 : BitVec 32 := Scalar.divsi v386 c1_i32_168
  let v389 : BitVec 32 := Scalar.muli v388 c1_i32_168
  let v390 : BitVec 32 := Scalar.addi c0_i32_167 v389
  let c1_i32_170 : BitVec 32 := 1#32
  let arg23 : BitVec 32 := Scf.iv v390 c1_i32_170 k0_t8
  let v895 : Index := Scalar.indexCast arg23
  let c0_199 : Index := 0#32
  let c896_200 : Index := 896#32
  ![v895.toNat, 0, 896]
@[reducible] def k0_t9_loop (i : grid0.Coords) : Scf.Loop 32 :=
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_141 : BitVec 32 := 1#32
  ⟨c0_i32_139, v318, c1_i32_141⟩
def k0_off209 (i : grid0.Coords) (k0_t9 : Fin (k0_t9_loop i).trips) : Fin 3 → Nat :=
  let c2_i32_165 : BitVec 32 := 2#32
  let c0_i32_139 : BitVec 32 := 0#32
  let c1_i32_141 : BitVec 32 := 1#32
  let arg23 : BitVec 32 := Scf.iv c0_i32_139 c1_i32_141 k0_t9
  let v384 : BitVec 32 := Scalar.muli c2_i32_165 arg23
  let v387 : Index := Scalar.indexCast v384
  let c0_168 : Index := 0#32
  let c0_169 : Index := 0#32
  ![v387.toNat, 0, 0]
def k0_off210 (i : grid0.Coords) (k0_t9 : Fin (k0_t9_loop i).trips) : Fin 3 → Nat :=
  let c2_i32_165 : BitVec 32 := 2#32
  let c0_i32_139 : BitVec 32 := 0#32
  let c1_i32_141 : BitVec 32 := 1#32
  let arg23 : BitVec 32 := Scf.iv c0_i32_139 c1_i32_141 k0_t9
  let v384 : BitVec 32 := Scalar.muli c2_i32_165 arg23
  let v392 : Index := Scalar.indexCast v384
  let c0_171 : Index := 0#32
  let c0_172 : Index := 0#32
  ![v392.toNat, 0, 0]
def k0_off211 (i : grid0.Coords) (k0_t9 : Fin (k0_t9_loop i).trips) : Fin 3 → Nat :=
  let c2_i32_165 : BitVec 32 := 2#32
  let c0_i32_139 : BitVec 32 := 0#32
  let c1_i32_141 : BitVec 32 := 1#32
  let arg23 : BitVec 32 := Scf.iv c0_i32_139 c1_i32_141 k0_t9
  let v384 : BitVec 32 := Scalar.muli c2_i32_165 arg23
  let v401 : Index := Scalar.indexCast v384
  let c0_174 : Index := 0#32
  let c128_175 : Index := 128#32
  ![v401.toNat, 0, 128]
def k0_off212 (i : grid0.Coords) (k0_t9 : Fin (k0_t9_loop i).trips) : Fin 3 → Nat :=
  let c2_i32_165 : BitVec 32 := 2#32
  let c0_i32_139 : BitVec 32 := 0#32
  let c1_i32_141 : BitVec 32 := 1#32
  let arg23 : BitVec 32 := Scf.iv c0_i32_139 c1_i32_141 k0_t9
  let v384 : BitVec 32 := Scalar.muli c2_i32_165 arg23
  let v410 : Index := Scalar.indexCast v384
  let c0_177 : Index := 0#32
  let c256_178 : Index := 256#32
  ![v410.toNat, 0, 256]
def k0_off213 (i : grid0.Coords) (k0_t9 : Fin (k0_t9_loop i).trips) : Fin 3 → Nat :=
  let c2_i32_165 : BitVec 32 := 2#32
  let c0_i32_139 : BitVec 32 := 0#32
  let c1_i32_141 : BitVec 32 := 1#32
  let arg23 : BitVec 32 := Scf.iv c0_i32_139 c1_i32_141 k0_t9
  let v384 : BitVec 32 := Scalar.muli c2_i32_165 arg23
  let v419 : Index := Scalar.indexCast v384
  let c0_180 : Index := 0#32
  let c384_181 : Index := 384#32
  ![v419.toNat, 0, 384]
def k0_off214 (i : grid0.Coords) (k0_t9 : Fin (k0_t9_loop i).trips) : Fin 3 → Nat :=
  let c2_i32_165 : BitVec 32 := 2#32
  let c0_i32_139 : BitVec 32 := 0#32
  let c1_i32_141 : BitVec 32 := 1#32
  let arg23 : BitVec 32 := Scf.iv c0_i32_139 c1_i32_141 k0_t9
  let v384 : BitVec 32 := Scalar.muli c2_i32_165 arg23
  let v428 : Index := Scalar.indexCast v384
  let c0_183 : Index := 0#32
  let c512_184 : Index := 512#32
  ![v428.toNat, 0, 512]
def k0_off215 (i : grid0.Coords) (k0_t9 : Fin (k0_t9_loop i).trips) : Fin 3 → Nat :=
  let c2_i32_165 : BitVec 32 := 2#32
  let c0_i32_139 : BitVec 32 := 0#32
  let c1_i32_141 : BitVec 32 := 1#32
  let arg23 : BitVec 32 := Scf.iv c0_i32_139 c1_i32_141 k0_t9
  let v384 : BitVec 32 := Scalar.muli c2_i32_165 arg23
  let v437 : Index := Scalar.indexCast v384
  let c0_186 : Index := 0#32
  let c640_187 : Index := 640#32
  ![v437.toNat, 0, 640]
def k0_off216 (i : grid0.Coords) (k0_t9 : Fin (k0_t9_loop i).trips) : Fin 3 → Nat :=
  let c2_i32_165 : BitVec 32 := 2#32
  let c0_i32_139 : BitVec 32 := 0#32
  let c1_i32_141 : BitVec 32 := 1#32
  let arg23 : BitVec 32 := Scf.iv c0_i32_139 c1_i32_141 k0_t9
  let v384 : BitVec 32 := Scalar.muli c2_i32_165 arg23
  let v446 : Index := Scalar.indexCast v384
  let c0_189 : Index := 0#32
  let c768_190 : Index := 768#32
  ![v446.toNat, 0, 768]
def k0_off217 (i : grid0.Coords) (k0_t9 : Fin (k0_t9_loop i).trips) : Fin 3 → Nat :=
  let c2_i32_165 : BitVec 32 := 2#32
  let c0_i32_139 : BitVec 32 := 0#32
  let c1_i32_141 : BitVec 32 := 1#32
  let arg23 : BitVec 32 := Scf.iv c0_i32_139 c1_i32_141 k0_t9
  let v384 : BitVec 32 := Scalar.muli c2_i32_165 arg23
  let v455 : Index := Scalar.indexCast v384
  let c0_192 : Index := 0#32
  let c896_193 : Index := 896#32
  ![v455.toNat, 0, 896]
def k0_off218 (i : grid0.Coords) (k0_t9 : Fin (k0_t9_loop i).trips) : Fin 3 → Nat :=
  let c2_i32_165 : BitVec 32 := 2#32
  let c0_i32_139 : BitVec 32 := 0#32
  let c1_i32_141 : BitVec 32 := 1#32
  let arg23 : BitVec 32 := Scf.iv c0_i32_139 c1_i32_141 k0_t9
  let v384 : BitVec 32 := Scalar.muli c2_i32_165 arg23
  let v464 : Index := Scalar.indexCast v384
  let c0_195 : Index := 0#32
  let c0_196 : Index := 0#32
  ![v464.toNat, 0, 0]
def k0_off219 (i : grid0.Coords) (k0_t9 : Fin (k0_t9_loop i).trips) : Fin 3 → Nat :=
  let c2_i32_166 : BitVec 32 := 2#32
  let c0_i32_139 : BitVec 32 := 0#32
  let c1_i32_141 : BitVec 32 := 1#32
  let arg23 : BitVec 32 := Scf.iv c0_i32_139 c1_i32_141 k0_t9
  let v385 : BitVec 32 := Scalar.muli c2_i32_166 arg23
  let c1_i32_167 : BitVec 32 := 1#32
  let v386 : BitVec 32 := Scalar.addi v385 c1_i32_167
  let v469 : Index := Scalar.indexCast v386
  let c0_198 : Index := 0#32
  let c0_199 : Index := 0#32
  ![v469.toNat, 0, 0]
def k0_off220 (i : grid0.Coords) (k0_t9 : Fin (k0_t9_loop i).trips) : Fin 3 → Nat :=
  let c2_i32_166 : BitVec 32 := 2#32
  let c0_i32_139 : BitVec 32 := 0#32
  let c1_i32_141 : BitVec 32 := 1#32
  let arg23 : BitVec 32 := Scf.iv c0_i32_139 c1_i32_141 k0_t9
  let v385 : BitVec 32 := Scalar.muli c2_i32_166 arg23
  let c1_i32_167 : BitVec 32 := 1#32
  let v386 : BitVec 32 := Scalar.addi v385 c1_i32_167
  let v474 : Index := Scalar.indexCast v386
  let c0_201 : Index := 0#32
  let c0_202 : Index := 0#32
  ![v474.toNat, 0, 0]
def k0_off221 (i : grid0.Coords) (k0_t9 : Fin (k0_t9_loop i).trips) : Fin 3 → Nat :=
  let c2_i32_166 : BitVec 32 := 2#32
  let c0_i32_139 : BitVec 32 := 0#32
  let c1_i32_141 : BitVec 32 := 1#32
  let arg23 : BitVec 32 := Scf.iv c0_i32_139 c1_i32_141 k0_t9
  let v385 : BitVec 32 := Scalar.muli c2_i32_166 arg23
  let c1_i32_167 : BitVec 32 := 1#32
  let v386 : BitVec 32 := Scalar.addi v385 c1_i32_167
  let v483 : Index := Scalar.indexCast v386
  let c0_204 : Index := 0#32
  let c128_205 : Index := 128#32
  ![v483.toNat, 0, 128]
def k0_off222 (i : grid0.Coords) (k0_t9 : Fin (k0_t9_loop i).trips) : Fin 3 → Nat :=
  let c2_i32_166 : BitVec 32 := 2#32
  let c0_i32_139 : BitVec 32 := 0#32
  let c1_i32_141 : BitVec 32 := 1#32
  let arg23 : BitVec 32 := Scf.iv c0_i32_139 c1_i32_141 k0_t9
  let v385 : BitVec 32 := Scalar.muli c2_i32_166 arg23
  let c1_i32_167 : BitVec 32 := 1#32
  let v386 : BitVec 32 := Scalar.addi v385 c1_i32_167
  let v492 : Index := Scalar.indexCast v386
  let c0_207 : Index := 0#32
  let c256_208 : Index := 256#32
  ![v492.toNat, 0, 256]
def k0_off223 (i : grid0.Coords) (k0_t9 : Fin (k0_t9_loop i).trips) : Fin 3 → Nat :=
  let c2_i32_166 : BitVec 32 := 2#32
  let c0_i32_139 : BitVec 32 := 0#32
  let c1_i32_141 : BitVec 32 := 1#32
  let arg23 : BitVec 32 := Scf.iv c0_i32_139 c1_i32_141 k0_t9
  let v385 : BitVec 32 := Scalar.muli c2_i32_166 arg23
  let c1_i32_167 : BitVec 32 := 1#32
  let v386 : BitVec 32 := Scalar.addi v385 c1_i32_167
  let v501 : Index := Scalar.indexCast v386
  let c0_210 : Index := 0#32
  let c384_211 : Index := 384#32
  ![v501.toNat, 0, 384]
def k0_off224 (i : grid0.Coords) (k0_t9 : Fin (k0_t9_loop i).trips) : Fin 3 → Nat :=
  let c2_i32_166 : BitVec 32 := 2#32
  let c0_i32_139 : BitVec 32 := 0#32
  let c1_i32_141 : BitVec 32 := 1#32
  let arg23 : BitVec 32 := Scf.iv c0_i32_139 c1_i32_141 k0_t9
  let v385 : BitVec 32 := Scalar.muli c2_i32_166 arg23
  let c1_i32_167 : BitVec 32 := 1#32
  let v386 : BitVec 32 := Scalar.addi v385 c1_i32_167
  let v510 : Index := Scalar.indexCast v386
  let c0_213 : Index := 0#32
  let c512_214 : Index := 512#32
  ![v510.toNat, 0, 512]
def k0_off225 (i : grid0.Coords) (k0_t9 : Fin (k0_t9_loop i).trips) : Fin 3 → Nat :=
  let c2_i32_166 : BitVec 32 := 2#32
  let c0_i32_139 : BitVec 32 := 0#32
  let c1_i32_141 : BitVec 32 := 1#32
  let arg23 : BitVec 32 := Scf.iv c0_i32_139 c1_i32_141 k0_t9
  let v385 : BitVec 32 := Scalar.muli c2_i32_166 arg23
  let c1_i32_167 : BitVec 32 := 1#32
  let v386 : BitVec 32 := Scalar.addi v385 c1_i32_167
  let v519 : Index := Scalar.indexCast v386
  let c0_216 : Index := 0#32
  let c640_217 : Index := 640#32
  ![v519.toNat, 0, 640]
def k0_off226 (i : grid0.Coords) (k0_t9 : Fin (k0_t9_loop i).trips) : Fin 3 → Nat :=
  let c2_i32_166 : BitVec 32 := 2#32
  let c0_i32_139 : BitVec 32 := 0#32
  let c1_i32_141 : BitVec 32 := 1#32
  let arg23 : BitVec 32 := Scf.iv c0_i32_139 c1_i32_141 k0_t9
  let v385 : BitVec 32 := Scalar.muli c2_i32_166 arg23
  let c1_i32_167 : BitVec 32 := 1#32
  let v386 : BitVec 32 := Scalar.addi v385 c1_i32_167
  let v528 : Index := Scalar.indexCast v386
  let c0_219 : Index := 0#32
  let c768_220 : Index := 768#32
  ![v528.toNat, 0, 768]
def k0_off227 (i : grid0.Coords) (k0_t9 : Fin (k0_t9_loop i).trips) : Fin 3 → Nat :=
  let c2_i32_166 : BitVec 32 := 2#32
  let c0_i32_139 : BitVec 32 := 0#32
  let c1_i32_141 : BitVec 32 := 1#32
  let arg23 : BitVec 32 := Scf.iv c0_i32_139 c1_i32_141 k0_t9
  let v385 : BitVec 32 := Scalar.muli c2_i32_166 arg23
  let c1_i32_167 : BitVec 32 := 1#32
  let v386 : BitVec 32 := Scalar.addi v385 c1_i32_167
  let v537 : Index := Scalar.indexCast v386
  let c0_222 : Index := 0#32
  let c896_223 : Index := 896#32
  ![v537.toNat, 0, 896]
def k0_off228 (i : grid0.Coords) (k0_t9 : Fin (k0_t9_loop i).trips) : Fin 3 → Nat :=
  let c2_i32_166 : BitVec 32 := 2#32
  let c0_i32_139 : BitVec 32 := 0#32
  let c1_i32_141 : BitVec 32 := 1#32
  let arg23 : BitVec 32 := Scf.iv c0_i32_139 c1_i32_141 k0_t9
  let v385 : BitVec 32 := Scalar.muli c2_i32_166 arg23
  let c1_i32_167 : BitVec 32 := 1#32
  let v386 : BitVec 32 := Scalar.addi v385 c1_i32_167
  let v546 : Index := Scalar.indexCast v386
  let c0_225 : Index := 0#32
  let c0_226 : Index := 0#32
  ![v546.toNat, 0, 0]
@[reducible] def k0_t10_loop (i : grid0.Coords) : Scf.Loop 32 :=
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let v315 : BitVec 32 := Scalar.addi c0_i32_139 v314
  let c1_i32_142 : BitVec 32 := 1#32
  ⟨v318, v315, c1_i32_142⟩
def k0_off229 (i : grid0.Coords) (k0_t10 : Fin (k0_t10_loop i).trips) : Fin 3 → Nat :=
  let c2_i32_165 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v384 : BitVec 32 := Scalar.muli c2_i32_165 arg23
  let v387 : Index := Scalar.indexCast v384
  let c0_168 : Index := 0#32
  let c0_169 : Index := 0#32
  ![v387.toNat, 0, 0]
def k0_off230 (i : grid0.Coords) (k0_t10 : Fin (k0_t10_loop i).trips) : Fin 3 → Nat :=
  let c2_i32_165 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v384 : BitVec 32 := Scalar.muli c2_i32_165 arg23
  let v392 : Index := Scalar.indexCast v384
  let c0_171 : Index := 0#32
  let c0_172 : Index := 0#32
  ![v392.toNat, 0, 0]
def k0_off231 (i : grid0.Coords) (k0_t10 : Fin (k0_t10_loop i).trips) : Fin 3 → Nat :=
  let c2_i32_165 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v384 : BitVec 32 := Scalar.muli c2_i32_165 arg23
  let v401 : Index := Scalar.indexCast v384
  let c0_174 : Index := 0#32
  let c128_175 : Index := 128#32
  ![v401.toNat, 0, 128]
def k0_off232 (i : grid0.Coords) (k0_t10 : Fin (k0_t10_loop i).trips) : Fin 3 → Nat :=
  let c2_i32_165 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v384 : BitVec 32 := Scalar.muli c2_i32_165 arg23
  let v410 : Index := Scalar.indexCast v384
  let c0_177 : Index := 0#32
  let c256_178 : Index := 256#32
  ![v410.toNat, 0, 256]
def k0_off233 (i : grid0.Coords) (k0_t10 : Fin (k0_t10_loop i).trips) : Fin 3 → Nat :=
  let c2_i32_165 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v384 : BitVec 32 := Scalar.muli c2_i32_165 arg23
  let v419 : Index := Scalar.indexCast v384
  let c0_180 : Index := 0#32
  let c384_181 : Index := 384#32
  ![v419.toNat, 0, 384]
def k0_off234 (i : grid0.Coords) (k0_t10 : Fin (k0_t10_loop i).trips) : Fin 3 → Nat :=
  let c2_i32_165 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v384 : BitVec 32 := Scalar.muli c2_i32_165 arg23
  let v428 : Index := Scalar.indexCast v384
  let c0_183 : Index := 0#32
  let c512_184 : Index := 512#32
  ![v428.toNat, 0, 512]
def k0_off235 (i : grid0.Coords) (k0_t10 : Fin (k0_t10_loop i).trips) : Fin 3 → Nat :=
  let c2_i32_165 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v384 : BitVec 32 := Scalar.muli c2_i32_165 arg23
  let v437 : Index := Scalar.indexCast v384
  let c0_186 : Index := 0#32
  let c640_187 : Index := 640#32
  ![v437.toNat, 0, 640]
def k0_off236 (i : grid0.Coords) (k0_t10 : Fin (k0_t10_loop i).trips) : Fin 3 → Nat :=
  let c2_i32_165 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v384 : BitVec 32 := Scalar.muli c2_i32_165 arg23
  let v446 : Index := Scalar.indexCast v384
  let c0_189 : Index := 0#32
  let c768_190 : Index := 768#32
  ![v446.toNat, 0, 768]
def k0_off237 (i : grid0.Coords) (k0_t10 : Fin (k0_t10_loop i).trips) : Fin 3 → Nat :=
  let c2_i32_165 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v384 : BitVec 32 := Scalar.muli c2_i32_165 arg23
  let v455 : Index := Scalar.indexCast v384
  let c0_192 : Index := 0#32
  let c896_193 : Index := 896#32
  ![v455.toNat, 0, 896]
def k0_off238 (i : grid0.Coords) (k0_t10 : Fin (k0_t10_loop i).trips) : Fin 3 → Nat :=
  let c2_i32_165 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v384 : BitVec 32 := Scalar.muli c2_i32_165 arg23
  let v464 : Index := Scalar.indexCast v384
  let c0_195 : Index := 0#32
  let c0_196 : Index := 0#32
  ![v464.toNat, 0, 0]
def k0_off239 (i : grid0.Coords) (k0_t10 : Fin (k0_t10_loop i).trips) : Fin 3 → Nat :=
  let c2_i32_166 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v385 : BitVec 32 := Scalar.muli c2_i32_166 arg23
  let c1_i32_167 : BitVec 32 := 1#32
  let v386 : BitVec 32 := Scalar.addi v385 c1_i32_167
  let v469 : Index := Scalar.indexCast v386
  let c0_198 : Index := 0#32
  let c0_199 : Index := 0#32
  ![v469.toNat, 0, 0]
def k0_off240 (i : grid0.Coords) (k0_t10 : Fin (k0_t10_loop i).trips) : Fin 3 → Nat :=
  let c2_i32_166 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v385 : BitVec 32 := Scalar.muli c2_i32_166 arg23
  let c1_i32_167 : BitVec 32 := 1#32
  let v386 : BitVec 32 := Scalar.addi v385 c1_i32_167
  let v474 : Index := Scalar.indexCast v386
  let c0_201 : Index := 0#32
  let c0_202 : Index := 0#32
  ![v474.toNat, 0, 0]
def k0_off241 (i : grid0.Coords) (k0_t10 : Fin (k0_t10_loop i).trips) : Fin 3 → Nat :=
  let c2_i32_166 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v385 : BitVec 32 := Scalar.muli c2_i32_166 arg23
  let c1_i32_167 : BitVec 32 := 1#32
  let v386 : BitVec 32 := Scalar.addi v385 c1_i32_167
  let v483 : Index := Scalar.indexCast v386
  let c0_204 : Index := 0#32
  let c128_205 : Index := 128#32
  ![v483.toNat, 0, 128]
def k0_off242 (i : grid0.Coords) (k0_t10 : Fin (k0_t10_loop i).trips) : Fin 3 → Nat :=
  let c2_i32_166 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v385 : BitVec 32 := Scalar.muli c2_i32_166 arg23
  let c1_i32_167 : BitVec 32 := 1#32
  let v386 : BitVec 32 := Scalar.addi v385 c1_i32_167
  let v492 : Index := Scalar.indexCast v386
  let c0_207 : Index := 0#32
  let c256_208 : Index := 256#32
  ![v492.toNat, 0, 256]
def k0_off243 (i : grid0.Coords) (k0_t10 : Fin (k0_t10_loop i).trips) : Fin 3 → Nat :=
  let c2_i32_166 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v385 : BitVec 32 := Scalar.muli c2_i32_166 arg23
  let c1_i32_167 : BitVec 32 := 1#32
  let v386 : BitVec 32 := Scalar.addi v385 c1_i32_167
  let v501 : Index := Scalar.indexCast v386
  let c0_210 : Index := 0#32
  let c384_211 : Index := 384#32
  ![v501.toNat, 0, 384]
def k0_off244 (i : grid0.Coords) (k0_t10 : Fin (k0_t10_loop i).trips) : Fin 3 → Nat :=
  let c2_i32_166 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v385 : BitVec 32 := Scalar.muli c2_i32_166 arg23
  let c1_i32_167 : BitVec 32 := 1#32
  let v386 : BitVec 32 := Scalar.addi v385 c1_i32_167
  let v510 : Index := Scalar.indexCast v386
  let c0_213 : Index := 0#32
  let c512_214 : Index := 512#32
  ![v510.toNat, 0, 512]
def k0_off245 (i : grid0.Coords) (k0_t10 : Fin (k0_t10_loop i).trips) : Fin 3 → Nat :=
  let c2_i32_166 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v385 : BitVec 32 := Scalar.muli c2_i32_166 arg23
  let c1_i32_167 : BitVec 32 := 1#32
  let v386 : BitVec 32 := Scalar.addi v385 c1_i32_167
  let v519 : Index := Scalar.indexCast v386
  let c0_216 : Index := 0#32
  let c640_217 : Index := 640#32
  ![v519.toNat, 0, 640]
def k0_off246 (i : grid0.Coords) (k0_t10 : Fin (k0_t10_loop i).trips) : Fin 3 → Nat :=
  let c2_i32_166 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v385 : BitVec 32 := Scalar.muli c2_i32_166 arg23
  let c1_i32_167 : BitVec 32 := 1#32
  let v386 : BitVec 32 := Scalar.addi v385 c1_i32_167
  let v528 : Index := Scalar.indexCast v386
  let c0_219 : Index := 0#32
  let c768_220 : Index := 768#32
  ![v528.toNat, 0, 768]
def k0_off247 (i : grid0.Coords) (k0_t10 : Fin (k0_t10_loop i).trips) : Fin 3 → Nat :=
  let c2_i32_166 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v385 : BitVec 32 := Scalar.muli c2_i32_166 arg23
  let c1_i32_167 : BitVec 32 := 1#32
  let v386 : BitVec 32 := Scalar.addi v385 c1_i32_167
  let v537 : Index := Scalar.indexCast v386
  let c0_222 : Index := 0#32
  let c896_223 : Index := 896#32
  ![v537.toNat, 0, 896]
def k0_off248 (i : grid0.Coords) (k0_t10 : Fin (k0_t10_loop i).trips) : Fin 3 → Nat :=
  let c2_i32_166 : BitVec 32 := 2#32
  let c0_i32_139 : BitVec 32 := 0#32
  let arg1 : BitVec 32 := BitVec.ofNat 32 (i 1).val
  let c2_i32 : BitVec 32 := 2#32
  let v13 : BitVec 32 := Scalar.addi arg1 c2_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c2_i32_1 : BitVec 32 := 2#32
  let c0_i32_4 : BitVec 32 := 0#32
  let v20 : BitVec 1 := Scalar.cmpi .sgt c2_i32_1 c0_i32_4
  let v21 : BitVec 32 := Scalar.extui v20
  let c0_i32_5 : BitVec 32 := 0#32
  let v22 : BitVec 1 := Scalar.cmpi .slt c2_i32_1 c0_i32_5
  let v23 : BitVec 32 := Scalar.extui v22
  let v24 : BitVec 32 := Scalar.subi v21 v23
  let v25 : BitVec 1 := Scalar.cmpi .ne v19 v24
  let v26 : BitVec 32 := Scalar.remsi v13 c2_i32_1
  let c0_i32_6 : BitVec 32 := 0#32
  let v27 : BitVec 1 := Scalar.cmpi .ne v26 c0_i32_6
  let v28 : BitVec 1 := Scalar.andi v25 v27
  let v14 : BitVec 32 := Scalar.divsi v13 c2_i32_1
  let c1_i32 : BitVec 32 := 1#32
  let v29 : BitVec 32 := Scalar.subi v14 c1_i32
  let v30 : BitVec 32 := Scalar.select v28 v29 v14
  let c1_i32_7 : BitVec 32 := 1#32
  let v31 : BitVec 32 := Scalar.addi v30 c1_i32_7
  let c0_i32_9 : BitVec 32 := 0#32
  let v33 : BitVec 1 := Scalar.cmpi .sgt v31 c0_i32_9
  let v34 : BitVec 32 := Scalar.extui v33
  let c0_i32_10 : BitVec 32 := 0#32
  let v35 : BitVec 1 := Scalar.cmpi .slt v31 c0_i32_10
  let v36 : BitVec 32 := Scalar.extui v35
  let v37 : BitVec 32 := Scalar.subi v34 v36
  let c2_i32_8 : BitVec 32 := 2#32
  let c0_i32_11 : BitVec 32 := 0#32
  let v38 : BitVec 1 := Scalar.cmpi .sgt c2_i32_8 c0_i32_11
  let v39 : BitVec 32 := Scalar.extui v38
  let c0_i32_12 : BitVec 32 := 0#32
  let v40 : BitVec 1 := Scalar.cmpi .slt c2_i32_8 c0_i32_12
  let v41 : BitVec 32 := Scalar.extui v40
  let v42 : BitVec 32 := Scalar.subi v39 v41
  let v43 : BitVec 1 := Scalar.cmpi .ne v37 v42
  let v44 : BitVec 32 := Scalar.remsi v31 c2_i32_8
  let c0_i32_13 : BitVec 32 := 0#32
  let v45 : BitVec 1 := Scalar.cmpi .ne v44 c0_i32_13
  let v46 : BitVec 1 := Scalar.andi v43 v45
  let v32 : BitVec 32 := Scalar.divsi v31 c2_i32_8
  let c1_i32_14 : BitVec 32 := 1#32
  let v47 : BitVec 32 := Scalar.subi v32 c1_i32_14
  let v48 : BitVec 32 := Scalar.select v46 v47 v32
  let v314 : BitVec 32 := Scalar.subi v48 c0_i32_139
  let c1_i32_140 : BitVec 32 := 1#32
  let v316 : BitVec 32 := Scalar.divsi v314 c1_i32_140
  let v317 : BitVec 32 := Scalar.muli v316 c1_i32_140
  let v318 : BitVec 32 := Scalar.addi c0_i32_139 v317
  let c1_i32_142 : BitVec 32 := 1#32
  let arg23 : BitVec 32 := Scf.iv v318 c1_i32_142 k0_t10
  let v385 : BitVec 32 := Scalar.muli c2_i32_166 arg23
  let c1_i32_167 : BitVec 32 := 1#32
  let v386 : BitVec 32 := Scalar.addi v385 c1_i32_167
  let v546 : Index := Scalar.indexCast v386
  let c0_225 : Index := 0#32
  let c0_226 : Index := 0#32
  ![v546.toNat, 0, 0]
def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_1 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c60_i32 : BitVec 32 := 60#32
  let c0_i32_0 : BitVec 32 := 0#32
  ![arg0.toNat, c0_i32.toNat, c60_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c61_i32 : BitVec 32 := 61#32
  let c0_i32_0 : BitVec 32 := 0#32
  ![arg0.toNat, c0_i32.toNat, c61_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c62_i32 : BitVec 32 := 62#32
  let c0_i32_0 : BitVec 32 := 0#32
  ![arg0.toNat, c0_i32.toNat, c62_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x4096x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Merge.lean ====
abbrev S8x4096x1024 : Shape := ⟨3, ![8, 4096, 1024]⟩
abbrev S1024 : Shape := ⟨1, ![1024]⟩
abbrev S8x4096x512 : Shape := ⟨3, ![8, 4096, 512]⟩
abbrev S5x1024x1024 : Shape := ⟨3, ![5, 1024, 1024]⟩
abbrev S5x512x1024 : Shape := ⟨3, ![5, 512, 1024]⟩
abbrev S1024x1024 : Shape := ⟨2, ![1024, 1024]⟩
abbrev S32768x1024 : Shape := ⟨2, ![32768, 1024]⟩
abbrev S1x1024 : Shape := ⟨2, ![1, 1024]⟩
abbrev S32768x512 : Shape := ⟨2, ![32768, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x1024x1024 : Shape := ⟨3, ![1, 1024, 1024]⟩
abbrev S1x512x1024 : Shape := ⟨3, ![1, 512, 1024]⟩

abbrev nBuf : Space → Nat
  | .hbm => 21
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x4096x512, .bf16⟩
  | .hbm, ⟨3, _⟩ => ⟨S8x4096x512, .bf16⟩
  | .hbm, ⟨4, _⟩ => ⟨S8x4096x512, .bf16⟩
  | .hbm, ⟨5, _⟩ => ⟨S8x4096x512, .bf16⟩
  | .hbm, ⟨6, _⟩ => ⟨S8x4096x512, .bf16⟩
  | .hbm, ⟨7, _⟩ => ⟨S5x1024x1024, .f32⟩
  | .hbm, ⟨8, _⟩ => ⟨S5x512x1024, .f32⟩
  | .hbm, ⟨9, _⟩ => ⟨S1024x1024, .f32⟩
  | .hbm, ⟨10, _⟩ => ⟨S32768x1024, .f32⟩
  | .hbm, ⟨11, _⟩ => ⟨S1x1024, .f32⟩
  | .hbm, ⟨12, _⟩ => ⟨S32768x512, .bf16⟩
  | .hbm, ⟨13, _⟩ => ⟨S32768x512, .bf16⟩
  | .hbm, ⟨14, _⟩ => ⟨S32768x512, .bf16⟩
  | .hbm, ⟨15, _⟩ => ⟨S32768x512, .bf16⟩
  | .hbm, ⟨16, _⟩ => ⟨S32768x512, .bf16⟩
  | .hbm, ⟨17, _⟩ => ⟨S5x1024x1024, .bf16⟩
  | .hbm, ⟨18, _⟩ => ⟨S5x512x1024, .bf16⟩
  | .hbm, ⟨19, _⟩ => ⟨S1024x1024, .bf16⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S5x1024x1024, .bf16⟩
  | .local _ .vmem, ⟨14, _⟩ => ⟨S5x512x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S5x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S8x4096x1024 : Shape := ⟨3, ![8, 4096, 1024]⟩
abbrev S1024 : Shape := ⟨1, ![1024]⟩
abbrev S8x4096x512 : Shape := ⟨3, ![8, 4096, 512]⟩
abbrev S5x1024x1024 : Shape := ⟨3, ![5, 1024, 1024]⟩
abbrev S5x512x1024 : Shape := ⟨3, ![5, 512, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x1024 : Shape := ⟨3, ![1, 1024, 1024]⟩
abbrev S1x512x1024 : Shape := ⟨3, ![1, 512, 1024]⟩
abbrev S512x1024 : Shape := ⟨2, ![512, 1024]⟩
abbrev S32768x1024 : Shape := ⟨2, ![32768, 1024]⟩

abbrev nBuf : Space → Nat
  | .hbm => 116
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x4096x512, .bf16⟩
  | .hbm, ⟨3, _⟩ => ⟨S8x4096x512, .bf16⟩
  | .hbm, ⟨4, _⟩ => ⟨S8x4096x512, .bf16⟩
  | .hbm, ⟨5, _⟩ => ⟨S8x4096x512, .bf16⟩
  | .hbm, ⟨6, _⟩ => ⟨S8x4096x512, .bf16⟩
  | .hbm, ⟨7, _⟩ => ⟨S5x1024x1024, .f32⟩
  | .hbm, ⟨8, _⟩ => ⟨S5x512x1024, .f32⟩
  | .hbm, ⟨9, _⟩ => ⟨S1024x1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096x1024, .f32⟩
  | .hbm, ⟨28, _⟩ => ⟨S1x1024x1024, .f32⟩
  | .hbm, ⟨29, _⟩ => ⟨S1024x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096x1024, .f32⟩
  | .hbm, ⟨38, _⟩ => ⟨S8x4096x1024, .f32⟩
  | .hbm, ⟨39, _⟩ => ⟨S8x4096x512, .f32⟩
  | .hbm, ⟨40, _⟩ => ⟨S1x512x1024, .f32⟩
  | .hbm, ⟨41, _⟩ => ⟨S512x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S1x1024x1024, .f32⟩
  | .hbm, ⟨46, _⟩ => ⟨S1024x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S_, .f32⟩
  | .hbm, ⟨51, _⟩ => ⟨S8x4096x1024, .f32⟩
  | .hbm, ⟨52, _⟩ => ⟨S8x4096x1024, .f32⟩
  | .hbm, ⟨53, _⟩ => ⟨S_, .f32⟩
  | .hbm, ⟨54, _⟩ => ⟨S8x4096x1024, .f32⟩
  | .hbm, ⟨55, _⟩ => ⟨S8x4096x1024, .f32⟩
  | .hbm, ⟨56, _⟩ => ⟨S8x4096x512, .f32⟩
  | .hbm, ⟨57, _⟩ => ⟨S1x512x1024, .f32⟩
  | .hbm, ⟨58, _⟩ => ⟨S512x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S1x1024x1024, .f32⟩
  | .hbm, ⟨63, _⟩ => ⟨S1024x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S_, .f32⟩
  | .hbm, ⟨68, _⟩ => ⟨S8x4096x1024, .f32⟩
  | .hbm, ⟨69, _⟩ => ⟨S8x4096x1024, .f32⟩
  | .hbm, ⟨70, _⟩ => ⟨S_, .f32⟩
  | .hbm, ⟨71, _⟩ => ⟨S8x4096x1024, .f32⟩
  | .hbm, ⟨72, _⟩ => ⟨S8x4096x1024, .f32⟩
  | .hbm, ⟨73, _⟩ => ⟨S8x4096x512, .f32⟩
  | .hbm, ⟨74, _⟩ => ⟨S1x512x1024, .f32⟩
  | .hbm, ⟨75, _⟩ => ⟨S512x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S1x1024x1024, .f32⟩
  | .hbm, ⟨80, _⟩ => ⟨S1024x1024, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S_, .f32⟩
  | .hbm, ⟨85, _⟩ => ⟨S8x4096x1024, .f32⟩
  | .hbm, ⟨86, _⟩ => ⟨S8x4096x1024, .f32⟩
  | .hbm, ⟨87, _⟩ => ⟨S_, .f32⟩
  | .hbm, ⟨88, _⟩ => ⟨S8x4096x1024, .f32⟩
  | .hbm, ⟨89, _⟩ => ⟨S8x4096x1024, .f32⟩
  | .hbm, ⟨90, _⟩ => ⟨S8x4096x512, .f32⟩
  | .hbm, ⟨91, _⟩ => ⟨S1x512x1024, .f32⟩
  | .hbm, ⟨92, _⟩ => ⟨S512x1024, .f32⟩
  | .hbm, ⟨93, _⟩ => ⟨S8x4096x1024, .f32⟩
  | .hbm, ⟨94, _⟩ => ⟨S8x4096x1024, .f32⟩
  | .hbm, ⟨95, _⟩ => ⟨S8x4096x1024, .f32⟩
  | .hbm, ⟨96, _⟩ => ⟨S1x1024x1024, .f32⟩
  | .hbm, ⟨97, _⟩ => ⟨S1024x1024, .f32⟩
  | .hbm, ⟨98, _⟩ => ⟨S8x4096x1024, .f32⟩
  | .hbm, ⟨99, _⟩ => ⟨S8x4096x1024, .f32⟩
  | .hbm, ⟨100, _⟩ => ⟨S8x4096x1024, .f32⟩
  | .hbm, ⟨101, _⟩ => ⟨S_, .f32⟩
  | .hbm, ⟨102, _⟩ => ⟨S8x4096x1024, .f32⟩
  | .hbm, ⟨103, _⟩ => ⟨S8x4096x1024, .f32⟩
  | .hbm, ⟨104, _⟩ => ⟨S_, .f32⟩
  | .hbm, ⟨105, _⟩ => ⟨S8x4096x1024, .f32⟩
  | .hbm, ⟨106, _⟩ => ⟨S8x4096x1024, .f32⟩
  | .hbm, ⟨107, _⟩ => ⟨S8x4096x512, .f32⟩
  | .hbm, ⟨108, _⟩ => ⟨S1x512x1024, .f32⟩
  | .hbm, ⟨109, _⟩ => ⟨S512x1024, .f32⟩
  | .hbm, ⟨110, _⟩ => ⟨S8x4096x1024, .f32⟩
  | .hbm, ⟨111, _⟩ => ⟨S8x4096x1024, .f32⟩
  | .hbm, ⟨112, _⟩ => ⟨S8x4096x1024, .f32⟩
  | .hbm, ⟨113, _⟩ => ⟨S8x4096x1024, .f32⟩
  | .hbm, ⟨114, _⟩ => ⟨S8x4096x1024, .f32⟩
  | .hbm, ⟨115, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_11 : Ref sig .tc := ⟨.hbm, 101, rfl⟩
abbrev main_v79 : Ref sig .tc := ⟨.hbm, 102, rfl⟩
abbrev main_v80 : Ref sig .tc := ⟨.hbm, 103, rfl⟩
abbrev main_cst_12 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩

abbrev nD : Nat := 1
abbrev τ : Topo := Topo.v7x

variable {F : FTy → Type} [FloatOps F]
-- ==== InProj.lean ====
abbrev S8x4096x1024 : Shape := ⟨3, ![8, 4096, 1024]⟩
abbrev S1024 : Shape := ⟨1, ![1024]⟩
abbrev S1024x7896 : Shape := ⟨2, ![1024, 7896]⟩
abbrev S32768x1024 : Shape := ⟨2, ![32768, 1024]⟩
abbrev S1x1024 : Shape := ⟨2, ![1, 1024]⟩
abbrev S1024x1536 : Shape := ⟨2, ![1024, 1536]⟩
abbrev S1024x512 : Shape := ⟨2, ![1024, 512]⟩
abbrev S1024x1024 : Shape := ⟨2, ![1024, 1024]⟩
abbrev S1024x64 : Shape := ⟨2, ![1024, 64]⟩
abbrev S1024x128 : Shape := ⟨2, ![1024, 128]⟩
abbrev S1024x8 : Shape := ⟨2, ![1024, 8]⟩
abbrev S_ : Shape := ⟨0, ![]⟩
abbrev S1024x104 : Shape := ⟨2, ![1024, 104]⟩
abbrev S1024x8088 : Shape := ⟨2, ![1024, 8088]⟩
abbrev S1024x8192 : Shape := ⟨2, ![1024, 8192]⟩
abbrev S32768x8064 : Shape := ⟨2, ![32768, 8064]⟩
abbrev S32768x128 : Shape := ⟨2, ![32768, 128]⟩
abbrev S512x1024 : Shape := ⟨2, ![512, 1024]⟩
abbrev S512x8064 : Shape := ⟨2, ![512, 8064]⟩
abbrev S512x128 : Shape := ⟨2, ![512, 128]⟩
abbrev S512 : Shape := ⟨1, ![512]⟩
abbrev S512x1 : Shape := ⟨2, ![512, 1]⟩
abbrev S1024x896 : Shape := ⟨2, ![1024, 896]⟩
abbrev S512x896 : Shape := ⟨2, ![512, 896]⟩

abbrev nBuf : Space → Nat
  | .hbm => 43
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x7896, .f32⟩
  | .hbm, ⟨3, _⟩ => ⟨S32768x1024, .f32⟩
  | .hbm, ⟨4, _⟩ => ⟨S1x1024, .f32⟩
  | .hbm, ⟨5, _⟩ => ⟨S1024x1536, .f32⟩
  | .hbm, ⟨6, _⟩ => ⟨S1024x1536, .bf16⟩
  | .hbm, ⟨7, _⟩ => ⟨S1024x512, .f32⟩
  | .hbm, ⟨8, _⟩ => ⟨S1024x512, .bf16⟩
  | .hbm, ⟨9, _⟩ => ⟨S1024x1024, .f32⟩
  | .hbm, ⟨10, _⟩ => ⟨S1024x1024, .bf16⟩
  | .hbm, ⟨11, _⟩ => ⟨S1024x512, .f32⟩
  | .hbm, ⟨12, _⟩ => ⟨S1024x512, .bf16⟩
  | .hbm, ⟨13, _⟩ => ⟨S1024x1536, .f32⟩
  | .hbm, ⟨14, _⟩ => ⟨S1024x1536, .bf16⟩
  | .hbm, ⟨15, _⟩ => ⟨S1024x512, .f32⟩
  | .hbm, ⟨16, _⟩ => ⟨S1024x512, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x64, .f32⟩
  | .hbm, ⟨22, _⟩ => ⟨S1024x64, .bf16⟩
  | .hbm, ⟨23, _⟩ => ⟨S1024x128, .f32⟩
  | .hbm, ⟨24, _⟩ => ⟨S1024x128, .bf16⟩
  | .hbm, ⟨25, _⟩ => ⟨S1024x64, .f32⟩
  | .hbm, ⟨26, _⟩ => ⟨S1024x64, .bf16⟩
  | .hbm, ⟨27, _⟩ => ⟨S1024x64, .f32⟩
  | .hbm, ⟨28, _⟩ => ⟨S1024x64, .bf16⟩
  | .hbm, ⟨29, _⟩ => ⟨S1024x64, .f32⟩
  | .hbm, ⟨30, _⟩ => ⟨S1024x64, .bf16⟩
  | .hbm, ⟨31, _⟩ => ⟨S1024x8, .f32⟩
  | .hbm, ⟨32, _⟩ => ⟨S1024x8, .bf16⟩
  | .hbm, ⟨33, _⟩ => ⟨S1024x8, .f32⟩
  | .hbm, ⟨34, _⟩ => ⟨S1024x8, .bf16⟩
  | .hbm, ⟨35, _⟩ => ⟨S1024x8, .f32⟩
  | .hbm, ⟨36, _⟩ => ⟨S1024x8, .bf16⟩
  | .hbm, ⟨37, _⟩ => ⟨S_, .bf16⟩
  | .hbm, ⟨38, _⟩ => ⟨S1024x104, .bf16⟩
  | .hbm, ⟨39, _⟩ => ⟨S1024x8088, .bf16⟩
  | .hbm, ⟨40, _⟩ => ⟨S1024x8192, .bf16⟩
  | .hbm, ⟨41, _⟩ => ⟨S32768x8064, .bf16⟩
  | .hbm, ⟨42, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x8192, .bf16⟩
  | .local _ .vmem, ⟨4, _⟩ => ⟨S512x8064, .bf16⟩
  | .local _ .vmem, ⟨5, _⟩ => ⟨S512x8064, .bf16⟩
  | .local _ .vmem, ⟨6, _⟩ => ⟨S512x128, .f32⟩
  | .local _ .vmem, ⟨7, _⟩ => ⟨S512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_cst : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37_0 : Ref sig .tc := ⟨.hbm, 41, rfl⟩
abbrev main_v37_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8064 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S8x4096x1024 : Shape := ⟨3, ![8, 4096, 1024]⟩
abbrev S1024 : Shape := ⟨1, ![1024]⟩
abbrev S1024x7896 : Shape := ⟨2, ![1024, 7896]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x7896 : Shape := ⟨3, ![8, 4096, 7896]⟩
abbrev S8x4096x1536 : Shape := ⟨3, ![8, 4096, 1536]⟩
abbrev S8x4096x4 : Shape := ⟨3, ![8, 4096, 4]⟩
abbrev S8x4096x512 : Shape := ⟨3, ![8, 4096, 512]⟩
abbrev S8x4096x64 : Shape := ⟨3, ![8, 4096, 64]⟩
abbrev S8x4096x8 : Shape := ⟨3, ![8, 4096, 8]⟩
abbrev S8x4096x7680 : Shape := ⟨3, ![8, 4096, 7680]⟩
abbrev S8x4096x384 : Shape := ⟨3, ![8, 4096, 384]⟩
abbrev S8x4096x8064 : Shape := ⟨3, ![8, 4096, 8064]⟩
abbrev S8x4096x104 : Shape := ⟨3, ![8, 4096, 104]⟩
abbrev S8x4096x128 : Shape := ⟨3, ![8, 4096, 128]⟩
abbrev S32768x8064 : Shape := ⟨2, ![32768, 8064]⟩
abbrev S32768x128 : Shape := ⟨2, ![32768, 128]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x7896, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x7896, .f32⟩
  | .hbm, ⟨20, _⟩ => ⟨S8x4096x1536, .f32⟩
  | .hbm, ⟨21, _⟩ => ⟨S8x4096x4, .f32⟩
  | .hbm, ⟨22, _⟩ => ⟨S8x4096x4, .f32⟩
  | .hbm, ⟨23, _⟩ => ⟨S8x4096x512, .f32⟩
  | .hbm, ⟨24, _⟩ => ⟨S8x4096x512, .f32⟩
  | .hbm, ⟨25, _⟩ => ⟨S8x4096x512, .f32⟩
  | .hbm, ⟨26, _⟩ => ⟨S8x4096x512, .f32⟩
  | .hbm, ⟨27, _⟩ => ⟨S8x4096x512, .f32⟩
  | .hbm, ⟨28, _⟩ => ⟨S8x4096x64, .f32⟩
  | .hbm, ⟨29, _⟩ => ⟨S8x4096x64, .f32⟩
  | .hbm, ⟨30, _⟩ => ⟨S8x4096x512, .f32⟩
  | .hbm, ⟨31, _⟩ => ⟨S8x4096x64, .f32⟩
  | .hbm, ⟨32, _⟩ => ⟨S8x4096x8, .f32⟩
  | .hbm, ⟨33, _⟩ => ⟨S8x4096x512, .f32⟩
  | .hbm, ⟨34, _⟩ => ⟨S8x4096x512, .f32⟩
  | .hbm, ⟨35, _⟩ => ⟨S8x4096x1024, .f32⟩
  | .hbm, ⟨36, _⟩ => ⟨S8x4096x8, .f32⟩
  | .hbm, ⟨37, _⟩ => ⟨S8x4096x512, .f32⟩
  | .hbm, ⟨38, _⟩ => ⟨S8x4096x512, .f32⟩
  | .hbm, ⟨39, _⟩ => ⟨S8x4096x7680, .f32⟩
  | .hbm, ⟨40, _⟩ => ⟨S8x4096x384, .f32⟩
  | .hbm, ⟨41, _⟩ => ⟨S8x4096x8064, .f32⟩
  | .hbm, ⟨42, _⟩ => ⟨S_, .f32⟩
  | .hbm, ⟨43, _⟩ => ⟨S8x4096x104, .f32⟩
  | .hbm, ⟨44, _⟩ => ⟨S8x4096x128, .f32⟩
  | .hbm, ⟨45, _⟩ => ⟨S8x4096x8064, .bf16⟩
  | .hbm, ⟨46, _⟩ => ⟨S32768x8064, .bf16⟩
  | .hbm, ⟨47, _⟩ => ⟨S32768x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩

abbrev nD : Nat := 1
abbrev τ : Topo := Topo.v7x

variable {F : FTy → Type} [FloatOps F]
-- ==== Sg.lean ====
abbrev S8x4096x8064 : Shape := ⟨3, ![8, 4096, 8064]⟩
abbrev S512 : Shape := ⟨1, ![512]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S1x512 : Shape := ⟨2, ![1, 512]⟩
abbrev S8x4096x512 : Shape := ⟨3, ![8, 4096, 512]⟩
abbrev S1x512x512 : Shape := ⟨3, ![1, 512, 512]⟩
abbrev S128x128 : Shape := ⟨2, ![128, 128]⟩
abbrev S1x128x128 : Shape := ⟨3, ![1, 128, 128]⟩
abbrev S1x128x512 : Shape := ⟨3, ![1, 128, 512]⟩
abbrev S128 : Shape := ⟨1, ![128]⟩
abbrev S128x1 : Shape := ⟨2, ![128, 1]⟩

abbrev nBuf : Space → Nat
  | .hbm => 11
  | .vmem => 12
  | .smem => 0
  | _ => 0

abbrev bufTy : (tb : Table) → Fin (tcTables nBuf tb) → BufTy
  | .hbm, ⟨0, _⟩ => ⟨S8x4096x8064, .bf16⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S128x4x128, .f32⟩
  | .hbm, ⟨7, _⟩ => ⟨S128x512, .f32⟩
  | .hbm, ⟨8, _⟩ => ⟨S1x512, .f32⟩
  | .hbm, ⟨9, _⟩ => ⟨S1x512, .f32⟩
  | .hbm, ⟨10, _⟩ => ⟨S8x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S128x512, .f32⟩
  | .local _ .vmem, ⟨10, _⟩ => ⟨S1x512x512, .bf16⟩
  | .local _ .vmem, ⟨11, _⟩ => ⟨S1x512x512, .bf16⟩
  | _, _ => ⟨S8x4096x8064, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SgRefIdeal.lean ====
abbrev S8x4096x8064 : Shape := ⟨3, ![8, 4096, 8064]⟩
abbrev S512 : Shape := ⟨1, ![512]⟩
abbrev S4x128x128 : Shape := ⟨3, ![4, 128, 128]⟩
abbrev S4x128 : Shape := ⟨2, ![4, 128]⟩
abbrev S8x4096x512 : Shape := ⟨3, ![8, 4096, 512]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S8x32x128x4x128 : Shape := ⟨5, ![8, 32, 128, 4, 128]⟩
abbrev S128x128 : Shape := ⟨2, ![128, 128]⟩
abbrev S4x8x32x128x128 : Shape := ⟨5, ![4, 8, 32, 128, 128]⟩
abbrev S128x4 : Shape := ⟨2, ![128, 4]⟩
abbrev S1x1x128x4x1 : Shape := ⟨5, ![1, 1, 128, 4, 1]⟩

abbrev nBuf : Space → Nat
  | .hbm => 110
  | .vmem => 0
  | .smem => 0
  | _ => 0

abbrev bufTy : (tb : Table) → Fin (tcTables nBuf tb) → BufTy
  | .hbm, ⟨0, _⟩ => ⟨S8x4096x8064, .bf16⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S8x4096x512, .bf16⟩
  | .hbm, ⟨6, _⟩ => ⟨S8x4096x512, .f32⟩
  | .hbm, ⟨7, _⟩ => ⟨S8x4096x512, .bf16⟩
  | .hbm, ⟨8, _⟩ => ⟨S8x4096x512, .f32⟩
  | .hbm, ⟨9, _⟩ => ⟨S8x4096x512, .bf16⟩
  | .hbm, ⟨10, _⟩ => ⟨S8x4096x512, .f32⟩
  | .hbm, ⟨11, _⟩ => ⟨S8x4096x512, .f32⟩
  | .hbm, ⟨12, _⟩ => ⟨S8x4096x512, .f32⟩
  | .hbm, ⟨13, _⟩ => ⟨S_, .f32⟩
  | .hbm, ⟨14, _⟩ => ⟨S8x4096x512, .f32⟩
  | .hbm, ⟨15, _⟩ => ⟨S8x4096x512, .f32⟩
  | .hbm, ⟨16, _⟩ => ⟨S8x4096x512, .f32⟩
  | .hbm, ⟨17, _⟩ => ⟨S_, .f32⟩
  | .hbm, ⟨18, _⟩ => ⟨S8x4096x512, .f32⟩
  | .hbm, ⟨19, _⟩ => ⟨S8x4096x512, .f32⟩
  | .hbm, ⟨20, _⟩ => ⟨S8x4096x512, .f32⟩
  | .hbm, ⟨21, _⟩ => ⟨S_, .f32⟩
  | .hbm, ⟨22, _⟩ => ⟨S8x4096x512, .f32⟩
  | .hbm, ⟨23, _⟩ => ⟨S8x4096x512, .f32⟩
  | .hbm, ⟨24, _⟩ => ⟨S_, .f32⟩
  | .hbm, ⟨25, _⟩ => ⟨S8x4096x512, .f32⟩
  | .hbm, ⟨26, _⟩ => ⟨S8x4096x512, .f32⟩
  | .hbm, ⟨27, _⟩ => ⟨S8x4096x512, .f32⟩
  | .hbm, ⟨28, _⟩ => ⟨S8x4096x512, .f32⟩
  | .hbm, ⟨29, _⟩ => ⟨S8x4096x512, .f32⟩
  | .hbm, ⟨30, _⟩ => ⟨S_, .f32⟩
  | .hbm, ⟨31, _⟩ => ⟨S8x4096x512, .f32⟩
  | .hbm, ⟨32, _⟩ => ⟨S8x4096x512, .f32⟩
  | .hbm, ⟨33, _⟩ => ⟨S8x4096x512, .f32⟩
  | .hbm, ⟨34, _⟩ => ⟨S_, .f32⟩
  | .hbm, ⟨35, _⟩ => ⟨S8x4096x512, .f32⟩
  | .hbm, ⟨36, _⟩ => ⟨S8x4096x512, .f32⟩
  | .hbm, ⟨37, _⟩ => ⟨S8x4096x512, .f32⟩
  | .hbm, ⟨38, _⟩ => ⟨S_, .f32⟩
  | .hbm, ⟨39, _⟩ => ⟨S8x4096x512, .f32⟩
  | .hbm, ⟨40, _⟩ => ⟨S8x4096x512, .f32⟩
  | .hbm, ⟨41, _⟩ => ⟨S_, .f32⟩
  | .hbm, ⟨42, _⟩ => ⟨S8x4096x512, .f32⟩
  | .hbm, ⟨43, _⟩ => ⟨S8x4096x512, .f32⟩
  | .hbm, ⟨44, _⟩ => ⟨S8x4096x512, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S8x4096x512, .f32⟩
  | .hbm, ⟨52, _⟩ => ⟨S8x4096x512, .f32⟩
  | .hbm, ⟨53, _⟩ => ⟨S8x4096x512, .f32⟩
  | .hbm, ⟨54, _⟩ => ⟨S_, .f32⟩
  | .hbm, ⟨55, _⟩ => ⟨S8x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x4096x512, .f32⟩
  | .hbm, ⟨61, _⟩ => ⟨S8x4096x512, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S8x4096x1, .f32⟩
  | .hbm, ⟨66, _⟩ => ⟨S8x4096x512, .f32⟩
  | .hbm, ⟨67, _⟩ => ⟨S8x4096x512, .f32⟩
  | .hbm, ⟨68, _⟩ => ⟨S1x1x512, .f32⟩
  | .hbm, ⟨69, _⟩ => ⟨S8x4096x512, .f32⟩
  | .hbm, ⟨70, _⟩ => ⟨S8x4096x512, .f32⟩
  | .hbm, ⟨71, _⟩ => ⟨S1x1x512, .f32⟩
  | .hbm, ⟨72, _⟩ => ⟨S8x4096x512, .f32⟩
  | .hbm, ⟨73, _⟩ => ⟨S8x4096x512, .f32⟩
  | .hbm, ⟨74, _⟩ => ⟨S8x32x128x4x128, .f32⟩
  | .hbm, ⟨75, _⟩ => ⟨S_, .i1⟩
  | .hbm, ⟨76, _⟩ => ⟨S128x128, .i1⟩
  | .hbm, ⟨77, _⟩ => ⟨S128x128, .i32⟩
  | .hbm, ⟨78, _⟩ => ⟨S_, .i32⟩
  | .hbm, ⟨79, _⟩ => ⟨S128x128, .i32⟩
  | .hbm, ⟨80, _⟩ => ⟨S128x128, .i32⟩
  | .hbm, ⟨81, _⟩ => ⟨S128x128, .i32⟩
  | .hbm, ⟨82, _⟩ => ⟨S128x128, .i1⟩
  | .hbm, ⟨83, _⟩ => ⟨S_, .i1⟩
  | .hbm, ⟨84, _⟩ => ⟨S128x128, .i1⟩
  | .hbm, ⟨85, _⟩ => ⟨S128x128, .i1⟩
  | .hbm, ⟨86, _⟩ => ⟨S_, .f32⟩
  | .hbm, ⟨87, _⟩ => ⟨S_, .f32⟩
  | .hbm, ⟨88, _⟩ => ⟨S4x128x128, .i1⟩
  | .hbm, ⟨89, _⟩ => ⟨S4x128x128, .f32⟩
  | .hbm, ⟨90, _⟩ => ⟨S4x128x128, .f32⟩
  | .hbm, ⟨91, _⟩ => ⟨S4x8x32x128x128, .f32⟩
  | .hbm, ⟨92, _⟩ => ⟨S8x32x128x4x128, .f32⟩
  | .hbm, ⟨93, _⟩ => ⟨S128x4, .f32⟩
  | .hbm, ⟨94, _⟩ => ⟨S1x1x128x4x1, .f32⟩
  | .hbm, ⟨95, _⟩ => ⟨S8x32x128x4x128, .f32⟩
  | .hbm, ⟨96, _⟩ => ⟨S8x32x128x4x128, .f32⟩
  | .hbm, ⟨97, _⟩ => ⟨S8x4096x512, .f32⟩
  | .hbm, ⟨98, _⟩ => ⟨S8x4096x512, .f32⟩
  | .hbm, ⟨99, _⟩ => ⟨S8x4096x512, .f32⟩
  | .hbm, ⟨100, _⟩ => ⟨S8x4096x512, .f32⟩
  | .hbm, ⟨101, _⟩ => ⟨S_, .f32⟩
  | .hbm, ⟨102, _⟩ => ⟨S8x4096x512, .f32⟩
  | .hbm, ⟨103, _⟩ => ⟨S8x4096x512, .f32⟩
  | .hbm, ⟨104, _⟩ => ⟨S_, .f32⟩
  | .hbm, ⟨105, _⟩ => ⟨S8x4096x512, .f32⟩
  | .hbm, ⟨106, _⟩ => ⟨S8x4096x512, .f32⟩
  | .hbm, ⟨107, _⟩ => ⟨S8x4096x512, .f32⟩
  | .hbm, ⟨108, _⟩ => ⟨S8x4096x512, .f32⟩
  | .hbm, ⟨109, _⟩ => ⟨S8x4096x512, .bf16⟩
  | _, _ => ⟨S8x4096x8064, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c : Ref sig .tc := ⟨.hbm, 75, rfl⟩
abbrev main_v57 : Ref sig .tc := ⟨.hbm, 76, rfl⟩
abbrev main_call0_v0 : Ref sig .tc := ⟨.hbm, 77, rfl⟩
abbrev main_call0_c : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_c_0 : Ref sig .tc := ⟨.hbm, 83, rfl⟩
abbrev main_call0_v5 : Ref sig .tc := ⟨.hbm, 84, rfl⟩
abbrev main_v58 : Ref sig .tc := ⟨.hbm, 85, rfl⟩
abbrev main_cst_12 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_call2_v0 : Ref sig .tc := ⟨.hbm, 99, rfl⟩
abbrev main_call2_v1 : Ref sig .tc := ⟨.hbm, 100, rfl⟩
abbrev main_call2_cst : Ref sig .tc := ⟨.hbm, 101, rfl⟩
abbrev main_call2_v2 : Ref sig .tc := ⟨.hbm, 102, rfl⟩
abbrev main_call2_v3 : Ref sig .tc := ⟨.hbm, 103, rfl⟩
abbrev main_call2_cst_0 : Ref sig .tc := ⟨.hbm, 104, rfl⟩
abbrev main_call2_v4 : Ref sig .tc := ⟨.hbm, 105, rfl⟩
abbrev main_call2_v5 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩

abbrev nD : Nat := 1
abbrev τ : Topo := Topo.v7x

variable {F : FTy → Type} [FloatOps F]
-- ==== MemKv.lean ====
abbrev S8x256x1024 : Shape := ⟨3, ![8, 256, 1024]⟩
abbrev S1024 : Shape := ⟨1, ![1024]⟩
abbrev S1024x1024 : Shape := ⟨2, ![1024, 1024]⟩
abbrev S128 : Shape := ⟨1, ![128]⟩
abbrev S1x1024 : Shape := ⟨2, ![1, 1024]⟩
abbrev S1x128 : Shape := ⟨2, ![1, 128]⟩
abbrev S8x256x512 : Shape := ⟨3, ![8, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S256x512 : Shape := ⟨2, ![256, 512]⟩

abbrev nBuf : Space → Nat
  | .hbm => 9
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S1024x1024, .bf16⟩
  | .hbm, ⟨5, _⟩ => ⟨S1x1024, .f32⟩
  | .hbm, ⟨6, _⟩ => ⟨S1x128, .f32⟩
  | .hbm, ⟨7, _⟩ => ⟨S8x256x512, .bf16⟩
  | .hbm, ⟨8, _⟩ => ⟨S8x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S8x256x1024 : Shape := ⟨3, ![8, 256, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x512 : Shape := ⟨3, ![8, 256, 512]⟩
abbrev S8x256x4x128 : Shape := ⟨4, ![8, 256, 4, 128]⟩
abbrev S8x256x4 : Shape := ⟨3, ![8, 256, 4]⟩
abbrev S8x256x4x1 : Shape := ⟨4, ![8, 256, 4, 1]⟩
abbrev S1x1x1x128 : Shape := ⟨4, ![1, 1, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x1024, .f32⟩
  | .hbm, ⟨21, _⟩ => ⟨S8x256x512, .f32⟩
  | .hbm, ⟨22, _⟩ => ⟨S8x256x512, .f32⟩
  | .hbm, ⟨23, _⟩ => ⟨S8x256x4x128, .f32⟩
  | .hbm, ⟨24, _⟩ => ⟨S8x256x4x128, .f32⟩
  | .hbm, ⟨25, _⟩ => ⟨S_, .f32⟩
  | .hbm, ⟨26, _⟩ => ⟨S8x256x4, .f32⟩
  | .hbm, ⟨27, _⟩ => ⟨S8x256x4x1, .f32⟩
  | .hbm, ⟨28, _⟩ => ⟨S_, .f32⟩
  | .hbm, ⟨29, _⟩ => ⟨S8x256x4x1, .f32⟩
  | .hbm, ⟨30, _⟩ => ⟨S8x256x4x1, .f32⟩
  | .hbm, ⟨31, _⟩ => ⟨S_, .f32⟩
  | .hbm, ⟨32, _⟩ => ⟨S8x256x4x1, .f32⟩
  | .hbm, ⟨33, _⟩ => ⟨S8x256x4x1, .f32⟩
  | .hbm, ⟨34, _⟩ => ⟨S8x256x4x1, .f32⟩
  | .hbm, ⟨35, _⟩ => ⟨S8x256x4x128, .f32⟩
  | .hbm, ⟨36, _⟩ => ⟨S8x256x4x128, .f32⟩
  | .hbm, ⟨37, _⟩ => ⟨S1x1x1x128, .f32⟩
  | .hbm, ⟨38, _⟩ => ⟨S8x256x4x128, .f32⟩
  | .hbm, ⟨39, _⟩ => ⟨S8x256x4x128, .f32⟩
  | .hbm, ⟨40, _⟩ => ⟨S8x256x512, .f32⟩
  | .hbm, ⟨41, _⟩ => ⟨S8x256x512, .bf16⟩
  | .hbm, ⟨42, _⟩ => ⟨S8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== MemAttn.lean ====
abbrev S8x4096x8064 : Shape := ⟨3, ![8, 4096, 8064]⟩
abbrev S8x256x512 : Shape := ⟨3, ![8, 256, 512]⟩
abbrev S128 : Shape := ⟨1, ![128]⟩
abbrev S1x128 : Shape := ⟨2, ![1, 128]⟩
abbrev S8x4096x512 : Shape := ⟨3, ![8, 4096, 512]⟩
abbrev S1x512x512 : Shape := ⟨3, ![1, 512, 512]⟩
abbrev S1x256x512 : Shape := ⟨3, ![1, 256, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 6
  | .vmem => 11
  | .smem => 0
  | _ => 0

abbrev bufTy : (tb : Table) → Fin (tcTables nBuf tb) → BufTy
  | .hbm, ⟨0, _⟩ => ⟨S8x4096x8064, .bf16⟩
  | .hbm, ⟨1, _⟩ => ⟨S8x256x512, .bf16⟩
  | .hbm, ⟨2, _⟩ => ⟨S8x256x512, .bf16⟩
  | .hbm, ⟨3, _⟩ => ⟨S128, .f32⟩
  | .hbm, ⟨4, _⟩ => ⟨S1x128, .f32⟩
  | .hbm, ⟨5, _⟩ => ⟨S8x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x128, .f32⟩
  | .local _ .vmem, ⟨9, _⟩ => ⟨S1x512x512, .bf16⟩
  | .local _ .vmem, ⟨10, _⟩ => ⟨S1x512x512, .bf16⟩
  | _, _ => ⟨S8x4096x8064, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_1 (i : grid0.Coords) : Fin 3 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg0.toNat, arg1.toNat, c14_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MemAttnRefIdeal.lean ====
abbrev S8x4096x8064 : Shape := ⟨3, ![8, 4096, 8064]⟩
abbrev S8x256x512 : Shape := ⟨3, ![8, 256, 512]⟩
abbrev S128 : Shape := ⟨1, ![128]⟩
abbrev S8x4096x512 : Shape := ⟨3, ![8, 4096, 512]⟩
abbrev S8x4096x4x128 : Shape := ⟨4, ![8, 4096, 4, 128]⟩
abbrev S_ : Shape := ⟨0, ![]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S8x256x4x128 : Shape := ⟨4, ![8, 256, 4, 128]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x8064, .bf16⟩
  | .hbm, ⟨1, _⟩ => ⟨S8x256x512, .bf16⟩
  | .hbm, ⟨2, _⟩ => ⟨S8x256x512, .bf16⟩
  | .hbm, ⟨3, _⟩ => ⟨S128, .f32⟩
  | .hbm, ⟨4, _⟩ => ⟨S8x4096x512, .bf16⟩
  | .hbm, ⟨5, _⟩ => ⟨S8x4096x512, .f32⟩
  | .hbm, ⟨6, _⟩ => ⟨S8x4096x512, .bf16⟩
  | .hbm, ⟨7, _⟩ => ⟨S8x4096x512, .f32⟩
  | .hbm, ⟨8, _⟩ => ⟨S8x4096x4x128, .f32⟩
  | .hbm, ⟨9, _⟩ => ⟨S8x4096x4x128, .f32⟩
  | .hbm, ⟨10, _⟩ => ⟨S_, .f32⟩
  | .hbm, ⟨11, _⟩ => ⟨S8x4096x4, .f32⟩
  | .hbm, ⟨12, _⟩ => ⟨S8x4096x4x1, .f32⟩
  | .hbm, ⟨13, _⟩ => ⟨S_, .f32⟩
  | .hbm, ⟨14, _⟩ => ⟨S8x4096x4x1, .f32⟩
  | .hbm, ⟨15, _⟩ => ⟨S8x4096x4x1, .f32⟩
  | .hbm, ⟨16, _⟩ => ⟨S_, .f32⟩
  | .hbm, ⟨17, _⟩ => ⟨S8x4096x4x1, .f32⟩
  | .hbm, ⟨18, _⟩ => ⟨S8x4096x4x1, .f32⟩
  | .hbm, ⟨19, _⟩ => ⟨S8x4096x4x1, .f32⟩
  | .hbm, ⟨20, _⟩ => ⟨S8x4096x4x128, .f32⟩
  | .hbm, ⟨21, _⟩ => ⟨S8x4096x4x128, .f32⟩
  | .hbm, ⟨22, _⟩ => ⟨S1x1x1x128, .f32⟩
  | .hbm, ⟨23, _⟩ => ⟨S8x4096x4x128, .f32⟩
  | .hbm, ⟨24, _⟩ => ⟨S8x4096x4x128, .f32⟩
  | .hbm, ⟨25, _⟩ => ⟨S8x256x512, .f32⟩
  | .hbm, ⟨26, _⟩ => ⟨S8x256x4x128, .f32⟩
  | .hbm, ⟨27, _⟩ => ⟨S8x256x512, .f32⟩
  | .hbm, ⟨28, _⟩ => ⟨S8x256x4x128, .f32⟩
  | .hbm, ⟨29, _⟩ => ⟨S8x4x4096x256, .f32⟩
  | .hbm, ⟨30, _⟩ => ⟨S_, .f32⟩
  | .hbm, ⟨31, _⟩ => ⟨S8x4x4096x256, .f32⟩
  | .hbm, ⟨32, _⟩ => ⟨S8x4x4096x256, .f32⟩
  | .hbm, ⟨33, _⟩ => ⟨S_, .f32⟩
  | .hbm, ⟨34, _⟩ => ⟨S8x4x4096, .f32⟩
  | .hbm, ⟨35, _⟩ => ⟨S_, .f32⟩
  | .hbm, ⟨36, _⟩ => ⟨S8x4x4096, .f32⟩
  | .hbm, ⟨37, _⟩ => ⟨S8x4x4096, .f32⟩
  | .hbm, ⟨38, _⟩ => ⟨S8x4x4096x1, .f32⟩
  | .hbm, ⟨39, _⟩ => ⟨S8x4x4096x256, .f32⟩
  | .hbm, ⟨40, _⟩ => ⟨S8x4x4096x256, .f32⟩
  | .hbm, ⟨41, _⟩ => ⟨S8x4x4096x256, .f32⟩
  | .hbm, ⟨42, _⟩ => ⟨S_, .f32⟩
  | .hbm, ⟨43, _⟩ => ⟨S8x4x4096, .f32⟩
  | .hbm, ⟨44, _⟩ => ⟨S8x4x4096x1, .f32⟩
  | .hbm, ⟨45, _⟩ => ⟨S8x4x4096x256, .f32⟩
  | .hbm, ⟨46, _⟩ => ⟨S8x4x4096x256, .f32⟩
  | .hbm, ⟨47, _⟩ => ⟨S8x4x128x4096, .f32⟩
  | .hbm, ⟨48, _⟩ => ⟨S8x4096x4x128, .f32⟩
  | .hbm, ⟨49, _⟩ => ⟨S8x4096x512, .f32⟩
  | .hbm, ⟨50, _⟩ => ⟨S8x4096x512, .f32⟩
  | .hbm, ⟨51, _⟩ => ⟨S8x4096x512, .f32⟩
  | .hbm, ⟨52, _⟩ => ⟨S_, .f32⟩
  | .hbm, ⟨53, _⟩ => ⟨S8x4096x512, .f32⟩
  | .hbm, ⟨54, _⟩ => ⟨S8x4096x512, .f32⟩
  | .hbm, ⟨55, _⟩ => ⟨S_, .f32⟩
  | .hbm, ⟨56, _⟩ => ⟨S8x4096x512, .f32⟩
  | .hbm, ⟨57, _⟩ => ⟨S8x4096x512, .f32⟩
  | .hbm, ⟨58, _⟩ => ⟨S8x4096x512, .f32⟩
  | .hbm, ⟨59, _⟩ => ⟨S8x4096x512, .f32⟩
  | .hbm, ⟨60, _⟩ => ⟨S8x4096x512, .bf16⟩
  | _, _ => ⟨S8x4096x8064, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Ssd.lean ====
abbrev S8x4096x8064 : Shape := ⟨3, ![8, 4096, 8064]⟩
abbrev S8x4096x128 : Shape := ⟨3, ![8, 4096, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S128x128 : Shape := ⟨2, ![128, 128]⟩
abbrev S128x512 : Shape := ⟨2, ![128, 512]⟩
abbrev S128x1024 : Shape := ⟨2, ![128, 1024]⟩
abbrev S1x1024 : Shape := ⟨2, ![1, 1024]⟩
abbrev S_ : Shape := ⟨0, ![]⟩
abbrev S1x128 : Shape := ⟨2, ![1, 128]⟩
abbrev S1x8 : Shape := ⟨2, ![1, 8]⟩
abbrev S8x64 : Shape := ⟨2, ![8, 64]⟩
abbrev S1x512 : Shape := ⟨2, ![1, 512]⟩
abbrev S8x4096x512 : Shape := ⟨3, ![8, 4096, 512]⟩
abbrev S1x512x512 : Shape := ⟨3, ![1, 512, 512]⟩
abbrev S1x512x1024 : Shape := ⟨3, ![1, 512, 1024]⟩
abbrev S1x512x128 : Shape := ⟨3, ![1, 512, 128]⟩
abbrev S2x128x256 : Shape := ⟨3, ![2, 128, 256]⟩
abbrev S8x1024 : Shape := ⟨2, ![8, 1024]⟩
abbrev S136x1024 : Shape := ⟨2, ![136, 1024]⟩
abbrev S1x128x1024 : Shape := ⟨3, ![1, 128, 1024]⟩
abbrev S128x256 : Shape := ⟨2, ![128, 256]⟩
abbrev S1x128x128 : Shape := ⟨3, ![1, 128, 128]⟩
abbrev S1x128x256 : Shape := ⟨3, ![1, 128, 256]⟩
abbrev S1x256 : Shape := ⟨2, ![1, 256]⟩
abbrev S1x128x512 : Shape := ⟨3, ![1, 128, 512]⟩
abbrev S128 : Shape := ⟨1, ![128]⟩
abbrev S128x1 : Shape := ⟨2, ![128, 1]⟩

abbrev nBuf : Space → Nat
  | .hbm => 31
  | .vmem => 20
  | .smem => 0
  | _ => 0

abbrev bufTy : (tb : Table) → Fin (tcTables nBuf tb) → BufTy
  | .hbm, ⟨0, _⟩ => ⟨S8x4096x8064, .bf16⟩
  | .hbm, ⟨1, _⟩ => ⟨S8x4096x128, .f32⟩
  | .hbm, ⟨2, _⟩ => ⟨S4x1024, .f32⟩
  | .hbm, ⟨3, _⟩ => ⟨S1024, .f32⟩
  | .hbm, ⟨4, _⟩ => ⟨S8, .f32⟩
  | .hbm, ⟨5, _⟩ => ⟨S8, .f32⟩
  | .hbm, ⟨6, _⟩ => ⟨S8, .f32⟩
  | .hbm, ⟨7, _⟩ => ⟨S512, .f32⟩
  | .hbm, ⟨8, _⟩ => ⟨S128x128, .bf16⟩
  | .hbm, ⟨9, _⟩ => ⟨S128x512, .bf16⟩
  | .hbm, ⟨10, _⟩ => ⟨S128x1024, .bf16⟩
  | .hbm, ⟨11, _⟩ => ⟨S1x1024, .f32⟩
  | .hbm, ⟨12, _⟩ => ⟨S_, .f32⟩
  | .hbm, ⟨13, _⟩ => ⟨S1x128, .f32⟩
  | .hbm, ⟨14, _⟩ => ⟨S1x8, .f32⟩
  | .hbm, ⟨15, _⟩ => ⟨S_, .i32⟩
  | .hbm, ⟨16, _⟩ => ⟨S_, .i32⟩
  | .hbm, ⟨17, _⟩ => ⟨S1x128, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S1x128, .f32⟩
  | .hbm, ⟨22, _⟩ => ⟨S1x8, .f32⟩
  | .hbm, ⟨23, _⟩ => ⟨S_, .i32⟩
  | .hbm, ⟨24, _⟩ => ⟨S_, .i32⟩
  | .hbm, ⟨25, _⟩ => ⟨S1x128, .f32⟩
  | .hbm, ⟨26, _⟩ => ⟨S8x64, .f32⟩
  | .hbm, ⟨27, _⟩ => ⟨S512, .f32⟩
  | .hbm, ⟨28, _⟩ => ⟨S1x512, .f32⟩
  | .hbm, ⟨29, _⟩ => ⟨S1x512, .f32⟩
  | .hbm, ⟨30, _⟩ => ⟨S8x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x128, .f32⟩
  | .local _ .vmem, ⟨5, _⟩ => ⟨S1x512x128, .f32⟩
  | .local _ .vmem, ⟨6, _⟩ => ⟨S4x1024, .f32⟩
  | .local _ .vmem, ⟨7, _⟩ => ⟨S1x1024, .f32⟩
  | .local _ .vmem, ⟨8, _⟩ => ⟨S1x128, .f32⟩
  | .local _ .vmem, ⟨9, _⟩ => ⟨S1x128, .f32⟩
  | .local _ .vmem, ⟨10, _⟩ => ⟨S1x512, .f32⟩
  | .local _ .vmem, ⟨11, _⟩ => ⟨S1x512, .f32⟩
  | .local _ .vmem, ⟨12, _⟩ => ⟨S128x128, .bf16⟩
  | .local _ .vmem, ⟨13, _⟩ => ⟨S128x512, .bf16⟩
  | .local _ .vmem, ⟨14, _⟩ => ⟨S128x1024, .bf16⟩
  | .local _ .vmem, ⟨15, _⟩ => ⟨S1x512x512, .bf16⟩
  | .local _ .vmem, ⟨16, _⟩ => ⟨S1x512x512, .bf16⟩
  | .local _ .vmem, ⟨17, _⟩ => ⟨S2x128x256, .f32⟩
  | .local _ .vmem, ⟨18, _⟩ => ⟨S8x1024, .f32⟩
  | .local _ .vmem, ⟨19, _⟩ => ⟨S136x1024, .f32⟩
  | _, _ => ⟨S8x4096x8064, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_v0 : Ref sig .tc := ⟨.hbm, 11, rfl⟩
abbrev main_cst_2 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_c_3 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_4 : Ref sig .tc := ⟨.hbm, 20, rfl⟩
abbrev main_v6 : Ref sig .tc := ⟨.hbm, 21, rfl⟩
abbrev main_v7 : Ref sig .tc := ⟨.hbm, 22, rfl⟩
abbrev main_c_5 : Ref sig .tc := ⟨.hbm, 23, rfl⟩
abbrev main_c_6 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg18 : BitVec 32 := Scf.iv c0_i32_1 c1_i32 k0_t1
  let c128_i32 : BitVec 32 := 128#32
  let v4 : BitVec 32 := Scalar.muli arg18 c128_i32
  v4
def k0_off1 (k0_t1 : Fin k0_t1_loop.trips) : Fin 3 → Nat :=
  let c0 : Index := 0#32
  let c0_i32_1 : BitVec 32 := 0#32
  let c1_i32 : BitVec 32 := 1#32
  let arg18 : BitVec 32 := Scf.iv c0_i32_1 c1_i32 k0_t1
  let c128_i32 : BitVec 32 := 128#32
  let v4 : BitVec 32 := Scalar.muli arg18 c128_i32
  let v5 : BitVec 32 := v4
  let v6 : Index := Scalar.indexCast v5
  let c0_3 : Index := 0#32
  ![0, v6.toNat, 0]
def k0_off2 (k0_t1 : Fin k0_t1_loop.trips) : Fin 3 → Nat :=
  let c0_23 : Index := 0#32
  let c0_i32_1 : BitVec 32 := 0#32
  let c1_i32 : BitVec 32 := 1#32
  let arg18 : BitVec 32 := Scf.iv c0_i32_1 c1_i32 k0_t1
  let c128_i32 : BitVec 32 := 128#32
  let v4 : BitVec 32 := Scalar.muli arg18 c128_i32
  let v5 : BitVec 32 := v4
  let v54 : Index := Scalar.indexCast v5
  let c0_24 : Index := 0#32
  ![0, v54.toNat, 0]
def k0_off3 (k0_t1 : Fin k0_t1_loop.trips) : Fin 3 → Nat :=
  let c0_95 : Index := 0#32
  let c0_i32_1 : BitVec 32 := 0#32
  let c1_i32 : BitVec 32 := 1#32
  let arg18 : BitVec 32 := Scf.iv c0_i32_1 c1_i32 k0_t1
  let c128_i32 : BitVec 32 := 128#32
  let v4 : BitVec 32 := Scalar.muli arg18 c128_i32
  let v5 : BitVec 32 := v4
  let v295 : Index := Scalar.indexCast v5
  let c0_96 : Index := 0#32
  ![0, v295.toNat, 0]
def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Gdn.lean ====
abbrev S8x4096x8064 : Shape := ⟨3, ![8, 4096, 8064]⟩
abbrev S8x4096x128 : Shape := ⟨3, ![8, 4096, 128]⟩
abbrev S4x1536 : Shape := ⟨2, ![4, 1536]⟩
abbrev S4 : Shape := ⟨1, ![4]⟩
abbrev S128 : Shape := ⟨1, ![128]⟩
abbrev S128x128 : Shape := ⟨2, ![128, 128]⟩
abbrev S128x512 : Shape := ⟨2, ![128, 512]⟩
abbrev S_ : Shape := ⟨0, ![]⟩
abbrev S1x128 : Shape := ⟨2, ![1, 128]⟩
abbrev S1x4 : Shape := ⟨2, ![1, 4]⟩
abbrev S8x4096x512 : Shape := ⟨3, ![8, 4096, 512]⟩
abbrev S1x512x1536 : Shape := ⟨3, ![1, 512, 1536]⟩
abbrev S1x512x128 : Shape := ⟨3, ![1, 512, 128]⟩
abbrev S1x512x512 : Shape := ⟨3, ![1, 512, 512]⟩
abbrev S4x128x128 : Shape := ⟨3, ![4, 128, 128]⟩
abbrev S8x1536 : Shape := ⟨2, ![8, 1536]⟩
abbrev S136x1536 : Shape := ⟨2, ![136, 1536]⟩
abbrev S1x128x1536 : Shape := ⟨3, ![1, 128, 1536]⟩
abbrev S128x1536 : Shape := ⟨2, ![128, 1536]⟩
abbrev S1x1536 : Shape := ⟨2, ![1, 1536]⟩
abbrev S1x128x128 : Shape := ⟨3, ![1, 128, 128]⟩
abbrev S128x1 : Shape := ⟨2, ![128, 1]⟩
abbrev S128x256 : Shape := ⟨2, ![128, 256]⟩
abbrev S64x128 : Shape := ⟨2, ![64, 128]⟩
abbrev S1x128x512 : Shape := ⟨3, ![1, 128, 512]⟩

abbrev nBuf : Space → Nat
  | .hbm => 24
  | .vmem => 18
  | .smem => 0
  | _ => 0

abbrev bufTy : (tb : Table) → Fin (tcTables nBuf tb) → BufTy
  | .hbm, ⟨0, _⟩ => ⟨S8x4096x8064, .bf16⟩
  | .hbm, ⟨1, _⟩ => ⟨S8x4096x128, .f32⟩
  | .hbm, ⟨2, _⟩ => ⟨S4x1536, .f32⟩
  | .hbm, ⟨3, _⟩ => ⟨S4, .f32⟩
  | .hbm, ⟨4, _⟩ => ⟨S4, .f32⟩
  | .hbm, ⟨5, _⟩ => ⟨S128, .f32⟩
  | .hbm, ⟨6, _⟩ => ⟨S128x128, .bf16⟩
  | .hbm, ⟨7, _⟩ => ⟨S128x512, .bf16⟩
  | .hbm, ⟨8, _⟩ => ⟨S128x512, .bf16⟩
  | .hbm, ⟨9, _⟩ => ⟨S4, .f32⟩
  | .hbm, ⟨10, _⟩ => ⟨S_, .f32⟩
  | .hbm, ⟨11, _⟩ => ⟨S1x128, .f32⟩
  | .hbm, ⟨12, _⟩ => ⟨S1x4, .f32⟩
  | .hbm, ⟨13, _⟩ => ⟨S_, .i32⟩
  | .hbm, ⟨14, _⟩ => ⟨S_, .i32⟩
  | .hbm, ⟨15, _⟩ => ⟨S1x128, .f32⟩
  | .hbm, ⟨16, _⟩ => ⟨S_, .f32⟩
  | .hbm, ⟨17, _⟩ => ⟨S1x128, .f32⟩
  | .hbm, ⟨18, _⟩ => ⟨S1x4, .f32⟩
  | .hbm, ⟨19, _⟩ => ⟨S_, .i32⟩
  | .hbm, ⟨20, _⟩ => ⟨S_, .i32⟩
  | .hbm, ⟨21, _⟩ => ⟨S1x128, .f32⟩
  | .hbm, ⟨22, _⟩ => ⟨S1x128, .f32⟩
  | .hbm, ⟨23, _⟩ => ⟨S8x4096x512, .bf16⟩
  | .local _ .vmem, ⟨0, _⟩ => ⟨S1x512x1536, .bf16⟩
  | .local _ .vmem, ⟨1, _⟩ => ⟨S1x512x1536, .bf16⟩
  | .local _ .vmem, ⟨2, _⟩ => ⟨S1x512x128, .f32⟩
  | .local _ .vmem, ⟨3, _⟩ => ⟨S1x512x128, .f32⟩
  | .local _ .vmem, ⟨4, _⟩ => ⟨S1x512x512, .bf16⟩
  | .local _ .vmem, ⟨5, _⟩ => ⟨S1x512x512, .bf16⟩
  | .local _ .vmem, ⟨6, _⟩ => ⟨S4x1536, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S128x512, .bf16⟩
  | .local _ .vmem, ⟨12, _⟩ => ⟨S128x512, .bf16⟩
  | .local _ .vmem, ⟨13, _⟩ => ⟨S1x512x512, .bf16⟩
  | .local _ .vmem, ⟨14, _⟩ => ⟨S1x512x512, .bf16⟩
  | .local _ .vmem, ⟨15, _⟩ => ⟨S4x128x128, .f32⟩
  | .local _ .vmem, ⟨16, _⟩ => ⟨S8x1536, .f32⟩
  | .local _ .vmem, ⟨17, _⟩ => ⟨S136x1536, .f32⟩
  | _, _ => ⟨S8x4096x8064, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_v0 : Ref sig .tc := ⟨.hbm, 9, rfl⟩
abbrev main_cst_2 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_c_3 : Ref sig .tc := ⟨.hbm, 14, rfl⟩
abbrev main_v3 : Ref sig .tc := ⟨.hbm, 15, rfl⟩
abbrev main_cst_4 : Ref sig .tc := ⟨.hbm, 16, rfl⟩
abbrev main_v4 : Ref sig .tc := ⟨.hbm, 17, rfl⟩
abbrev main_v5 : Ref sig .tc := ⟨.hbm, 18, rfl⟩
abbrev main_c_5 : Ref sig .tc := ⟨.hbm, 19, rfl⟩
abbrev main_c_6 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg16 : BitVec 32 := Scf.iv c0_i32_1 c1_i32 k0_t1
  let c128_i32 : BitVec 32 := 128#32
  let v4 : BitVec 32 := Scalar.muli arg16 c128_i32
  v4
def k0_off1 (k0_t1 : Fin k0_t1_loop.trips) : Fin 3 → Nat :=
  let c0 : Index := 0#32
  let c0_i32_1 : BitVec 32 := 0#32
  let c1_i32 : BitVec 32 := 1#32
  let arg16 : BitVec 32 := Scf.iv c0_i32_1 c1_i32 k0_t1
  let c128_i32 : BitVec 32 := 128#32
  let v4 : BitVec 32 := Scalar.muli arg16 c128_i32
  let v5 : BitVec 32 := v4
  let v6 : Index := Scalar.indexCast v5
  let c0_3 : Index := 0#32
  ![0, v6.toNat, 0]
def k0_off2 (k0_t1 : Fin k0_t1_loop.trips) : Fin 3 → Nat :=
  let c0_21 : Index := 0#32
  let c0_i32_1 : BitVec 32 := 0#32
  let c1_i32 : BitVec 32 := 1#32
  let arg16 : BitVec 32 := Scf.iv c0_i32_1 c1_i32 k0_t1
  let c128_i32 : BitVec 32 := 128#32
  let v4 : BitVec 32 := Scalar.muli arg16 c128_i32
  let v5 : BitVec 32 := v4
  let v47 : Index := Scalar.indexCast v5
  let c0_22 : Index := 0#32
  ![0, v47.toNat, 0]
def k0_off3 (k0_t1 : Fin k0_t1_loop.trips) : Fin 3 → Nat :=
  let c0_228 : Index := 0#32
  let c0_i32_1 : BitVec 32 := 0#32
  let c1_i32 : BitVec 32 := 1#32
  let arg16 : BitVec 32 := Scf.iv c0_i32_1 c1_i32 k0_t1
  let c128_i32 : BitVec 32 := 128#32
  let v4 : BitVec 32 := Scalar.muli arg16 c128_i32
  let v5 : BitVec 32 := v4
  let v780 : Index := Scalar.indexCast v5
  let c0_229 : Index := 0#32
  ![0, v780.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Proof.Keeps.lean ====
/-
  PROGRAMS THAT KEEP WHAT THEY HOLD. The selection kernel's body only loads, stores, branches and loops:
  it issues no copy and touches no semaphore. For its frame nothing has to be known of the values in the
  buffers, only that each of them is still held when the body ends. `Keeps c R p` says that `p`, started
  on core `c` holding `R`, ends holding `R` again, and the lemmas below pass this through every form of
  statement the body has.
-/
module

public import proofs.«01_k».proof.Proof.Gen.Kernel.Frame

@[expose] public section

noncomputable section

namespace Cert.Kernel.Dsa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel

variable {F : FTy → Type} [BitOps F]

/-- What a core can hold. -/
abbrev Res (F : FTy → Type) : Type _ := sProp (MT nD τ sig Unit (Elt F) ℕ (UR sig nD τ) ℕ)

/-- The programs of a TensorCore body. -/
abbrev Body (F : FTy → Type) (α : Type) : Type _ := Prog (TpuEff nD τ sig (Elt F) Λ₀ .tc) α

/-- Started on core `c` holding `R`, the program ends holding `R`. -/
def Keeps (c : Dev nD) (R : Res F) {α : Type} (p : Body F α) : Prop :=
  R ⊢ wp frame (wpE (defs₀ (F := F)) Variants.none (c : Thread nD τ) none) Set.univ p (fun _ => R)

/-- `R` holds the memref's elements, at some contents, and is made whole again by the same contents. -/
def Reads (c : Dev nD) (R : Res F) {cs : CoreSpace} {s : Shape} {e : EltTy} (M : Memref sig .tc cs s e) : Prop :=
  R ⊢ iprop(∃ f : Buf (Elt F) (M.view.loc (c : Thread nD τ)),
    (M.view.loc (c : Thread nD τ) ↦[M.view.set]{fullShare} f)
      ∗ ((M.view.loc (c : Thread nD τ) ↦[M.view.set]{fullShare} f) -∗ R))

/-- `R` holds the memref's elements, at some contents, and is made whole again by any contents. -/
def Writes (c : Dev nD) (R : Res F) {cs : CoreSpace} {s : Shape} {e : EltTy} (M : Memref sig .tc cs s e) : Prop :=
  R ⊢ iprop(∃ f : Buf (Elt F) (M.view.loc (c : Thread nD τ)),
    (M.view.loc (c : Thread nD τ) ↦[M.view.set]{fullShare} f)
      ∗ (∀ f' : Buf (Elt F) (M.view.loc (c : Thread nD τ)), (M.view.loc (c : Thread nD τ) ↦[M.view.set]{fullShare} f') -∗ R))

variable {c : Dev nD} {R : Res F}

theorem Writes.reads {cs : CoreSpace} {s : Shape} {e : EltTy} {M : Memref sig .tc cs s e} (h : Writes (F := F) c R M) :
    Reads (F := F) c R M := by
  unfold Reads
  refine h.trans ?_
  iintro ⟨%f, Hf, HR⟩
  iexists f
  isplitl [Hf]
  · iexact Hf
  · iapply HR

/-- An input's elements at known contents, held beside anything. -/
theorem reads_owns {cs : CoreSpace} {s : Shape} {e : EltTy} (M : Memref sig .tc cs s e) (X : s.Idx → Elt F e) :
    Reads (F := F) c (owns (c : Thread nD τ) M fullShare X) M := by
  unfold Reads owns
  iintro ⟨%f, %hf, Hf⟩
  iexists f
  isplitl [Hf]
  · iexact Hf
  · iintro Hf
    iexists f
    isplitr
    · ipureintro; exact hf
    · iexact Hf

/-- An output's elements at some contents. -/
theorem writes_owns {cs : CoreSpace} {s : Shape} {e : EltTy} (M : Memref sig .tc cs s e) :
    Writes (F := F) c iprop(∃ X, owns (c : Thread nD τ) M fullShare X) M := by
  unfold Writes owns
  iintro ⟨%X, %f, %hf, Hf⟩
  iexists f
  isplitl [Hf]
  · iexact Hf
  · iintro %f' Hf'
    iexists (M.view.read (Elt F) f'), f'
    isplitr
    · ipureintro; rfl
    · iexact Hf'

/-- A scratch buffer, whole at some contents. -/
theorem writes_whole {cs : CoreSpace} {s : Shape} {e : EltTy} (M : Memref sig .tc cs s e) (hM : M.view.set = Finset.univ) :
    Writes (F := F) c iprop(∃ f : Buf (Elt F) (M.view.loc (c : Thread nD τ)), (M.view.loc (c : Thread nD τ)) ↦{fullShare} f) M := by
  unfold Writes
  rw [hM]
  iintro ⟨%f, Hf⟩
  iexists f
  isplitl [Hf]
  · iexact Hf
  · iintro %f' Hf'
    iexists f'
    iexact Hf'

theorem Reads.left {S : Res F} {cs : CoreSpace} {s : Shape} {e : EltTy} {M : Memref sig .tc cs s e}
    (h : Reads (F := F) c R M) : Reads (F := F) c iprop(R ∗ S) M := by
  unfold Reads
  refine (sep_mono_left h).trans ?_
  iintro ⟨⟨%f, Hf, HR⟩, HS⟩
  iexists f
  isplitl [Hf]
  · iexact Hf
  · iintro Hf
    isplitl [HR Hf]
    · iapply HR; iexact Hf
    · iexact HS

theorem Reads.right {S : Res F} {cs : CoreSpace} {s : Shape} {e : EltTy} {M : Memref sig .tc cs s e}
    (h : Reads (F := F) c R M) : Reads (F := F) c iprop(S ∗ R) M := by
  unfold Reads
  refine (sep_mono_right h).trans ?_
  iintro ⟨HS, ⟨%f, Hf, HR⟩⟩
  iexists f
  isplitl [Hf]
  · iexact Hf
  · iintro Hf
    isplitl [HS]
    · iexact HS
    · iapply HR; iexact Hf

theorem Writes.left {S : Res F} {cs : CoreSpace} {s : Shape} {e : EltTy} {M : Memref sig .tc cs s e}
    (h : Writes (F := F) c R M) : Writes (F := F) c iprop(R ∗ S) M := by
  unfold Writes
  refine (sep_mono_left h).trans ?_
  iintro ⟨⟨%f, Hf, HR⟩, HS⟩
  iexists f
  isplitl [Hf]
  · iexact Hf
  · iintro %f' Hf
    isplitl [HR Hf]
    · iapply HR $$ %f'; iexact Hf
    · iexact HS

theorem Writes.right {S : Res F} {cs : CoreSpace} {s : Shape} {e : EltTy} {M : Memref sig .tc cs s e}
    (h : Writes (F := F) c R M) : Writes (F := F) c iprop(S ∗ R) M := by
  unfold Writes
  refine (sep_mono_right h).trans ?_
  iintro ⟨HS, ⟨%f, Hf, HR⟩⟩
  iexists f
  isplitl [Hf]
  · iexact Hf
  · iintro %f' Hf
    isplitl [HS]
    · iexact HS
    · iapply HR $$ %f'; iexact Hf

/-! ## The statements -/

theorem Keeps.pure {α : Type} (a : α) : Keeps (F := F) c R (Pure.pure a : Body F α) := by
  unfold Keeps
  rw [wp_pure]
  iintro HR
  imodintro
  iexact HR

theorem Keeps.bind {α β : Type} {p : Body F α} {k : α → Body F β} (hp : Keeps (F := F) c R p) (hk : ∀ a, Keeps (F := F) c R (k a)) :
    Keeps (F := F) c R (p >>= k) := by
  unfold Keeps
  rw [wp_bind]
  exact hp.trans (wp_mono _ _ _ fun a => hk a)

theorem Keeps.load {cs : CoreSpace} {s : Shape} {e : EltTy} {M : Memref sig .tc cs s e} (h : Reads (F := F) c R M)
    (r : LoadRect s) (hl : M.view.LoadsAt r) :
    Keeps (F := F) c R (Prog.lift (.load M r hl) : Body F _) := by
  unfold Keeps
  refine h.trans ?_
  iintro ⟨%f, Hf, HR⟩
  iapply (wp_load Variants.none (c : Thread nD τ) none Set.univ (M.view.setOn_subset_set _)) $$ Hf
  iintro Hf
  rw [wp_ret]
  imodintro
  iapply HR; iexact Hf

theorem Keeps.store {cs : CoreSpace} {s : Shape} {e : EltTy} {M : Memref sig .tc cs s e} (h : Writes (F := F) c R M)
    (r : Rect s) (w : r.shape.Idx → Elt F e) (Mk : Finset r.shape.Idx) (hx : (M.access r).Stores Mk)
    (hm : Mk = Finset.univ ∨ ∀ a, r.stride a = 1) :
    Keeps (F := F) c R (Prog.lift (.store M r w Mk hx hm) : Body F _) := by
  unfold Keeps
  refine h.trans ?_
  iintro ⟨%f, Hf, HR⟩
  iapply (wp_store Variants.none (c : Thread nD τ) none Set.univ
    (((M.access r).setOn_subset_set Mk).trans (M.view.set_slice_subset r))) $$ Hf
  iintro Hf
  rw [wp_ret]
  imodintro
  iapply HR; iexact Hf

theorem Keeps.ite {α : Type} {C : Prop} [Decidable C] {p q : Body F α} (hp : Keeps (F := F) c R p) (hq : Keeps (F := F) c R q) :
    Keeps (F := F) c R (if C then p else q) := by
  split <;> assumption

theorem Keeps.dite {α : Type} {C : Prop} [Decidable C] {p : C → Body F α} {q : ¬ C → Body F α} (hp : ∀ h, Keeps (F := F) c R (p h))
    (hq : ∀ h, Keeps (F := F) c R (q h)) : Keeps (F := F) c R (if h : C then p h else q h) := by
  split
  · exact hp _
  · exact hq _

theorem Keeps.loop {α : Type} {n : ℕ} (L : Scf.Loop n) (hok : L.OK) (init : α) (body : Fin L.trips → α → Body F α)
    (hb : ∀ k a, Keeps (F := F) c R (body k a)) : Keeps (F := F) c R (Scf.Loop.for L hok init body) := by
  unfold Keeps Scf.Loop.for
  refine BIBase.Entails.trans ?_ (Scf.wp_for _ _ _ _ _ _ hok init body (fun _ _ => R) (fun k a => hb k a))
  iintro HR
  isplitl
  · iexact HR
  · iintro %a HR
    iexact HR

attribute [irreducible] Keeps Reads Writes

end Cert.Kernel.Dsa

end
-- ==== Proof.Access.lean ====
/-
  WHAT THE BODY MAY TOUCH: `R` holds each of the ten staged inputs to be read, and the result's buffer and the ten
  scratch buffers to be read and written.
-/
module

public import proofs.«01_k».proof.Proof.Keeps
public import proofs.«01_k».proof.Proof.Gen.Kernel.Skeleton

@[expose] public section

set_option maxRecDepth 65536

noncomputable section

namespace Cert.Kernel.Dsa

open Idealize.ShloMosaic Idealize.ShloMosaic.TcCoe
open Idealize.SL Idealize.SL.RA Idealize.SL.BI
open Cert.Kernel Cert.Kernel.Gen

variable {F : FTy → Type} [BitOps F]

/-- `R` lets the body reach its twenty-one buffers: the inputs to read, the result and the scratch to write. -/
structure Access (c : Dev nD) (R : Res F) (arg2 : Memref sig .tc .vmem S1x128x512 .bf16) (arg3 : Memref sig .tc .vmem S1x128x512 .bf16) (arg4 : Memref sig .tc .vmem S1x128x128 .f32) (arg5 : Memref sig .tc .vmem S1x128x512 .bf16) (arg6 : Memref sig .tc .vmem S1x128 .f32) (arg7 : Memref sig .tc .vmem S1x4096x128 .bf16) (arg8 : Memref sig .tc .vmem S1x4096x128 .bf16) (arg9 : Memref sig .tc .vmem S1x4096x128 .bf16) (arg10 : Memref sig .tc .vmem S1x128 .f32) (arg11 : Memref sig .tc .vmem S256x256 .bf16) (arg12 : Memref sig .tc .vmem S1x128x512 .bf16) (arg13 : Memref sig .tc .vmem S16x256x128 .bf16) (arg14 : Memref sig .tc .vmem S16x128x256 .bf16) (arg15 : Memref sig .tc .vmem S16x256x128 .bf16) (arg16 : Memref sig .tc .vmem S16x256x128 .i32) (arg17 : Memref sig .tc .vmem S16x32x8x128 .i32) (arg18 : Memref sig .tc .vmem S16x256x1024 .f32) (arg19 : Memref sig .tc .vmem S8x128 .i32) (arg20 : Memref sig .tc .vmem S8x128 .f32) (arg21 : Memref sig .tc .vmem S8x128 .f32) (arg22 : Memref sig .tc .vmem S128x1024 .f32) : Prop where
  r2 : Reads (F := F) c R arg2
  r3 : Reads (F := F) c R arg3
  r4 : Reads (F := F) c R arg4
  r5 : Reads (F := F) c R arg5
  r6 : Reads (F := F) c R arg6
  r7 : Reads (F := F) c R arg7
  r8 : Reads (F := F) c R arg8
  r9 : Reads (F := F) c R arg9
  r10 : Reads (F := F) c R arg10
  r11 : Reads (F := F) c R arg11
  w12 : Writes (F := F) c R arg12
  w13 : Writes (F := F) c R arg13
  w14 : Writes (F := F) c R arg14
  w15 : Writes (F := F) c R arg15
  w16 : Writes (F := F) c R arg16
  w17 : Writes (F := F) c R arg17
  w18 : Writes (F := F) c R arg18
  w19 : Writes (F := F) c R arg19
  w20 : Writes (F := F) c R arg20
  w21 : Writes (F := F) c R arg21
  w22 : Writes (F := F) c R arg22

namespace Access

variable {c : Dev nD} {R : Res F} {arg2 : Memref sig .tc .vmem S1x128x512 .bf16} {arg3 : Memref sig .tc .vmem S1x128x512 .bf16} {arg4 : Memref sig .tc .vmem S1x128x128 .f32} {arg5 : Memref sig .tc .vmem S1x128x512 .bf16} {arg6 : Memref sig .tc .vmem S1x128 .f32} {arg7 : Memref sig .tc .vmem S1x4096x128 .bf16} {arg8 : Memref sig .tc .vmem S1x4096x128 .bf16} {arg9 : Memref sig .tc .vmem S1x4096x128 .bf16} {arg10 : Memref sig .tc .vmem S1x128 .f32} {arg11 : Memref sig .tc .vmem S256x256 .bf16} {arg12 : Memref sig .tc .vmem S1x128x512 .bf16} {arg13 : Memref sig .tc .vmem S16x256x128 .bf16} {arg14 : Memref sig .tc .vmem S16x128x256 .bf16} {arg15 : Memref sig .tc .vmem S16x256x128 .bf16} {arg16 : Memref sig .tc .vmem S16x256x128 .i32} {arg17 : Memref sig .tc .vmem S16x32x8x128 .i32} {arg18 : Memref sig .tc .vmem S16x256x1024 .f32} {arg19 : Memref sig .tc .vmem S8x128 .i32} {arg20 : Memref sig .tc .vmem S8x128 .f32} {arg21 : Memref sig .tc .vmem S8x128 .f32} {arg22 : Memref sig .tc .vmem S128x1024 .f32}
  (H : Access c R arg2 arg3 arg4 arg5 arg6 arg7 arg8 arg9 arg10 arg11 arg12 arg13 arg14 arg15 arg16 arg17 arg18 arg19 arg20 arg21 arg22)
include H

theorem r12 : Reads (F := F) c R arg12 := H.w12.reads
theorem r13 : Reads (F := F) c R arg13 := H.w13.reads
theorem r14 : Reads (F := F) c R arg14 := H.w14.reads
theorem r15 : Reads (F := F) c R arg15 := H.w15.reads
theorem r16 : Reads (F := F) c R arg16 := H.w16.reads
theorem r17 : Reads (F := F) c R arg17 := H.w17.reads
theorem r18 : Reads (F := F) c R arg18 := H.w18.reads
theorem r19 : Reads (F := F) c R arg19 := H.w19.reads
theorem r20 : Reads (F := F) c R arg20 := H.w20.reads
theorem r21 : Reads (F := F) c R arg21 := H.w21.reads
theorem r22 : Reads (F := F) c R arg22 := H.w22.reads

end Access

end Cert.Kernel.Dsa

end
-- ==== Proof.Parts1.lean ====
/-
  THE BODY'S PARTS, 1: each part and each loop's trip keeps the twenty-one buffers. One statement of the part
  is one step of its proof.
-/
module

public import proofs.«01_k».proof.Proof.Access

@[expose] public section

set_option maxRecDepth 65536

noncomputable section

namespace Cert.Kernel.Dsa

open Idealize.ShloMosaic Idealize.ShloMosaic.TcCoe
open Idealize.SL Idealize.SL.RA Idealize.SL.BI
open Cert.Kernel Cert.Kernel.Gen

variable {F : FTy → Type} [BitOps F]

variable {c : Dev nD} {R : Res F} {i : grid0.Coords}
  {arg2 : Memref sig .tc .vmem S1x128x512 .bf16} {arg3 : Memref sig .tc .vmem S1x128x512 .bf16} {arg4 : Memref sig .tc .vmem S1x128x128 .f32} {arg5 : Memref sig .tc .vmem S1x128x512 .bf16} {arg6 : Memref sig .tc .vmem S1x128 .f32} {arg7 : Memref sig .tc .vmem S1x4096x128 .bf16} {arg8 : Memref sig .tc .vmem S1x4096x128 .bf16} {arg9 : Memref sig .tc .vmem S1x4096x128 .bf16} {arg10 : Memref sig .tc .vmem S1x128 .f32} {arg11 : Memref sig .tc .vmem S256x256 .bf16} {arg12 : Memref sig .tc .vmem S1x128x512 .bf16} {arg13 : Memref sig .tc .vmem S16x256x128 .bf16} {arg14 : Memref sig .tc .vmem S16x128x256 .bf16} {arg15 : Memref sig .tc .vmem S16x256x128 .bf16} {arg16 : Memref sig .tc .vmem S16x256x128 .i32} {arg17 : Memref sig .tc .vmem S16x32x8x128 .i32} {arg18 : Memref sig .tc .vmem S16x256x1024 .f32} {arg19 : Memref sig .tc .vmem S8x128 .i32} {arg20 : Memref sig .tc .vmem S8x128 .f32} {arg21 : Memref sig .tc .vmem S8x128 .f32} {arg22 : Memref sig .tc .vmem S128x1024 .f32}
  {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} {harg22 : arg22.IsWhole}
  (H : Access c R arg2 arg3 arg4 arg5 arg6 arg7 arg8 arg9 arg10 arg11 arg12 arg13 arg14 arg15 arg16 arg17 arg18 arg19 arg20 arg21 arg22)
include H

theorem part1 {v0} {v1} {v9} {k0_h1} {c0_i32_165} {c1_i32_166} {k0_t1} :
    Keeps (F := F) c R (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v9 k0_h1 c0_i32_165 c1_i32_166 k0_t1) := by
  rw [k0_part1_eq_skeleton]
  unfold k0_part1_skel
  refine .bind (.load H.r7 _ _) ?_; intro _
  refine .bind (.load H.r10 _ _) ?_; intro _
  refine .bind (.load H.r13 _ _) ?_; intro _
  refine .bind (.store H.w13 _ _ _ _ _) fun _ => ?_
  refine .bind (.load H.r8 _ _) ?_; intro _
  exact .pure _

theorem part2 {v89} {v103} {v252} {c0_i32_95} {c1_i32_97} {k0_t2} :
    Keeps (F := F) c R (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v89 v103 v252 c0_i32_95 c1_i32_97 k0_t2) := by
  rw [k0_part2_eq_skeleton]
  unfold k0_part2_skel
  refine .bind (.load H.r15 _ _) ?_; intro _
  refine .bind (.load H.r15 _ _) ?_; intro _
  refine .bind (.load H.r13 _ _) ?_; intro _
  refine .bind (.load H.r18 _ _) ?_; intro _
  refine .bind (.store H.w18 _ _ _ _ _) fun _ => ?_
  refine .bind (.load H.r13 _ _) ?_; intro _
  refine .bind (.load H.r18 _ _) ?_; intro _
  refine .bind (.store H.w18 _ _ _ _ _) fun _ => ?_
  exact .pure _

theorem part3 {v0} {v4} {k0_t2} {v384} {v414} {v419} {v420} :
    Keeps (F := F) c R (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v4 k0_t2 v384 v414 v419 v420) := by
  rw [k0_part3_eq_skeleton]
  unfold k0_part3_skel
  refine .bind (.load H.r16 _ _) ?_; intro _
  refine .bind (.store H.w16 _ _ _ _ _) fun _ => ?_
  exact .pure _

theorem part4 {v447} {v448} {v449} {v450} {v451} {v452} {v464} {v465} {v466} {v467} {v468} :
    Keeps (F := F) c R (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v447 v448 v449 v450 v451 v452 v464 v465 v466 v467 v468) := by
  rw [k0_part4_eq_skeleton]
  unfold k0_part4_skel
  exact .pure _

theorem part5 {v452} {v453} {v454} {v455} {v456} {v457} {v468} {v469} {v470} {v471} {v472} {v473} {v518} {c65535_i32_201} :
    Keeps (F := F) c R (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v452 v453 v454 v455 v456 v457 v468 v469 v470 v471 v472 v473 v518 c65535_i32_201) := by
  rw [k0_part5_eq_skeleton]
  unfold k0_part5_skel
  exact .pure _

theorem part6 {v457} {v458} {v459} {v460} {v461} {v462} {v473} {v474} {v475} {v476} {v477} {v478} {v563} {c65535_i32_216} :
    Keeps (F := F) c R (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v457 v458 v459 v460 v461 v462 v473 v474 v475 v476 v477 v478 v563 c65535_i32_216) := by
  rw [k0_part6_eq_skeleton]
  unfold k0_part6_skel
  exact .pure _

theorem part7 {v462} {v463} {v478} {v479} {v485} {v494} {v503} {v512} {v557} {v566} {v575} {v584} {v608} {c65535_i32_231} :
    Keeps (F := F) c R (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v462 v463 v478 v479 v485 v494 v503 v512 v557 v566 v575 v584 v608 c65535_i32_231) := by
  rw [k0_part7_eq_skeleton]
  unfold k0_part7_skel
  exact .pure _

theorem part8 {v488} {v512} {v521} {v530} {v539} {v548} {v560} {v584} {v593} {v602} {v611} {v620} {v653} {c16711935_i32_244} :
    Keeps (F := F) c R (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v488 v512 v521 v530 v539 v548 v560 v584 v593 v602 v611 v620 v653 c16711935_i32_244) := by
  rw [k0_part8_eq_skeleton]
  unfold k0_part8_skel
  exact .pure _

theorem part9 {v488} {v497} {v506} {v515} {v524} {v533} {v560} {v569} {v578} {v587} {v596} {v605} {v698} {c16711935_i32_259} :
    Keeps (F := F) c R (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v488 v497 v506 v515 v524 v533 v560 v569 v578 v587 v596 v605 v698 c16711935_i32_259) := by
  rw [k0_part9_eq_skeleton]
  unfold k0_part9_skel
  exact .pure _

theorem part10 {v533} {v542} {v551} {v605} {v614} {v623} {v629} {v638} {v647} {v665} {v674} {v683} {v743} {c16711935_i32_274} :
    Keeps (F := F) c R (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v533 v542 v551 v605 v614 v623 v629 v638 v647 v665 v674 v683 v743 c16711935_i32_274) := by
  rw [k0_part10_eq_skeleton]
  unfold k0_part10_skel
  exact .pure _

theorem part11 {v632} {v641} {v647} {v650} {v656} {v659} {v668} {v677} {v683} {v686} {v692} {v695} {v788} {c252645135_i32_287} :
    Keeps (F := F) c R (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v632 v641 v647 v650 v656 v659 v668 v677 v683 v686 v692 v695 v788 c252645135_i32_287) := by
  rw [k0_part11_eq_skeleton]
  unfold k0_part11_skel
  exact .pure _

theorem part12 {v659} {v695} {v701} {v704} {v710} {v719} {v728} {v737} {v740} {v746} {v755} {v764} {v833} {c252645135_i32_302} :
    Keeps (F := F) c R (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v659 v695 v701 v704 v710 v719 v728 v737 v740 v746 v755 v764 v833 c252645135_i32_302) := by
  rw [k0_part12_eq_skeleton]
  unfold k0_part12_skel
  exact .pure _

theorem part13 {v704} {v713} {v722} {v731} {v740} {v749} {v758} {v767} {v773} {v782} {v791} {v800} {v878} {c252645135_i32_317} :
    Keeps (F := F) c R (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v704 v713 v722 v731 v740 v749 v758 v767 v773 v782 v791 v800 v878 c252645135_i32_317) := by
  rw [k0_part13_eq_skeleton]
  unfold k0_part13_skel
  exact .pure _

theorem part14 {v776} {v782} {v785} {v794} {v800} {v803} {v809} {v812} {v818} {v827} {v830} {v836} {v923} {c858993459_i32_331} :
    Keeps (F := F) c R (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v776 v782 v785 v794 v800 v803 v809 v812 v818 v827 v830 v836 v923 c858993459_i32_331) := by
  rw [k0_part14_eq_skeleton]
  unfold k0_part14_skel
  exact .pure _

theorem part15 {v812} {v821} {v830} {v839} {v845} {v848} {v854} {v857} {v863} {v866} {v872} {v875} {v968} {c858993459_i32_346} :
    Keeps (F := F) c R (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v812 v821 v830 v839 v845 v848 v854 v857 v863 v866 v872 v875 v968 c858993459_i32_346) := by
  rw [k0_part15_eq_skeleton]
  unfold k0_part15_skel
  exact .pure _

theorem part16 {v857} {v875} {v881} {v884} {v890} {v893} {v899} {v902} {v908} {v911} {v917} {v926} {v1013} {c858993459_i32_361} :
    Keeps (F := F) c R (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v857 v875 v881 v884 v890 v893 v899 v902 v908 v911 v917 v926 v1013 c858993459_i32_361) := by
  rw [k0_part16_eq_skeleton]
  unfold k0_part16_skel
  exact .pure _

theorem part17 {v917} {v920} {v926} {v929} {v935} {v938} {v944} {v947} {v953} {v956} {v962} {v965} {v1058} {c1431655765_i32} :
    Keeps (F := F) c R (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v917 v920 v926 v929 v935 v938 v944 v947 v953 v956 v962 v965 v1058 c1431655765_i32) := by
  rw [k0_part17_eq_skeleton]
  unfold k0_part17_skel
  exact .pure _

theorem part18 {v956} {v965} {v971} {v974} {v980} {v983} {v989} {v992} {v998} {v1001} {v1007} {v1016} {v1103} {c1431655765_i32_390} :
    Keeps (F := F) c R (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v956 v965 v971 v974 v980 v983 v989 v992 v998 v1001 v1007 v1016 v1103 c1431655765_i32_390) := by
  rw [k0_part18_eq_skeleton]
  unfold k0_part18_skel
  exact .pure _

theorem part19 {v1007} {v1010} {v1016} {v1019} {v1025} {v1028} {v1034} {v1037} {v1043} {v1046} {v1052} {v1055} {v1148} {c1431655765_i32_405} :
    Keeps (F := F) c R (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1007 v1010 v1016 v1019 v1025 v1028 v1034 v1037 v1043 v1046 v1052 v1055 v1148 c1431655765_i32_405) := by
  rw [k0_part19_eq_skeleton]
  unfold k0_part19_skel
  exact .pure _

theorem part20 {k0_t2} {v384} {v1046} {v1055} {v1178} {v1181} {v1187} {v1190} {v1193} {c1431655765_i32_420} :
    Keeps (F := F) c R (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 v384 v1046 v1055 v1178 v1181 v1187 v1190 v1193 c1431655765_i32_420) := by
  rw [k0_part20_eq_skeleton]
  unfold k0_part20_skel
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  exact .pure _

theorem part21 {k0_t2} {v384} {v1142} {v1145} {v1151} {v1154} {v1160} {v1163} {v1169} {v1172} {v1225} :
    Keeps (F := F) c R (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 v384 v1142 v1145 v1151 v1154 v1160 v1163 v1169 v1172 v1225) := by
  rw [k0_part21_eq_skeleton]
  unfold k0_part21_skel
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  exact .pure _

theorem part22 {k0_t2} {v384} {v1109} {v1115} {v1118} {v1124} {v1127} {v1133} {v1136} :
    Keeps (F := F) c R (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 v384 v1109 v1115 v1118 v1124 v1127 v1133 v1136) := by
  rw [k0_part22_eq_skeleton]
  unfold k0_part22_skel
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  exact .pure _

theorem part23 {k0_t2} {v384} {v1073} {v1079} {v1082} {v1088} {v1091} {v1097} {v1100} {v1106} {v1285} :
    Keeps (F := F) c R (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 v384 v1073 v1079 v1082 v1088 v1091 v1097 v1100 v1106 v1285) := by
  rw [k0_part23_eq_skeleton]
  unfold k0_part23_skel
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  exact .pure _

theorem part24 {v0} {v4} {v103} {k0_t2} {v384} {v386} {v394} {v1061} {v1064} {v1070} :
    Keeps (F := F) c R (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v4 v103 k0_t2 v384 v386 v394 v1061 v1064 v1070) := by
  rw [k0_part24_eq_skeleton]
  unfold k0_part24_skel
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  exact .pure _

theorem part25 {k0_t2} {v1358} :
    Keeps (F := F) c R (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 v1358) := by
  rw [k0_part25_eq_skeleton]
  unfold k0_part25_skel
  refine .bind (.load H.r16 _ _) ?_; intro _
  refine .bind (.store H.w16 _ _ _ _ _) fun _ => ?_
  exact .pure _

theorem part26 {v1366} {v1367} {v1368} {v1369} {v1370} {v1371} {v1382} {v1383} {v1384} {v1385} {v1386} {v1387} {v1410} :
    Keeps (F := F) c R (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1366 v1367 v1368 v1369 v1370 v1371 v1382 v1383 v1384 v1385 v1386 v1387 v1410) := by
  rw [k0_part26_eq_skeleton]
  unfold k0_part26_skel
  exact .pure _

theorem part27 {v1371} {v1372} {v1373} {v1374} {v1375} {v1376} {v1387} {v1388} {v1389} {v1390} {v1391} {v1392} {v1455} :
    Keeps (F := F) c R (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1371 v1372 v1373 v1374 v1375 v1376 v1387 v1388 v1389 v1390 v1391 v1392 v1455) := by
  rw [k0_part27_eq_skeleton]
  unfold k0_part27_skel
  exact .pure _

theorem part28 {v1376} {v1377} {v1378} {v1379} {v1380} {v1392} {v1393} {v1394} {v1395} {v1396} {v1402} {v1474} {v1500} :
    Keeps (F := F) c R (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1376 v1377 v1378 v1379 v1380 v1392 v1393 v1394 v1395 v1396 v1402 v1474 v1500) := by
  rw [k0_part28_eq_skeleton]
  unfold k0_part28_skel
  exact .pure _

theorem part29 {v1402} {v1411} {v1420} {v1429} {v1438} {v1447} {v1474} {v1483} {v1492} {v1501} {v1510} {v1519} {v1545} :
    Keeps (F := F) c R (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1402 v1411 v1420 v1429 v1438 v1447 v1474 v1483 v1492 v1501 v1510 v1519 v1545) := by
  rw [k0_part29_eq_skeleton]
  unfold k0_part29_skel
  exact .pure _

theorem part30 {v1405} {v1414} {v1423} {v1447} {v1456} {v1465} {v1477} {v1486} {v1495} {v1519} {v1528} {v1537} {v1590} :
    Keeps (F := F) c R (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1405 v1414 v1423 v1447 v1456 v1465 v1477 v1486 v1495 v1519 v1528 v1537 v1590) := by
  rw [k0_part30_eq_skeleton]
  unfold k0_part30_skel
  exact .pure _

theorem part31 {v1423} {v1432} {v1441} {v1450} {v1459} {v1468} {v1495} {v1504} {v1513} {v1522} {v1531} {v1540} {v1635} :
    Keeps (F := F) c R (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1423 v1432 v1441 v1450 v1459 v1468 v1495 v1504 v1513 v1522 v1531 v1540 v1635) := by
  rw [k0_part31_eq_skeleton]
  unfold k0_part31_skel
  exact .pure _

theorem part32 {v1468} {v1540} {v1546} {v1549} {v1555} {v1564} {v1573} {v1582} {v1585} {v1591} {v1600} {v1609} {v1680} :
    Keeps (F := F) c R (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1468 v1540 v1546 v1549 v1555 v1564 v1573 v1582 v1585 v1591 v1600 v1609 v1680) := by
  rw [k0_part32_eq_skeleton]
  unfold k0_part32_skel
  exact .pure _

theorem part33 {v1549} {v1558} {v1567} {v1576} {v1585} {v1594} {v1603} {v1612} {v1618} {v1627} {v1654} {v1663} {v1725} :
    Keeps (F := F) c R (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1549 v1558 v1567 v1576 v1585 v1594 v1603 v1612 v1618 v1627 v1654 v1663 v1725) := by
  rw [k0_part33_eq_skeleton]
  unfold k0_part33_skel
  exact .pure _

theorem part34 {v1621} {v1627} {v1630} {v1636} {v1639} {v1645} {v1657} {v1663} {v1666} {v1672} {v1675} {v1681} {v1770} :
    Keeps (F := F) c R (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1621 v1627 v1630 v1636 v1639 v1645 v1657 v1663 v1666 v1672 v1675 v1681 v1770) := by
  rw [k0_part34_eq_skeleton]
  unfold k0_part34_skel
  exact .pure _

theorem part35 {v1639} {v1648} {v1675} {v1684} {v1690} {v1693} {v1699} {v1702} {v1708} {v1711} {v1717} {v1720} {v1815} :
    Keeps (F := F) c R (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1639 v1648 v1675 v1684 v1690 v1693 v1699 v1702 v1708 v1711 v1717 v1720 v1815) := by
  rw [k0_part35_eq_skeleton]
  unfold k0_part35_skel
  exact .pure _

theorem part36 {v1702} {v1720} {v1726} {v1729} {v1735} {v1738} {v1744} {v1747} {v1753} {v1756} {v1762} {v1780} {v1860} :
    Keeps (F := F) c R (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1702 v1720 v1726 v1729 v1735 v1738 v1744 v1747 v1753 v1756 v1762 v1780 v1860) := by
  rw [k0_part36_eq_skeleton]
  unfold k0_part36_skel
  exact .pure _

theorem part37 {v1762} {v1765} {v1771} {v1774} {v1780} {v1783} {v1789} {v1792} {v1798} {v1807} {v1816} {v1825} {v1905} :
    Keeps (F := F) c R (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1762 v1765 v1771 v1774 v1780 v1783 v1789 v1792 v1798 v1807 v1816 v1825 v1905) := by
  rw [k0_part37_eq_skeleton]
  unfold k0_part37_skel
  exact .pure _

theorem part38 {v1801} {v1807} {v1810} {v1819} {v1825} {v1828} {v1834} {v1837} {v1843} {v1846} {v1852} {v1861} {v1950} :
    Keeps (F := F) c R (k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1801 v1807 v1810 v1819 v1825 v1828 v1834 v1837 v1843 v1846 v1852 v1861 v1950) := by
  rw [k0_part38_eq_skeleton]
  unfold k0_part38_skel
  exact .pure _

theorem part39 {v1852} {v1855} {v1861} {v1864} {v1870} {v1873} {v1879} {v1882} {v1888} {v1891} {v1897} {v1900} {v1995} :
    Keeps (F := F) c R (k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1852 v1855 v1861 v1864 v1870 v1873 v1879 v1882 v1888 v1891 v1897 v1900 v1995) := by
  rw [k0_part39_eq_skeleton]
  unfold k0_part39_skel
  exact .pure _

theorem part40 {v1891} {v1900} {v1906} {v1909} {v1915} {v1918} {v1924} {v1927} {v1933} {v1936} {v1942} {v1951} {v2040} :
    Keeps (F := F) c R (k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1891 v1900 v1906 v1909 v1915 v1918 v1924 v1927 v1933 v1936 v1942 v1951 v2040) := by
  rw [k0_part40_eq_skeleton]
  unfold k0_part40_skel
  exact .pure _

theorem part41 {k0_t2} {v386} {v1942} {v1945} {v1951} {v1954} {v1960} {v1963} {v1969} {v1972} {v2085} :
    Keeps (F := F) c R (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 v386 v1942 v1945 v1951 v1954 v1960 v1963 v1969 v1972 v2085) := by
  rw [k0_part41_eq_skeleton]
  unfold k0_part41_skel
  refine .bind (.load H.r17 _ _) ?_; intro _
  refine .bind (.store H.w17 _ _ _ _ _) fun _ => ?_
  refine .bind (.load H.r17 _ _) ?_; intro _
  refine .bind (.store H.w17 _ _ _ _ _) fun _ => ?_
  exact .pure _

theorem part42 {k0_t2} {v386} {v2077} {v2080} {v2086} {v2089} {v2095} {v2098} {v2104} {v2107} :
    Keeps (F := F) c R (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 v386 v2077 v2080 v2086 v2089 v2095 v2098 v2104 v2107) := by
  rw [k0_part42_eq_skeleton]
  unfold k0_part42_skel
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  exact .pure _

theorem part43 {k0_t2} {v386} {v2044} {v2050} {v2053} {v2059} {v2062} {v2068} {v2071} {v2156} :
    Keeps (F := F) c R (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 v386 v2044 v2050 v2053 v2059 v2062 v2068 v2071 v2156) := by
  rw [k0_part43_eq_skeleton]
  unfold k0_part43_skel
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  exact .pure _

theorem part44 {k0_t2} {v386} {v2008} {v2014} {v2017} {v2023} {v2026} {v2032} {v2035} {v2041} :
    Keeps (F := F) c R (k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 v386 v2008 v2014 v2017 v2023 v2026 v2032 v2035 v2041) := by
  rw [k0_part44_eq_skeleton]
  unfold k0_part44_skel
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  exact .pure _

theorem part45 {v0} {v4} {v89} {v103} {v252} {c0_i32_95} {c1_i32_97} {k0_t2} :
    Keeps (F := F) c R (k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v4 v89 v103 v252 c0_i32_95 c1_i32_97 k0_t2) := by
  rw [k0_part45_eq_skeleton]
  unfold k0_part45_skel
  refine .bind (part2 H) ?_; rintro ⟨_, _, _, _, _, _⟩
  refine .bind (part3 H) ?_; rintro ⟨_, _, _, _, _, _, _, _, _, _, _, _, _, _, _, _, _, _, _, _, _, _, _, _, _, _⟩
  refine .bind (part4 H) ?_; rintro ⟨_, _, _, _, _, _, _, _, _, _, _, _, _, _, _, _, _⟩
  refine .bind (part5 H) ?_; rintro ⟨_, _, _, _, _, _, _, _, _, _, _, _⟩
  refine .bind (part6 H) ?_; rintro ⟨_, _, _, _, _, _, _, _, _, _, _, _⟩
  refine .bind (part7 H) ?_; rintro ⟨_, _, _, _, _, _, _, _, _, _, _, _⟩
  refine .bind (part8 H) ?_; rintro ⟨_, _, _, _, _, _, _, _, _, _, _, _⟩
  refine .bind (part9 H) ?_; rintro ⟨_, _, _, _, _, _, _, _, _, _, _, _⟩
  refine .bind (part10 H) ?_; rintro ⟨_, _, _, _, _, _, _, _, _, _, _, _⟩
  refine .bind (part11 H) ?_; rintro ⟨_, _, _, _, _, _, _, _, _, _, _, _⟩
  refine .bind (part12 H) ?_; rintro ⟨_, _, _, _, _, _, _, _, _, _, _, _⟩
  refine .bind (part13 H) ?_; rintro ⟨_, _, _, _, _, _, _, _, _, _, _, _⟩
  refine .bind (part14 H) ?_; rintro ⟨_, _, _, _, _, _, _, _, _, _, _, _⟩
  refine .bind (part15 H) ?_; rintro ⟨_, _, _, _, _, _, _, _, _, _, _, _⟩
  refine .bind (part16 H) ?_; rintro ⟨_, _, _, _, _, _, _, _, _, _, _, _⟩
  refine .bind (part17 H) ?_; rintro ⟨_, _, _, _, _, _, _, _, _, _, _, _⟩
  refine .bind (part18 H) ?_; rintro ⟨_, _, _, _, _, _, _, _, _, _, _, _⟩
  refine .bind (part19 H) ?_; rintro ⟨_, _, _, _, _, _, _, _, _, _, _, _⟩
  refine .bind (part20 H) ?_; intro _
  refine .bind (part21 H) fun _ => ?_
  refine .bind (part22 H) ?_; intro _
  refine .bind (part23 H) fun _ => ?_
  refine .bind (part24 H) ?_; intro _
  refine .bind (part25 H) ?_; rintro ⟨_, _, _, _, _, _, _, _, _, _, _, _, _, _, _, _, _, _, _, _, _, _, _, _, _, _, _, _, _, _, _, _, _⟩
  refine .bind (part26 H) ?_; rintro ⟨_, _, _, _, _, _, _, _, _, _, _⟩
  refine .bind (part27 H) ?_; rintro ⟨_, _, _, _, _, _, _, _, _, _, _⟩
  refine .bind (part28 H) ?_; rintro ⟨_, _, _, _, _, _, _, _, _, _, _⟩
  refine .bind (part29 H) ?_; rintro ⟨_, _, _, _, _, _, _, _, _, _, _⟩
  refine .bind (part30 H) ?_; rintro ⟨_, _, _, _, _, _, _, _, _, _, _⟩
  refine .bind (part31 H) ?_; rintro ⟨_, _, _, _, _, _, _, _, _, _, _⟩
  refine .bind (part32 H) ?_; rintro ⟨_, _, _, _, _, _, _, _, _, _, _⟩
  refine .bind (part33 H) ?_; rintro ⟨_, _, _, _, _, _, _, _, _, _, _⟩
  refine .bind (part34 H) ?_; rintro ⟨_, _, _, _, _, _, _, _, _, _, _⟩
  refine .bind (part35 H) ?_; rintro ⟨_, _, _, _, _, _, _, _, _, _, _⟩
  refine .bind (part36 H) ?_; rintro ⟨_, _, _, _, _, _, _, _, _, _, _⟩
  refine .bind (part37 H) ?_; rintro ⟨_, _, _, _, _, _, _, _, _, _, _⟩
  refine .bind (part38 H) ?_; rintro ⟨_, _, _, _, _, _, _, _, _, _, _⟩
  refine .bind (part39 H) ?_; rintro ⟨_, _, _, _, _, _, _, _, _, _, _⟩
  refine .bind (part40 H) ?_; rintro ⟨_, _, _, _, _, _, _, _, _, _, _⟩
  refine .bind (part41 H) ?_; rintro ⟨_, _, _, _, _, _⟩
  refine .bind (part42 H) ?_; intro _
  refine .bind (part43 H) fun _ => ?_
  refine .bind (part44 H) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  exact .pure _

theorem part46 {v89} {v103} {v252} {v257} {c1_i32_98} {k0_t3} :
    Keeps (F := F) c R (k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v89 v103 v252 v257 c1_i32_98 k0_t3) := by
  rw [k0_part46_eq_skeleton]
  unfold k0_part46_skel
  refine .bind (.load H.r15 _ _) ?_; intro _
  refine .bind (.load H.r15 _ _) ?_; intro _
  refine .bind (.load H.r13 _ _) ?_; intro _
  refine .bind (.load H.r18 _ _) ?_; intro _
  refine .bind (.store H.w18 _ _ _ _ _) fun _ => ?_
  refine .bind (.load H.r13 _ _) ?_; intro _
  refine .bind (.load H.r18 _ _) ?_; intro _
  refine .bind (.store H.w18 _ _ _ _ _) fun _ => ?_
  exact .pure _

theorem part47 {v0} {v4} {k0_t3} {v384} {v414} {v419} {v420} :
    Keeps (F := F) c R (k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v4 k0_t3 v384 v414 v419 v420) := by
  rw [k0_part47_eq_skeleton]
  unfold k0_part47_skel
  refine .bind (.load H.r16 _ _) ?_; intro _
  refine .bind (.store H.w16 _ _ _ _ _) fun _ => ?_
  exact .pure _

theorem part48 {v447} {v448} {v449} {v450} {v451} {v452} {v464} {v465} {v466} {v467} {v468} :
    Keeps (F := F) c R (k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v447 v448 v449 v450 v451 v452 v464 v465 v466 v467 v468) := by
  rw [k0_part48_eq_skeleton]
  unfold k0_part48_skel
  exact .pure _

theorem part49 {v452} {v453} {v454} {v455} {v456} {v457} {v468} {v469} {v470} {v471} {v472} {v473} {v518} {c65535_i32_201} :
    Keeps (F := F) c R (k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v452 v453 v454 v455 v456 v457 v468 v469 v470 v471 v472 v473 v518 c65535_i32_201) := by
  rw [k0_part49_eq_skeleton]
  unfold k0_part49_skel
  exact .pure _

theorem part50 {v457} {v458} {v459} {v460} {v461} {v462} {v473} {v474} {v475} {v476} {v477} {v478} {v563} {c65535_i32_216} :
    Keeps (F := F) c R (k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v457 v458 v459 v460 v461 v462 v473 v474 v475 v476 v477 v478 v563 c65535_i32_216) := by
  rw [k0_part50_eq_skeleton]
  unfold k0_part50_skel
  exact .pure _

theorem part51 {v462} {v463} {v478} {v479} {v485} {v494} {v503} {v512} {v557} {v566} {v575} {v584} {v608} {c65535_i32_231} :
    Keeps (F := F) c R (k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v462 v463 v478 v479 v485 v494 v503 v512 v557 v566 v575 v584 v608 c65535_i32_231) := by
  rw [k0_part51_eq_skeleton]
  unfold k0_part51_skel
  exact .pure _

theorem part52 {v488} {v512} {v521} {v530} {v539} {v548} {v560} {v584} {v593} {v602} {v611} {v620} {v653} {c16711935_i32_244} :
    Keeps (F := F) c R (k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v488 v512 v521 v530 v539 v548 v560 v584 v593 v602 v611 v620 v653 c16711935_i32_244) := by
  rw [k0_part52_eq_skeleton]
  unfold k0_part52_skel
  exact .pure _

theorem part53 {v488} {v497} {v506} {v515} {v524} {v533} {v560} {v569} {v578} {v587} {v596} {v605} {v698} {c16711935_i32_259} :
    Keeps (F := F) c R (k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v488 v497 v506 v515 v524 v533 v560 v569 v578 v587 v596 v605 v698 c16711935_i32_259) := by
  rw [k0_part53_eq_skeleton]
  unfold k0_part53_skel
  exact .pure _

theorem part54 {v533} {v542} {v551} {v605} {v614} {v623} {v629} {v638} {v647} {v665} {v674} {v683} {v743} {c16711935_i32_274} :
    Keeps (F := F) c R (k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v533 v542 v551 v605 v614 v623 v629 v638 v647 v665 v674 v683 v743 c16711935_i32_274) := by
  rw [k0_part54_eq_skeleton]
  unfold k0_part54_skel
  exact .pure _

theorem part55 {v632} {v641} {v647} {v650} {v656} {v659} {v668} {v677} {v683} {v686} {v692} {v695} {v788} {c252645135_i32_287} :
    Keeps (F := F) c R (k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v632 v641 v647 v650 v656 v659 v668 v677 v683 v686 v692 v695 v788 c252645135_i32_287) := by
  rw [k0_part55_eq_skeleton]
  unfold k0_part55_skel
  exact .pure _

theorem part56 {v659} {v695} {v701} {v704} {v710} {v719} {v728} {v737} {v740} {v746} {v755} {v764} {v833} {c252645135_i32_302} :
    Keeps (F := F) c R (k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v659 v695 v701 v704 v710 v719 v728 v737 v740 v746 v755 v764 v833 c252645135_i32_302) := by
  rw [k0_part56_eq_skeleton]
  unfold k0_part56_skel
  exact .pure _

theorem part57 {v704} {v713} {v722} {v731} {v740} {v749} {v758} {v767} {v773} {v782} {v791} {v800} {v878} {c252645135_i32_317} :
    Keeps (F := F) c R (k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v704 v713 v722 v731 v740 v749 v758 v767 v773 v782 v791 v800 v878 c252645135_i32_317) := by
  rw [k0_part57_eq_skeleton]
  unfold k0_part57_skel
  exact .pure _

theorem part58 {v776} {v782} {v785} {v794} {v800} {v803} {v809} {v812} {v818} {v827} {v830} {v836} {v923} {c858993459_i32_331} :
    Keeps (F := F) c R (k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v776 v782 v785 v794 v800 v803 v809 v812 v818 v827 v830 v836 v923 c858993459_i32_331) := by
  rw [k0_part58_eq_skeleton]
  unfold k0_part58_skel
  exact .pure _

theorem part59 {v812} {v821} {v830} {v839} {v845} {v848} {v854} {v857} {v863} {v866} {v872} {v875} {v968} {c858993459_i32_346} :
    Keeps (F := F) c R (k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v812 v821 v830 v839 v845 v848 v854 v857 v863 v866 v872 v875 v968 c858993459_i32_346) := by
  rw [k0_part59_eq_skeleton]
  unfold k0_part59_skel
  exact .pure _

theorem part60 {v857} {v875} {v881} {v884} {v890} {v893} {v899} {v902} {v908} {v911} {v917} {v926} {v1013} {c858993459_i32_361} :
    Keeps (F := F) c R (k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v857 v875 v881 v884 v890 v893 v899 v902 v908 v911 v917 v926 v1013 c858993459_i32_361) := by
  rw [k0_part60_eq_skeleton]
  unfold k0_part60_skel
  exact .pure _

theorem part61 {v917} {v920} {v926} {v929} {v935} {v938} {v944} {v947} {v953} {v956} {v962} {v965} {v1058} {c1431655765_i32} :
    Keeps (F := F) c R (k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v917 v920 v926 v929 v935 v938 v944 v947 v953 v956 v962 v965 v1058 c1431655765_i32) := by
  rw [k0_part61_eq_skeleton]
  unfold k0_part61_skel
  exact .pure _

theorem part62 {v956} {v965} {v971} {v974} {v980} {v983} {v989} {v992} {v998} {v1001} {v1007} {v1016} {v1103} {c1431655765_i32_390} :
    Keeps (F := F) c R (k0_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v956 v965 v971 v974 v980 v983 v989 v992 v998 v1001 v1007 v1016 v1103 c1431655765_i32_390) := by
  rw [k0_part62_eq_skeleton]
  unfold k0_part62_skel
  exact .pure _

theorem part63 {v1007} {v1010} {v1016} {v1019} {v1025} {v1028} {v1034} {v1037} {v1043} {v1046} {v1052} {v1055} {v1148} {c1431655765_i32_405} :
    Keeps (F := F) c R (k0_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1007 v1010 v1016 v1019 v1025 v1028 v1034 v1037 v1043 v1046 v1052 v1055 v1148 c1431655765_i32_405) := by
  rw [k0_part63_eq_skeleton]
  unfold k0_part63_skel
  exact .pure _

theorem part64 {k0_t3} {v384} {v1046} {v1055} {v1178} {v1181} {v1187} {v1190} {v1193} {c1431655765_i32_420} :
    Keeps (F := F) c R (k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t3 v384 v1046 v1055 v1178 v1181 v1187 v1190 v1193 c1431655765_i32_420) := by
  rw [k0_part64_eq_skeleton]
  unfold k0_part64_skel
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  exact .pure _

theorem part65 {k0_t3} {v384} {v1142} {v1145} {v1151} {v1154} {v1160} {v1163} {v1169} {v1172} {v1225} :
    Keeps (F := F) c R (k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t3 v384 v1142 v1145 v1151 v1154 v1160 v1163 v1169 v1172 v1225) := by
  rw [k0_part65_eq_skeleton]
  unfold k0_part65_skel
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  exact .pure _

theorem part66 {k0_t3} {v384} {v1109} {v1115} {v1118} {v1124} {v1127} {v1133} {v1136} :
    Keeps (F := F) c R (k0_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t3 v384 v1109 v1115 v1118 v1124 v1127 v1133 v1136) := by
  rw [k0_part66_eq_skeleton]
  unfold k0_part66_skel
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  exact .pure _

theorem part67 {k0_t3} {v384} {v1073} {v1079} {v1082} {v1088} {v1091} {v1097} {v1100} {v1106} {v1285} :
    Keeps (F := F) c R (k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t3 v384 v1073 v1079 v1082 v1088 v1091 v1097 v1100 v1106 v1285) := by
  rw [k0_part67_eq_skeleton]
  unfold k0_part67_skel
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  exact .pure _

theorem part68 {v0} {v4} {v103} {k0_t3} {v384} {v386} {v394} {v1061} {v1064} {v1070} :
    Keeps (F := F) c R (k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v4 v103 k0_t3 v384 v386 v394 v1061 v1064 v1070) := by
  rw [k0_part68_eq_skeleton]
  unfold k0_part68_skel
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  exact .pure _

theorem part69 {k0_t3} {v1358} :
    Keeps (F := F) c R (k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t3 v1358) := by
  rw [k0_part69_eq_skeleton]
  unfold k0_part69_skel
  refine .bind (.load H.r16 _ _) ?_; intro _
  refine .bind (.store H.w16 _ _ _ _ _) fun _ => ?_
  exact .pure _

theorem part70 {v1366} {v1367} {v1368} {v1369} {v1370} {v1371} {v1382} {v1383} {v1384} {v1385} {v1386} {v1387} {v1410} :
    Keeps (F := F) c R (k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1366 v1367 v1368 v1369 v1370 v1371 v1382 v1383 v1384 v1385 v1386 v1387 v1410) := by
  rw [k0_part70_eq_skeleton]
  unfold k0_part70_skel
  exact .pure _

theorem part71 {v1371} {v1372} {v1373} {v1374} {v1375} {v1376} {v1387} {v1388} {v1389} {v1390} {v1391} {v1392} {v1455} :
    Keeps (F := F) c R (k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1371 v1372 v1373 v1374 v1375 v1376 v1387 v1388 v1389 v1390 v1391 v1392 v1455) := by
  rw [k0_part71_eq_skeleton]
  unfold k0_part71_skel
  exact .pure _

theorem part72 {v1376} {v1377} {v1378} {v1379} {v1380} {v1392} {v1393} {v1394} {v1395} {v1396} {v1402} {v1474} {v1500} :
    Keeps (F := F) c R (k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1376 v1377 v1378 v1379 v1380 v1392 v1393 v1394 v1395 v1396 v1402 v1474 v1500) := by
  rw [k0_part72_eq_skeleton]
  unfold k0_part72_skel
  exact .pure _

theorem part73 {v1402} {v1411} {v1420} {v1429} {v1438} {v1447} {v1474} {v1483} {v1492} {v1501} {v1510} {v1519} {v1545} :
    Keeps (F := F) c R (k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1402 v1411 v1420 v1429 v1438 v1447 v1474 v1483 v1492 v1501 v1510 v1519 v1545) := by
  rw [k0_part73_eq_skeleton]
  unfold k0_part73_skel
  exact .pure _

theorem part74 {v1405} {v1414} {v1423} {v1447} {v1456} {v1465} {v1477} {v1486} {v1495} {v1519} {v1528} {v1537} {v1590} :
    Keeps (F := F) c R (k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1405 v1414 v1423 v1447 v1456 v1465 v1477 v1486 v1495 v1519 v1528 v1537 v1590) := by
  rw [k0_part74_eq_skeleton]
  unfold k0_part74_skel
  exact .pure _

theorem part75 {v1423} {v1432} {v1441} {v1450} {v1459} {v1468} {v1495} {v1504} {v1513} {v1522} {v1531} {v1540} {v1635} :
    Keeps (F := F) c R (k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1423 v1432 v1441 v1450 v1459 v1468 v1495 v1504 v1513 v1522 v1531 v1540 v1635) := by
  rw [k0_part75_eq_skeleton]
  unfold k0_part75_skel
  exact .pure _

theorem part76 {v1468} {v1540} {v1546} {v1549} {v1555} {v1564} {v1573} {v1582} {v1585} {v1591} {v1600} {v1609} {v1680} :
    Keeps (F := F) c R (k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1468 v1540 v1546 v1549 v1555 v1564 v1573 v1582 v1585 v1591 v1600 v1609 v1680) := by
  rw [k0_part76_eq_skeleton]
  unfold k0_part76_skel
  exact .pure _

theorem part77 {v1549} {v1558} {v1567} {v1576} {v1585} {v1594} {v1603} {v1612} {v1618} {v1627} {v1654} {v1663} {v1725} :
    Keeps (F := F) c R (k0_part77 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1549 v1558 v1567 v1576 v1585 v1594 v1603 v1612 v1618 v1627 v1654 v1663 v1725) := by
  rw [k0_part77_eq_skeleton]
  unfold k0_part77_skel
  exact .pure _

theorem part78 {v1621} {v1627} {v1630} {v1636} {v1639} {v1645} {v1657} {v1663} {v1666} {v1672} {v1675} {v1681} {v1770} :
    Keeps (F := F) c R (k0_part78 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1621 v1627 v1630 v1636 v1639 v1645 v1657 v1663 v1666 v1672 v1675 v1681 v1770) := by
  rw [k0_part78_eq_skeleton]
  unfold k0_part78_skel
  exact .pure _

theorem part79 {v1639} {v1648} {v1675} {v1684} {v1690} {v1693} {v1699} {v1702} {v1708} {v1711} {v1717} {v1720} {v1815} :
    Keeps (F := F) c R (k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1639 v1648 v1675 v1684 v1690 v1693 v1699 v1702 v1708 v1711 v1717 v1720 v1815) := by
  rw [k0_part79_eq_skeleton]
  unfold k0_part79_skel
  exact .pure _

theorem part80 {v1702} {v1720} {v1726} {v1729} {v1735} {v1738} {v1744} {v1747} {v1753} {v1756} {v1762} {v1780} {v1860} :
    Keeps (F := F) c R (k0_part80 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1702 v1720 v1726 v1729 v1735 v1738 v1744 v1747 v1753 v1756 v1762 v1780 v1860) := by
  rw [k0_part80_eq_skeleton]
  unfold k0_part80_skel
  exact .pure _

theorem part81 {v1762} {v1765} {v1771} {v1774} {v1780} {v1783} {v1789} {v1792} {v1798} {v1807} {v1816} {v1825} {v1905} :
    Keeps (F := F) c R (k0_part81 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1762 v1765 v1771 v1774 v1780 v1783 v1789 v1792 v1798 v1807 v1816 v1825 v1905) := by
  rw [k0_part81_eq_skeleton]
  unfold k0_part81_skel
  exact .pure _

theorem part82 {v1801} {v1807} {v1810} {v1819} {v1825} {v1828} {v1834} {v1837} {v1843} {v1846} {v1852} {v1861} {v1950} :
    Keeps (F := F) c R (k0_part82 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1801 v1807 v1810 v1819 v1825 v1828 v1834 v1837 v1843 v1846 v1852 v1861 v1950) := by
  rw [k0_part82_eq_skeleton]
  unfold k0_part82_skel
  exact .pure _

theorem part83 {v1852} {v1855} {v1861} {v1864} {v1870} {v1873} {v1879} {v1882} {v1888} {v1891} {v1897} {v1900} {v1995} :
    Keeps (F := F) c R (k0_part83 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1852 v1855 v1861 v1864 v1870 v1873 v1879 v1882 v1888 v1891 v1897 v1900 v1995) := by
  rw [k0_part83_eq_skeleton]
  unfold k0_part83_skel
  exact .pure _

theorem part84 {v1891} {v1900} {v1906} {v1909} {v1915} {v1918} {v1924} {v1927} {v1933} {v1936} {v1942} {v1951} {v2040} :
    Keeps (F := F) c R (k0_part84 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1891 v1900 v1906 v1909 v1915 v1918 v1924 v1927 v1933 v1936 v1942 v1951 v2040) := by
  rw [k0_part84_eq_skeleton]
  unfold k0_part84_skel
  exact .pure _

end Cert.Kernel.Dsa

end
-- ==== Proof.Parts2.lean ====
/-
  THE BODY'S PARTS, 2: each part and each loop's trip keeps the twenty-one buffers. One statement of the part
  is one step of its proof.
-/
module

public import proofs.«01_k».proof.Proof.Parts1

@[expose] public section

set_option maxRecDepth 65536

noncomputable section

namespace Cert.Kernel.Dsa

open Idealize.ShloMosaic Idealize.ShloMosaic.TcCoe
open Idealize.SL Idealize.SL.RA Idealize.SL.BI
open Cert.Kernel Cert.Kernel.Gen

variable {F : FTy → Type} [BitOps F]

variable {c : Dev nD} {R : Res F} {i : grid0.Coords}
  {arg2 : Memref sig .tc .vmem S1x128x512 .bf16} {arg3 : Memref sig .tc .vmem S1x128x512 .bf16} {arg4 : Memref sig .tc .vmem S1x128x128 .f32} {arg5 : Memref sig .tc .vmem S1x128x512 .bf16} {arg6 : Memref sig .tc .vmem S1x128 .f32} {arg7 : Memref sig .tc .vmem S1x4096x128 .bf16} {arg8 : Memref sig .tc .vmem S1x4096x128 .bf16} {arg9 : Memref sig .tc .vmem S1x4096x128 .bf16} {arg10 : Memref sig .tc .vmem S1x128 .f32} {arg11 : Memref sig .tc .vmem S256x256 .bf16} {arg12 : Memref sig .tc .vmem S1x128x512 .bf16} {arg13 : Memref sig .tc .vmem S16x256x128 .bf16} {arg14 : Memref sig .tc .vmem S16x128x256 .bf16} {arg15 : Memref sig .tc .vmem S16x256x128 .bf16} {arg16 : Memref sig .tc .vmem S16x256x128 .i32} {arg17 : Memref sig .tc .vmem S16x32x8x128 .i32} {arg18 : Memref sig .tc .vmem S16x256x1024 .f32} {arg19 : Memref sig .tc .vmem S8x128 .i32} {arg20 : Memref sig .tc .vmem S8x128 .f32} {arg21 : Memref sig .tc .vmem S8x128 .f32} {arg22 : Memref sig .tc .vmem S128x1024 .f32}
  {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} {harg22 : arg22.IsWhole}
  (H : Access c R arg2 arg3 arg4 arg5 arg6 arg7 arg8 arg9 arg10 arg11 arg12 arg13 arg14 arg15 arg16 arg17 arg18 arg19 arg20 arg21 arg22)
include H

theorem part85 {k0_t3} {v386} {v1942} {v1945} {v1951} {v1954} {v1960} {v1963} {v1969} {v1972} {v2085} :
    Keeps (F := F) c R (k0_part85 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t3 v386 v1942 v1945 v1951 v1954 v1960 v1963 v1969 v1972 v2085) := by
  rw [k0_part85_eq_skeleton]
  unfold k0_part85_skel
  refine .bind (.load H.r17 _ _) ?_; intro _
  refine .bind (.store H.w17 _ _ _ _ _) fun _ => ?_
  refine .bind (.load H.r17 _ _) ?_; intro _
  refine .bind (.store H.w17 _ _ _ _ _) fun _ => ?_
  exact .pure _

theorem part86 {k0_t3} {v386} {v2077} {v2080} {v2086} {v2089} {v2095} {v2098} {v2104} {v2107} :
    Keeps (F := F) c R (k0_part86 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t3 v386 v2077 v2080 v2086 v2089 v2095 v2098 v2104 v2107) := by
  rw [k0_part86_eq_skeleton]
  unfold k0_part86_skel
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  exact .pure _

theorem part87 {k0_t3} {v386} {v2044} {v2050} {v2053} {v2059} {v2062} {v2068} {v2071} {v2156} :
    Keeps (F := F) c R (k0_part87 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t3 v386 v2044 v2050 v2053 v2059 v2062 v2068 v2071 v2156) := by
  rw [k0_part87_eq_skeleton]
  unfold k0_part87_skel
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  exact .pure _

theorem part88 {k0_t3} {v386} {v2008} {v2014} {v2017} {v2023} {v2026} {v2032} {v2035} {v2041} :
    Keeps (F := F) c R (k0_part88 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t3 v386 v2008 v2014 v2017 v2023 v2026 v2032 v2035 v2041) := by
  rw [k0_part88_eq_skeleton]
  unfold k0_part88_skel
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  exact .pure _

theorem part89 {v0} {v4} {v89} {v103} {v252} {v257} {c1_i32_98} {k0_t3} :
    Keeps (F := F) c R (k0_part89 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v4 v89 v103 v252 v257 c1_i32_98 k0_t3) := by
  rw [k0_part89_eq_skeleton]
  unfold k0_part89_skel
  refine .bind (part46 H) ?_; rintro ⟨_, _, _, _, _, _⟩
  refine .bind (part47 H) ?_; rintro ⟨_, _, _, _, _, _, _, _, _, _, _, _, _, _, _, _, _, _, _, _, _, _, _, _, _, _⟩
  refine .bind (part48 H) ?_; rintro ⟨_, _, _, _, _, _, _, _, _, _, _, _, _, _, _, _, _⟩
  refine .bind (part49 H) ?_; rintro ⟨_, _, _, _, _, _, _, _, _, _, _, _⟩
  refine .bind (part50 H) ?_; rintro ⟨_, _, _, _, _, _, _, _, _, _, _, _⟩
  refine .bind (part51 H) ?_; rintro ⟨_, _, _, _, _, _, _, _, _, _, _, _⟩
  refine .bind (part52 H) ?_; rintro ⟨_, _, _, _, _, _, _, _, _, _, _, _⟩
  refine .bind (part53 H) ?_; rintro ⟨_, _, _, _, _, _, _, _, _, _, _, _⟩
  refine .bind (part54 H) ?_; rintro ⟨_, _, _, _, _, _, _, _, _, _, _, _⟩
  refine .bind (part55 H) ?_; rintro ⟨_, _, _, _, _, _, _, _, _, _, _, _⟩
  refine .bind (part56 H) ?_; rintro ⟨_, _, _, _, _, _, _, _, _, _, _, _⟩
  refine .bind (part57 H) ?_; rintro ⟨_, _, _, _, _, _, _, _, _, _, _, _⟩
  refine .bind (part58 H) ?_; rintro ⟨_, _, _, _, _, _, _, _, _, _, _, _⟩
  refine .bind (part59 H) ?_; rintro ⟨_, _, _, _, _, _, _, _, _, _, _, _⟩
  refine .bind (part60 H) ?_; rintro ⟨_, _, _, _, _, _, _, _, _, _, _, _⟩
  refine .bind (part61 H) ?_; rintro ⟨_, _, _, _, _, _, _, _, _, _, _, _⟩
  refine .bind (part62 H) ?_; rintro ⟨_, _, _, _, _, _, _, _, _, _, _, _⟩
  refine .bind (part63 H) ?_; rintro ⟨_, _, _, _, _, _, _, _, _, _, _, _⟩
  refine .bind (part64 H) ?_; intro _
  refine .bind (part65 H) fun _ => ?_
  refine .bind (part66 H) ?_; intro _
  refine .bind (part67 H) fun _ => ?_
  refine .bind (part68 H) ?_; intro _
  refine .bind (part69 H) ?_; rintro ⟨_, _, _, _, _, _, _, _, _, _, _, _, _, _, _, _, _, _, _, _, _, _, _, _, _, _, _, _, _, _, _, _, _⟩
  refine .bind (part70 H) ?_; rintro ⟨_, _, _, _, _, _, _, _, _, _, _⟩
  refine .bind (part71 H) ?_; rintro ⟨_, _, _, _, _, _, _, _, _, _, _⟩
  refine .bind (part72 H) ?_; rintro ⟨_, _, _, _, _, _, _, _, _, _, _⟩
  refine .bind (part73 H) ?_; rintro ⟨_, _, _, _, _, _, _, _, _, _, _⟩
  refine .bind (part74 H) ?_; rintro ⟨_, _, _, _, _, _, _, _, _, _, _⟩
  refine .bind (part75 H) ?_; rintro ⟨_, _, _, _, _, _, _, _, _, _, _⟩
  refine .bind (part76 H) ?_; rintro ⟨_, _, _, _, _, _, _, _, _, _, _⟩
  refine .bind (part77 H) ?_; rintro ⟨_, _, _, _, _, _, _, _, _, _, _⟩
  refine .bind (part78 H) ?_; rintro ⟨_, _, _, _, _, _, _, _, _, _, _⟩
  refine .bind (part79 H) ?_; rintro ⟨_, _, _, _, _, _, _, _, _, _, _⟩
  refine .bind (part80 H) ?_; rintro ⟨_, _, _, _, _, _, _, _, _, _, _⟩
  refine .bind (part81 H) ?_; rintro ⟨_, _, _, _, _, _, _, _, _, _, _⟩
  refine .bind (part82 H) ?_; rintro ⟨_, _, _, _, _, _, _, _, _, _, _⟩
  refine .bind (part83 H) ?_; rintro ⟨_, _, _, _, _, _, _, _, _, _, _⟩
  refine .bind (part84 H) ?_; rintro ⟨_, _, _, _, _, _, _, _, _, _, _⟩
  refine .bind (part85 H) ?_; rintro ⟨_, _, _, _, _, _⟩
  refine .bind (part86 H) ?_; intro _
  refine .bind (part87 H) fun _ => ?_
  refine .bind (part88 H) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  exact .pure _

theorem part90 {k0_h2} {c0_i32_267} {c1_i32_268} {k0_t4} {arg24} {arg25} {arg40} {arg41} {arg42} :
    Keeps (F := F) c R (k0_part90 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 c0_i32_267 c1_i32_268 k0_t4 arg24 arg25 arg40 arg41 arg42) := by
  rw [k0_part90_eq_skeleton]
  unfold k0_part90_skel
  refine .bind (.load H.r17 _ _) ?_; intro _
  refine .bind (.load H.r17 _ _) ?_; intro _
  refine .bind (.load H.r17 _ _) ?_; intro _
  refine .bind (.load H.r17 _ _) ?_; intro _
  exact .pure _

theorem part91 {k0_h2} {k0_t4} {arg26} {arg27} {arg28} {v616} {v617} {v625} {v654} :
    Keeps (F := F) c R (k0_part91 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 k0_t4 arg26 arg27 arg28 v616 v617 v625 v654) := by
  rw [k0_part91_eq_skeleton]
  unfold k0_part91_skel
  refine .bind (.load H.r17 _ _) ?_; intro _
  refine .bind (.load H.r17 _ _) ?_; intro _
  refine .bind (.load H.r17 _ _) ?_; intro _
  refine .bind (.load H.r17 _ _) ?_; intro _
  refine .bind (.load H.r17 _ _) ?_; intro _
  refine .bind (.load H.r17 _ _) ?_; intro _
  exact .pure _

theorem part92 {k0_h2} {k0_t4} {arg29} {arg30} {arg31} {v616} {v617} {v625} {v696} :
    Keeps (F := F) c R (k0_part92 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 k0_t4 arg29 arg30 arg31 v616 v617 v625 v696) := by
  rw [k0_part92_eq_skeleton]
  unfold k0_part92_skel
  refine .bind (.load H.r17 _ _) ?_; intro _
  refine .bind (.load H.r17 _ _) ?_; intro _
  refine .bind (.load H.r17 _ _) ?_; intro _
  refine .bind (.load H.r17 _ _) ?_; intro _
  refine .bind (.load H.r17 _ _) ?_; intro _
  refine .bind (.load H.r17 _ _) ?_; intro _
  exact .pure _

theorem part93 {k0_h2} {k0_t4} {arg32} {arg33} {arg34} {v616} {v617} {v625} {v738} :
    Keeps (F := F) c R (k0_part93 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 k0_t4 arg32 arg33 arg34 v616 v617 v625 v738) := by
  rw [k0_part93_eq_skeleton]
  unfold k0_part93_skel
  refine .bind (.load H.r17 _ _) ?_; intro _
  refine .bind (.load H.r17 _ _) ?_; intro _
  refine .bind (.load H.r17 _ _) ?_; intro _
  refine .bind (.load H.r17 _ _) ?_; intro _
  refine .bind (.load H.r17 _ _) ?_; intro _
  refine .bind (.load H.r17 _ _) ?_; intro _
  exact .pure _

theorem part94 {k0_h2} {k0_t4} {arg35} {arg36} {arg37} {v616} {v617} {v625} {v780} :
    Keeps (F := F) c R (k0_part94 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 k0_t4 arg35 arg36 arg37 v616 v617 v625 v780) := by
  rw [k0_part94_eq_skeleton]
  unfold k0_part94_skel
  refine .bind (.load H.r17 _ _) ?_; intro _
  refine .bind (.load H.r17 _ _) ?_; intro _
  refine .bind (.load H.r17 _ _) ?_; intro _
  refine .bind (.load H.r17 _ _) ?_; intro _
  refine .bind (.load H.r17 _ _) ?_; intro _
  refine .bind (.load H.r17 _ _) ?_; intro _
  exact .pure _

theorem part95 {v48} :
    Keeps (F := F) c R (k0_part95 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v48) := by
  rw [k0_part95_eq_skeleton]
  unfold k0_part95_skel
  exact .pure _

theorem part96 {v48} {v415} {v416} :
    Keeps (F := F) c R (k0_part96 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v48 v415 v416) := by
  rw [k0_part96_eq_skeleton]
  unfold k0_part96_skel
  exact .pure _

theorem part97 {v48} {v388} {v393} {v398} {v403} {v449} {c13_i32} :
    Keeps (F := F) c R (k0_part97 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v48 v388 v393 v398 v403 v449 c13_i32) := by
  rw [k0_part97_eq_skeleton]
  unfold k0_part97_skel
  refine .bind (.load H.r17 _ _) ?_; intro _
  refine .bind (.load H.r17 _ _) ?_; intro _
  refine .bind (.load H.r17 _ _) ?_; intro _
  refine .bind (.load H.r17 _ _) ?_; intro _
  exact .pure _

theorem part98 {v408} {v413} {v418} {v423} {v428} {v433} {v479} {v482} :
    Keeps (F := F) c R (k0_part98 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v408 v413 v418 v423 v428 v433 v479 v482) := by
  rw [k0_part98_eq_skeleton]
  unfold k0_part98_skel
  refine .bind (.load H.r17 _ _) ?_; intro _
  refine .bind (.load H.r17 _ _) ?_; intro _
  refine .bind (.load H.r17 _ _) ?_; intro _
  refine .bind (.load H.r17 _ _) ?_; intro _
  refine .bind (.load H.r17 _ _) ?_; intro _
  refine .bind (.load H.r17 _ _) ?_; intro _
  exact .pure _

theorem part99 {v438} {v443} {v448} {v453} {v458} {v463} {v514} :
    Keeps (F := F) c R (k0_part99 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v438 v443 v448 v453 v458 v463 v514) := by
  rw [k0_part99_eq_skeleton]
  unfold k0_part99_skel
  refine .bind (.load H.r17 _ _) ?_; intro _
  refine .bind (.load H.r17 _ _) ?_; intro _
  refine .bind (.load H.r17 _ _) ?_; intro _
  refine .bind (.load H.r17 _ _) ?_; intro _
  refine .bind (.load H.r17 _ _) ?_; intro _
  refine .bind (.load H.r17 _ _) ?_; intro _
  exact .pure _

theorem t4_body {v4} {k0_h2} {v388} {v393} {v398} {v403} {v408} {v413} {v418} {v423} {v428} {v433} {v438} {v443} {v448} {v453} {v458} {v463} {v547} {v548} {v549} {c0_i32_267} {c32_i32} k a :
    Keeps (F := F) c R (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v4 k0_h2 v388 v393 v398 v403 v408 v413 v418 v423 v428 v433 v438 v443 v448 v453 v458 v463 v547 v548 v549 c0_i32_267 c32_i32 k a) := by
  obtain ⟨_, _, _, _, _, _, _, _, _, _, _, _, _, _, _, _, _, _, _⟩ := a
  unfold k0_t4_body
  refine .bind (part90 H) ?_; rintro ⟨_, _, _, _, _, _, _, _⟩
  refine .bind (part91 H) ?_; rintro ⟨_, _, _, _⟩
  refine .bind (part92 H) ?_; rintro ⟨_, _, _, _⟩
  refine .bind (part93 H) ?_; rintro ⟨_, _, _, _⟩
  refine .bind (part94 H) ?_; rintro ⟨_, _, _, _⟩
  refine .bind (.load H.r17 _ _) ?_; intro _
  refine .bind (.load H.r17 _ _) ?_; intro _
  refine .bind (.load H.r17 _ _) ?_; intro _
  refine .bind (.load H.r17 _ _) ?_; intro _
  exact .pure _

theorem part100 {v4} {k0_h2} {v388} {v393} {v398} {v403} {v408} {v413} {v418} {v423} {v428} {v433} {v438} {v443} {v448} {v453} {v458} {v463} {v547} {v548} {v549} {c0_i32_267} {c32_i32} :
    Keeps (F := F) c R (k0_part100 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v4 k0_h2 v388 v393 v398 v403 v408 v413 v418 v423 v428 v433 v438 v443 v448 v453 v458 v463 v547 v548 v549 c0_i32_267 c32_i32) := by
  rw [k0_part100_eq_skeleton]
  unfold k0_part100_skel
  refine .bind (.loop _ _ _ _ (t4_body H)) ?_; rintro ⟨_, _, _, _, _, _, _, _, _, _, _, _, _, _, _, _, _, _, _⟩
  refine .bind (.load H.r19 _ _) ?_; intro _
  exact .pure _

theorem part101 {v275} {c0_i32_166} {c1_i32_168} {k0_t5} :
    Keeps (F := F) c R (k0_part101 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v275 c0_i32_166 c1_i32_168 k0_t5) := by
  rw [k0_part101_eq_skeleton]
  unfold k0_part101_skel
  refine .bind (.load H.r16 _ _) ?_; intro _
  refine .bind (.load H.r18 _ _) ?_; intro _
  exact .pure _

theorem part102 {k0_t5} {arg24} {arg23} {v396} {v426} {v427} {v428} {v429} {v430} {v431} {v432} {v433} {v434} {v435} {v436} {v437} {v438} {v439} {v440} {v441} {v442} {v443} {v444} {v445} :
    Keeps (F := F) c R (k0_part102 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t5 arg24 arg23 v396 v426 v427 v428 v429 v430 v431 v432 v433 v434 v435 v436 v437 v438 v439 v440 v441 v442 v443 v444 v445) := by
  rw [k0_part102_eq_skeleton]
  unfold k0_part102_skel
  refine .bind (.load H.r18 _ _) ?_; intro _
  exact .pure _

theorem part103 {k0_t5} {arg25} {arg23} {v396} {v471} {v472} {v473} {v474} {v475} {v476} {v477} {v478} {v479} {v480} {v481} {v482} {v483} {v484} {v485} {v486} {v487} {v488} {v489} {v490} {v491} {v492} {v493} {v494} {v495} {v496} {v497} {v498} {v499} {v500} {v501} {v502} :
    Keeps (F := F) c R (k0_part103 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t5 arg25 arg23 v396 v471 v472 v473 v474 v475 v476 v477 v478 v479 v480 v481 v482 v483 v484 v485 v486 v487 v488 v489 v490 v491 v492 v493 v494 v495 v496 v497 v498 v499 v500 v501 v502) := by
  rw [k0_part103_eq_skeleton]
  unfold k0_part103_skel
  refine .bind (.load H.r18 _ _) ?_; intro _
  exact .pure _

theorem part104 {k0_t5} {arg26} {arg23} {v396} {v539} {v540} {v541} {v542} {v543} {v544} {v545} {v546} {v547} {v548} {v549} {v550} {v551} {v552} {v553} {v554} {v555} {v556} {v557} {v558} {v559} :
    Keeps (F := F) c R (k0_part104 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t5 arg26 arg23 v396 v539 v540 v541 v542 v543 v544 v545 v546 v547 v548 v549 v550 v551 v552 v553 v554 v555 v556 v557 v558 v559) := by
  rw [k0_part104_eq_skeleton]
  unfold k0_part104_skel
  refine .bind (.load H.r18 _ _) ?_; intro _
  exact .pure _

theorem part105 {k0_t5} {arg27} {arg23} {v608} {v609} {v610} {v611} {v612} {v613} {v614} {v615} {v616} :
    Keeps (F := F) c R (k0_part105 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t5 arg27 arg23 v608 v609 v610 v611 v612 v613 v614 v615 v616) := by
  rw [k0_part105_eq_skeleton]
  unfold k0_part105_skel
  refine .bind (.load H.r18 _ _) ?_; intro _
  exact .pure _

theorem part106 {v396} {v674} :
    Keeps (F := F) c R (k0_part106 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v396 v674) := by
  rw [k0_part106_eq_skeleton]
  unfold k0_part106_skel
  exact .pure _

theorem part107 {k0_t5} {arg28} {arg23} {v396} {v726} {v727} {v728} {v729} {v730} {v731} {v732} {v733} :
    Keeps (F := F) c R (k0_part107 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t5 arg28 arg23 v396 v726 v727 v728 v729 v730 v731 v732 v733) := by
  rw [k0_part107_eq_skeleton]
  unfold k0_part107_skel
  refine .bind (.load H.r18 _ _) ?_; intro _
  exact .pure _

theorem part108 {k0_t5} {arg29} {arg23} {v396} {v771} {v772} {v773} {v774} {v775} {v776} {v777} {v778} {v779} {v780} {v781} {v782} {v783} {v784} {v785} {v786} {v787} {v788} {v789} {v790} :
    Keeps (F := F) c R (k0_part108 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t5 arg29 arg23 v396 v771 v772 v773 v774 v775 v776 v777 v778 v779 v780 v781 v782 v783 v784 v785 v786 v787 v788 v789 v790) := by
  rw [k0_part108_eq_skeleton]
  unfold k0_part108_skel
  refine .bind (.load H.r18 _ _) ?_; intro _
  exact .pure _

theorem part109 {k0_t5} {arg30} {arg23} {v396} {v816} {v817} {v818} {v819} {v820} {v821} {v822} {v823} {v824} {v825} {v826} {v827} {v828} {v829} {v830} {v831} {v832} {v833} {v834} {v835} {v836} {v837} {v838} {v839} {v840} {v841} {v842} {v843} {v844} {v845} {v846} {v847} :
    Keeps (F := F) c R (k0_part109 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t5 arg30 arg23 v396 v816 v817 v818 v819 v820 v821 v822 v823 v824 v825 v826 v827 v828 v829 v830 v831 v832 v833 v834 v835 v836 v837 v838 v839 v840 v841 v842 v843 v844 v845 v846 v847) := by
  rw [k0_part109_eq_skeleton]
  unfold k0_part109_skel
  refine .bind (.load H.r18 _ _) ?_; intro _
  exact .pure _

theorem part110 {v275} {c0_i32_166} {c1_i32_168} {k0_t5} {arg24} {arg25} {arg26} {arg27} {arg28} {arg29} {arg30} {arg31} :
    Keeps (F := F) c R (k0_part110 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v275 c0_i32_166 c1_i32_168 k0_t5 arg24 arg25 arg26 arg27 arg28 arg29 arg30 arg31) := by
  rw [k0_part110_eq_skeleton]
  unfold k0_part110_skel
  refine .bind (part101 H) ?_; rintro ⟨_, _, _, _, _, _, _, _, _, _, _, _, _, _, _, _, _, _, _, _, _, _⟩
  refine .bind (part102 H) ?_; rintro ⟨_, _, _, _, _, _, _, _, _, _, _, _, _, _, _, _, _, _, _, _, _, _, _, _, _, _, _, _, _, _, _, _, _⟩
  refine .bind (part103 H) ?_; rintro ⟨_, _, _, _, _, _, _, _, _, _, _, _, _, _, _, _, _, _, _, _, _, _⟩
  refine .bind (part104 H) ?_; rintro ⟨_, _, _, _, _, _, _, _, _, _⟩
  refine .bind (part105 H) ?_; rintro ⟨_, _⟩
  refine .bind (part106 H) ?_; rintro ⟨_, _, _, _, _, _, _, _⟩
  refine .bind (part107 H) ?_; rintro ⟨_, _, _, _, _, _, _, _, _, _, _, _, _, _, _, _, _, _, _, _, _⟩
  refine .bind (part108 H) ?_; rintro ⟨_, _, _, _, _, _, _, _, _, _, _, _, _, _, _, _, _, _, _, _, _, _, _, _, _, _, _, _, _, _, _, _, _⟩
  refine .bind (part109 H) ?_; rintro ⟨_, _, _, _, _, _, _, _, _, _, _, _, _, _, _, _, _, _, _, _, _, _⟩
  exact .pure _

theorem part111 {v275} {v389} {c1_i32_169} {k0_t6} :
    Keeps (F := F) c R (k0_part111 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v275 v389 c1_i32_169 k0_t6) := by
  rw [k0_part111_eq_skeleton]
  unfold k0_part111_skel
  refine .bind (.load H.r16 _ _) ?_; intro _
  refine .bind (.load H.r18 _ _) ?_; intro _
  exact .pure _

theorem part112 {k0_t6} {arg24} {arg23} {v396} {v426} {v427} {v428} {v429} {v430} {v431} {v432} {v433} {v434} {v435} {v436} {v437} {v438} {v439} {v440} {v441} {v442} {v443} {v444} {v445} :
    Keeps (F := F) c R (k0_part112 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t6 arg24 arg23 v396 v426 v427 v428 v429 v430 v431 v432 v433 v434 v435 v436 v437 v438 v439 v440 v441 v442 v443 v444 v445) := by
  rw [k0_part112_eq_skeleton]
  unfold k0_part112_skel
  refine .bind (.load H.r18 _ _) ?_; intro _
  exact .pure _

theorem part113 {k0_t6} {arg25} {arg23} {v396} {v471} {v472} {v473} {v474} {v475} {v476} {v477} {v478} {v479} {v480} {v481} {v482} {v483} {v484} {v485} {v486} {v487} {v488} {v489} {v490} {v491} {v492} {v493} {v494} {v495} {v496} {v497} {v498} {v499} {v500} {v501} {v502} :
    Keeps (F := F) c R (k0_part113 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t6 arg25 arg23 v396 v471 v472 v473 v474 v475 v476 v477 v478 v479 v480 v481 v482 v483 v484 v485 v486 v487 v488 v489 v490 v491 v492 v493 v494 v495 v496 v497 v498 v499 v500 v501 v502) := by
  rw [k0_part113_eq_skeleton]
  unfold k0_part113_skel
  refine .bind (.load H.r18 _ _) ?_; intro _
  exact .pure _

theorem part114 {k0_t6} {arg26} {arg23} {v396} {v539} {v540} {v541} {v542} {v543} {v544} {v545} {v546} {v547} {v548} {v549} {v550} {v551} {v552} {v553} {v554} {v555} {v556} {v557} {v558} {v559} :
    Keeps (F := F) c R (k0_part114 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t6 arg26 arg23 v396 v539 v540 v541 v542 v543 v544 v545 v546 v547 v548 v549 v550 v551 v552 v553 v554 v555 v556 v557 v558 v559) := by
  rw [k0_part114_eq_skeleton]
  unfold k0_part114_skel
  refine .bind (.load H.r18 _ _) ?_; intro _
  exact .pure _

theorem part115 {k0_t6} {arg27} {arg23} {v608} {v609} {v610} {v611} {v612} {v613} {v614} {v615} {v616} :
    Keeps (F := F) c R (k0_part115 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t6 arg27 arg23 v608 v609 v610 v611 v612 v613 v614 v615 v616) := by
  rw [k0_part115_eq_skeleton]
  unfold k0_part115_skel
  refine .bind (.load H.r18 _ _) ?_; intro _
  exact .pure _

theorem part116 {v396} {v674} :
    Keeps (F := F) c R (k0_part116 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v396 v674) := by
  rw [k0_part116_eq_skeleton]
  unfold k0_part116_skel
  exact .pure _

theorem part117 {k0_t6} {arg28} {arg23} {v396} {v726} {v727} {v728} {v729} {v730} {v731} {v732} {v733} :
    Keeps (F := F) c R (k0_part117 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t6 arg28 arg23 v396 v726 v727 v728 v729 v730 v731 v732 v733) := by
  rw [k0_part117_eq_skeleton]
  unfold k0_part117_skel
  refine .bind (.load H.r18 _ _) ?_; intro _
  exact .pure _

theorem part118 {k0_t6} {arg29} {arg23} {v396} {v771} {v772} {v773} {v774} {v775} {v776} {v777} {v778} {v779} {v780} {v781} {v782} {v783} {v784} {v785} {v786} {v787} {v788} {v789} {v790} :
    Keeps (F := F) c R (k0_part118 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t6 arg29 arg23 v396 v771 v772 v773 v774 v775 v776 v777 v778 v779 v780 v781 v782 v783 v784 v785 v786 v787 v788 v789 v790) := by
  rw [k0_part118_eq_skeleton]
  unfold k0_part118_skel
  refine .bind (.load H.r18 _ _) ?_; intro _
  exact .pure _

theorem part119 {k0_t6} {arg30} {arg23} {v396} {v816} {v817} {v818} {v819} {v820} {v821} {v822} {v823} {v824} {v825} {v826} {v827} {v828} {v829} {v830} {v831} {v832} {v833} {v834} {v835} {v836} {v837} {v838} {v839} {v840} {v841} {v842} {v843} {v844} {v845} {v846} {v847} :
    Keeps (F := F) c R (k0_part119 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t6 arg30 arg23 v396 v816 v817 v818 v819 v820 v821 v822 v823 v824 v825 v826 v827 v828 v829 v830 v831 v832 v833 v834 v835 v836 v837 v838 v839 v840 v841 v842 v843 v844 v845 v846 v847) := by
  rw [k0_part119_eq_skeleton]
  unfold k0_part119_skel
  refine .bind (.load H.r18 _ _) ?_; intro _
  exact .pure _

theorem part120 {v275} {v389} {c1_i32_169} {k0_t6} {arg24} {arg25} {arg26} {arg27} {arg28} {arg29} {arg30} {arg31} :
    Keeps (F := F) c R (k0_part120 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v275 v389 c1_i32_169 k0_t6 arg24 arg25 arg26 arg27 arg28 arg29 arg30 arg31) := by
  rw [k0_part120_eq_skeleton]
  unfold k0_part120_skel
  refine .bind (part111 H) ?_; rintro ⟨_, _, _, _, _, _, _, _, _, _, _, _, _, _, _, _, _, _, _, _, _, _⟩
  refine .bind (part112 H) ?_; rintro ⟨_, _, _, _, _, _, _, _, _, _, _, _, _, _, _, _, _, _, _, _, _, _, _, _, _, _, _, _, _, _, _, _, _⟩
  refine .bind (part113 H) ?_; rintro ⟨_, _, _, _, _, _, _, _, _, _, _, _, _, _, _, _, _, _, _, _, _, _⟩
  refine .bind (part114 H) ?_; rintro ⟨_, _, _, _, _, _, _, _, _, _⟩
  refine .bind (part115 H) ?_; rintro ⟨_, _⟩
  refine .bind (part116 H) ?_; rintro ⟨_, _, _, _, _, _, _, _⟩
  refine .bind (part117 H) ?_; rintro ⟨_, _, _, _, _, _, _, _, _, _, _, _, _, _, _, _, _, _, _, _, _⟩
  refine .bind (part118 H) ?_; rintro ⟨_, _, _, _, _, _, _, _, _, _, _, _, _, _, _, _, _, _, _, _, _, _, _, _, _, _, _, _, _, _, _, _, _⟩
  refine .bind (part119 H) ?_; rintro ⟨_, _, _, _, _, _, _, _, _, _, _, _, _, _, _, _, _, _, _, _, _, _⟩
  exact .pure _

theorem part121 {v275} {v276} {c0_i32_167} {c1_i32_169} {k0_t7} {arg24} :
    Keeps (F := F) c R (k0_part121 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v275 v276 c0_i32_167 c1_i32_169 k0_t7 arg24) := by
  rw [k0_part121_eq_skeleton]
  unfold k0_part121_skel
  refine .bind (.load H.r16 _ _) ?_; intro _
  refine .bind (.load H.r11 _ _) ?_; intro _
  refine .bind (.load H.r18 _ _) ?_; intro _
  exact .pure _

theorem part122 {k0_t7} {arg25} {arg23} {v411} {v416} {v417} {v418} {v419} {v420} {v421} {v422} {v423} {v424} {v425} {v426} {v427} {v428} {v429} {v430} {v431} {v432} {v433} {v434} {v435} {v436} {v437} {v438} {v439} {v440} {v441} :
    Keeps (F := F) c R (k0_part122 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t7 arg25 arg23 v411 v416 v417 v418 v419 v420 v421 v422 v423 v424 v425 v426 v427 v428 v429 v430 v431 v432 v433 v434 v435 v436 v437 v438 v439 v440 v441) := by
  rw [k0_part122_eq_skeleton]
  unfold k0_part122_skel
  refine .bind (.load H.r18 _ _) ?_; intro _
  exact .pure _

theorem part123 {k0_t7} {arg26} {arg23} {v411} {v485} {v486} {v487} {v488} {v489} {v490} {v491} {v492} {v493} {v494} {v495} {v496} {v497} {v498} :
    Keeps (F := F) c R (k0_part123 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t7 arg26 arg23 v411 v485 v486 v487 v488 v489 v490 v491 v492 v493 v494 v495 v496 v497 v498) := by
  rw [k0_part123_eq_skeleton]
  unfold k0_part123_skel
  refine .bind (.load H.r18 _ _) ?_; intro _
  exact .pure _

theorem part124 {v554} {v555} :
    Keeps (F := F) c R (k0_part124 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v554 v555) := by
  rw [k0_part124_eq_skeleton]
  unfold k0_part124_skel
  exact .pure _

theorem part125 {k0_t7} {arg27} {arg23} {v411} {v613} {v614} {v615} :
    Keeps (F := F) c R (k0_part125 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t7 arg27 arg23 v411 v613 v614 v615) := by
  rw [k0_part125_eq_skeleton]
  unfold k0_part125_skel
  refine .bind (.load H.r18 _ _) ?_; intro _
  exact .pure _

theorem part126 {k0_t7} {arg28} {arg23} {v411} {v658} {v659} {v660} {v661} {v662} {v663} {v664} {v665} {v666} {v667} {v668} {v669} {v670} {v671} {v672} :
    Keeps (F := F) c R (k0_part126 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t7 arg28 arg23 v411 v658 v659 v660 v661 v662 v663 v664 v665 v666 v667 v668 v669 v670 v671 v672) := by
  rw [k0_part126_eq_skeleton]
  unfold k0_part126_skel
  refine .bind (.load H.r18 _ _) ?_; intro _
  exact .pure _

theorem part127 {k0_t7} {arg29} {arg23} {v411} {v703} {v704} {v705} {v706} {v707} {v708} {v709} {v710} {v711} {v712} {v713} {v714} {v715} {v716} {v717} {v718} {v719} {v720} {v721} {v722} {v723} {v724} {v725} {v726} {v727} {v728} {v729} :
    Keeps (F := F) c R (k0_part127 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t7 arg29 arg23 v411 v703 v704 v705 v706 v707 v708 v709 v710 v711 v712 v713 v714 v715 v716 v717 v718 v719 v720 v721 v722 v723 v724 v725 v726 v727 v728 v729) := by
  rw [k0_part127_eq_skeleton]
  unfold k0_part127_skel
  refine .bind (.load H.r18 _ _) ?_; intro _
  exact .pure _

theorem part128 {k0_t7} {arg30} {arg23} {v411} {v761} {v762} {v763} {v764} {v765} {v766} {v767} {v768} {v769} {v770} {v771} {v772} {v773} {v774} {v775} {v776} {v777} {v778} {v779} {v780} {v781} {v782} {v783} {v784} {v785} {v786} :
    Keeps (F := F) c R (k0_part128 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t7 arg30 arg23 v411 v761 v762 v763 v764 v765 v766 v767 v768 v769 v770 v771 v772 v773 v774 v775 v776 v777 v778 v779 v780 v781 v782 v783 v784 v785 v786) := by
  rw [k0_part128_eq_skeleton]
  unfold k0_part128_skel
  refine .bind (.load H.r18 _ _) ?_; intro _
  exact .pure _

theorem part129 {k0_t7} {arg31} {arg23} {v411} {v830} {v831} {v832} {v833} {v834} {v835} {v836} {v837} {v838} {v839} {v840} {v841} {v842} {v843} :
    Keeps (F := F) c R (k0_part129 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t7 arg31 arg23 v411 v830 v831 v832 v833 v834 v835 v836 v837 v838 v839 v840 v841 v842 v843) := by
  rw [k0_part129_eq_skeleton]
  unfold k0_part129_skel
  refine .bind (.load H.r18 _ _) ?_; intro _
  exact .pure _

theorem part130 {v899} {v900} :
    Keeps (F := F) c R (k0_part130 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v899 v900) := by
  rw [k0_part130_eq_skeleton]
  unfold k0_part130_skel
  exact .pure _

theorem part131 {k0_t7} {arg32} {arg23} {v400} {v411} {v958} {v959} {v960} :
    Keeps (F := F) c R (k0_part131 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t7 arg32 arg23 v400 v411 v958 v959 v960) := by
  rw [k0_part131_eq_skeleton]
  unfold k0_part131_skel
  refine .bind (.load H.r16 _ _) ?_; intro _
  refine .bind (.store H.w16 _ _ _ _ _) fun _ => ?_
  exact .pure _

theorem part132 {v275} {v276} {v390} {c1_i32_170} {k0_t8} {arg24} :
    Keeps (F := F) c R (k0_part132 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v275 v276 v390 c1_i32_170 k0_t8 arg24) := by
  rw [k0_part132_eq_skeleton]
  unfold k0_part132_skel
  refine .bind (.load H.r16 _ _) ?_; intro _
  refine .bind (.load H.r11 _ _) ?_; intro _
  refine .bind (.load H.r18 _ _) ?_; intro _
  exact .pure _

theorem part133 {k0_t8} {arg25} {arg23} {v411} {v416} {v417} {v418} {v419} {v420} {v421} {v422} {v423} {v424} {v425} {v426} {v427} {v428} {v429} {v430} {v431} {v432} {v433} {v434} {v435} {v436} {v437} {v438} {v439} {v440} {v441} :
    Keeps (F := F) c R (k0_part133 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t8 arg25 arg23 v411 v416 v417 v418 v419 v420 v421 v422 v423 v424 v425 v426 v427 v428 v429 v430 v431 v432 v433 v434 v435 v436 v437 v438 v439 v440 v441) := by
  rw [k0_part133_eq_skeleton]
  unfold k0_part133_skel
  refine .bind (.load H.r18 _ _) ?_; intro _
  exact .pure _

theorem part134 {k0_t8} {arg26} {arg23} {v411} {v485} {v486} {v487} {v488} {v489} {v490} {v491} {v492} {v493} {v494} {v495} {v496} {v497} {v498} :
    Keeps (F := F) c R (k0_part134 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t8 arg26 arg23 v411 v485 v486 v487 v488 v489 v490 v491 v492 v493 v494 v495 v496 v497 v498) := by
  rw [k0_part134_eq_skeleton]
  unfold k0_part134_skel
  refine .bind (.load H.r18 _ _) ?_; intro _
  exact .pure _

theorem part135 {v554} {v555} :
    Keeps (F := F) c R (k0_part135 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v554 v555) := by
  rw [k0_part135_eq_skeleton]
  unfold k0_part135_skel
  exact .pure _

theorem part136 {k0_t8} {arg27} {arg23} {v411} {v613} {v614} {v615} :
    Keeps (F := F) c R (k0_part136 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t8 arg27 arg23 v411 v613 v614 v615) := by
  rw [k0_part136_eq_skeleton]
  unfold k0_part136_skel
  refine .bind (.load H.r18 _ _) ?_; intro _
  exact .pure _

theorem part137 {k0_t8} {arg28} {arg23} {v411} {v658} {v659} {v660} {v661} {v662} {v663} {v664} {v665} {v666} {v667} {v668} {v669} {v670} {v671} {v672} :
    Keeps (F := F) c R (k0_part137 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t8 arg28 arg23 v411 v658 v659 v660 v661 v662 v663 v664 v665 v666 v667 v668 v669 v670 v671 v672) := by
  rw [k0_part137_eq_skeleton]
  unfold k0_part137_skel
  refine .bind (.load H.r18 _ _) ?_; intro _
  exact .pure _

theorem part138 {k0_t8} {arg29} {arg23} {v411} {v703} {v704} {v705} {v706} {v707} {v708} {v709} {v710} {v711} {v712} {v713} {v714} {v715} {v716} {v717} {v718} {v719} {v720} {v721} {v722} {v723} {v724} {v725} {v726} {v727} {v728} {v729} :
    Keeps (F := F) c R (k0_part138 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t8 arg29 arg23 v411 v703 v704 v705 v706 v707 v708 v709 v710 v711 v712 v713 v714 v715 v716 v717 v718 v719 v720 v721 v722 v723 v724 v725 v726 v727 v728 v729) := by
  rw [k0_part138_eq_skeleton]
  unfold k0_part138_skel
  refine .bind (.load H.r18 _ _) ?_; intro _
  exact .pure _

theorem part139 {k0_t8} {arg30} {arg23} {v411} {v761} {v762} {v763} {v764} {v765} {v766} {v767} {v768} {v769} {v770} {v771} {v772} {v773} {v774} {v775} {v776} {v777} {v778} {v779} {v780} {v781} {v782} {v783} {v784} {v785} {v786} :
    Keeps (F := F) c R (k0_part139 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t8 arg30 arg23 v411 v761 v762 v763 v764 v765 v766 v767 v768 v769 v770 v771 v772 v773 v774 v775 v776 v777 v778 v779 v780 v781 v782 v783 v784 v785 v786) := by
  rw [k0_part139_eq_skeleton]
  unfold k0_part139_skel
  refine .bind (.load H.r18 _ _) ?_; intro _
  exact .pure _

theorem part140 {k0_t8} {arg31} {arg23} {v411} {v830} {v831} {v832} {v833} {v834} {v835} {v836} {v837} {v838} {v839} {v840} {v841} {v842} {v843} :
    Keeps (F := F) c R (k0_part140 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t8 arg31 arg23 v411 v830 v831 v832 v833 v834 v835 v836 v837 v838 v839 v840 v841 v842 v843) := by
  rw [k0_part140_eq_skeleton]
  unfold k0_part140_skel
  refine .bind (.load H.r18 _ _) ?_; intro _
  exact .pure _

theorem part141 {v899} {v900} :
    Keeps (F := F) c R (k0_part141 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v899 v900) := by
  rw [k0_part141_eq_skeleton]
  unfold k0_part141_skel
  exact .pure _

theorem part142 {k0_t8} {arg32} {arg23} {v400} {v411} {v958} {v959} {v960} :
    Keeps (F := F) c R (k0_part142 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t8 arg32 arg23 v400 v411 v958 v959 v960) := by
  rw [k0_part142_eq_skeleton]
  unfold k0_part142_skel
  refine .bind (.load H.r16 _ _) ?_; intro _
  refine .bind (.store H.w16 _ _ _ _ _) fun _ => ?_
  exact .pure _

theorem part143 {v295} {v297} {v299} {v301} {c0_i32_139} {c1_i32_141} {k0_t9} :
    Keeps (F := F) c R (k0_part143 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v295 v297 v299 v301 c0_i32_139 c1_i32_141 k0_t9) := by
  rw [k0_part143_eq_skeleton]
  unfold k0_part143_skel
  refine .bind (.load H.r16 _ _) ?_; intro _
  refine .bind (.load H.r18 _ _) ?_; intro _
  refine .bind (.load H.r18 _ _) ?_; intro _
  refine .bind (.load H.r18 _ _) ?_; intro _
  refine .bind (.load H.r18 _ _) ?_; intro _
  exact .pure _

theorem part144 {v303} {v305} {v307} {v309} {k0_t9} {v384} {v386} {v391} {v400} {v409} {v418} {v423} {v424} :
    Keeps (F := F) c R (k0_part144 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v303 v305 v307 v309 k0_t9 v384 v386 v391 v400 v409 v418 v423 v424) := by
  rw [k0_part144_eq_skeleton]
  unfold k0_part144_skel
  refine .bind (.load H.r18 _ _) ?_; intro _
  refine .bind (.load H.r18 _ _) ?_; intro _
  refine .bind (.load H.r18 _ _) ?_; intro _
  refine .bind (.load H.r18 _ _) ?_; intro _
  refine .bind (.load H.r14 _ _) ?_; intro _
  exact .pure _

theorem part145 {v295} {v297} {v299} {v301} {k0_t9} {v386} :
    Keeps (F := F) c R (k0_part145 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v295 v297 v299 v301 k0_t9 v386) := by
  rw [k0_part145_eq_skeleton]
  unfold k0_part145_skel
  refine .bind (.load H.r16 _ _) ?_; intro _
  refine .bind (.load H.r18 _ _) ?_; intro _
  refine .bind (.load H.r18 _ _) ?_; intro _
  refine .bind (.load H.r18 _ _) ?_; intro _
  refine .bind (.load H.r18 _ _) ?_; intro _
  refine .bind (.load H.r18 _ _) ?_; intro _
  exact .pure _

theorem part146 {v303} {v305} {v307} {v309} {k0_t9} {v386} {v468} {v473} {v482} {v491} {v500} {v509} {v512} :
    Keeps (F := F) c R (k0_part146 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v303 v305 v307 v309 k0_t9 v386 v468 v473 v482 v491 v500 v509 v512) := by
  rw [k0_part146_eq_skeleton]
  unfold k0_part146_skel
  refine .bind (.load H.r18 _ _) ?_; intro _
  refine .bind (.load H.r18 _ _) ?_; intro _
  refine .bind (.load H.r18 _ _) ?_; intro _
  refine .bind (.load H.r14 _ _) ?_; intro _
  refine .bind (.load H.r22 _ _) ?_; intro _
  refine .bind (.load H.r22 _ _) ?_; intro _
  exact .pure _

theorem part147 {v295} {v297} {v299} {v301} {v318} {c1_i32_142} {k0_t10} :
    Keeps (F := F) c R (k0_part147 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v295 v297 v299 v301 v318 c1_i32_142 k0_t10) := by
  rw [k0_part147_eq_skeleton]
  unfold k0_part147_skel
  refine .bind (.load H.r16 _ _) ?_; intro _
  refine .bind (.load H.r18 _ _) ?_; intro _
  refine .bind (.load H.r18 _ _) ?_; intro _
  refine .bind (.load H.r18 _ _) ?_; intro _
  refine .bind (.load H.r18 _ _) ?_; intro _
  exact .pure _

theorem part148 {v303} {v305} {v307} {v309} {k0_t10} {v384} {v386} {v391} {v400} {v409} {v418} {v423} {v424} :
    Keeps (F := F) c R (k0_part148 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v303 v305 v307 v309 k0_t10 v384 v386 v391 v400 v409 v418 v423 v424) := by
  rw [k0_part148_eq_skeleton]
  unfold k0_part148_skel
  refine .bind (.load H.r18 _ _) ?_; intro _
  refine .bind (.load H.r18 _ _) ?_; intro _
  refine .bind (.load H.r18 _ _) ?_; intro _
  refine .bind (.load H.r18 _ _) ?_; intro _
  refine .bind (.load H.r14 _ _) ?_; intro _
  exact .pure _

theorem part149 {v295} {v297} {v299} {v301} {k0_t10} {v386} :
    Keeps (F := F) c R (k0_part149 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v295 v297 v299 v301 k0_t10 v386) := by
  rw [k0_part149_eq_skeleton]
  unfold k0_part149_skel
  refine .bind (.load H.r16 _ _) ?_; intro _
  refine .bind (.load H.r18 _ _) ?_; intro _
  refine .bind (.load H.r18 _ _) ?_; intro _
  refine .bind (.load H.r18 _ _) ?_; intro _
  refine .bind (.load H.r18 _ _) ?_; intro _
  refine .bind (.load H.r18 _ _) ?_; intro _
  exact .pure _

theorem part150 {v303} {v305} {v307} {v309} {k0_t10} {v386} {v468} {v473} {v482} {v491} {v500} {v509} {v512} :
    Keeps (F := F) c R (k0_part150 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v303 v305 v307 v309 k0_t10 v386 v468 v473 v482 v491 v500 v509 v512) := by
  rw [k0_part150_eq_skeleton]
  unfold k0_part150_skel
  refine .bind (.load H.r18 _ _) ?_; intro _
  refine .bind (.load H.r18 _ _) ?_; intro _
  refine .bind (.load H.r18 _ _) ?_; intro _
  refine .bind (.load H.r14 _ _) ?_; intro _
  refine .bind (.load H.r22 _ _) ?_; intro _
  refine .bind (.load H.r22 _ _) ?_; intro _
  exact .pure _

theorem t1_body {v0} {v1} {k0_h1} k a :
    Keeps (F := F) c R (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 k0_h1 k a) := by
  unfold k0_t1_body
  refine .bind (part1 H) ?_; rintro ⟨_, _, _, _⟩
  refine .bind (.load H.r14 _ _) ?_; intro _
  refine .bind (.store H.w14 _ _ _ _ _) fun _ => ?_
  refine .bind (.load H.r9 _ _) ?_; intro _
  refine .bind (.load H.r15 _ _) ?_; intro _
  refine .bind (.store H.w15 _ _ _ _ _) fun _ => ?_
  refine .bind (.load H.r17 _ _) ?_; intro _
  refine .bind (.store H.w17 _ _ _ _ _) fun _ => ?_
  exact .pure _

theorem part151 :
    Keeps (F := F) c R (k0_part151 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := by
  rw [k0_part151_eq_skeleton]
  unfold k0_part151_skel
  refine .dite (fun _ => ?_) (fun _ => ?_)
  · refine .bind (.loop _ _ _ _ (t1_body H)) fun _ => ?_
    exact .pure _
  · exact .pure _

theorem part152 {v31} {c2_i32_8} {v32} {v37} {v38} :
    Keeps (F := F) c R (k0_part152 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v31 c2_i32_8 v32 v37 v38) := by
  rw [k0_part152_eq_skeleton]
  unfold k0_part152_skel
  refine .bind (.load H.r3 _ _) ?_; intro _
  exact .pure _

theorem part153 {v51} {v54} {v62} {v66} {v69} {v73} {v76} {v80} :
    Keeps (F := F) c R (k0_part153 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v51 v54 v62 v66 v69 v73 v76 v80) := by
  rw [k0_part153_eq_skeleton]
  unfold k0_part153_skel
  refine .bind (.load H.r4 _ _) ?_; intro _
  refine .bind (.load H.r2 _ _) ?_; intro _
  exact .pure _

theorem part154 {v54} {v59} {v106} {v107} {v123} {v124} :
    Keeps (F := F) c R (k0_part154 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v54 v59 v106 v107 v123 v124) := by
  rw [k0_part154_eq_skeleton]
  unfold k0_part154_skel
  refine .bind (.load H.r6 _ _) ?_; intro _
  refine .bind (.load H.r6 _ _) ?_; intro _
  exact .pure _

theorem part155 {v54} {v59} {v106} {v167} {cst_60} :
    Keeps (F := F) c R (k0_part155 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v54 v59 v106 v167 cst_60) := by
  rw [k0_part155_eq_skeleton]
  unfold k0_part155_skel
  refine .bind (.load H.r6 _ _) ?_; intro _
  exact .pure _

theorem part156 {v54} {v59} {v106} {v138} {v142} {v174} {v178} {v206} {v210} :
    Keeps (F := F) c R (k0_part156 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v54 v59 v106 v138 v142 v174 v178 v206 v210) := by
  rw [k0_part156_eq_skeleton]
  unfold k0_part156_skel
  refine .bind (.load H.r6 _ _) ?_; intro _
  exact .pure _

theorem t2_body {arg1} {v0} {v4} {v48} {v89} {v103} {v252} {c0_i32_95} k a :
    Keeps (F := F) c R (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v0 v4 v48 v89 v103 v252 c0_i32_95 k a) := by
  unfold k0_t2_body
  refine .bind (part45 H) ?_; rintro ⟨_, _, _, _, _, _⟩
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  exact .pure _

theorem t3_body {arg1} {v0} {v4} {v48} {v89} {v103} {v252} {c0_i32_95} {v257} k a :
    Keeps (F := F) c R (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v0 v4 v48 v89 v103 v252 c0_i32_95 v257 k a) := by
  unfold k0_t3_body
  refine .bind (part89 H) ?_; rintro ⟨_, _, _, _, _, _⟩
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r17 _ _) ?_; intro _
  refine .bind (.store H.w17 _ _ _ _ _) fun _ => ?_
  exact .pure _

theorem part157 {arg1} {v0} {v4} {v48} {v89} {v103} {v252} {c0_i32_95} :
    Keeps (F := F) c R (k0_part157 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v0 v4 v48 v89 v103 v252 c0_i32_95) := by
  rw [k0_part157_eq_skeleton]
  unfold k0_part157_skel
  refine .bind (.loop _ _ _ _ (t2_body H)) fun _ => ?_
  refine .bind (.loop _ _ _ _ (t3_body H)) fun _ => ?_
  refine .bind (.load H.r19 _ _) ?_; intro _
  refine .bind (.store H.w19 _ _ _ _ _) fun _ => ?_
  refine .bind (.load H.r20 _ _) ?_; intro _
  refine .bind (.store H.w20 _ _ _ _ _) fun _ => ?_
  refine .bind (.load H.r21 _ _) ?_; intro _
  refine .bind (.store H.w21 _ _ _ _ _) fun _ => ?_
  refine .dite (fun _ => ?_) (fun _ => ?_)
  · refine .bind (part95 H) ?_; rintro ⟨_, _, _, _, _, _, _, _⟩
    refine .bind (part96 H) ?_; rintro ⟨_, _, _, _, _, _, _, _, _⟩
    refine .bind (part97 H) ?_; rintro ⟨_, _, _, _, _⟩
    refine .bind (part98 H) ?_; intro _
    refine .bind (part99 H) ?_; rintro ⟨_, _, _, _, _⟩
    refine .bind (part100 H) ?_; rintro ⟨_, _, _, _, _⟩
    refine .bind (.store H.w19 _ _ _ _ _) fun _ => ?_
    refine .bind (.load H.r20 _ _) ?_; intro _
    refine .bind (.store H.w20 _ _ _ _ _) fun _ => ?_
    refine .bind (.load H.r21 _ _) ?_; intro _
    refine .bind (.store H.w21 _ _ _ _ _) fun _ => ?_
    refine .bind (.load H.r19 _ _) ?_; intro _
    refine .bind (.load H.r20 _ _) ?_; intro _
    exact .pure _
  · refine .bind (.load H.r19 _ _) ?_; intro _
    refine .bind (.load H.r20 _ _) ?_; intro _
    exact .pure _

end Cert.Kernel.Dsa

end
-- ==== Proof.Parts3.lean ====
/-
  THE BODY'S PARTS, 3: each part and each loop's trip keeps the twenty-one buffers. One statement of the part
  is one step of its proof.
-/
module

public import proofs.«01_k».proof.Proof.Parts2

@[expose] public section

set_option maxRecDepth 65536

noncomputable section

namespace Cert.Kernel.Dsa

open Idealize.ShloMosaic Idealize.ShloMosaic.TcCoe
open Idealize.SL Idealize.SL.RA Idealize.SL.BI
open Cert.Kernel Cert.Kernel.Gen

variable {F : FTy → Type} [BitOps F]

variable {c : Dev nD} {R : Res F} {i : grid0.Coords}
  {arg2 : Memref sig .tc .vmem S1x128x512 .bf16} {arg3 : Memref sig .tc .vmem S1x128x512 .bf16} {arg4 : Memref sig .tc .vmem S1x128x128 .f32} {arg5 : Memref sig .tc .vmem S1x128x512 .bf16} {arg6 : Memref sig .tc .vmem S1x128 .f32} {arg7 : Memref sig .tc .vmem S1x4096x128 .bf16} {arg8 : Memref sig .tc .vmem S1x4096x128 .bf16} {arg9 : Memref sig .tc .vmem S1x4096x128 .bf16} {arg10 : Memref sig .tc .vmem S1x128 .f32} {arg11 : Memref sig .tc .vmem S256x256 .bf16} {arg12 : Memref sig .tc .vmem S1x128x512 .bf16} {arg13 : Memref sig .tc .vmem S16x256x128 .bf16} {arg14 : Memref sig .tc .vmem S16x128x256 .bf16} {arg15 : Memref sig .tc .vmem S16x256x128 .bf16} {arg16 : Memref sig .tc .vmem S16x256x128 .i32} {arg17 : Memref sig .tc .vmem S16x32x8x128 .i32} {arg18 : Memref sig .tc .vmem S16x256x1024 .f32} {arg19 : Memref sig .tc .vmem S8x128 .i32} {arg20 : Memref sig .tc .vmem S8x128 .f32} {arg21 : Memref sig .tc .vmem S8x128 .f32} {arg22 : Memref sig .tc .vmem S128x1024 .f32}
  {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} {harg22 : arg22.IsWhole}
  (H : Access c R arg2 arg3 arg4 arg5 arg6 arg7 arg8 arg9 arg10 arg11 arg12 arg13 arg14 arg15 arg16 arg17 arg18 arg19 arg20 arg21 arg22)
include H

theorem t5_body {v48} {v275} {v276} {v277} {v278} {v279} {v280} {v281} k a :
    Keeps (F := F) c R (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v48 v275 v276 v277 v278 v279 v280 v281 k a) := by
  obtain ⟨_, _, _, _, _, _, _, _⟩ := a
  unfold k0_t5_body
  refine .bind (part110 H) ?_; rintro ⟨_, _, _, _, _, _, _, _, _⟩
  refine .bind (.load H.r16 _ _) ?_; intro _
  refine .bind (.store H.w16 _ _ _ _ _) fun _ => ?_
  exact .pure _

theorem t6_body {v48} {v275} {v276} {v277} {v278} {v279} {v280} {v281} {v389} k a :
    Keeps (F := F) c R (k0_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v48 v275 v276 v277 v278 v279 v280 v281 v389 k a) := by
  obtain ⟨_, _, _, _, _, _, _, _⟩ := a
  unfold k0_t6_body
  refine .bind (part120 H) ?_; rintro ⟨_, _, _, _, _, _, _, _, _⟩
  refine .bind (.load H.r16 _ _) ?_; intro _
  refine .bind (.store H.w16 _ _ _ _ _) fun _ => ?_
  exact .pure _

theorem t7_body {v48} {v275} {v276} {v277} {v278} {v279} {v280} {v281} k a :
    Keeps (F := F) c R (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v48 v275 v276 v277 v278 v279 v280 v281 k a) := by
  obtain ⟨_, _, _, _, _, _, _, _, _⟩ := a
  unfold k0_t7_body
  refine .bind (part121 H) ?_; rintro ⟨_, _, _, _, _, _, _, _, _, _, _, _, _, _, _, _, _, _, _, _, _, _, _, _, _, _, _, _, _⟩
  refine .bind (part122 H) ?_; rintro ⟨_, _, _, _, _, _, _, _, _, _, _, _, _, _, _⟩
  refine .bind (part123 H) ?_; rintro ⟨_, _, _⟩
  refine .bind (part124 H) ?_; rintro ⟨_, _, _⟩
  refine .bind (part125 H) ?_; rintro ⟨_, _, _, _, _, _, _, _, _, _, _, _, _, _, _, _⟩
  refine .bind (part126 H) ?_; rintro ⟨_, _, _, _, _, _, _, _, _, _, _, _, _, _, _, _, _, _, _, _, _, _, _, _, _, _, _, _⟩
  refine .bind (part127 H) ?_; rintro ⟨_, _, _, _, _, _, _, _, _, _, _, _, _, _, _, _, _, _, _, _, _, _, _, _, _, _, _⟩
  refine .bind (part128 H) ?_; rintro ⟨_, _, _, _, _, _, _, _, _, _, _, _, _, _, _⟩
  refine .bind (part129 H) ?_; rintro ⟨_, _, _⟩
  refine .bind (part130 H) ?_; rintro ⟨_, _, _⟩
  refine .bind (part131 H) ?_; rintro ⟨_, _, _, _, _, _, _, _, _, _, _, _, _, _, _, _, _, _, _, _⟩
  exact .pure _

theorem t8_body {v48} {v275} {v276} {v277} {v278} {v279} {v280} {v281} {v390} k a :
    Keeps (F := F) c R (k0_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v48 v275 v276 v277 v278 v279 v280 v281 v390 k a) := by
  obtain ⟨_, _, _, _, _, _, _, _, _⟩ := a
  unfold k0_t8_body
  refine .bind (part132 H) ?_; rintro ⟨_, _, _, _, _, _, _, _, _, _, _, _, _, _, _, _, _, _, _, _, _, _, _, _, _, _, _, _, _⟩
  refine .bind (part133 H) ?_; rintro ⟨_, _, _, _, _, _, _, _, _, _, _, _, _, _, _⟩
  refine .bind (part134 H) ?_; rintro ⟨_, _, _⟩
  refine .bind (part135 H) ?_; rintro ⟨_, _, _⟩
  refine .bind (part136 H) ?_; rintro ⟨_, _, _, _, _, _, _, _, _, _, _, _, _, _, _, _⟩
  refine .bind (part137 H) ?_; rintro ⟨_, _, _, _, _, _, _, _, _, _, _, _, _, _, _, _, _, _, _, _, _, _, _, _, _, _, _, _⟩
  refine .bind (part138 H) ?_; rintro ⟨_, _, _, _, _, _, _, _, _, _, _, _, _, _, _, _, _, _, _, _, _, _, _, _, _, _, _⟩
  refine .bind (part139 H) ?_; rintro ⟨_, _, _, _, _, _, _, _, _, _, _, _, _, _, _⟩
  refine .bind (part140 H) ?_; rintro ⟨_, _, _⟩
  refine .bind (part141 H) ?_; rintro ⟨_, _, _⟩
  refine .bind (part142 H) ?_; rintro ⟨_, _, _, _, _, _, _, _, _, _, _, _, _, _, _, _, _, _, _, _⟩
  exact .pure _

theorem part158 {v48} {v275} {v276} {v277} {v278} {v279} {v280} {v281} :
    Keeps (F := F) c R (k0_part158 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v48 v275 v276 v277 v278 v279 v280 v281) := by
  rw [k0_part158_eq_skeleton]
  unfold k0_part158_skel
  refine .bind (.load H.r21 _ _) ?_; intro _
  refine .ite ?_ ?_
  · refine .bind (.loop _ _ _ _ (t5_body H)) ?_; rintro ⟨_, _, _, _, _, _, _, _⟩
    refine .bind (.loop _ _ _ _ (t6_body H)) ?_; rintro ⟨_, _, _, _, _, _, _, _⟩
    refine .bind (.pure _) ?_; rintro ⟨_, _, _, _, _, _, _, _⟩
    refine .bind (.load H.r22 _ _) ?_; intro _
    refine .bind (.store H.w22 _ _ _ _ _) fun _ => ?_
    exact .pure _
  · refine .bind (.loop _ _ _ _ (t7_body H)) ?_; rintro ⟨_, _, _, _, _, _, _, _, _⟩
    refine .bind (.loop _ _ _ _ (t8_body H)) ?_; rintro ⟨_, _, _, _, _, _, _, _, _⟩
    refine .bind (.pure _) ?_; rintro ⟨_, _, _, _, _, _, _, _⟩
    refine .bind (.load H.r22 _ _) ?_; intro _
    refine .bind (.store H.w22 _ _ _ _ _) fun _ => ?_
    exact .pure _

theorem t9_body {v295} {v297} {v299} {v301} {v303} {v305} {v307} {v309} {c0_i32_139} {v318} k a :
    Keeps (F := F) c R (k0_t9_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v295 v297 v299 v301 v303 v305 v307 v309 c0_i32_139 v318 k a) := by
  unfold k0_t9_body
  refine .bind (part143 H) ?_; rintro ⟨_, _, _, _, _, _, _, _⟩
  refine .bind (part144 H) ?_; intro _
  refine .bind (part145 H) ?_; rintro ⟨_, _, _, _, _, _⟩
  refine .bind (part146 H) ?_; intro _
  refine .bind (.store H.w22 _ _ _ _ _) fun _ => ?_
  exact .pure _

theorem t10_body {v295} {v297} {v299} {v301} {v303} {v305} {v307} {v309} {c0_i32_139} {v318} k a :
    Keeps (F := F) c R (k0_t10_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v295 v297 v299 v301 v303 v305 v307 v309 c0_i32_139 v318 k a) := by
  unfold k0_t10_body
  refine .bind (part147 H) ?_; rintro ⟨_, _, _, _, _, _, _, _⟩
  refine .bind (part148 H) ?_; intro _
  refine .bind (part149 H) ?_; rintro ⟨_, _, _, _, _, _⟩
  refine .bind (part150 H) ?_; intro _
  refine .bind (.store H.w22 _ _ _ _ _) fun _ => ?_
  exact .pure _

theorem part159 {v295} {v297} {v299} {v301} {v303} {v305} {v307} {v309} {c0_i32_139} {v318} :
    Keeps (F := F) c R (k0_part159 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v295 v297 v299 v301 v303 v305 v307 v309 c0_i32_139 v318) := by
  rw [k0_part159_eq_skeleton]
  unfold k0_part159_skel
  refine .bind (.loop _ _ _ _ (t9_body H)) fun _ => ?_
  refine .bind (.loop _ _ _ _ (t10_body H)) fun _ => ?_
  refine .bind (.load H.r22 _ _) ?_; intro _
  refine .bind (.load H.r22 _ _) ?_; intro _
  refine .bind (.load H.r22 _ _) ?_; intro _
  refine .bind (.load H.r22 _ _) ?_; intro _
  refine .bind (.load H.r22 _ _) ?_; intro _
  refine .bind (.load H.r22 _ _) ?_; intro _
  refine .bind (.load H.r22 _ _) ?_; intro _
  exact .pure _

theorem root :
    Keeps (F := F) c R (cc0_dsa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := by
  rw [cc0_dsa_eq_skeleton]
  unfold cc0_dsa_skel
  refine .bind (part151 H) ?_; rintro ⟨_, _, _, _, _, _, _, _⟩
  refine .bind (part152 H) ?_; rintro ⟨_, _, _, _, _, _, _, _, _, _⟩
  refine .bind (part153 H) ?_; rintro ⟨_, _, _, _, _, _⟩
  refine .bind (part154 H) ?_; rintro ⟨_, _, _, _⟩
  refine .bind (part155 H) ?_; rintro ⟨_, _, _, _⟩
  refine .bind (part156 H) ?_; rintro ⟨_, _⟩
  refine .bind (part157 H) ?_; rintro ⟨_, _, _, _, _, _, _⟩
  refine .bind (part158 H) ?_; rintro ⟨_, _, _, _, _, _, _, _, _, _⟩
  refine .bind (part159 H) ?_; rintro ⟨_, _, _, _, _, _, _⟩
  refine .bind (.load H.r22 _ _) ?_; intro _
  refine .bind (.load H.r5 _ _) ?_; intro _
  refine .bind (.load H.r12 _ _) ?_; intro _
  refine .bind (.store H.w12 _ _ _ _ _) fun _ => ?_
  exact .pure _

end Cert.Kernel.Dsa

end
-- ==== Proof.DsaFrame.lean ====
/-
  THE FRAME OF THE SELECTION KERNEL. At a grid point the pipeline hands the body its ten staged inputs at their
  blocks, the result's buffer and the ten scratch buffers at anything; the body keeps all of them (`root`), so
  every argument array ends as it was and every counter ends at zero. The result's contents are not named.
-/
module

public import proofs.«01_k».proof.Proof.Parts3
public import Idealize.ShloMosaic.Adequacy
public import Idealize.ShloMosaic.Init

@[expose] public section

set_option maxRecDepth 65536

noncomputable section

namespace Cert.Kernel.Dsa

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [BitOps F]
variable (m : (ℓ : Loc nD τ sig) → Buf (Elt F) ℓ)

/-- The proof data: each input's buffer holds its block before and after every point; the result's contents are
    left unnamed; the scratch is held at some contents. -/
def dats (_ : Fin 1) (c : Dev nD) : Dat τ (Elt F) Unit ℕ (UR sig nD τ) ℕ cfg0 c where
  A w := V m c (Pipeline.arrRef spec0 w)
  after w t := match w with
    | 0 => X0_0 m c t
    | 1 => X0_1 m c t
    | 2 => iblk m c 2 t
    | 3 => X0_3 m c t
    | 4 => iblk m c 4 t
    | 5 => iblk m c 5 t
    | 6 => iblk m c 6 t
    | 7 => iblk m c 7 t
    | 8 => iblk m c 8 t
    | 9 => iblk m c 9 t
    | 10 => fun _ => Classical.arbitrary _
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = X0_3 m c t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem before_0 (c : Dev nD) (t : Fin cfg0.N) (d) : (dats m 0 c).before 0 t d = X0_0 m c t :=
  before0_0_of m (dats m 0 c) (A_eq m c 0) (fun t => after_0 m c t) t d
theorem before_1 (c : Dev nD) (t : Fin cfg0.N) (d) : (dats m 0 c).before 1 t d = X0_1 m c t :=
  before0_1_of m (dats m 0 c) (A_eq m c 1) (fun t => after_1 m c t) t d
theorem before_2 (c : Dev nD) (t : Fin cfg0.N) (d) : (dats m 0 c).before 2 t d = iblk m c 2 t :=
  before0_2_of m (dats m 0 c) (A_eq m c 2) (fun t => after_2 m c t) t d
theorem before_3 (c : Dev nD) (t : Fin cfg0.N) (d) : (dats m 0 c).before 3 t d = X0_3 m c t :=
  before0_3_of m (dats m 0 c) (A_eq m c 3) (fun t => after_3 m c t) t d
theorem before_4 (c : Dev nD) (t : Fin cfg0.N) (d) : (dats m 0 c).before 4 t d = iblk m c 4 t :=
  before0_4_of m (dats m 0 c) (A_eq m c 4) (fun t => after_4 m c t) t d
theorem before_5 (c : Dev nD) (t : Fin cfg0.N) (d) : (dats m 0 c).before 5 t d = iblk m c 5 t :=
  before0_5_of m (dats m 0 c) (A_eq m c 5) (fun t => after_5 m c t) t d
theorem before_6 (c : Dev nD) (t : Fin cfg0.N) (d) : (dats m 0 c).before 6 t d = iblk m c 6 t :=
  before0_6_of m (dats m 0 c) (A_eq m c 6) (fun t => after_6 m c t) t d
theorem before_7 (c : Dev nD) (t : Fin cfg0.N) (d) : (dats m 0 c).before 7 t d = iblk m c 7 t :=
  before0_7_of m (dats m 0 c) (A_eq m c 7) (fun t => after_7 m c t) t d
theorem before_8 (c : Dev nD) (t : Fin cfg0.N) (d) : (dats m 0 c).before 8 t d = iblk m c 8 t :=
  before0_8_of m (dats m 0 c) (A_eq m c 8) (fun t => after_8 m c t) t d
theorem before_9 (c : Dev nD) (t : Fin cfg0.N) (d) : (dats m 0 c).before 9 t d = iblk m c 9 t :=
  before0_9_of m (dats m 0 c) (A_eq m c 9) (fun t => after_9 m c t) t d

/-- What a body holds over any memrefs of the body's shapes: the scratch, two more resources, the inputs at their
    blocks and the result's buffer at anything. -/
def heldAt (c : Dev nD) (P O : Res F) (M2 : Memref sig .tc .vmem S1x128x512 .bf16) (M3 : Memref sig .tc .vmem S1x128x512 .bf16) (M4 : Memref sig .tc .vmem S1x128x128 .f32) (M5 : Memref sig .tc .vmem S1x128x512 .bf16) (M6 : Memref sig .tc .vmem S1x128 .f32) (M7 : Memref sig .tc .vmem S1x4096x128 .bf16) (M8 : Memref sig .tc .vmem S1x4096x128 .bf16) (M9 : Memref sig .tc .vmem S1x4096x128 .bf16) (M10 : Memref sig .tc .vmem S1x128 .f32) (M11 : Memref sig .tc .vmem S256x256 .bf16) (M12 : Memref sig .tc .vmem S1x128x512 .bf16) (M13 : Memref sig .tc .vmem S16x256x128 .bf16) (M14 : Memref sig .tc .vmem S16x128x256 .bf16) (M15 : Memref sig .tc .vmem S16x256x128 .bf16) (M16 : Memref sig .tc .vmem S16x256x128 .i32) (M17 : Memref sig .tc .vmem S16x32x8x128 .i32) (M18 : Memref sig .tc .vmem S16x256x1024 .f32) (M19 : Memref sig .tc .vmem S8x128 .i32) (M20 : Memref sig .tc .vmem S8x128 .f32) (M21 : Memref sig .tc .vmem S8x128 .f32) (M22 : Memref sig .tc .vmem S128x1024 .f32)
    (X2 : S1x128x512.Idx → Elt F .bf16) (X3 : S1x128x512.Idx → Elt F .bf16) (X4 : S1x128x128.Idx → Elt F .f32) (X5 : S1x128x512.Idx → Elt F .bf16) (X6 : S1x128.Idx → Elt F .f32) (X7 : S1x4096x128.Idx → Elt F .bf16) (X8 : S1x4096x128.Idx → Elt F .bf16) (X9 : S1x4096x128.Idx → Elt F .bf16) (X10 : S1x128.Idx → Elt F .f32) (X11 : S256x256.Idx → Elt F .bf16) : Res F :=
  iprop((((∃ f : Buf (Elt F) (M13.view.loc (c : Thread nD τ)), (M13.view.loc (c : Thread nD τ)) ↦{fullShare} f)
      ∗ (∃ f : Buf (Elt F) (M14.view.loc (c : Thread nD τ)), (M14.view.loc (c : Thread nD τ)) ↦{fullShare} f)
      ∗ (∃ f : Buf (Elt F) (M15.view.loc (c : Thread nD τ)), (M15.view.loc (c : Thread nD τ)) ↦{fullShare} f)
      ∗ (∃ f : Buf (Elt F) (M16.view.loc (c : Thread nD τ)), (M16.view.loc (c : Thread nD τ)) ↦{fullShare} f)
      ∗ (∃ f : Buf (Elt F) (M17.view.loc (c : Thread nD τ)), (M17.view.loc (c : Thread nD τ)) ↦{fullShare} f)
      ∗ (∃ f : Buf (Elt F) (M18.view.loc (c : Thread nD τ)), (M18.view.loc (c : Thread nD τ)) ↦{fullShare} f)
      ∗ (∃ f : Buf (Elt F) (M19.view.loc (c : Thread nD τ)), (M19.view.loc (c : Thread nD τ)) ↦{fullShare} f)
      ∗ (∃ f : Buf (Elt F) (M20.view.loc (c : Thread nD τ)), (M20.view.loc (c : Thread nD τ)) ↦{fullShare} f)
      ∗ (∃ f : Buf (Elt F) (M21.view.loc (c : Thread nD τ)), (M21.view.loc (c : Thread nD τ)) ↦{fullShare} f)
      ∗ (∃ f : Buf (Elt F) (M22.view.loc (c : Thread nD τ)), (M22.view.loc (c : Thread nD τ)) ↦{fullShare} f))
      ∗ P)
    ∗ O
    ∗ owns (c : Thread nD τ) M2 fullShare X2
    ∗ owns (c : Thread nD τ) M3 fullShare X3
    ∗ owns (c : Thread nD τ) M4 fullShare X4
    ∗ owns (c : Thread nD τ) M5 fullShare X5
    ∗ owns (c : Thread nD τ) M6 fullShare X6
    ∗ owns (c : Thread nD τ) M7 fullShare X7
    ∗ owns (c : Thread nD τ) M8 fullShare X8
    ∗ owns (c : Thread nD τ) M9 fullShare X9
    ∗ owns (c : Thread nD τ) M10 fullShare X10
    ∗ owns (c : Thread nD τ) M11 fullShare X11
    ∗ ∃ X, owns (c : Thread nD τ) M12 fullShare X)

section Reach

variable {c : Dev nD} {P O : Res F} {M2 : Memref sig .tc .vmem S1x128x512 .bf16} {M3 : Memref sig .tc .vmem S1x128x512 .bf16} {M4 : Memref sig .tc .vmem S1x128x128 .f32} {M5 : Memref sig .tc .vmem S1x128x512 .bf16} {M6 : Memref sig .tc .vmem S1x128 .f32} {M7 : Memref sig .tc .vmem S1x4096x128 .bf16} {M8 : Memref sig .tc .vmem S1x4096x128 .bf16} {M9 : Memref sig .tc .vmem S1x4096x128 .bf16} {M10 : Memref sig .tc .vmem S1x128 .f32} {M11 : Memref sig .tc .vmem S256x256 .bf16} {M12 : Memref sig .tc .vmem S1x128x512 .bf16} {M13 : Memref sig .tc .vmem S16x256x128 .bf16} {M14 : Memref sig .tc .vmem S16x128x256 .bf16} {M15 : Memref sig .tc .vmem S16x256x128 .bf16} {M16 : Memref sig .tc .vmem S16x256x128 .i32} {M17 : Memref sig .tc .vmem S16x32x8x128 .i32} {M18 : Memref sig .tc .vmem S16x256x1024 .f32} {M19 : Memref sig .tc .vmem S8x128 .i32} {M20 : Memref sig .tc .vmem S8x128 .f32} {M21 : Memref sig .tc .vmem S8x128 .f32} {M22 : Memref sig .tc .vmem S128x1024 .f32}
  {X2 : S1x128x512.Idx → Elt F .bf16} {X3 : S1x128x512.Idx → Elt F .bf16} {X4 : S1x128x128.Idx → Elt F .f32} {X5 : S1x128x512.Idx → Elt F .bf16} {X6 : S1x128.Idx → Elt F .f32} {X7 : S1x4096x128.Idx → Elt F .bf16} {X8 : S1x4096x128.Idx → Elt F .bf16} {X9 : S1x4096x128.Idx → Elt F .bf16} {X10 : S1x128.Idx → Elt F .f32} {X11 : S256x256.Idx → Elt F .bf16}

theorem reach2 : Reads (F := F) c (heldAt c P O M2 M3 M4 M5 M6 M7 M8 M9 M10 M11 M12 M13 M14 M15 M16 M17 M18 M19 M20 M21 M22 X2 X3 X4 X5 X6 X7 X8 X9 X10 X11) M2 := by
  unfold heldAt; exact .right (.right (.left (reads_owns M2 X2)))
theorem reach3 : Reads (F := F) c (heldAt c P O M2 M3 M4 M5 M6 M7 M8 M9 M10 M11 M12 M13 M14 M15 M16 M17 M18 M19 M20 M21 M22 X2 X3 X4 X5 X6 X7 X8 X9 X10 X11) M3 := by
  unfold heldAt; exact .right (.right (.right (.left (reads_owns M3 X3))))
theorem reach4 : Reads (F := F) c (heldAt c P O M2 M3 M4 M5 M6 M7 M8 M9 M10 M11 M12 M13 M14 M15 M16 M17 M18 M19 M20 M21 M22 X2 X3 X4 X5 X6 X7 X8 X9 X10 X11) M4 := by
  unfold heldAt; exact .right (.right (.right (.right (.left (reads_owns M4 X4)))))
theorem reach5 : Reads (F := F) c (heldAt c P O M2 M3 M4 M5 M6 M7 M8 M9 M10 M11 M12 M13 M14 M15 M16 M17 M18 M19 M20 M21 M22 X2 X3 X4 X5 X6 X7 X8 X9 X10 X11) M5 := by
  unfold heldAt; exact .right (.right (.right (.right (.right (.left (reads_owns M5 X5))))))
theorem reach6 : Reads (F := F) c (heldAt c P O M2 M3 M4 M5 M6 M7 M8 M9 M10 M11 M12 M13 M14 M15 M16 M17 M18 M19 M20 M21 M22 X2 X3 X4 X5 X6 X7 X8 X9 X10 X11) M6 := by
  unfold heldAt; exact .right (.right (.right (.right (.right (.right (.left (reads_owns M6 X6)))))))
theorem reach7 : Reads (F := F) c (heldAt c P O M2 M3 M4 M5 M6 M7 M8 M9 M10 M11 M12 M13 M14 M15 M16 M17 M18 M19 M20 M21 M22 X2 X3 X4 X5 X6 X7 X8 X9 X10 X11) M7 := by
  unfold heldAt; exact .right (.right (.right (.right (.right (.right (.right (.left (reads_owns M7 X7))))))))
theorem reach8 : Reads (F := F) c (heldAt c P O M2 M3 M4 M5 M6 M7 M8 M9 M10 M11 M12 M13 M14 M15 M16 M17 M18 M19 M20 M21 M22 X2 X3 X4 X5 X6 X7 X8 X9 X10 X11) M8 := by
  unfold heldAt; exact .right (.right (.right (.right (.right (.right (.right (.right (.left (reads_owns M8 X8)))))))))
theorem reach9 : Reads (F := F) c (heldAt c P O M2 M3 M4 M5 M6 M7 M8 M9 M10 M11 M12 M13 M14 M15 M16 M17 M18 M19 M20 M21 M22 X2 X3 X4 X5 X6 X7 X8 X9 X10 X11) M9 := by
  unfold heldAt; exact .right (.right (.right (.right (.right (.right (.right (.right (.right (.left (reads_owns M9 X9))))))))))
theorem reach10 : Reads (F := F) c (heldAt c P O M2 M3 M4 M5 M6 M7 M8 M9 M10 M11 M12 M13 M14 M15 M16 M17 M18 M19 M20 M21 M22 X2 X3 X4 X5 X6 X7 X8 X9 X10 X11) M10 := by
  unfold heldAt; exact .right (.right (.right (.right (.right (.right (.right (.right (.right (.right (.left (reads_owns M10 X10)))))))))))
theorem reach11 : Reads (F := F) c (heldAt c P O M2 M3 M4 M5 M6 M7 M8 M9 M10 M11 M12 M13 M14 M15 M16 M17 M18 M19 M20 M21 M22 X2 X3 X4 X5 X6 X7 X8 X9 X10 X11) M11 := by
  unfold heldAt; exact .right (.right (.right (.right (.right (.right (.right (.right (.right (.right (.right (.left (reads_owns M11 X11))))))))))))
theorem reach12 : Writes (F := F) c (heldAt c P O M2 M3 M4 M5 M6 M7 M8 M9 M10 M11 M12 M13 M14 M15 M16 M17 M18 M19 M20 M21 M22 X2 X3 X4 X5 X6 X7 X8 X9 X10 X11) M12 := by
  unfold heldAt; exact .right (.right (.right (.right (.right (.right (.right (.right (.right (.right (.right (.right (writes_owns M12))))))))))))
theorem reach13 (h : M13.view.set = Finset.univ) : Writes (F := F) c (heldAt c P O M2 M3 M4 M5 M6 M7 M8 M9 M10 M11 M12 M13 M14 M15 M16 M17 M18 M19 M20 M21 M22 X2 X3 X4 X5 X6 X7 X8 X9 X10 X11) M13 := by
  unfold heldAt; exact .left (.left (.left (writes_whole M13 h)))
theorem reach14 (h : M14.view.set = Finset.univ) : Writes (F := F) c (heldAt c P O M2 M3 M4 M5 M6 M7 M8 M9 M10 M11 M12 M13 M14 M15 M16 M17 M18 M19 M20 M21 M22 X2 X3 X4 X5 X6 X7 X8 X9 X10 X11) M14 := by
  unfold heldAt; exact .left (.left (.right (.left (writes_whole M14 h))))
theorem reach15 (h : M15.view.set = Finset.univ) : Writes (F := F) c (heldAt c P O M2 M3 M4 M5 M6 M7 M8 M9 M10 M11 M12 M13 M14 M15 M16 M17 M18 M19 M20 M21 M22 X2 X3 X4 X5 X6 X7 X8 X9 X10 X11) M15 := by
  unfold heldAt; exact .left (.left (.right (.right (.left (writes_whole M15 h)))))
theorem reach16 (h : M16.view.set = Finset.univ) : Writes (F := F) c (heldAt c P O M2 M3 M4 M5 M6 M7 M8 M9 M10 M11 M12 M13 M14 M15 M16 M17 M18 M19 M20 M21 M22 X2 X3 X4 X5 X6 X7 X8 X9 X10 X11) M16 := by
  unfold heldAt; exact .left (.left (.right (.right (.right (.left (writes_whole M16 h))))))
theorem reach17 (h : M17.view.set = Finset.univ) : Writes (F := F) c (heldAt c P O M2 M3 M4 M5 M6 M7 M8 M9 M10 M11 M12 M13 M14 M15 M16 M17 M18 M19 M20 M21 M22 X2 X3 X4 X5 X6 X7 X8 X9 X10 X11) M17 := by
  unfold heldAt; exact .left (.left (.right (.right (.right (.right (.left (writes_whole M17 h)))))))
theorem reach18 (h : M18.view.set = Finset.univ) : Writes (F := F) c (heldAt c P O M2 M3 M4 M5 M6 M7 M8 M9 M10 M11 M12 M13 M14 M15 M16 M17 M18 M19 M20 M21 M22 X2 X3 X4 X5 X6 X7 X8 X9 X10 X11) M18 := by
  unfold heldAt; exact .left (.left (.right (.right (.right (.right (.right (.left (writes_whole M18 h))))))))
theorem reach19 (h : M19.view.set = Finset.univ) : Writes (F := F) c (heldAt c P O M2 M3 M4 M5 M6 M7 M8 M9 M10 M11 M12 M13 M14 M15 M16 M17 M18 M19 M20 M21 M22 X2 X3 X4 X5 X6 X7 X8 X9 X10 X11) M19 := by
  unfold heldAt; exact .left (.left (.right (.right (.right (.right (.right (.right (.left (writes_whole M19 h)))))))))
theorem reach20 (h : M20.view.set = Finset.univ) : Writes (F := F) c (heldAt c P O M2 M3 M4 M5 M6 M7 M8 M9 M10 M11 M12 M13 M14 M15 M16 M17 M18 M19 M20 M21 M22 X2 X3 X4 X5 X6 X7 X8 X9 X10 X11) M20 := by
  unfold heldAt; exact .left (.left (.right (.right (.right (.right (.right (.right (.right (.left (writes_whole M20 h))))))))))
theorem reach21 (h : M21.view.set = Finset.univ) : Writes (F := F) c (heldAt c P O M2 M3 M4 M5 M6 M7 M8 M9 M10 M11 M12 M13 M14 M15 M16 M17 M18 M19 M20 M21 M22 X2 X3 X4 X5 X6 X7 X8 X9 X10 X11) M21 := by
  unfold heldAt; exact .left (.left (.right (.right (.right (.right (.right (.right (.right (.right (.left (writes_whole M21 h)))))))))))
theorem reach22 (h : M22.view.set = Finset.univ) : Writes (F := F) c (heldAt c P O M2 M3 M4 M5 M6 M7 M8 M9 M10 M11 M12 M13 M14 M15 M16 M17 M18 M19 M20 M21 M22 X2 X3 X4 X5 X6 X7 X8 X9 X10 X11) M22 := by
  unfold heldAt; exact .left (.left (.right (.right (.right (.right (.right (.right (.right (.right (.right (writes_whole M22 h)))))))))))

/-- Over any such memrefs, the ten scratch ones whole, what is held reaches every buffer. -/
theorem accessAt (h13 : M13.view.set = Finset.univ) (h14 : M14.view.set = Finset.univ) (h15 : M15.view.set = Finset.univ) (h16 : M16.view.set = Finset.univ) (h17 : M17.view.set = Finset.univ) (h18 : M18.view.set = Finset.univ) (h19 : M19.view.set = Finset.univ) (h20 : M20.view.set = Finset.univ) (h21 : M21.view.set = Finset.univ) (h22 : M22.view.set = Finset.univ) :
    Access c (heldAt c P O M2 M3 M4 M5 M6 M7 M8 M9 M10 M11 M12 M13 M14 M15 M16 M17 M18 M19 M20 M21 M22 X2 X3 X4 X5 X6 X7 X8 X9 X10 X11) M2 M3 M4 M5 M6 M7 M8 M9 M10 M11 M12 M13 M14 M15 M16 M17 M18 M19 M20 M21 M22 :=
  ⟨reach2, reach3, reach4, reach5, reach6, reach7, reach8, reach9, reach10, reach11, reach12, reach13 h13, reach14 h14, reach15 h15, reach16 h16, reach17 h17, reach18 h18, reach19 h19, reach20 h20, reach21 h21, reach22 h22⟩

end Reach

/-- The result's window, the one whose contents are not named. -/
def forgotten : Fin cfg0.W → Bool := fun w => w == 10

/-- What the body holds at point `t`: the scratch, the generator register, what the core owes, the inputs at their
    blocks and the result's buffer at anything. -/
def held (c : Dev nD) (t : Fin cfg0.N) : Res F :=
  heldAt c iprop(∃ r, prngReg c r) ((dats m 0 c).owesAt () t.castSucc)
    (st0_0 t) (st0_1 t) (st0_2 t) (st0_3 t) (st0_4 t) (st0_5 t) (st0_6 t) (st0_7 t) (st0_8 t) (st0_9 t) (st0_10 t)
    (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9)
    (X0_0 m c t) (X0_1 m c t) (iblk m c 2 t) (X0_3 m c t) (iblk m c 4 t) (iblk m c 5 t) (iblk m c 6 t) (iblk m c 7 t) (iblk m c 8 t) (iblk m c 9 t)

/-- What is held reaches each of the twenty-one buffers. -/
theorem access (c : Dev nD) (t : Fin cfg0.N) : Access c (held m c t) (st0_0 t) (st0_1 t) (st0_2 t) (st0_3 t) (st0_4 t) (st0_5 t) (st0_6 t) (st0_7 t) (st0_8 t) (st0_9 t) (st0_10 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) := by
  unfold held
  exact accessAt (View.set_whole _) (View.set_whole _) (View.set_whole _) (View.set_whole _) (View.set_whole _) (View.set_whole _) (View.set_whole _) (View.set_whole _) (View.set_whole _) (View.set_whole _)

/-- The body ends holding what it began with. -/
theorem body_keeps (c : Dev nD) (t : Fin cfg0.N) :
    held m c t ⊢ wp frame (wpE (defs₀ (F := F)) Variants.none (c : Thread nD τ) none) Set.univ (bodyAt0 (F := F) t)
      (fun _ => held m c t) := by
  have h : Keeps (F := F) c (held m c t) (bodyAt0 (F := F) t) := root (access m c t)
  unfold Keeps at h
  exact h

/-- What the pipeline hands the body at point `t`, window by window, -/
def pre (c : Dev nD) (t : Fin cfg0.N) : Res F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ X, owns (c : Thread nD τ) (st0_10 t) fullShare X))

/-- and what it takes back. -/
def post (c : Dev nD) (t : Fin cfg0.N) : Res F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ X, owns (c : Thread nD τ) (st0_10 t) fullShare X))

theorem phi_eq (c : Dev nD) (t : Fin (cfg0.N + 1)) : (dats m 0 c).Φ t
    = iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)
      ∗ (∃ f : Buf (Elt F) ((c : Thread nD τ).loc cc0_scratch5), ((c : Thread nD τ).loc cc0_scratch5) ↦{fullShare} f)
      ∗ (∃ f : Buf (Elt F) ((c : Thread nD τ).loc cc0_scratch6), ((c : Thread nD τ).loc cc0_scratch6) ↦{fullShare} f)
      ∗ (∃ f : Buf (Elt F) ((c : Thread nD τ).loc cc0_scratch7), ((c : Thread nD τ).loc cc0_scratch7) ↦{fullShare} f)
      ∗ (∃ f : Buf (Elt F) ((c : Thread nD τ).loc cc0_scratch8), ((c : Thread nD τ).loc cc0_scratch8) ↦{fullShare} f)
      ∗ (∃ f : Buf (Elt F) ((c : Thread nD τ).loc cc0_scratch9), ((c : Thread nD τ).loc cc0_scratch9) ↦{fullShare} f))
      ∗ ∃ r, prngReg c r) := by
  show Pipeline.ΦA spec0 c = _
  unfold Pipeline.ΦA
  rw [scopedRest0_eq]

theorem pre_held (c : Dev nD) (t : Fin cfg0.N) : pre m c t ⊢ held m c t := by
  unfold pre held heldAt
  rw [phi_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
  isplitl [HΦ]; · iexact HΦ
  isplitl [Ho]; · iexact Ho
  isplitl [H0]; · rw [← before_0 m c t d0]; iexact H0
  isplitl [H1]; · rw [← before_1 m c t d1]; iexact H1
  isplitl [H2]; · rw [← before_2 m c t d2]; iexact H2
  isplitl [H3]; · rw [← before_3 m c t d3]; iexact H3
  isplitl [H4]; · rw [← before_4 m c t d4]; iexact H4
  isplitl [H5]; · rw [← before_5 m c t d5]; iexact H5
  isplitl [H6]; · rw [← before_6 m c t d6]; iexact H6
  isplitl [H7]; · rw [← before_7 m c t d7]; iexact H7
  isplitl [H8]; · rw [← before_8 m c t d8]; iexact H8
  isplitl [H9]; · rw [← before_9 m c t d9]; iexact H9
  iexact H10

theorem held_post (c : Dev nD) (t : Fin cfg0.N) : held m c t ⊢ post m c t := by
  unfold post held heldAt
  rw [phi_eq, show (dats m 0 c).owesAt () t.succ = (dats m 0 c).owesAt () t.castSucc from rfl]
  iintro ⟨HΦ, Ho, H0, H1, H2, H3, H4, H5, H6, H7, H8, H9, H10⟩
  isplitl [HΦ]; · iexact HΦ
  isplitl [Ho]; · iexact Ho
  isplitl [H0]; · rw [after_0 m c t]; iexact H0
  isplitl [H1]; · rw [after_1 m c t]; iexact H1
  isplitl [H2]; · rw [after_2 m c t]; iexact H2
  isplitl [H3]; · rw [after_3 m c t]; iexact H3
  isplitl [H4]; · rw [after_4 m c t]; iexact H4
  isplitl [H5]; · rw [after_5 m c t]; iexact H5
  isplitl [H6]; · rw [after_6 m c t]; iexact H6
  isplitl [H7]; · rw [after_7 m c t]; iexact H7
  isplitl [H8]; · rw [after_8 m c t]; iexact H8
  isplitl [H9]; · rw [after_9 m c t]; iexact H9
  iexact H10

/-- The body table's row at point `t`'s slots is the body. -/
theorem row (t : Fin cfg0.N) :
    defs₀ (F := F) .tc cfg0.body (cfg0.bodyArgs t (cfg0.slots t)) = bodyAt0 t := by
  unfold defs₀; rw [Defs.onTc_tc]

theorem obligation (c : Dev nD) :
    BodyObligation (dats m 0 c) (defs₀ (F := F)) Variants.none () Set.univ forgotten := fun t => by
  rw [bigSep_W0, bigSep_W0, row]
  exact triple_restated (body_keeps m c t) rfl (pre_held m c t) fun _ => held_post m c t

/-- The whole run, over any float values: the four arguments end unchanged and every counter ends at zero. -/
theorem run (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_forget_shared cfgs (dats m) 0 launch₀0 defs₀ Variants.none forgotten m g main
    (fun c => (obligation m c).loose) (fun _ _ _ => rfl) (fun _ _ => rfl) (V m) (hmain m Variants.none)
    (fun c w => A_eq m c w) (fun _ _ => rfl) (Q' := _)
    (fun _ h => ⟨fun c =>
      ⟨(h.1.arr_in c 7 rfl).trans ((A_eq m c 7).trans (V_main_arg0 m c)),
       (h.1.arr_in c 2 rfl).trans ((A_eq m c 2).trans (V_main_arg1 m c)),
       ((h.1 c).2 main_arg2 (Pipeline.mem_restRefs_of main_arg2 (by decide) (by decide))).trans (V_main_arg2 m c),
       ((h.1 c).2 main_arg3 (Pipeline.mem_restRefs_of main_arg3 (by decide) (by decide))).trans (V_main_arg3 m c)⟩,
      h.2⟩)

end Cert.Kernel.Dsa

end
-- ==== Proof.Spec.lean ====
/-
  The layer's two products over the model width, one token and one output column at a time, on extended reals: the
  row's root-mean-square norm, the gate of a branch, the branch's gated contribution, the sum of the five contributions
  taken through the output weights. Both the kernels' blocks and the reference's whole arrays are read as these.
-/
module

public import Idealize.ShloMosaic.Lib.Pointwise

@[expose] public section

noncomputable section

namespace Cert.Layer

open Idealize.ShloMosaic

/-- The number a 32-bit float word stands for. -/
abbrev lit (b : BitVec 32) : EReal := Ideal.ofBits .f32 b

/-- The batch a flattened token row belongs to, and its position there (4096 tokens a batch). -/
def bat (r : Fin 32768) : Fin 8 := ⟨r.val / 4096, by omega⟩
def pos (r : Fin 32768) : Fin 4096 := ⟨r.val % 4096, by omega⟩

/-- One entry of a token's normed row: the entry over the root of the row's mean square (plus 10⁻⁶), times the gain. -/
def normRow (x g : Fin 1024 → EReal) (k : Fin 1024) : EReal :=
  x k * Ideal.rsqrt (Ideal.div (∑ i, x i * x i) (lit 0x44800000#32) + lit 0x358637BD#32) * g k

/-- The logistic function, written as one over one plus an exponential. -/
def gate (v : EReal) : EReal := Ideal.div 1 (1 + Ideal.exp (-v))

/-- A branch's contribution to column `j` before the output weights: the gate of the normed row's product with the
    gate weights, times the branch output's product with the branch weights. -/
def term (h : Fin 1024 → EReal) (y : Fin 512 → EReal) (wg : Fin 1024 → Fin 1024 → EReal) (wb : Fin 512 → Fin 1024 → EReal)
    (j : Fin 1024) : EReal :=
  gate (∑ k, h k * wg k j) * ∑ k, y k * wb k j

/-- The five branches' contributions to column `j`, added in order. -/
def merged (h : Fin 1024 → EReal) (y : Fin 5 → Fin 512 → EReal) (wg : Fin 5 → Fin 1024 → Fin 1024 → EReal)
    (wb : Fin 5 → Fin 512 → Fin 1024 → EReal) (j : Fin 1024) : EReal :=
  term h (y 0) (wg 0) (wb 0) j + term h (y 1) (wg 1) (wb 1) j + term h (y 2) (wg 2) (wb 2) j
    + term h (y 3) (wg 3) (wb 3) j + term h (y 4) (wg 4) (wb 4) j

/-- The layer's result for one token and column `j`: the token's row plus the merged branches through the output weights. -/
def mergeRow (x g : Fin 1024 → EReal) (y : Fin 5 → Fin 512 → EReal) (wg : Fin 5 → Fin 1024 → Fin 1024 → EReal)
    (wb : Fin 5 → Fin 512 → Fin 1024 → EReal) (wo : Fin 1024 → Fin 1024 → EReal) (j : Fin 1024) : EReal :=
  x j + ∑ k, merged (normRow x g) y wg wb k * wo k j

/-- A token's normed row times one column of weights. -/
def projRow (x g : Fin 1024 → EReal) (w : Fin 1024 → EReal) : EReal := ∑ k, normRow x g k * w k

end Cert.Layer

end
-- ==== Proof.MergeBlock.lean ====
/-
  What one grid point of the merge computes: entry (i, j) of the block it writes is the layer's result for row i and
  column j, read from the blocks it was given.
-/
module

public import proofs.«01_k».proof.Proof.Gen.MergeIdeal.Frame
public import proofs.«01_k».proof.Proof.Spec

@[expose] public section

set_option maxRecDepth 16384

noncomputable section

namespace Cert.MergeIdeal.Block

open Cert.MergeIdeal Cert.MergeIdeal.Gen Cert.Layer Idealize.ShloMosaic

/-- The normed block, entry by entry. -/
theorem norm_apply (v0 : Vec Ideal S512x1024 .f32) (v2 : Vec Ideal S1x1024 .f32) (i : Fin 512) (k : Fin 1024) :
    k0_pay3 v0 v2 (ix2 i k) = normRow (fun a => v0 (ix2 i a)) (fun a => v2 (ix2 0 a)) k := by
  pointwise [k0_pay3, k0_pay2, normRow]

/-- The first branch's contribution. -/
theorem pay4_apply (v0 : Vec Ideal S512x1024 .f32) (v2 : Vec Ideal S1x1024 .f32) (v17 : Vec Ideal S1x1024x1024 .bf16)
    (v27 : Vec Ideal S512x512 .bf16) (v29 : Vec Ideal S1x512x1024 .bf16) (i : Fin 512) (j : Fin 1024) :
    k0_pay4 v0 v2 v17 v27 v29 (ix2 i j)
      = term (fun k => k0_pay3 v0 v2 (ix2 i k)) (fun k => v27 (ix2 i k)) (fun k l => v17 (ix3 0 k l)) (fun k l => v29 (ix3 0 k l)) j := by
  pointwise [k0_pay4, term, gate]
  simp only [zero_sub]

/-- The second and third branches' contributions, added to what came before. -/
theorem pay6_apply (h : FVec Ideal S512x1024 .bf16) (acc : FVec Ideal S512x1024 .f32) (g1 : Vec Ideal S1x1024x1024 .bf16)
    (y1 : Vec Ideal S512x512 .bf16) (b1 : Vec Ideal S1x512x1024 .bf16) (g2 : Vec Ideal S1x1024x1024 .bf16)
    (y2 : Vec Ideal S512x512 .bf16) (b2 : Vec Ideal S1x512x1024 .bf16) (i : Fin 512) (j : Fin 1024) :
    k0_pay6 h acc (k0_pay5 g1) (constant S512x1024 .f32 0x00000000#32) y1 b1 g2 y2 b2 (ix2 i j)
      = acc (ix2 i j)
        + term (fun k => h (ix2 i k)) (fun k => y1 (ix2 i k)) (fun k l => g1 (ix3 0 k l)) (fun k l => b1 (ix3 0 k l)) j
        + term (fun k => h (ix2 i k)) (fun k => y2 (ix2 i k)) (fun k l => g2 (ix3 0 k l)) (fun k l => b2 (ix3 0 k l)) j := by
  pointwise [k0_pay6, k0_pay5, term, gate]
  simp only [zero_sub]

/-- The fourth and fifth branches' contributions, added to what came before. -/
theorem pay8_apply (h : FVec Ideal S512x1024 .bf16) (acc : FVec Ideal S512x1024 .f32) (g1 : Vec Ideal S1x1024x1024 .bf16)
    (y1 : Vec Ideal S512x512 .bf16) (b1 : Vec Ideal S1x512x1024 .bf16) (g2 : Vec Ideal S1x1024x1024 .bf16)
    (y2 : Vec Ideal S512x512 .bf16) (b2 : Vec Ideal S1x512x1024 .bf16) (i : Fin 512) (j : Fin 1024) :
    k0_pay8 h acc (k0_pay7 g1) (constant S512x1024 .f32 0x00000000#32) y1 b1 g2 y2 b2 (ix2 i j)
      = acc (ix2 i j)
        + term (fun k => h (ix2 i k)) (fun k => y1 (ix2 i k)) (fun k l => g1 (ix3 0 k l)) (fun k l => b1 (ix3 0 k l)) j
        + term (fun k => h (ix2 i k)) (fun k => y2 (ix2 i k)) (fun k l => g2 (ix3 0 k l)) (fun k l => b2 (ix3 0 k l)) j := by
  pointwise [k0_pay8, k0_pay7, term, gate]
  simp only [zero_sub]

/-- The residual row plus the product with the output weights. -/
theorem pay1_apply (x : Vec Ideal S512x1024 .f32) (a : FVec Ideal S512x1024 .bf16) (wo : Vec Ideal S1024x1024 .bf16)
    (i : Fin 512) (j : Fin 1024) :
    k0_pay1 (k0_pay2 x) a (k0_pay9 wo) (constant S512x1024 .f32 0x00000000#32) (ix2 i j)
      = x (ix2 i j) + ∑ k : Fin 1024, a (ix2 i k) * wo (ix2 k j) := by
  pointwise [k0_pay1, k0_pay2, k0_pay9]

theorem corner : (![0, 0] : Fin 2 → Nat) = fun _ => 0 := funext fun a => by fin_cases a <;> rfl

/-- What the point writes, at row `i` and column `j`. -/
theorem out_apply (x0 : Vec Ideal S512x1024 .f32) (x1 : Vec Ideal S1x1024 .f32) (x2 x3 x4 x5 x6 : Vec Ideal S512x512 .bf16)
    (x7 : Vec Ideal S5x1024x1024 .bf16) (x8 : Vec Ideal S5x512x1024 .bf16) (x9 : Vec Ideal S1024x1024 .bf16)
    (i : Fin 512) (j : Fin 1024) :
    out0_10 x0 x1 x2 x3 x4 x5 x6 x7 x8 x9 (ix2 i j)
      = mergeRow (fun a => x0 (ix2 i a)) (fun a => x1 (ix2 0 a))
          ![fun k => x2 (ix2 i k), fun k => x3 (ix2 i k), fun k => x4 (ix2 i k), fun k => x5 (ix2 i k), fun k => x6 (ix2 i k)]
          (fun p k l => x7 (ix3 p k l)) (fun p k l => x8 (ix3 p k l)) (fun k l => x9 (ix2 k l)) j := by
  unfold_out out0_10
  rw [View.canon_unit_zero corner]
  repeat rw [View.ld_unit_zero corner]
  rw [pay1_apply]
  simp only [pay8_apply, pay6_apply, pay4_apply, norm_apply]
  pointwise [mergeRow, merged]

end Cert.MergeIdeal.Block

end
-- ==== Proof.MergeValue.lean ====
/-
  What the merge's result array holds after the run: row r, column j is the layer's result for that token and column,
  read from the arguments.
-/
module

public import proofs.«01_k».proof.Proof.Gen.MergeIdeal.Value
public import proofs.«01_k».proof.Proof.MergeBlock
public import Idealize.ShloMosaic.Lib.Pipeline.ValueKit

@[expose] public section

set_option maxRecDepth 16384

noncomputable section

namespace Cert.MergeIdeal.Whole

open Cert.MergeIdeal Cert.MergeIdeal.Gen Cert.Layer Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Device `c`'s result at row `r` and column `j`, from its arguments. -/
def entryAt (c : Dev nD) (r : Fin 32768) (j : Fin 1024) : EReal :=
  mergeRow (fun a => m ((c : Thread nD τ).loc main_arg0) (ix3 (bat r) (pos r) a)) (fun a => m ((c : Thread nD τ).loc main_arg1) (ix1 a))
    ![fun k => m ((c : Thread nD τ).loc main_arg2) (ix3 (bat r) (pos r) k), fun k => m ((c : Thread nD τ).loc main_arg3) (ix3 (bat r) (pos r) k),
      fun k => m ((c : Thread nD τ).loc main_arg4) (ix3 (bat r) (pos r) k), fun k => m ((c : Thread nD τ).loc main_arg5) (ix3 (bat r) (pos r) k),
      fun k => m ((c : Thread nD τ).loc main_arg6) (ix3 (bat r) (pos r) k)]
    (fun p k l => m ((c : Thread nD τ).loc main_arg7) (ix3 p k l)) (fun p k l => m ((c : Thread nD τ).loc main_arg8) (ix3 p k l))
    (fun k l => m ((c : Thread nD τ).loc main_arg9) (ix2 k l)) j

/-- The whole result array. -/
def result (c : Dev nD) : Buf (Elt Ideal) ((c : Thread nD τ).loc main_v10) :=
  fun i : S32768x1024.Idx => entryAt m c (i 0) (i 1)

/-- Where each window's block sits at grid point `t`: the rows' windows move with the point, the others stay. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0, 0] ∧ win0_8.index t = ![0, 0, 0] ∧ win0_9.index t = ![0, 0] ∧ win0_10.index t = ![t.val, 0] :=
  (by decide +kernel : ∀ t : Fin grid0.N, _)

/-! ## The windows' blocks, read as the arguments -/

theorem blk0 (c : Dev nD) (t : Fin cfg0.N) (i : Fin 512) (a : Fin 1024) (r : Fin 32768) (hr : r.val = t.val * 512 + i.val) :
    iblk m c 0 t (ix2 i a) = m ((c : Thread nD τ).loc main_arg0) (ix3 (bat r) (pos r) a) := by
  blk_simp [iblk]
  entry_read
  pointwise
  blk_ext [idx t, bat, pos]

theorem blk2 (c : Dev nD) (t : Fin cfg0.N) (i : Fin 512) (a : Fin 512) (r : Fin 32768) (hr : r.val = t.val * 512 + i.val) :
    iblk m c 2 t (ix2 i a) = m ((c : Thread nD τ).loc main_arg2) (ix3 (bat r) (pos r) a) := by
  blk_simp [iblk]
  entry_read
  pointwise
  blk_ext [idx t, bat, pos]

theorem blk3 (c : Dev nD) (t : Fin cfg0.N) (i : Fin 512) (a : Fin 512) (r : Fin 32768) (hr : r.val = t.val * 512 + i.val) :
    iblk m c 3 t (ix2 i a) = m ((c : Thread nD τ).loc main_arg3) (ix3 (bat r) (pos r) a) := by
  blk_simp [iblk]
  entry_read
  pointwise
  blk_ext [idx t, bat, pos]

theorem blk4 (c : Dev nD) (t : Fin cfg0.N) (i : Fin 512) (a : Fin 512) (r : Fin 32768) (hr : r.val = t.val * 512 + i.val) :
    iblk m c 4 t (ix2 i a) = m ((c : Thread nD τ).loc main_arg4) (ix3 (bat r) (pos r) a) := by
  blk_simp [iblk]
  entry_read
  pointwise
  blk_ext [idx t, bat, pos]

theorem blk5 (c : Dev nD) (t : Fin cfg0.N) (i : Fin 512) (a : Fin 512) (r : Fin 32768) (hr : r.val = t.val * 512 + i.val) :
    iblk m c 5 t (ix2 i a) = m ((c : Thread nD τ).loc main_arg5) (ix3 (bat r) (pos r) a) := by
  blk_simp [iblk]
  entry_read
  pointwise
  blk_ext [idx t, bat, pos]

theorem blk6 (c : Dev nD) (t : Fin cfg0.N) (i : Fin 512) (a : Fin 512) (r : Fin 32768) (hr : r.val = t.val * 512 + i.val) :
    iblk m c 6 t (ix2 i a) = m ((c : Thread nD τ).loc main_arg6) (ix3 (bat r) (pos r) a) := by
  blk_simp [iblk]
  entry_read
  pointwise
  blk_ext [idx t, bat, pos]

theorem blk1 (c : Dev nD) (t : Fin cfg0.N) (a : Fin 1024) :
    iblk m c 1 t (ix2 0 a) = m ((c : Thread nD τ).loc main_arg1) (ix1 a) := by
  blk_simp [iblk]
  entry_read
  pointwise
  blk_ext [idx t]

theorem blk7 (c : Dev nD) (t : Fin cfg0.N) (p : Fin 5) (k l : Fin 1024) :
    iblk m c 7 t (ix3 p k l) = m ((c : Thread nD τ).loc main_arg7) (ix3 p k l) := by
  blk_simp [iblk]
  entry_read
  pointwise
  blk_ext [idx t]

theorem blk8 (c : Dev nD) (t : Fin cfg0.N) (p : Fin 5) (k : Fin 512) (l : Fin 1024) :
    iblk m c 8 t (ix3 p k l) = m ((c : Thread nD τ).loc main_arg8) (ix3 p k l) := by
  blk_simp [iblk]
  entry_read
  pointwise
  blk_ext [idx t]

theorem blk9 (c : Dev nD) (t : Fin cfg0.N) (k l : Fin 1024) :
    iblk m c 9 t (ix2 k l) = m ((c : Thread nD τ).loc main_arg9) (ix2 k l) := by
  blk_simp [iblk]
  entry_read
  pointwise
  blk_ext [idx t]

/-! ## The array after the run -/

/-- Every point's block is its 512 rows of `result`, and the blocks fill the array. -/
theorem final (c : Dev nD) : (dats m 0 c).arrAt 10 cfg0.N = result m c := by
  refine (dats m 0 c).arrAt_eq_of_covers 10 _ (by decide +kernel) fun t hf y => ?_
  blk_simp
  rw [after0_10]
  idx_vars y
  refine (Block.out_apply _ _ _ _ _ _ _ _ _ _ y0 y1).trans ?_
  have ht : t.val < 64 := t.isLt
  have e : ((View.whole main_v10).slice (win0_10.rect t)).emb (ix2 y0 y1) = ix2 (⟨t.val * 512 + y0.val, by omega⟩ : Fin 32768) y1 := by
    blk_ext [idx t]
  rw [e]
  show _ = entryAt m c ⟨t.val * 512 + y0.val, by omega⟩ y1
  unfold entryAt
  simp only [blk0 m c t y0 _ ⟨t.val * 512 + y0.val, by omega⟩ rfl, blk1, blk2 m c t y0 _ ⟨t.val * 512 + y0.val, by omega⟩ rfl,
    blk3 m c t y0 _ ⟨t.val * 512 + y0.val, by omega⟩ rfl, blk4 m c t y0 _ ⟨t.val * 512 + y0.val, by omega⟩ rfl,
    blk5 m c t y0 _ ⟨t.val * 512 + y0.val, by omega⟩ rfl, blk6 m c t y0 _ ⟨t.val * 512 + y0.val, by omega⟩ rfl, blk7, blk8, blk9]

/-- The run: the result array, and the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (final m c), (h c).2⟩) (Value.run_blocks m ρ)

end Cert.MergeIdeal.Whole

end
-- ==== Proof.MergeRef.lean ====
/-
  What the merge's reference computes: row r, column j of its result is the layer's result for that token and column.
  Stage by stage: the normed row, each branch's contribution, their sum, the product with the output weights.
-/
module

public import proofs.«01_k».proof.Proof.Gen.MergeRefIdeal.Read
public import proofs.«01_k».proof.Proof.Spec

@[expose] public section

set_option maxRecDepth 16384

noncomputable section

namespace Cert.MergeRefIdeal.Whole

open Cert.MergeRefIdeal Cert.MergeRefIdeal.Read Cert.Layer Idealize.ShloMosaic Idealize.ShloMosaic.TcCoe Idealize.SL.Sem

variable (x0 : (⟨S8x4096x1024, .f32⟩ : BufTy).Contents (Elt Ideal)) (x1 : (⟨S1024, .f32⟩ : BufTy).Contents (Elt Ideal))
variable (x2 x3 x4 x5 x6 : (⟨S8x4096x512, .bf16⟩ : BufTy).Contents (Elt Ideal))
variable (x7 : (⟨S5x1024x1024, .f32⟩ : BufTy).Contents (Elt Ideal)) (x8 : (⟨S5x512x1024, .f32⟩ : BufTy).Contents (Elt Ideal))
variable (x9 : (⟨S1024x1024, .f32⟩ : BufTy).Contents (Elt Ideal))

/-- The normed rows. -/
theorem norm_apply (b : Fin 8) (p : Fin 4096) (k : Fin 1024) :
    val_main_v12 (F := Ideal) x0 x1 (ix3 b p k) = normRow (fun a => x0 (ix3 b p a)) (fun a => x1 (ix1 a)) k := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0, normRow]

/-- Branch 0's contribution. -/
theorem term0_apply (b : Fin 8) (p : Fin 4096) (j : Fin 1024) :
    val_main_v27 (F := Ideal) x0 x1 x2 x7 x8 (ix3 b p j)
      = term (normRow (fun a => x0 (ix3 b p a)) (fun a => x1 (ix1 a))) (fun k => x2 (ix3 b p k)) (fun k l => x7 (ix3 0 k l))
          (fun k l => x8 (ix3 0 k l)) j := by
  pointwise [val_main_v27, val_main_v26, val_main_v25, val_main_v24, val_main_v23, val_main_v22,
    val_main_v21, val_main_cst_4, val_main_v20, val_main_v19, val_main_cst_3, val_main_v18, val_main_v17, val_main_v16,
    val_main_v15, val_main_v14, term, gate, norm_apply]

/-- Branch 1's contribution. -/
theorem term1_apply (b : Fin 8) (p : Fin 4096) (j : Fin 1024) :
    val_main_v42 (F := Ideal) x0 x1 x3 x7 x8 (ix3 b p j)
      = term (normRow (fun a => x0 (ix3 b p a)) (fun a => x1 (ix1 a))) (fun k => x3 (ix3 b p k)) (fun k l => x7 (ix3 1 k l))
          (fun k l => x8 (ix3 1 k l)) j := by
  pointwise [val_main_v42, val_main_v41, val_main_v40, val_main_v39, val_main_v38, val_main_v37,
    val_main_v36, val_main_cst_6, val_main_v35, val_main_v34, val_main_cst_5, val_main_v33, val_main_v32, val_main_v31,
    val_main_v30, val_main_v29, term, gate, norm_apply]

/-- Branch 2's contribution. -/
theorem term2_apply (b : Fin 8) (p : Fin 4096) (j : Fin 1024) :
    val_main_v57 (F := Ideal) x0 x1 x4 x7 x8 (ix3 b p j)
      = term (normRow (fun a => x0 (ix3 b p a)) (fun a => x1 (ix1 a))) (fun k => x4 (ix3 b p k)) (fun k l => x7 (ix3 2 k l))
          (fun k l => x8 (ix3 2 k l)) j := by
  pointwise [val_main_v57, val_main_v56, val_main_v55, val_main_v54, val_main_v53, val_main_v52,
    val_main_v51, val_main_cst_8, val_main_v50, val_main_v49, val_main_cst_7, val_main_v48, val_main_v47, val_main_v46,
    val_main_v45, val_main_v44, term, gate, norm_apply]

/-- Branch 3's contribution. -/
theorem term3_apply (b : Fin 8) (p : Fin 4096) (j : Fin 1024) :
    val_main_v72 (F := Ideal) x0 x1 x5 x7 x8 (ix3 b p j)
      = term (normRow (fun a => x0 (ix3 b p a)) (fun a => x1 (ix1 a))) (fun k => x5 (ix3 b p k)) (fun k l => x7 (ix3 3 k l))
          (fun k l => x8 (ix3 3 k l)) j := by
  pointwise [val_main_v72, val_main_v71, val_main_v70, val_main_v69, val_main_v68, val_main_v67,
    val_main_v66, val_main_cst_10, val_main_v65, val_main_v64, val_main_cst_9, val_main_v63, val_main_v62, val_main_v61,
    val_main_v60, val_main_v59, term, gate, norm_apply]

/-- Branch 4's contribution. -/
theorem term4_apply (b : Fin 8) (p : Fin 4096) (j : Fin 1024) :
    val_main_v87 (F := Ideal) x0 x1 x6 x7 x8 (ix3 b p j)
      = term (normRow (fun a => x0 (ix3 b p a)) (fun a => x1 (ix1 a))) (fun k => x6 (ix3 b p k)) (fun k l => x7 (ix3 4 k l))
          (fun k l => x8 (ix3 4 k l)) j := by
  pointwise [val_main_v87, val_main_v86, val_main_v85, val_main_v84, val_main_v83, val_main_v82,
    val_main_v81, val_main_cst_12, val_main_v80, val_main_v79, val_main_cst_11, val_main_v78, val_main_v77, val_main_v76,
    val_main_v75, val_main_v74, term, gate, norm_apply]

/-- The five contributions added, starting from zero. -/
theorem merged_apply (b : Fin 8) (p : Fin 4096) (j : Fin 1024) :
    val_main_v88 (F := Ideal) x0 x1 x2 x3 x4 x5 x6 x7 x8 (ix3 b p j)
      = merged (normRow (fun a => x0 (ix3 b p a)) (fun a => x1 (ix1 a)))
          ![fun k => x2 (ix3 b p k), fun k => x3 (ix3 b p k), fun k => x4 (ix3 b p k), fun k => x5 (ix3 b p k), fun k => x6 (ix3 b p k)]
          (fun p k l => x7 (ix3 p k l)) (fun p k l => x8 (ix3 p k l)) j := by
  pointwise [val_main_v88, val_main_v73, val_main_v58, val_main_v43, val_main_v28, val_main_v13, val_main_cst_2,
    term0_apply, term1_apply, term2_apply, term3_apply, term4_apply, merged]

/-- The result. -/
theorem result_apply (r : Fin 32768) (j : Fin 1024) :
    val_main_v91 (F := Ideal) x0 x1 x2 x3 x4 x5 x6 x7 x8 x9 (ix2 r j)
      = mergeRow (fun a => x0 (ix3 (bat r) (pos r) a)) (fun a => x1 (ix1 a))
          ![fun k => x2 (ix3 (bat r) (pos r) k), fun k => x3 (ix3 (bat r) (pos r) k), fun k => x4 (ix3 (bat r) (pos r) k),
            fun k => x5 (ix3 (bat r) (pos r) k), fun k => x6 (ix3 (bat r) (pos r) k)]
          (fun p k l => x7 (ix3 p k l)) (fun p k l => x8 (ix3 p k l)) (fun k l => x9 (ix2 k l)) j := by
  pointwise [val_main_v91, val_main_v90, val_main_v89, mergeRow, merged_apply, bat, pos]

end Cert.MergeRefIdeal.Whole

end
-- ==== Proof.MergeClaims.lean ====
/-
  The merge's claims, assembled: from arguments that agree, the kernel's result array and the reference's hold the same
  extended reals, entry by entry the layer's result for a token and a column.
-/
module

public import proofs.«01_k».proof.Defs
public import proofs.«01_k».proof.Proof.MergeValue
public import proofs.«01_k».proof.Proof.MergeRef
public import proofs.«01_k».proof.Proof.Gen.Merge.Frame
public import Idealize.ShloMosaic.Lib.Quiescent

@[expose] public section

noncomputable section

open Idealize.ShloMosaic Idealize.ShloMosaic.TcCoe Idealize.SL.Sem

namespace Cert.MergeClaims

/-- The reference runs and leaves its arguments; it has no semaphore. -/
theorem frame_ref : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

/-- From agreeing arguments the two result arrays are equal. -/
theorem algebraic : Cert.algebraic_MergeIdeal_MergeRefIdeal := by
  intro m ρ m' ρ' _ hagree
  refine ⟨fun c => Cert.MergeIdeal.Whole.result m c, Cert.MergeIdeal.Whole.run m ρ, ?_⟩
  refine (θ_run Cert.MergeRefIdeal.defs _ _).mono (fun _ h c => ⟨(h c).1.trans ?_, (h c).2⟩)
    (Cert.MergeRefIdeal.Value.run (F := Ideal) m' ρ')
  obtain ⟨h0, h1, h2, h3, h4, h5, h6, h7, h8, h9⟩ := hagree c
  rw [Cert.MergeRefIdeal.Read.val_main_v91_eq, h0, h1, h2, h3, h4, h5, h6, h7, h8, h9]
  funext i
  obtain ⟨r, j, rfl⟩ : ∃ (r : Fin 32768) (j : Fin 1024), i = ix2 r j := ⟨i 0, i 1, eq_ix2 i⟩
  exact Cert.MergeRefIdeal.Whole.result_apply _ _ _ _ _ _ _ _ _ _ r j

end Cert.MergeClaims

end
-- ==== Proof.InProjBlock.lean ====
/-
  What one grid point of the input projection computes: entry (i, j) of each block it writes is row i's normed row times
  column j of the packed weights (the narrow block's columns are the packed weights' last 128).
-/
module

public import proofs.«01_k».proof.Proof.Gen.InProjIdeal.Value
public import proofs.«01_k».proof.Proof.Spec
public import Idealize.ShloMosaic.Lib.Pipeline.ValueKit

@[expose] public section

set_option maxRecDepth 16384

noncomputable section

namespace Cert.InProjIdeal.Block

open Cert.InProjIdeal Cert.InProjIdeal.Gen Cert.Layer Idealize.ShloMosaic Idealize.ShloMosaic.TcCoe

/-- The normed block, entry by entry. -/
theorem norm_apply (v0 : Vec Ideal S512x1024 .f32) (v2 : Vec Ideal S1x1024 .f32) (i : Fin 512) (k : Fin 1024) :
    k0_pay1 v0 v2 (ix2 i k) = normRow (fun a => v0 (ix2 i a)) (fun a => v2 (ix2 0 a)) k := by
  pointwise [k0_pay1, normRow]

/-- The wide block: eight column ranges, each stored apart. -/
theorem wide_apply (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x8192 .bf16) (harg3 : arg3.IsWhole) (arg4 : Memref sig .tc .vmem S512x8064 .bf16) (harg4 : arg4.IsWhole) (arg5 : Memref sig .tc .vmem S512x128 .f32) (harg5 : arg5.IsWhole)
    (x0 : Vec Ideal S512x1024 .f32) (x1 : Vec Ideal S1x1024 .f32) (x2 : Vec Ideal S1024x8192 .bf16) (r : Fin 512) (j : Fin 8064) :
    out0_A_3 c i arg1 harg1 arg2 harg2 arg3 harg3 arg4 harg4 arg5 harg5 x0 x1 x2 (ix2 r j)
      = projRow (fun a => x0 (ix2 r a)) (fun a => x1 (ix2 0 a)) (fun k => x2 (ix2 k ⟨j.val, by omega⟩)) := by
  unfold out0_A_3
  frame_out
  canon_tiles x h using (View.cover_of_tiledBy _ ![512, 128] (by sl_kernel_rfl) _)
  all_goals
    idx_vars x
    pointwise [k0_pay2, k0_pay3, k0_pay4, k0_pay5, k0_pay6, k0_pay7, k0_pay8, k0_pay9, norm_apply, projRow]
    blk_point

/-- The narrow block. -/
theorem narrow_apply (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x8192 .bf16) (harg3 : arg3.IsWhole) (arg4 : Memref sig .tc .vmem S512x8064 .bf16) (harg4 : arg4.IsWhole) (arg5 : Memref sig .tc .vmem S512x128 .f32) (harg5 : arg5.IsWhole)
    (x0 : Vec Ideal S512x1024 .f32) (x1 : Vec Ideal S1x1024 .f32) (x2 : Vec Ideal S1024x8192 .bf16) (r : Fin 512) (j : Fin 128) :
    out0_A_4 c i arg1 harg1 arg2 harg2 arg3 harg3 arg4 harg4 arg5 harg5 x0 x1 x2 (ix2 r j)
      = projRow (fun a => x0 (ix2 r a)) (fun a => x1 (ix2 0 a)) (fun k => x2 (ix2 k ⟨8064 + j.val, by omega⟩)) := by
  unfold out0_A_4
  frame_out
  pointwise [k0_pay10, norm_apply, projRow]

end Cert.InProjIdeal.Block

end
-- ==== Proof.Packing.lean ====
/-
  Which column of the input weights stands at which column of the packed weights.
-/
module

public import Idealize.ShloMosaic.Lib.Pointwise

@[expose] public section

noncomputable section

namespace Cert.Layer

open Idealize.ShloMosaic

/-- The column of the input weights that stands at column `j < 8088` of the packed weights. -/
def src (j : ℕ) : ℕ :=
  if j < 1536 then j - 0 + 0 else
  if j < 2048 then j - 1536 + 2056 else
  if j < 3072 then j - 2048 + 5840 else
  if j < 3584 then j - 3072 + 1544 else
  if j < 5120 then j - 3584 + 2568 else
  if j < 5632 then j - 5120 + 4232 else
  if j < 6656 then j - 5632 + 4816 else
  if j < 7680 then j - 6656 + 6872 else
  if j < 7744 then j - 7680 + 4104 else
  if j < 7872 then j - 7744 + 4104 else
  if j < 7936 then j - 7872 + 4168 else
  if j < 8000 then j - 7936 + 4744 else
  if j < 8064 then j - 8000 + 4744 else
  if j < 8072 then j - 8064 + 1536 else
  if j < 8080 then j - 8072 + 6864 else
  j - 8080 + 4808

theorem ite_lt {c : Prop} [Decidable c] {a b n : ℕ} (ha : c → a < n) (hb : ¬c → b < n) : (if c then a else b) < n := by
  split
  · exact ha ‹_›
  · exact hb ‹_›

theorem src_lt {j : ℕ} (h : j < 8088) : src j < 7896 := by
  unfold src
  repeat (refine ite_lt (fun _ => by omega) (fun _ => ?_))
  omega

/-- The packed weights: the input weights' columns regrouped, some repeated, then zeros. -/
def packed (w : Fin 1024 → Fin 7896 → EReal) (k : Fin 1024) (j : Fin 8192) : EReal :=
  if h : j.val < 8088 then w k ⟨src j.val, src_lt h⟩ else 0

end Cert.Layer

end
-- ==== Proof.InProjWeights.lean ====
/-
  What the weight matrix handed to the input projection holds: column `j` of it is the column `src j` of the layer's
  input weights, or zero past column 8088. The matrix is made by joining sixteen groups of columns, then zeros; the
  groups are read first, each by itself, then the two joins.
-/
module

public import proofs.«01_k».proof.Proof.InProjBlock
public import proofs.«01_k».proof.Proof.Packing

@[expose] public section

set_option maxRecDepth 16384

noncomputable section

namespace Cert.InProjIdeal.Whole

open Cert.InProjIdeal Cert.InProjIdeal.Gen Cert.Layer Idealize.ShloMosaic Idealize.ShloMosaic.TcCoe Idealize.SL.Sem

variable (m : (ℓ : Loc nD τ sig) → Buf (Elt Ideal) ℓ)

/-- The buffers once the sixteen groups of columns and the zeros are made, before they are joined. -/
abbrev before (c : Dev nD) : Valuation τ sig (Elt Ideal) :=
  StableHlo.after ((hostOps0 (F := Ideal)).take 36) (fun b => m (c, b))

/-! ### The groups of columns -/

theorem piece0 (c : Dev nD) (k : Fin 1024) (j : Fin 1536) :
    before m c main_v3 (ix2 k j) = m ((c : Thread nD τ).loc main_arg2) (ix2 k ⟨j.val, by omega⟩) := by
  unfold before hostOps0
  simp only [List.take]
  entry_read
  pointwise

theorem piece1 (c : Dev nD) (k : Fin 1024) (j : Fin 512) :
    before m c main_v5 (ix2 k j) = m ((c : Thread nD τ).loc main_arg2) (ix2 k ⟨2056 + j.val, by omega⟩) := by
  unfold before hostOps0
  simp only [List.take]
  entry_read
  pointwise

theorem piece2 (c : Dev nD) (k : Fin 1024) (j : Fin 1024) :
    before m c main_v7 (ix2 k j) = m ((c : Thread nD τ).loc main_arg2) (ix2 k ⟨5840 + j.val, by omega⟩) := by
  unfold before hostOps0
  simp only [List.take]
  entry_read
  pointwise

theorem piece3 (c : Dev nD) (k : Fin 1024) (j : Fin 512) :
    before m c main_v9 (ix2 k j) = m ((c : Thread nD τ).loc main_arg2) (ix2 k ⟨1544 + j.val, by omega⟩) := by
  unfold before hostOps0
  simp only [List.take]
  entry_read
  pointwise

theorem piece4 (c : Dev nD) (k : Fin 1024) (j : Fin 1536) :
    before m c main_v11 (ix2 k j) = m ((c : Thread nD τ).loc main_arg2) (ix2 k ⟨2568 + j.val, by omega⟩) := by
  unfold before hostOps0
  simp only [List.take]
  entry_read
  pointwise

theorem piece5 (c : Dev nD) (k : Fin 1024) (j : Fin 512) :
    before m c main_v13 (ix2 k j) = m ((c : Thread nD τ).loc main_arg2) (ix2 k ⟨4232 + j.val, by omega⟩) := by
  unfold before hostOps0
  simp only [List.take]
  entry_read
  pointwise

theorem piece6 (c : Dev nD) (k : Fin 1024) (j : Fin 1024) :
    before m c main_v15 (ix2 k j) = m ((c : Thread nD τ).loc main_arg2) (ix2 k ⟨4816 + j.val, by omega⟩) := by
  unfold before hostOps0
  simp only [List.take]
  entry_read
  pointwise

theorem piece7 (c : Dev nD) (k : Fin 1024) (j : Fin 1024) :
    before m c main_v17 (ix2 k j) = m ((c : Thread nD τ).loc main_arg2) (ix2 k ⟨6872 + j.val, by omega⟩) := by
  unfold before hostOps0
  simp only [List.take]
  entry_read
  pointwise

theorem piece8 (c : Dev nD) (k : Fin 1024) (j : Fin 64) :
    before m c main_v19 (ix2 k j) = m ((c : Thread nD τ).loc main_arg2) (ix2 k ⟨4104 + j.val, by omega⟩) := by
  unfold before hostOps0
  simp only [List.take]
  entry_read
  pointwise

theorem piece9 (c : Dev nD) (k : Fin 1024) (j : Fin 128) :
    before m c main_v21 (ix2 k j) = m ((c : Thread nD τ).loc main_arg2) (ix2 k ⟨4104 + j.val, by omega⟩) := by
  unfold before hostOps0
  simp only [List.take]
  entry_read
  pointwise

theorem piece10 (c : Dev nD) (k : Fin 1024) (j : Fin 64) :
    before m c main_v23 (ix2 k j) = m ((c : Thread nD τ).loc main_arg2) (ix2 k ⟨4168 + j.val, by omega⟩) := by
  unfold before hostOps0
  simp only [List.take]
  entry_read
  pointwise

theorem piece11 (c : Dev nD) (k : Fin 1024) (j : Fin 64) :
    before m c main_v25 (ix2 k j) = m ((c : Thread nD τ).loc main_arg2) (ix2 k ⟨4744 + j.val, by omega⟩) := by
  unfold before hostOps0
  simp only [List.take]
  entry_read
  pointwise

theorem piece12 (c : Dev nD) (k : Fin 1024) (j : Fin 64) :
    before m c main_v27 (ix2 k j) = m ((c : Thread nD τ).loc main_arg2) (ix2 k ⟨4744 + j.val, by omega⟩) := by
  unfold before hostOps0
  simp only [List.take]
  entry_read
  pointwise

theorem piece13 (c : Dev nD) (k : Fin 1024) (j : Fin 8) :
    before m c main_v29 (ix2 k j) = m ((c : Thread nD τ).loc main_arg2) (ix2 k ⟨1536 + j.val, by omega⟩) := by
  unfold before hostOps0
  simp only [List.take]
  entry_read
  pointwise

theorem piece14 (c : Dev nD) (k : Fin 1024) (j : Fin 8) :
    before m c main_v31 (ix2 k j) = m ((c : Thread nD τ).loc main_arg2) (ix2 k ⟨6864 + j.val, by omega⟩) := by
  unfold before hostOps0
  simp only [List.take]
  entry_read
  pointwise

theorem piece15 (c : Dev nD) (k : Fin 1024) (j : Fin 8) :
    before m c main_v33 (ix2 k j) = m ((c : Thread nD τ).loc main_arg2) (ix2 k ⟨4808 + j.val, by omega⟩) := by
  unfold before hostOps0
  simp only [List.take]
  entry_read
  pointwise

theorem zeros (c : Dev nD) (k : Fin 1024) (j : Fin 104) : before m c main_v34 (ix2 k j) = (0 : EReal) := by
  unfold before hostOps0
  simp only [List.take]
  entry_read
  pointwise

/-! ### The joins -/

/-- The sixteen groups side by side. -/
def joined (σ : Valuation τ sig (Elt Ideal)) : S1024x8088.Idx → EReal :=
  concatenate S1024x8088 1 [⟨S1024x1536, (σ main_v3 : (⟨S1024x1536, .bf16⟩ : BufTy).Contents (Elt Ideal))⟩,
    ⟨S1024x512, (σ main_v5 : (⟨S1024x512, .bf16⟩ : BufTy).Contents (Elt Ideal))⟩,
    ⟨S1024x1024, (σ main_v7 : (⟨S1024x1024, .bf16⟩ : BufTy).Contents (Elt Ideal))⟩,
    ⟨S1024x512, (σ main_v9 : (⟨S1024x512, .bf16⟩ : BufTy).Contents (Elt Ideal))⟩,
    ⟨S1024x1536, (σ main_v11 : (⟨S1024x1536, .bf16⟩ : BufTy).Contents (Elt Ideal))⟩,
    ⟨S1024x512, (σ main_v13 : (⟨S1024x512, .bf16⟩ : BufTy).Contents (Elt Ideal))⟩,
    ⟨S1024x1024, (σ main_v15 : (⟨S1024x1024, .bf16⟩ : BufTy).Contents (Elt Ideal))⟩,
    ⟨S1024x1024, (σ main_v17 : (⟨S1024x1024, .bf16⟩ : BufTy).Contents (Elt Ideal))⟩,
    ⟨S1024x64, (σ main_v19 : (⟨S1024x64, .bf16⟩ : BufTy).Contents (Elt Ideal))⟩,
    ⟨S1024x128, (σ main_v21 : (⟨S1024x128, .bf16⟩ : BufTy).Contents (Elt Ideal))⟩,
    ⟨S1024x64, (σ main_v23 : (⟨S1024x64, .bf16⟩ : BufTy).Contents (Elt Ideal))⟩,
    ⟨S1024x64, (σ main_v25 : (⟨S1024x64, .bf16⟩ : BufTy).Contents (Elt Ideal))⟩,
    ⟨S1024x64, (σ main_v27 : (⟨S1024x64, .bf16⟩ : BufTy).Contents (Elt Ideal))⟩,
    ⟨S1024x8, (σ main_v29 : (⟨S1024x8, .bf16⟩ : BufTy).Contents (Elt Ideal))⟩,
    ⟨S1024x8, (σ main_v31 : (⟨S1024x8, .bf16⟩ : BufTy).Contents (Elt Ideal))⟩,
    ⟨S1024x8, (σ main_v33 : (⟨S1024x8, .bf16⟩ : BufTy).Contents (Elt Ideal))⟩]
    concatenates_S1024x1536_S1024x512_S1024x1024_S1024x512_S1024x1536_S1024x512_S1024x1024_S1024x1024_S1024x64_S1024x128_S1024x64_S1024x64_S1024x64_S1024x8_S1024x8_S1024x8_S1024x8088_d1

/-- The two joins, from the buffers before them. -/
theorem joins (c : Dev nD) :
    V m c main_v36 = concatenate S1024x8192 1 [⟨S1024x8088, joined (before m c)⟩,
      ⟨S1024x104, (before m c main_v34 : (⟨S1024x104, .bf16⟩ : BufTy).Contents (Elt Ideal))⟩]
      concatenates_S1024x8088_S1024x104_S1024x8192_d1 := by
  show StableHlo.after (hostOps0 (F := Ideal)) (fun b => m (c, b)) main_v36 = _
  rw [← List.take_append_drop 36 (hostOps0 (F := Ideal)), StableHlo.after_append]
  show StableHlo.after ((hostOps0 (F := Ideal)).drop 36) (before m c) main_v36 = _
  generalize before m c = σ
  unfold hostOps0
  simp only [List.drop]
  after_results
  rfl

/-- Off the joined axis the coordinate of a group is the coordinate of the whole. -/
theorem col_off {n : ℕ} {k : Fin 1024} (j : Fin 8088) (l : Fin n) (b : Fin 2) (hb : b ≠ 1) :
    ((ix2 k l : (⟨2, ![1024, n]⟩ : Shape).Idx) b).val = ((ix2 k j : S1024x8088.Idx) b).val := by
  fin_cases b
  · rfl
  · exact absurd rfl hb

theorem joined0 (c : Dev nD) (k : Fin 1024) (j : Fin 8088) (h₁ : 0 ≤ j.val) (h₂ : j.val < 1536) :
    joined (before m c) (ix2 k j) = m ((c : Thread nD τ).loc main_arg2) (ix2 k ⟨src j.val, src_lt j.isLt⟩) := by
  have e : (j.val - 0) = src j.val := by
    unfold src
    rw [if_pos h₂]
    omega
  unfold joined
  refine (concatenate_apply_piece (t := S1024x8088) 1 _ _ _ 0 (by show 0 < 16; decide) S1024x1536 (before m c main_v3)
    rfl rfl 0 (by rfl) (ix2 k (⟨j.val - 0, by omega⟩ : Fin 1536)) (col_off _ _) ?_).trans ((piece0 m c k _).trans
      (congrArg (fun l => m ((c : Thread nD τ).loc main_arg2) (ix2 k l)) (Fin.ext e)))
  show 0 + (j.val - 0) = j.val
  omega

theorem joined1 (c : Dev nD) (k : Fin 1024) (j : Fin 8088) (h₁ : 1536 ≤ j.val) (h₂ : j.val < 2048) :
    joined (before m c) (ix2 k j) = m ((c : Thread nD τ).loc main_arg2) (ix2 k ⟨src j.val, src_lt j.isLt⟩) := by
  have e : 2056 + (j.val - 1536) = src j.val := by
    unfold src
    rw [if_neg (show ¬ j.val < 1536 by omega), if_pos h₂]
    omega
  unfold joined
  refine (concatenate_apply_piece (t := S1024x8088) 1 _ _ _ 1 (by show 1 < 16; decide) S1024x512 (before m c main_v5)
    rfl rfl 1536 (by rfl) (ix2 k (⟨j.val - 1536, by omega⟩ : Fin 512)) (col_off _ _) ?_).trans ((piece1 m c k _).trans
      (congrArg (fun l => m ((c : Thread nD τ).loc main_arg2) (ix2 k l)) (Fin.ext e)))
  show 1536 + (j.val - 1536) = j.val
  omega

theorem joined2 (c : Dev nD) (k : Fin 1024) (j : Fin 8088) (h₁ : 2048 ≤ j.val) (h₂ : j.val < 3072) :
    joined (before m c) (ix2 k j) = m ((c : Thread nD τ).loc main_arg2) (ix2 k ⟨src j.val, src_lt j.isLt⟩) := by
  have e : 5840 + (j.val - 2048) = src j.val := by
    unfold src
    rw [if_neg (show ¬ j.val < 1536 by omega), if_neg (show ¬ j.val < 2048 by omega), if_pos h₂]
    omega
  unfold joined
  refine (concatenate_apply_piece (t := S1024x8088) 1 _ _ _ 2 (by show 2 < 16; decide) S1024x1024 (before m c main_v7)
    rfl rfl 2048 (by rfl) (ix2 k (⟨j.val - 2048, by omega⟩ : Fin 1024)) (col_off _ _) ?_).trans ((piece2 m c k _).trans
      (congrArg (fun l => m ((c : Thread nD τ).loc main_arg2) (ix2 k l)) (Fin.ext e)))
  show 2048 + (j.val - 2048) = j.val
  omega

theorem joined3 (c : Dev nD) (k : Fin 1024) (j : Fin 8088) (h₁ : 3072 ≤ j.val) (h₂ : j.val < 3584) :
    joined (before m c) (ix2 k j) = m ((c : Thread nD τ).loc main_arg2) (ix2 k ⟨src j.val, src_lt j.isLt⟩) := by
  have e : 1544 + (j.val - 3072) = src j.val := by
    unfold src
    rw [if_neg (show ¬ j.val < 1536 by omega), if_neg (show ¬ j.val < 2048 by omega), if_neg (show ¬ j.val < 3072 by omega), if_pos h₂]
    omega
  unfold joined
  refine (concatenate_apply_piece (t := S1024x8088) 1 _ _ _ 3 (by show 3 < 16; decide) S1024x512 (before m c main_v9)
    rfl rfl 3072 (by rfl) (ix2 k (⟨j.val - 3072, by omega⟩ : Fin 512)) (col_off _ _) ?_).trans ((piece3 m c k _).trans
      (congrArg (fun l => m ((c : Thread nD τ).loc main_arg2) (ix2 k l)) (Fin.ext e)))
  show 3072 + (j.val - 3072) = j.val
  omega

theorem joined4 (c : Dev nD) (k : Fin 1024) (j : Fin 8088) (h₁ : 3584 ≤ j.val) (h₂ : j.val < 5120) :
    joined (before m c) (ix2 k j) = m ((c : Thread nD τ).loc main_arg2) (ix2 k ⟨src j.val, src_lt j.isLt⟩) := by
  have e : 2568 + (j.val - 3584) = src j.val := by
    unfold src
    rw [if_neg (show ¬ j.val < 1536 by omega), if_neg (show ¬ j.val < 2048 by omega), if_neg (show ¬ j.val < 3072 by omega), if_neg (show ¬ j.val < 3584 by omega), if_pos h₂]
    omega
  unfold joined
  refine (concatenate_apply_piece (t := S1024x8088) 1 _ _ _ 4 (by show 4 < 16; decide) S1024x1536 (before m c main_v11)
    rfl rfl 3584 (by rfl) (ix2 k (⟨j.val - 3584, by omega⟩ : Fin 1536)) (col_off _ _) ?_).trans ((piece4 m c k _).trans
      (congrArg (fun l => m ((c : Thread nD τ).loc main_arg2) (ix2 k l)) (Fin.ext e)))
  show 3584 + (j.val - 3584) = j.val
  omega

theorem joined5 (c : Dev nD) (k : Fin 1024) (j : Fin 8088) (h₁ : 5120 ≤ j.val) (h₂ : j.val < 5632) :
    joined (before m c) (ix2 k j) = m ((c : Thread nD τ).loc main_arg2) (ix2 k ⟨src j.val, src_lt j.isLt⟩) := by
  have e : 4232 + (j.val - 5120) = src j.val := by
    unfold src
    rw [if_neg (show ¬ j.val < 1536 by omega), if_neg (show ¬ j.val < 2048 by omega), if_neg (show ¬ j.val < 3072 by omega), if_neg (show ¬ j.val < 3584 by omega), if_neg (show ¬ j.val < 5120 by omega), if_pos h₂]
    omega
  unfold joined
  refine (concatenate_apply_piece (t := S1024x8088) 1 _ _ _ 5 (by show 5 < 16; decide) S1024x512 (before m c main_v13)
    rfl rfl 5120 (by rfl) (ix2 k (⟨j.val - 5120, by omega⟩ : Fin 512)) (col_off _ _) ?_).trans ((piece5 m c k _).trans
      (congrArg (fun l => m ((c : Thread nD τ).loc main_arg2) (ix2 k l)) (Fin.ext e)))
  show 5120 + (j.val - 5120) = j.val
  omega

theorem joined6 (c : Dev nD) (k : Fin 1024) (j : Fin 8088) (h₁ : 5632 ≤ j.val) (h₂ : j.val < 6656) :
    joined (before m c) (ix2 k j) = m ((c : Thread nD τ).loc main_arg2) (ix2 k ⟨src j.val, src_lt j.isLt⟩) := by
  have e : 4816 + (j.val - 5632) = src j.val := by
    unfold src
    rw [if_neg (show ¬ j.val < 1536 by omega), if_neg (show ¬ j.val < 2048 by omega), if_neg (show ¬ j.val < 3072 by omega), if_neg (show ¬ j.val < 3584 by omega), if_neg (show ¬ j.val < 5120 by omega), if_neg (show ¬ j.val < 5632 by omega), if_pos h₂]
    omega
  unfold joined
  refine (concatenate_apply_piece (t := S1024x8088) 1 _ _ _ 6 (by show 6 < 16; decide) S1024x1024 (before m c main_v15)
    rfl rfl 5632 (by rfl) (ix2 k (⟨j.val - 5632, by omega⟩ : Fin 1024)) (col_off _ _) ?_).trans ((piece6 m c k _).trans
      (congrArg (fun l => m ((c : Thread nD τ).loc main_arg2) (ix2 k l)) (Fin.ext e)))
  show 5632 + (j.val - 5632) = j.val
  omega

theorem joined7 (c : Dev nD) (k : Fin 1024) (j : Fin 8088) (h₁ : 6656 ≤ j.val) (h₂ : j.val < 7680) :
    joined (before m c) (ix2 k j) = m ((c : Thread nD τ).loc main_arg2) (ix2 k ⟨src j.val, src_lt j.isLt⟩) := by
  have e : 6872 + (j.val - 6656) = src j.val := by
    unfold src
    rw [if_neg (show ¬ j.val < 1536 by omega), if_neg (show ¬ j.val < 2048 by omega), if_neg (show ¬ j.val < 3072 by omega), if_neg (show ¬ j.val < 3584 by omega), if_neg (show ¬ j.val < 5120 by omega), if_neg (show ¬ j.val < 5632 by omega), if_neg (show ¬ j.val < 6656 by omega), if_pos h₂]
    omega
  unfold joined
  refine (concatenate_apply_piece (t := S1024x8088) 1 _ _ _ 7 (by show 7 < 16; decide) S1024x1024 (before m c main_v17)
    rfl rfl 6656 (by rfl) (ix2 k (⟨j.val - 6656, by omega⟩ : Fin 1024)) (col_off _ _) ?_).trans ((piece7 m c k _).trans
      (congrArg (fun l => m ((c : Thread nD τ).loc main_arg2) (ix2 k l)) (Fin.ext e)))
  show 6656 + (j.val - 6656) = j.val
  omega

theorem joined8 (c : Dev nD) (k : Fin 1024) (j : Fin 8088) (h₁ : 7680 ≤ j.val) (h₂ : j.val < 7744) :
    joined (before m c) (ix2 k j) = m ((c : Thread nD τ).loc main_arg2) (ix2 k ⟨src j.val, src_lt j.isLt⟩) := by
  have e : 4104 + (j.val - 7680) = src j.val := by
    unfold src
    rw [if_neg (show ¬ j.val < 1536 by omega), if_neg (show ¬ j.val < 2048 by omega), if_neg (show ¬ j.val < 3072 by omega), if_neg (show ¬ j.val < 3584 by omega), if_neg (show ¬ j.val < 5120 by omega), if_neg (show ¬ j.val < 5632 by omega), if_neg (show ¬ j.val < 6656 by omega), if_neg (show ¬ j.val < 7680 by omega), if_pos h₂]
    omega
  unfold joined
  refine (concatenate_apply_piece (t := S1024x8088) 1 _ _ _ 8 (by show 8 < 16; decide) S1024x64 (before m c main_v19)
    rfl rfl 7680 (by rfl) (ix2 k (⟨j.val - 7680, by omega⟩ : Fin 64)) (col_off _ _) ?_).trans ((piece8 m c k _).trans
      (congrArg (fun l => m ((c : Thread nD τ).loc main_arg2) (ix2 k l)) (Fin.ext e)))
  show 7680 + (j.val - 7680) = j.val
  omega

theorem joined9 (c : Dev nD) (k : Fin 1024) (j : Fin 8088) (h₁ : 7744 ≤ j.val) (h₂ : j.val < 7872) :
    joined (before m c) (ix2 k j) = m ((c : Thread nD τ).loc main_arg2) (ix2 k ⟨src j.val, src_lt j.isLt⟩) := by
  have e : 4104 + (j.val - 7744) = src j.val := by
    unfold src
    rw [if_neg (show ¬ j.val < 1536 by omega), if_neg (show ¬ j.val < 2048 by omega), if_neg (show ¬ j.val < 3072 by omega), if_neg (show ¬ j.val < 3584 by omega), if_neg (show ¬ j.val < 5120 by omega), if_neg (show ¬ j.val < 5632 by omega), if_neg (show ¬ j.val < 6656 by omega), if_neg (show ¬ j.val < 7680 by omega), if_neg (show ¬ j.val < 7744 by omega), if_pos h₂]
    omega
  unfold joined
  refine (concatenate_apply_piece (t := S1024x8088) 1 _ _ _ 9 (by show 9 < 16; decide) S1024x128 (before m c main_v21)
    rfl rfl 7744 (by rfl) (ix2 k (⟨j.val - 7744, by omega⟩ : Fin 128)) (col_off _ _) ?_).trans ((piece9 m c k _).trans
      (congrArg (fun l => m ((c : Thread nD τ).loc main_arg2) (ix2 k l)) (Fin.ext e)))
  show 7744 + (j.val - 7744) = j.val
  omega

theorem joined10 (c : Dev nD) (k : Fin 1024) (j : Fin 8088) (h₁ : 7872 ≤ j.val) (h₂ : j.val < 7936) :
    joined (before m c) (ix2 k j) = m ((c : Thread nD τ).loc main_arg2) (ix2 k ⟨src j.val, src_lt j.isLt⟩) := by
  have e : 4168 + (j.val - 7872) = src j.val := by
    unfold src
    rw [if_neg (show ¬ j.val < 1536 by omega), if_neg (show ¬ j.val < 2048 by omega), if_neg (show ¬ j.val < 3072 by omega), if_neg (show ¬ j.val < 3584 by omega), if_neg (show ¬ j.val < 5120 by omega), if_neg (show ¬ j.val < 5632 by omega), if_neg (show ¬ j.val < 6656 by omega), if_neg (show ¬ j.val < 7680 by omega), if_neg (show ¬ j.val < 7744 by omega), if_neg (show ¬ j.val < 7872 by omega), if_pos h₂]
    omega
  unfold joined
  refine (concatenate_apply_piece (t := S1024x8088) 1 _ _ _ 10 (by show 10 < 16; decide) S1024x64 (before m c main_v23)
    rfl rfl 7872 (by rfl) (ix2 k (⟨j.val - 7872, by omega⟩ : Fin 64)) (col_off _ _) ?_).trans ((piece10 m c k _).trans
      (congrArg (fun l => m ((c : Thread nD τ).loc main_arg2) (ix2 k l)) (Fin.ext e)))
  show 7872 + (j.val - 7872) = j.val
  omega

theorem joined11 (c : Dev nD) (k : Fin 1024) (j : Fin 8088) (h₁ : 7936 ≤ j.val) (h₂ : j.val < 8000) :
    joined (before m c) (ix2 k j) = m ((c : Thread nD τ).loc main_arg2) (ix2 k ⟨src j.val, src_lt j.isLt⟩) := by
  have e : 4744 + (j.val - 7936) = src j.val := by
    unfold src
    rw [if_neg (show ¬ j.val < 1536 by omega), if_neg (show ¬ j.val < 2048 by omega), if_neg (show ¬ j.val < 3072 by omega), if_neg (show ¬ j.val < 3584 by omega), if_neg (show ¬ j.val < 5120 by omega), if_neg (show ¬ j.val < 5632 by omega), if_neg (show ¬ j.val < 6656 by omega), if_neg (show ¬ j.val < 7680 by omega), if_neg (show ¬ j.val < 7744 by omega), if_neg (show ¬ j.val < 7872 by omega), if_neg (show ¬ j.val < 7936 by omega), if_pos h₂]
    omega
  unfold joined
  refine (concatenate_apply_piece (t := S1024x8088) 1 _ _ _ 11 (by show 11 < 16; decide) S1024x64 (before m c main_v25)
    rfl rfl 7936 (by rfl) (ix2 k (⟨j.val - 7936, by omega⟩ : Fin 64)) (col_off _ _) ?_).trans ((piece11 m c k _).trans
      (congrArg (fun l => m ((c : Thread nD τ).loc main_arg2) (ix2 k l)) (Fin.ext e)))
  show 7936 + (j.val - 7936) = j.val
  omega

set_option maxHeartbeats 1600000 in
theorem joined12 (c : Dev nD) (k : Fin 1024) (j : Fin 8088) (h₁ : 8000 ≤ j.val) (h₂ : j.val < 8064) :
    joined (before m c) (ix2 k j) = m ((c : Thread nD τ).loc main_arg2) (ix2 k ⟨src j.val, src_lt j.isLt⟩) := by
  have e : 4744 + (j.val - 8000) = src j.val := by
    unfold src
    rw [if_neg (show ¬ j.val < 1536 by omega), if_neg (show ¬ j.val < 2048 by omega), if_neg (show ¬ j.val < 3072 by omega), if_neg (show ¬ j.val < 3584 by omega), if_neg (show ¬ j.val < 5120 by omega), if_neg (show ¬ j.val < 5632 by omega), if_neg (show ¬ j.val < 6656 by omega), if_neg (show ¬ j.val < 7680 by omega), if_neg (show ¬ j.val < 7744 by omega), if_neg (show ¬ j.val < 7872 by omega), if_neg (show ¬ j.val < 7936 by omega), if_neg (show ¬ j.val < 8000 by omega), if_pos h₂]
    omega
  unfold joined
  refine (concatenate_apply_piece (t := S1024x8088) 1 _ _ _ 12 (by show 12 < 16; decide) S1024x64 (before m c main_v27)
    rfl rfl 8000 (by rfl) (ix2 k (⟨j.val - 8000, by omega⟩ : Fin 64)) (col_off _ _) ?_).trans ((piece12 m c k _).trans
      (congrArg (fun l => m ((c : Thread nD τ).loc main_arg2) (ix2 k l)) (Fin.ext e)))
  show 8000 + (j.val - 8000) = j.val
  omega

set_option maxHeartbeats 1600000 in
theorem joined13 (c : Dev nD) (k : Fin 1024) (j : Fin 8088) (h₁ : 8064 ≤ j.val) (h₂ : j.val < 8072) :
    joined (before m c) (ix2 k j) = m ((c : Thread nD τ).loc main_arg2) (ix2 k ⟨src j.val, src_lt j.isLt⟩) := by
  have e : 1536 + (j.val - 8064) = src j.val := by
    unfold src
    rw [if_neg (show ¬ j.val < 1536 by omega), if_neg (show ¬ j.val < 2048 by omega), if_neg (show ¬ j.val < 3072 by omega), if_neg (show ¬ j.val < 3584 by omega), if_neg (show ¬ j.val < 5120 by omega), if_neg (show ¬ j.val < 5632 by omega), if_neg (show ¬ j.val < 6656 by omega), if_neg (show ¬ j.val < 7680 by omega), if_neg (show ¬ j.val < 7744 by omega), if_neg (show ¬ j.val < 7872 by omega), if_neg (show ¬ j.val < 7936 by omega), if_neg (show ¬ j.val < 8000 by omega), if_neg (show ¬ j.val < 8064 by omega), if_pos h₂]
    omega
  unfold joined
  refine (concatenate_apply_piece (t := S1024x8088) 1 _ _ _ 13 (by show 13 < 16; decide) S1024x8 (before m c main_v29)
    rfl rfl 8064 (by rfl) (ix2 k (⟨j.val - 8064, by omega⟩ : Fin 8)) (col_off _ _) ?_).trans ((piece13 m c k _).trans
      (congrArg (fun l => m ((c : Thread nD τ).loc main_arg2) (ix2 k l)) (Fin.ext e)))
  show 8064 + (j.val - 8064) = j.val
  omega

set_option maxHeartbeats 1600000 in
theorem joined14 (c : Dev nD) (k : Fin 1024) (j : Fin 8088) (h₁ : 8072 ≤ j.val) (h₂ : j.val < 8080) :
    joined (before m c) (ix2 k j) = m ((c : Thread nD τ).loc main_arg2) (ix2 k ⟨src j.val, src_lt j.isLt⟩) := by
  have e : 6864 + (j.val - 8072) = src j.val := by
    unfold src
    rw [if_neg (show ¬ j.val < 1536 by omega), if_neg (show ¬ j.val < 2048 by omega), if_neg (show ¬ j.val < 3072 by omega), if_neg (show ¬ j.val < 3584 by omega), if_neg (show ¬ j.val < 5120 by omega), if_neg (show ¬ j.val < 5632 by omega), if_neg (show ¬ j.val < 6656 by omega), if_neg (show ¬ j.val < 7680 by omega), if_neg (show ¬ j.val < 7744 by omega), if_neg (show ¬ j.val < 7872 by omega), if_neg (show ¬ j.val < 7936 by omega), if_neg (show ¬ j.val < 8000 by omega), if_neg (show ¬ j.val < 8064 by omega), if_neg (show ¬ j.val < 8072 by omega), if_pos h₂]
    omega
  unfold joined
  refine (concatenate_apply_piece (t := S1024x8088) 1 _ _ _ 14 (by show 14 < 16; decide) S1024x8 (before m c main_v31)
    rfl rfl 8072 (by rfl) (ix2 k (⟨j.val - 8072, by omega⟩ : Fin 8)) (col_off _ _) ?_).trans ((piece14 m c k _).trans
      (congrArg (fun l => m ((c : Thread nD τ).loc main_arg2) (ix2 k l)) (Fin.ext e)))
  show 8072 + (j.val - 8072) = j.val
  omega

set_option maxHeartbeats 1600000 in
theorem joined15 (c : Dev nD) (k : Fin 1024) (j : Fin 8088) (h₁ : 8080 ≤ j.val) (h₂ : j.val < 8088) :
    joined (before m c) (ix2 k j) = m ((c : Thread nD τ).loc main_arg2) (ix2 k ⟨src j.val, src_lt j.isLt⟩) := by
  have e : 4808 + (j.val - 8080) = src j.val := by
    unfold src
    rw [if_neg (show ¬ j.val < 1536 by omega), if_neg (show ¬ j.val < 2048 by omega), if_neg (show ¬ j.val < 3072 by omega), if_neg (show ¬ j.val < 3584 by omega), if_neg (show ¬ j.val < 5120 by omega), if_neg (show ¬ j.val < 5632 by omega), if_neg (show ¬ j.val < 6656 by omega), if_neg (show ¬ j.val < 7680 by omega), if_neg (show ¬ j.val < 7744 by omega), if_neg (show ¬ j.val < 7872 by omega), if_neg (show ¬ j.val < 7936 by omega), if_neg (show ¬ j.val < 8000 by omega), if_neg (show ¬ j.val < 8064 by omega), if_neg (show ¬ j.val < 8072 by omega), if_neg (show ¬ j.val < 8080 by omega)]
    omega
  unfold joined
  refine (concatenate_apply_piece (t := S1024x8088) 1 _ _ _ 15 (by show 15 < 16; decide) S1024x8 (before m c main_v33)
    rfl rfl 8080 (by rfl) (ix2 k (⟨j.val - 8080, by omega⟩ : Fin 8)) (col_off _ _) ?_).trans ((piece15 m c k _).trans
      (congrArg (fun l => m ((c : Thread nD τ).loc main_arg2) (ix2 k l)) (Fin.ext e)))
  show 8080 + (j.val - 8080) = j.val
  omega

/-- A column of the joined groups. -/
theorem joined_apply (c : Dev nD) (k : Fin 1024) (j : Fin 8088) :
    joined (before m c) (ix2 k j) = m ((c : Thread nD τ).loc main_arg2) (ix2 k ⟨src j.val, src_lt j.isLt⟩) := by
  by_cases h0 : j.val < 1536
  · exact joined0 m c k j (by omega) h0
  by_cases h1 : j.val < 2048
  · exact joined1 m c k j (by omega) h1
  by_cases h2 : j.val < 3072
  · exact joined2 m c k j (by omega) h2
  by_cases h3 : j.val < 3584
  · exact joined3 m c k j (by omega) h3
  by_cases h4 : j.val < 5120
  · exact joined4 m c k j (by omega) h4
  by_cases h5 : j.val < 5632
  · exact joined5 m c k j (by omega) h5
  by_cases h6 : j.val < 6656
  · exact joined6 m c k j (by omega) h6
  by_cases h7 : j.val < 7680
  · exact joined7 m c k j (by omega) h7
  by_cases h8 : j.val < 7744
  · exact joined8 m c k j (by omega) h8
  by_cases h9 : j.val < 7872
  · exact joined9 m c k j (by omega) h9
  by_cases h10 : j.val < 7936
  · exact joined10 m c k j (by omega) h10
  by_cases h11 : j.val < 8000
  · exact joined11 m c k j (by omega) h11
  by_cases h12 : j.val < 8064
  · exact joined12 m c k j (by omega) h12
  by_cases h13 : j.val < 8072
  · exact joined13 m c k j (by omega) h13
  by_cases h14 : j.val < 8080
  · exact joined14 m c k j (by omega) h14
  exact joined15 m c k j (by omega) j.isLt

/-- Column `j` of the weights as the projection finds them. -/
theorem weights (c : Dev nD) (k : Fin 1024) (j : Fin 8192) :
    V m c main_v36 (ix2 k j) = packed (fun k l => m ((c : Thread nD τ).loc main_arg2) (ix2 k l)) k j := by
  rw [joins]
  unfold packed
  by_cases h : j.val < 8088
  · rw [dif_pos h]
    exact (concatenate_pair_apply_left (t := S1024x8192) (s₁ := S1024x8088) (s₂ := S1024x104) 1 _ _ _ _ rfl
      (ix2 k (⟨j.val, h⟩ : Fin 8088)) (by intro b; fin_cases b <;> rfl)).trans (joined_apply m c k _)
  · rw [dif_neg h]
    refine (concatenate_pair_apply_right (t := S1024x8192) (s₁ := S1024x8088) (s₂ := S1024x104) 1 _ _ _ _ rfl rfl
      (ix2 k (⟨j.val - 8088, by omega⟩ : Fin 104)) ?_ ?_).trans (zeros m c k _)
    · intro b hb
      fin_cases b
      · rfl
      · exact absurd rfl hb
    · show j.val - 8088 + 8088 = j.val
      omega

end Cert.InProjIdeal.Whole

end
-- ==== Proof.InProjValue.lean ====
/-
  What the input projection's two result arrays hold after the run: row r, column j is token r's normed row times the
  packed weights' column j (the wide array) or 8064 + j (the narrow one).
-/
module

public import proofs.«01_k».proof.Proof.InProjWeights

@[expose] public section

set_option maxRecDepth 16384

noncomputable section

namespace Cert.InProjIdeal.Whole

open Cert.InProjIdeal Cert.InProjIdeal.Gen Cert.Layer Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Device `c`'s projection at row `r` and packed column `j`, from its arguments. -/
def entryAt (c : Dev nD) (r : Fin 32768) (j : Fin 8192) : EReal :=
  projRow (fun a => m ((c : Thread nD τ).loc main_arg0) (ix3 (bat r) (pos r) a)) (fun a => m ((c : Thread nD τ).loc main_arg1) (ix1 a))
    (fun k => packed (fun k l => m ((c : Thread nD τ).loc main_arg2) (ix2 k l)) k j)

/-- The wide result array. -/
def wide (c : Dev nD) : Buf (Elt Ideal) ((c : Thread nD τ).loc main_v37_0) :=
  fun i : S32768x8064.Idx => entryAt m c (i 0) ⟨(i 1).val, by have h : (i 1).val < 8064 := (i 1).isLt; omega⟩

/-- The narrow result array. -/
def narrow (c : Dev nD) : Buf (Elt Ideal) ((c : Thread nD τ).loc main_v37_1) :=
  fun i : S32768x128.Idx => entryAt m c (i 0) ⟨8064 + (i 1).val, by have h : (i 1).val < 128 := (i 1).isLt; omega⟩

/-- Where each window's block sits at grid point `t`: the rows' windows move with the point, the others stay. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-! ## The windows' blocks, read as the arguments -/

theorem blk0 (c : Dev nD) (t : Fin cfg0.N) (i : Fin 512) (a : Fin 1024) (r : Fin 32768) (hr : r.val = t.val * 512 + i.val) :
    iblk m c 0 t (ix2 i a) = m ((c : Thread nD τ).loc main_arg0) (ix3 (bat r) (pos r) a) := by
  blk_simp [iblk]
  entry_read
  pointwise
  blk_ext [idx t, bat, pos]

theorem blk1 (c : Dev nD) (t : Fin cfg0.N) (a : Fin 1024) :
    iblk m c 1 t (ix2 0 a) = m ((c : Thread nD τ).loc main_arg1) (ix1 a) := by
  blk_simp [iblk]
  entry_read
  pointwise
  blk_ext [idx t]

theorem blk2 (c : Dev nD) (t : Fin cfg0.N) (k : Fin 1024) (j : Fin 8192) :
    iblk m c 2 t (ix2 k j) = packed (fun k l => m ((c : Thread nD τ).loc main_arg2) (ix2 k l)) k j := by
  refine Eq.trans ?_ (weights m c k j)
  blk_simp [iblk]
  blk_ext [idx t]

/-! ## The arrays after the run -/

set_option maxHeartbeats 2000000 in
/-- Every point's wide block is its 512 rows of `wide`, and the blocks fill the array. -/
theorem final_wide (c : Dev nD) : (dats m 0 c).arrAt 3 cfg0.N = wide m c := by
  refine (dats m 0 c).arrAt_eq_of_covers 3 _ (by decide +kernel) fun t hf y => ?_
  blk_simp
  rw [after0_3]
  idx_vars y
  refine (Block.wide_apply c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) y0 y1).trans ?_
  have ht : t.val < 64 := t.isLt
  have e : ((View.whole main_v37_0).slice (win0_3.rect t)).emb (ix2 y0 y1) = ix2 (⟨t.val * 512 + y0.val, by omega⟩ : Fin 32768) y1 := by
    blk_ext [idx t]
  rw [e]
  show _ = entryAt m c ⟨t.val * 512 + y0.val, by omega⟩ ⟨y1.val, by omega⟩
  unfold entryAt
  simp only [blk0 m c t y0 _ ⟨t.val * 512 + y0.val, by omega⟩ rfl, blk1, blk2]

set_option maxHeartbeats 2000000 in
/-- Every point's narrow block is its 512 rows of `narrow`, and the blocks fill the array. -/
theorem final_narrow (c : Dev nD) : (dats m 0 c).arrAt 4 cfg0.N = narrow m c := by
  refine (dats m 0 c).arrAt_eq_of_covers 4 _ (by decide +kernel) fun t hf y => ?_
  blk_simp
  rw [after0_4]
  idx_vars y
  refine (Block.narrow_apply c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) y0 y1).trans ?_
  have ht : t.val < 64 := t.isLt
  have e : ((View.whole main_v37_1).slice (win0_4.rect t)).emb (ix2 y0 y1) = ix2 (⟨t.val * 512 + y0.val, by omega⟩ : Fin 32768) y1 := by
    blk_ext [idx t]
  rw [e]
  show _ = entryAt m c ⟨t.val * 512 + y0.val, by omega⟩ ⟨8064 + y1.val, by omega⟩
  unfold entryAt
  simp only [blk0 m c t y0 _ ⟨t.val * 512 + y0.val, by omega⟩ rfl, blk1, blk2]

/-- The run: the two result arrays, and the arguments unchanged. -/
theorem run : θ_run defs (onTc (τ := τ) (main (F := Ideal))) ⟨m, fun _ => 0, ρ⟩ fun r => ∀ c : Dev nD,
      r.2.mem ((c : Thread nD τ).loc main_v37_0) = wide m c
      ∧ r.2.mem ((c : Thread nD τ).loc main_v37_1) = narrow m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_wide m c), (h c).2.1.trans (final_narrow m c), (h c).2.2⟩)
    (Value.run_blocks m ρ)

end Cert.InProjIdeal.Whole

end
-- ==== Proof.InProjRef.lean ====
/-
  What the input projection's reference computes: row r, column j of its wide result is token r's normed row times the
  packed weights' column j, of its narrow result the packed weights' column 8064 + j. The reference multiplies by the
  weights as they are given, cuts the product into its nineteen groups of columns and joins them in the layer's order.
-/
module

public import proofs.«01_k».proof.Proof.Gen.InProjRefIdeal.Read
public import proofs.«01_k».proof.Proof.Spec
public import proofs.«01_k».proof.Proof.Packing
public import Idealize.ShloMosaic.Lib.Pipeline.Value

@[expose] public section

set_option maxRecDepth 16384

noncomputable section

namespace Cert.InProjRefIdeal.Whole

open Cert.InProjRefIdeal Cert.InProjRefIdeal.Read Cert.Layer Idealize.ShloMosaic Idealize.ShloMosaic.TcCoe Idealize.SL.Sem

variable (x0 : (⟨S8x4096x1024, .f32⟩ : BufTy).Contents (Elt Ideal)) (x1 : (⟨S1024, .f32⟩ : BufTy).Contents (Elt Ideal))
variable (x2 : (⟨S1024x7896, .f32⟩ : BufTy).Contents (Elt Ideal))

/-- The normed rows. -/
theorem norm_apply (b : Fin 8) (p : Fin 4096) (k : Fin 1024) :
    val_main_v12 (F := Ideal) x0 x1 (ix3 b p k) = normRow (fun a => x0 (ix3 b p a)) (fun a => x1 (ix1 a)) k := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0, normRow]

/-- The product with the weights as given. -/
theorem product_apply (b : Fin 8) (p : Fin 4096) (s : Fin 7896) :
    val_main_v13 (F := Ideal) x0 x1 x2 (ix3 b p s)
      = projRow (fun a => x0 (ix3 b p a)) (fun a => x1 (ix1 a)) (fun k => x2 (ix2 k s)) := by
  pointwise [val_main_v13, norm_apply, projRow]

/-! ### The nineteen groups of columns of the product -/

theorem group14 (b : Fin 8) (p : Fin 4096) (j : Fin 1536) :
    val_main_v14 (F := Ideal) x0 x1 x2 (ix3 b p j) = val_main_v13 (F := Ideal) x0 x1 x2 (ix3 b p ⟨j.val, by omega⟩) := by
  pointwise [val_main_v14]

theorem group15 (b : Fin 8) (p : Fin 4096) (j : Fin 4) :
    val_main_v15 (F := Ideal) x0 x1 x2 (ix3 b p j) = val_main_v13 (F := Ideal) x0 x1 x2 (ix3 b p ⟨1536 + j.val, by omega⟩) := by
  pointwise [val_main_v15]

theorem group16 (b : Fin 8) (p : Fin 4096) (j : Fin 4) :
    val_main_v16 (F := Ideal) x0 x1 x2 (ix3 b p j) = val_main_v13 (F := Ideal) x0 x1 x2 (ix3 b p ⟨1540 + j.val, by omega⟩) := by
  pointwise [val_main_v16]

theorem group17 (b : Fin 8) (p : Fin 4096) (j : Fin 512) :
    val_main_v17 (F := Ideal) x0 x1 x2 (ix3 b p j) = val_main_v13 (F := Ideal) x0 x1 x2 (ix3 b p ⟨1544 + j.val, by omega⟩) := by
  pointwise [val_main_v17]

theorem group18 (b : Fin 8) (p : Fin 4096) (j : Fin 512) :
    val_main_v18 (F := Ideal) x0 x1 x2 (ix3 b p j) = val_main_v13 (F := Ideal) x0 x1 x2 (ix3 b p ⟨2056 + j.val, by omega⟩) := by
  pointwise [val_main_v18]

theorem group19 (b : Fin 8) (p : Fin 4096) (j : Fin 512) :
    val_main_v19 (F := Ideal) x0 x1 x2 (ix3 b p j) = val_main_v13 (F := Ideal) x0 x1 x2 (ix3 b p ⟨2568 + j.val, by omega⟩) := by
  pointwise [val_main_v19]

theorem group20 (b : Fin 8) (p : Fin 4096) (j : Fin 512) :
    val_main_v20 (F := Ideal) x0 x1 x2 (ix3 b p j) = val_main_v13 (F := Ideal) x0 x1 x2 (ix3 b p ⟨3080 + j.val, by omega⟩) := by
  pointwise [val_main_v20]

theorem group21 (b : Fin 8) (p : Fin 4096) (j : Fin 512) :
    val_main_v21 (F := Ideal) x0 x1 x2 (ix3 b p j) = val_main_v13 (F := Ideal) x0 x1 x2 (ix3 b p ⟨3592 + j.val, by omega⟩) := by
  pointwise [val_main_v21]

theorem group22 (b : Fin 8) (p : Fin 4096) (j : Fin 64) :
    val_main_v22 (F := Ideal) x0 x1 x2 (ix3 b p j) = val_main_v13 (F := Ideal) x0 x1 x2 (ix3 b p ⟨4104 + j.val, by omega⟩) := by
  pointwise [val_main_v22]

theorem group23 (b : Fin 8) (p : Fin 4096) (j : Fin 64) :
    val_main_v23 (F := Ideal) x0 x1 x2 (ix3 b p j) = val_main_v13 (F := Ideal) x0 x1 x2 (ix3 b p ⟨4168 + j.val, by omega⟩) := by
  pointwise [val_main_v23]

theorem group24 (b : Fin 8) (p : Fin 4096) (j : Fin 512) :
    val_main_v24 (F := Ideal) x0 x1 x2 (ix3 b p j) = val_main_v13 (F := Ideal) x0 x1 x2 (ix3 b p ⟨4232 + j.val, by omega⟩) := by
  pointwise [val_main_v24]

theorem group25 (b : Fin 8) (p : Fin 4096) (j : Fin 64) :
    val_main_v25 (F := Ideal) x0 x1 x2 (ix3 b p j) = val_main_v13 (F := Ideal) x0 x1 x2 (ix3 b p ⟨4744 + j.val, by omega⟩) := by
  pointwise [val_main_v25]

theorem group26 (b : Fin 8) (p : Fin 4096) (j : Fin 8) :
    val_main_v26 (F := Ideal) x0 x1 x2 (ix3 b p j) = val_main_v13 (F := Ideal) x0 x1 x2 (ix3 b p ⟨4808 + j.val, by omega⟩) := by
  pointwise [val_main_v26]

theorem group27 (b : Fin 8) (p : Fin 4096) (j : Fin 512) :
    val_main_v27 (F := Ideal) x0 x1 x2 (ix3 b p j) = val_main_v13 (F := Ideal) x0 x1 x2 (ix3 b p ⟨4816 + j.val, by omega⟩) := by
  pointwise [val_main_v27]

theorem group28 (b : Fin 8) (p : Fin 4096) (j : Fin 512) :
    val_main_v28 (F := Ideal) x0 x1 x2 (ix3 b p j) = val_main_v13 (F := Ideal) x0 x1 x2 (ix3 b p ⟨5328 + j.val, by omega⟩) := by
  pointwise [val_main_v28]

theorem group29 (b : Fin 8) (p : Fin 4096) (j : Fin 1024) :
    val_main_v29 (F := Ideal) x0 x1 x2 (ix3 b p j) = val_main_v13 (F := Ideal) x0 x1 x2 (ix3 b p ⟨5840 + j.val, by omega⟩) := by
  pointwise [val_main_v29]

theorem group30 (b : Fin 8) (p : Fin 4096) (j : Fin 8) :
    val_main_v30 (F := Ideal) x0 x1 x2 (ix3 b p j) = val_main_v13 (F := Ideal) x0 x1 x2 (ix3 b p ⟨6864 + j.val, by omega⟩) := by
  pointwise [val_main_v30]

theorem group31 (b : Fin 8) (p : Fin 4096) (j : Fin 512) :
    val_main_v31 (F := Ideal) x0 x1 x2 (ix3 b p j) = val_main_v13 (F := Ideal) x0 x1 x2 (ix3 b p ⟨6872 + j.val, by omega⟩) := by
  pointwise [val_main_v31]

theorem group32 (b : Fin 8) (p : Fin 4096) (j : Fin 512) :
    val_main_v32 (F := Ideal) x0 x1 x2 (ix3 b p j) = val_main_v13 (F := Ideal) x0 x1 x2 (ix3 b p ⟨7384 + j.val, by omega⟩) := by
  pointwise [val_main_v32]

/-! ### The joins -/

/-- Off the joined axis the coordinates of a group are the coordinates of the whole. -/
theorem col_off {n w : ℕ} {b : Fin 8} {p : Fin 4096} (j : Fin w) (l : Fin n) (d : Fin 3) (hd : d ≠ 2) :
    ((ix3 b p l : (⟨3, ![8, 4096, n]⟩ : Shape).Idx) d).val = ((ix3 b p j : (⟨3, ![8, 4096, w]⟩ : Shape).Idx) d).val := by
  fin_cases d
  · rfl
  · rfl
  · exact absurd rfl hd

theorem join33_0 (b : Fin 8) (p : Fin 4096) (j : Fin 7680) (h₁ : 0 ≤ j.val) (h₂ : j.val < 1536) :
    val_main_v33 (F := Ideal) x0 x1 x2 (ix3 b p j) = val_main_v13 (F := Ideal) x0 x1 x2 (ix3 b p ⟨src (j.val), src_lt (by omega)⟩) := by
  have e : (j.val - 0) = src (j.val) := by
    unfold src
    rw [if_pos (show j.val < 1536 by omega)]
    omega
  unfold val_main_v33
  refine (concatenate_apply_piece (t := S8x4096x7680) 2 _ _ _ 0 (by show 0 < 12; decide) S8x4096x1536 (val_main_v14 (F := Ideal) x0 x1 x2)
    rfl rfl 0 (by rfl) (ix3 b p (⟨j.val - 0, by omega⟩ : Fin 1536)) (col_off _ _) ?_).trans ((group14 x0 x1 x2 b p _).trans
      (congrArg (fun l => val_main_v13 (F := Ideal) x0 x1 x2 (ix3 b p l)) (Fin.ext e)))
  show 0 + (j.val - 0) = j.val
  omega

theorem join33_1 (b : Fin 8) (p : Fin 4096) (j : Fin 7680) (h₁ : 1536 ≤ j.val) (h₂ : j.val < 2048) :
    val_main_v33 (F := Ideal) x0 x1 x2 (ix3 b p j) = val_main_v13 (F := Ideal) x0 x1 x2 (ix3 b p ⟨src (j.val), src_lt (by omega)⟩) := by
  have e : 2056 + (j.val - 1536) = src (j.val) := by
    unfold src
    rw [if_neg (show ¬ j.val < 1536 by omega), if_pos (show j.val < 2048 by omega)]
    omega
  unfold val_main_v33
  refine (concatenate_apply_piece (t := S8x4096x7680) 2 _ _ _ 1 (by show 1 < 12; decide) S8x4096x512 (val_main_v18 (F := Ideal) x0 x1 x2)
    rfl rfl 1536 (by rfl) (ix3 b p (⟨j.val - 1536, by omega⟩ : Fin 512)) (col_off _ _) ?_).trans ((group18 x0 x1 x2 b p _).trans
      (congrArg (fun l => val_main_v13 (F := Ideal) x0 x1 x2 (ix3 b p l)) (Fin.ext e)))
  show 1536 + (j.val - 1536) = j.val
  omega

theorem join33_2 (b : Fin 8) (p : Fin 4096) (j : Fin 7680) (h₁ : 2048 ≤ j.val) (h₂ : j.val < 3072) :
    val_main_v33 (F := Ideal) x0 x1 x2 (ix3 b p j) = val_main_v13 (F := Ideal) x0 x1 x2 (ix3 b p ⟨src (j.val), src_lt (by omega)⟩) := by
  have e : 5840 + (j.val - 2048) = src (j.val) := by
    unfold src
    rw [if_neg (show ¬ j.val < 1536 by omega), if_neg (show ¬ j.val < 2048 by omega), if_pos (show j.val < 3072 by omega)]
    omega
  unfold val_main_v33
  refine (concatenate_apply_piece (t := S8x4096x7680) 2 _ _ _ 2 (by show 2 < 12; decide) S8x4096x1024 (val_main_v29 (F := Ideal) x0 x1 x2)
    rfl rfl 2048 (by rfl) (ix3 b p (⟨j.val - 2048, by omega⟩ : Fin 1024)) (col_off _ _) ?_).trans ((group29 x0 x1 x2 b p _).trans
      (congrArg (fun l => val_main_v13 (F := Ideal) x0 x1 x2 (ix3 b p l)) (Fin.ext e)))
  show 2048 + (j.val - 2048) = j.val
  omega

theorem join33_3 (b : Fin 8) (p : Fin 4096) (j : Fin 7680) (h₁ : 3072 ≤ j.val) (h₂ : j.val < 3584) :
    val_main_v33 (F := Ideal) x0 x1 x2 (ix3 b p j) = val_main_v13 (F := Ideal) x0 x1 x2 (ix3 b p ⟨src (j.val), src_lt (by omega)⟩) := by
  have e : 1544 + (j.val - 3072) = src (j.val) := by
    unfold src
    rw [if_neg (show ¬ j.val < 1536 by omega), if_neg (show ¬ j.val < 2048 by omega), if_neg (show ¬ j.val < 3072 by omega), if_pos (show j.val < 3584 by omega)]
    omega
  unfold val_main_v33
  refine (concatenate_apply_piece (t := S8x4096x7680) 2 _ _ _ 3 (by show 3 < 12; decide) S8x4096x512 (val_main_v17 (F := Ideal) x0 x1 x2)
    rfl rfl 3072 (by rfl) (ix3 b p (⟨j.val - 3072, by omega⟩ : Fin 512)) (col_off _ _) ?_).trans ((group17 x0 x1 x2 b p _).trans
      (congrArg (fun l => val_main_v13 (F := Ideal) x0 x1 x2 (ix3 b p l)) (Fin.ext e)))
  show 3072 + (j.val - 3072) = j.val
  omega

theorem join33_4 (b : Fin 8) (p : Fin 4096) (j : Fin 7680) (h₁ : 3584 ≤ j.val) (h₂ : j.val < 4096) :
    val_main_v33 (F := Ideal) x0 x1 x2 (ix3 b p j) = val_main_v13 (F := Ideal) x0 x1 x2 (ix3 b p ⟨src (j.val), src_lt (by omega)⟩) := by
  have e : 2568 + (j.val - 3584) = src (j.val) := by
    unfold src
    rw [if_neg (show ¬ j.val < 1536 by omega), if_neg (show ¬ j.val < 2048 by omega), if_neg (show ¬ j.val < 3072 by omega), if_neg (show ¬ j.val < 3584 by omega), if_pos (show j.val < 5120 by omega)]
    omega
  unfold val_main_v33
  refine (concatenate_apply_piece (t := S8x4096x7680) 2 _ _ _ 4 (by show 4 < 12; decide) S8x4096x512 (val_main_v19 (F := Ideal) x0 x1 x2)
    rfl rfl 3584 (by rfl) (ix3 b p (⟨j.val - 3584, by omega⟩ : Fin 512)) (col_off _ _) ?_).trans ((group19 x0 x1 x2 b p _).trans
      (congrArg (fun l => val_main_v13 (F := Ideal) x0 x1 x2 (ix3 b p l)) (Fin.ext e)))
  show 3584 + (j.val - 3584) = j.val
  omega

theorem join33_5 (b : Fin 8) (p : Fin 4096) (j : Fin 7680) (h₁ : 4096 ≤ j.val) (h₂ : j.val < 4608) :
    val_main_v33 (F := Ideal) x0 x1 x2 (ix3 b p j) = val_main_v13 (F := Ideal) x0 x1 x2 (ix3 b p ⟨src (j.val), src_lt (by omega)⟩) := by
  have e : 3080 + (j.val - 4096) = src (j.val) := by
    unfold src
    rw [if_neg (show ¬ j.val < 1536 by omega), if_neg (show ¬ j.val < 2048 by omega), if_neg (show ¬ j.val < 3072 by omega), if_neg (show ¬ j.val < 3584 by omega), if_pos (show j.val < 5120 by omega)]
    omega
  unfold val_main_v33
  refine (concatenate_apply_piece (t := S8x4096x7680) 2 _ _ _ 5 (by show 5 < 12; decide) S8x4096x512 (val_main_v20 (F := Ideal) x0 x1 x2)
    rfl rfl 4096 (by rfl) (ix3 b p (⟨j.val - 4096, by omega⟩ : Fin 512)) (col_off _ _) ?_).trans ((group20 x0 x1 x2 b p _).trans
      (congrArg (fun l => val_main_v13 (F := Ideal) x0 x1 x2 (ix3 b p l)) (Fin.ext e)))
  show 4096 + (j.val - 4096) = j.val
  omega

theorem join33_6 (b : Fin 8) (p : Fin 4096) (j : Fin 7680) (h₁ : 4608 ≤ j.val) (h₂ : j.val < 5120) :
    val_main_v33 (F := Ideal) x0 x1 x2 (ix3 b p j) = val_main_v13 (F := Ideal) x0 x1 x2 (ix3 b p ⟨src (j.val), src_lt (by omega)⟩) := by
  have e : 3592 + (j.val - 4608) = src (j.val) := by
    unfold src
    rw [if_neg (show ¬ j.val < 1536 by omega), if_neg (show ¬ j.val < 2048 by omega), if_neg (show ¬ j.val < 3072 by omega), if_neg (show ¬ j.val < 3584 by omega), if_pos (show j.val < 5120 by omega)]
    omega
  unfold val_main_v33
  refine (concatenate_apply_piece (t := S8x4096x7680) 2 _ _ _ 6 (by show 6 < 12; decide) S8x4096x512 (val_main_v21 (F := Ideal) x0 x1 x2)
    rfl rfl 4608 (by rfl) (ix3 b p (⟨j.val - 4608, by omega⟩ : Fin 512)) (col_off _ _) ?_).trans ((group21 x0 x1 x2 b p _).trans
      (congrArg (fun l => val_main_v13 (F := Ideal) x0 x1 x2 (ix3 b p l)) (Fin.ext e)))
  show 4608 + (j.val - 4608) = j.val
  omega

theorem join33_7 (b : Fin 8) (p : Fin 4096) (j : Fin 7680) (h₁ : 5120 ≤ j.val) (h₂ : j.val < 5632) :
    val_main_v33 (F := Ideal) x0 x1 x2 (ix3 b p j) = val_main_v13 (F := Ideal) x0 x1 x2 (ix3 b p ⟨src (j.val), src_lt (by omega)⟩) := by
  have e : 4232 + (j.val - 5120) = src (j.val) := by
    unfold src
    rw [if_neg (show ¬ j.val < 1536 by omega), if_neg (show ¬ j.val < 2048 by omega), if_neg (show ¬ j.val < 3072 by omega), if_neg (show ¬ j.val < 3584 by omega), if_neg (show ¬ j.val < 5120 by omega), if_pos (show j.val < 5632 by omega)]
    omega
  unfold val_main_v33
  refine (concatenate_apply_piece (t := S8x4096x7680) 2 _ _ _ 7 (by show 7 < 12; decide) S8x4096x512 (val_main_v24 (F := Ideal) x0 x1 x2)
    rfl rfl 5120 (by rfl) (ix3 b p (⟨j.val - 5120, by omega⟩ : Fin 512)) (col_off _ _) ?_).trans ((group24 x0 x1 x2 b p _).trans
      (congrArg (fun l => val_main_v13 (F := Ideal) x0 x1 x2 (ix3 b p l)) (Fin.ext e)))
  show 5120 + (j.val - 5120) = j.val
  omega

theorem join33_8 (b : Fin 8) (p : Fin 4096) (j : Fin 7680) (h₁ : 5632 ≤ j.val) (h₂ : j.val < 6144) :
    val_main_v33 (F := Ideal) x0 x1 x2 (ix3 b p j) = val_main_v13 (F := Ideal) x0 x1 x2 (ix3 b p ⟨src (j.val), src_lt (by omega)⟩) := by
  have e : 4816 + (j.val - 5632) = src (j.val) := by
    unfold src
    rw [if_neg (show ¬ j.val < 1536 by omega), if_neg (show ¬ j.val < 2048 by omega), if_neg (show ¬ j.val < 3072 by omega), if_neg (show ¬ j.val < 3584 by omega), if_neg (show ¬ j.val < 5120 by omega), if_neg (show ¬ j.val < 5632 by omega), if_pos (show j.val < 6656 by omega)]
    omega
  unfold val_main_v33
  refine (concatenate_apply_piece (t := S8x4096x7680) 2 _ _ _ 8 (by show 8 < 12; decide) S8x4096x512 (val_main_v27 (F := Ideal) x0 x1 x2)
    rfl rfl 5632 (by rfl) (ix3 b p (⟨j.val - 5632, by omega⟩ : Fin 512)) (col_off _ _) ?_).trans ((group27 x0 x1 x2 b p _).trans
      (congrArg (fun l => val_main_v13 (F := Ideal) x0 x1 x2 (ix3 b p l)) (Fin.ext e)))
  show 5632 + (j.val - 5632) = j.val
  omega

theorem join33_9 (b : Fin 8) (p : Fin 4096) (j : Fin 7680) (h₁ : 6144 ≤ j.val) (h₂ : j.val < 6656) :
    val_main_v33 (F := Ideal) x0 x1 x2 (ix3 b p j) = val_main_v13 (F := Ideal) x0 x1 x2 (ix3 b p ⟨src (j.val), src_lt (by omega)⟩) := by
  have e : 5328 + (j.val - 6144) = src (j.val) := by
    unfold src
    rw [if_neg (show ¬ j.val < 1536 by omega), if_neg (show ¬ j.val < 2048 by omega), if_neg (show ¬ j.val < 3072 by omega), if_neg (show ¬ j.val < 3584 by omega), if_neg (show ¬ j.val < 5120 by omega), if_neg (show ¬ j.val < 5632 by omega), if_pos (show j.val < 6656 by omega)]
    omega
  unfold val_main_v33
  refine (concatenate_apply_piece (t := S8x4096x7680) 2 _ _ _ 9 (by show 9 < 12; decide) S8x4096x512 (val_main_v28 (F := Ideal) x0 x1 x2)
    rfl rfl 6144 (by rfl) (ix3 b p (⟨j.val - 6144, by omega⟩ : Fin 512)) (col_off _ _) ?_).trans ((group28 x0 x1 x2 b p _).trans
      (congrArg (fun l => val_main_v13 (F := Ideal) x0 x1 x2 (ix3 b p l)) (Fin.ext e)))
  show 6144 + (j.val - 6144) = j.val
  omega

theorem join33_10 (b : Fin 8) (p : Fin 4096) (j : Fin 7680) (h₁ : 6656 ≤ j.val) (h₂ : j.val < 7168) :
    val_main_v33 (F := Ideal) x0 x1 x2 (ix3 b p j) = val_main_v13 (F := Ideal) x0 x1 x2 (ix3 b p ⟨src (j.val), src_lt (by omega)⟩) := by
  have e : 6872 + (j.val - 6656) = src (j.val) := by
    unfold src
    rw [if_neg (show ¬ j.val < 1536 by omega), if_neg (show ¬ j.val < 2048 by omega), if_neg (show ¬ j.val < 3072 by omega), if_neg (show ¬ j.val < 3584 by omega), if_neg (show ¬ j.val < 5120 by omega), if_neg (show ¬ j.val < 5632 by omega), if_neg (show ¬ j.val < 6656 by omega), if_pos (show j.val < 7680 by omega)]
    omega
  unfold val_main_v33
  refine (concatenate_apply_piece (t := S8x4096x7680) 2 _ _ _ 10 (by show 10 < 12; decide) S8x4096x512 (val_main_v31 (F := Ideal) x0 x1 x2)
    rfl rfl 6656 (by rfl) (ix3 b p (⟨j.val - 6656, by omega⟩ : Fin 512)) (col_off _ _) ?_).trans ((group31 x0 x1 x2 b p _).trans
      (congrArg (fun l => val_main_v13 (F := Ideal) x0 x1 x2 (ix3 b p l)) (Fin.ext e)))
  show 6656 + (j.val - 6656) = j.val
  omega

set_option maxHeartbeats 1600000 in
theorem join33_11 (b : Fin 8) (p : Fin 4096) (j : Fin 7680) (h₁ : 7168 ≤ j.val) (h₂ : j.val < 7680) :
    val_main_v33 (F := Ideal) x0 x1 x2 (ix3 b p j) = val_main_v13 (F := Ideal) x0 x1 x2 (ix3 b p ⟨src (j.val), src_lt (by omega)⟩) := by
  have e : 7384 + (j.val - 7168) = src (j.val) := by
    unfold src
    rw [if_neg (show ¬ j.val < 1536 by omega), if_neg (show ¬ j.val < 2048 by omega), if_neg (show ¬ j.val < 3072 by omega), if_neg (show ¬ j.val < 3584 by omega), if_neg (show ¬ j.val < 5120 by omega), if_neg (show ¬ j.val < 5632 by omega), if_neg (show ¬ j.val < 6656 by omega), if_pos (show j.val < 7680 by omega)]
    omega
  unfold val_main_v33
  refine (concatenate_apply_piece (t := S8x4096x7680) 2 _ _ _ 11 (by show 11 < 12; decide) S8x4096x512 (val_main_v32 (F := Ideal) x0 x1 x2)
    rfl rfl 7168 (by rfl) (ix3 b p (⟨j.val - 7168, by omega⟩ : Fin 512)) (col_off _ _) ?_).trans ((group32 x0 x1 x2 b p _).trans
      (congrArg (fun l => val_main_v13 (F := Ideal) x0 x1 x2 (ix3 b p l)) (Fin.ext e)))
  show 7168 + (j.val - 7168) = j.val
  omega

theorem join33 (b : Fin 8) (p : Fin 4096) (j : Fin 7680) :
    val_main_v33 (F := Ideal) x0 x1 x2 (ix3 b p j) = val_main_v13 (F := Ideal) x0 x1 x2 (ix3 b p ⟨src (j.val), src_lt (by omega)⟩) := by
  by_cases h0 : j.val < 1536
  · exact join33_0 x0 x1 x2 b p j (by omega) h0
  by_cases h1 : j.val < 2048
  · exact join33_1 x0 x1 x2 b p j (by omega) h1
  by_cases h2 : j.val < 3072
  · exact join33_2 x0 x1 x2 b p j (by omega) h2
  by_cases h3 : j.val < 3584
  · exact join33_3 x0 x1 x2 b p j (by omega) h3
  by_cases h4 : j.val < 4096
  · exact join33_4 x0 x1 x2 b p j (by omega) h4
  by_cases h5 : j.val < 4608
  · exact join33_5 x0 x1 x2 b p j (by omega) h5
  by_cases h6 : j.val < 5120
  · exact join33_6 x0 x1 x2 b p j (by omega) h6
  by_cases h7 : j.val < 5632
  · exact join33_7 x0 x1 x2 b p j (by omega) h7
  by_cases h8 : j.val < 6144
  · exact join33_8 x0 x1 x2 b p j (by omega) h8
  by_cases h9 : j.val < 6656
  · exact join33_9 x0 x1 x2 b p j (by omega) h9
  by_cases h10 : j.val < 7168
  · exact join33_10 x0 x1 x2 b p j (by omega) h10
  exact join33_11 x0 x1 x2 b p j (by omega) j.isLt

theorem join34_0 (b : Fin 8) (p : Fin 4096) (j : Fin 384) (h₁ : 0 ≤ j.val) (h₂ : j.val < 64) :
    val_main_v34 (F := Ideal) x0 x1 x2 (ix3 b p j) = val_main_v13 (F := Ideal) x0 x1 x2 (ix3 b p ⟨src (7680 + j.val), src_lt (by omega)⟩) := by
  have e : 4104 + (j.val - 0) = src (7680 + j.val) := by
    unfold src
    rw [if_neg (show ¬ 7680 + j.val < 1536 by omega), if_neg (show ¬ 7680 + j.val < 2048 by omega), if_neg (show ¬ 7680 + j.val < 3072 by omega), if_neg (show ¬ 7680 + j.val < 3584 by omega), if_neg (show ¬ 7680 + j.val < 5120 by omega), if_neg (show ¬ 7680 + j.val < 5632 by omega), if_neg (show ¬ 7680 + j.val < 6656 by omega), if_neg (show ¬ 7680 + j.val < 7680 by omega), if_pos (show 7680 + j.val < 7744 by omega)]
    omega
  unfold val_main_v34
  refine (concatenate_apply_piece (t := S8x4096x384) 2 _ _ _ 0 (by show 0 < 6; decide) S8x4096x64 (val_main_v22 (F := Ideal) x0 x1 x2)
    rfl rfl 0 (by rfl) (ix3 b p (⟨j.val - 0, by omega⟩ : Fin 64)) (col_off _ _) ?_).trans ((group22 x0 x1 x2 b p _).trans
      (congrArg (fun l => val_main_v13 (F := Ideal) x0 x1 x2 (ix3 b p l)) (Fin.ext e)))
  show 0 + (j.val - 0) = j.val
  omega

theorem join34_1 (b : Fin 8) (p : Fin 4096) (j : Fin 384) (h₁ : 64 ≤ j.val) (h₂ : j.val < 128) :
    val_main_v34 (F := Ideal) x0 x1 x2 (ix3 b p j) = val_main_v13 (F := Ideal) x0 x1 x2 (ix3 b p ⟨src (7680 + j.val), src_lt (by omega)⟩) := by
  have e : 4104 + (j.val - 64) = src (7680 + j.val) := by
    unfold src
    rw [if_neg (show ¬ 7680 + j.val < 1536 by omega), if_neg (show ¬ 7680 + j.val < 2048 by omega), if_neg (show ¬ 7680 + j.val < 3072 by omega), if_neg (show ¬ 7680 + j.val < 3584 by omega), if_neg (show ¬ 7680 + j.val < 5120 by omega), if_neg (show ¬ 7680 + j.val < 5632 by omega), if_neg (show ¬ 7680 + j.val < 6656 by omega), if_neg (show ¬ 7680 + j.val < 7680 by omega), if_neg (show ¬ 7680 + j.val < 7744 by omega), if_pos (show 7680 + j.val < 7872 by omega)]
    omega
  unfold val_main_v34
  refine (concatenate_apply_piece (t := S8x4096x384) 2 _ _ _ 1 (by show 1 < 6; decide) S8x4096x64 (val_main_v22 (F := Ideal) x0 x1 x2)
    rfl rfl 64 (by rfl) (ix3 b p (⟨j.val - 64, by omega⟩ : Fin 64)) (col_off _ _) ?_).trans ((group22 x0 x1 x2 b p _).trans
      (congrArg (fun l => val_main_v13 (F := Ideal) x0 x1 x2 (ix3 b p l)) (Fin.ext e)))
  show 64 + (j.val - 64) = j.val
  omega

theorem join34_2 (b : Fin 8) (p : Fin 4096) (j : Fin 384) (h₁ : 128 ≤ j.val) (h₂ : j.val < 192) :
    val_main_v34 (F := Ideal) x0 x1 x2 (ix3 b p j) = val_main_v13 (F := Ideal) x0 x1 x2 (ix3 b p ⟨src (7680 + j.val), src_lt (by omega)⟩) := by
  have e : 4168 + (j.val - 128) = src (7680 + j.val) := by
    unfold src
    rw [if_neg (show ¬ 7680 + j.val < 1536 by omega), if_neg (show ¬ 7680 + j.val < 2048 by omega), if_neg (show ¬ 7680 + j.val < 3072 by omega), if_neg (show ¬ 7680 + j.val < 3584 by omega), if_neg (show ¬ 7680 + j.val < 5120 by omega), if_neg (show ¬ 7680 + j.val < 5632 by omega), if_neg (show ¬ 7680 + j.val < 6656 by omega), if_neg (show ¬ 7680 + j.val < 7680 by omega), if_neg (show ¬ 7680 + j.val < 7744 by omega), if_pos (show 7680 + j.val < 7872 by omega)]
    omega
  unfold val_main_v34
  refine (concatenate_apply_piece (t := S8x4096x384) 2 _ _ _ 2 (by show 2 < 6; decide) S8x4096x64 (val_main_v23 (F := Ideal) x0 x1 x2)
    rfl rfl 128 (by rfl) (ix3 b p (⟨j.val - 128, by omega⟩ : Fin 64)) (col_off _ _) ?_).trans ((group23 x0 x1 x2 b p _).trans
      (congrArg (fun l => val_main_v13 (F := Ideal) x0 x1 x2 (ix3 b p l)) (Fin.ext e)))
  show 128 + (j.val - 128) = j.val
  omega

theorem join34_3 (b : Fin 8) (p : Fin 4096) (j : Fin 384) (h₁ : 192 ≤ j.val) (h₂ : j.val < 256) :
    val_main_v34 (F := Ideal) x0 x1 x2 (ix3 b p j) = val_main_v13 (F := Ideal) x0 x1 x2 (ix3 b p ⟨src (7680 + j.val), src_lt (by omega)⟩) := by
  have e : 4168 + (j.val - 192) = src (7680 + j.val) := by
    unfold src
    rw [if_neg (show ¬ 7680 + j.val < 1536 by omega), if_neg (show ¬ 7680 + j.val < 2048 by omega), if_neg (show ¬ 7680 + j.val < 3072 by omega), if_neg (show ¬ 7680 + j.val < 3584 by omega), if_neg (show ¬ 7680 + j.val < 5120 by omega), if_neg (show ¬ 7680 + j.val < 5632 by omega), if_neg (show ¬ 7680 + j.val < 6656 by omega), if_neg (show ¬ 7680 + j.val < 7680 by omega), if_neg (show ¬ 7680 + j.val < 7744 by omega), if_neg (show ¬ 7680 + j.val < 7872 by omega), if_pos (show 7680 + j.val < 7936 by omega)]
    omega
  unfold val_main_v34
  refine (concatenate_apply_piece (t := S8x4096x384) 2 _ _ _ 3 (by show 3 < 6; decide) S8x4096x64 (val_main_v23 (F := Ideal) x0 x1 x2)
    rfl rfl 192 (by rfl) (ix3 b p (⟨j.val - 192, by omega⟩ : Fin 64)) (col_off _ _) ?_).trans ((group23 x0 x1 x2 b p _).trans
      (congrArg (fun l => val_main_v13 (F := Ideal) x0 x1 x2 (ix3 b p l)) (Fin.ext e)))
  show 192 + (j.val - 192) = j.val
  omega

theorem join34_4 (b : Fin 8) (p : Fin 4096) (j : Fin 384) (h₁ : 256 ≤ j.val) (h₂ : j.val < 320) :
    val_main_v34 (F := Ideal) x0 x1 x2 (ix3 b p j) = val_main_v13 (F := Ideal) x0 x1 x2 (ix3 b p ⟨src (7680 + j.val), src_lt (by omega)⟩) := by
  have e : 4744 + (j.val - 256) = src (7680 + j.val) := by
    unfold src
    rw [if_neg (show ¬ 7680 + j.val < 1536 by omega), if_neg (show ¬ 7680 + j.val < 2048 by omega), if_neg (show ¬ 7680 + j.val < 3072 by omega), if_neg (show ¬ 7680 + j.val < 3584 by omega), if_neg (show ¬ 7680 + j.val < 5120 by omega), if_neg (show ¬ 7680 + j.val < 5632 by omega), if_neg (show ¬ 7680 + j.val < 6656 by omega), if_neg (show ¬ 7680 + j.val < 7680 by omega), if_neg (show ¬ 7680 + j.val < 7744 by omega), if_neg (show ¬ 7680 + j.val < 7872 by omega), if_neg (show ¬ 7680 + j.val < 7936 by omega), if_pos (show 7680 + j.val < 8000 by omega)]
    omega
  unfold val_main_v34
  refine (concatenate_apply_piece (t := S8x4096x384) 2 _ _ _ 4 (by show 4 < 6; decide) S8x4096x64 (val_main_v25 (F := Ideal) x0 x1 x2)
    rfl rfl 256 (by rfl) (ix3 b p (⟨j.val - 256, by omega⟩ : Fin 64)) (col_off _ _) ?_).trans ((group25 x0 x1 x2 b p _).trans
      (congrArg (fun l => val_main_v13 (F := Ideal) x0 x1 x2 (ix3 b p l)) (Fin.ext e)))
  show 256 + (j.val - 256) = j.val
  omega

theorem join34_5 (b : Fin 8) (p : Fin 4096) (j : Fin 384) (h₁ : 320 ≤ j.val) (h₂ : j.val < 384) :
    val_main_v34 (F := Ideal) x0 x1 x2 (ix3 b p j) = val_main_v13 (F := Ideal) x0 x1 x2 (ix3 b p ⟨src (7680 + j.val), src_lt (by omega)⟩) := by
  have e : 4744 + (j.val - 320) = src (7680 + j.val) := by
    unfold src
    rw [if_neg (show ¬ 7680 + j.val < 1536 by omega), if_neg (show ¬ 7680 + j.val < 2048 by omega), if_neg (show ¬ 7680 + j.val < 3072 by omega), if_neg (show ¬ 7680 + j.val < 3584 by omega), if_neg (show ¬ 7680 + j.val < 5120 by omega), if_neg (show ¬ 7680 + j.val < 5632 by omega), if_neg (show ¬ 7680 + j.val < 6656 by omega), if_neg (show ¬ 7680 + j.val < 7680 by omega), if_neg (show ¬ 7680 + j.val < 7744 by omega), if_neg (show ¬ 7680 + j.val < 7872 by omega), if_neg (show ¬ 7680 + j.val < 7936 by omega), if_neg (show ¬ 7680 + j.val < 8000 by omega), if_pos (show 7680 + j.val < 8064 by omega)]
    omega
  unfold val_main_v34
  refine (concatenate_apply_piece (t := S8x4096x384) 2 _ _ _ 5 (by show 5 < 6; decide) S8x4096x64 (val_main_v25 (F := Ideal) x0 x1 x2)
    rfl rfl 320 (by rfl) (ix3 b p (⟨j.val - 320, by omega⟩ : Fin 64)) (col_off _ _) ?_).trans ((group25 x0 x1 x2 b p _).trans
      (congrArg (fun l => val_main_v13 (F := Ideal) x0 x1 x2 (ix3 b p l)) (Fin.ext e)))
  show 320 + (j.val - 320) = j.val
  omega

theorem join34 (b : Fin 8) (p : Fin 4096) (j : Fin 384) :
    val_main_v34 (F := Ideal) x0 x1 x2 (ix3 b p j) = val_main_v13 (F := Ideal) x0 x1 x2 (ix3 b p ⟨src (7680 + j.val), src_lt (by omega)⟩) := by
  by_cases h0 : j.val < 64
  · exact join34_0 x0 x1 x2 b p j (by omega) h0
  by_cases h1 : j.val < 128
  · exact join34_1 x0 x1 x2 b p j (by omega) h1
  by_cases h2 : j.val < 192
  · exact join34_2 x0 x1 x2 b p j (by omega) h2
  by_cases h3 : j.val < 256
  · exact join34_3 x0 x1 x2 b p j (by omega) h3
  by_cases h4 : j.val < 320
  · exact join34_4 x0 x1 x2 b p j (by omega) h4
  exact join34_5 x0 x1 x2 b p j (by omega) j.isLt

theorem join37_0 (b : Fin 8) (p : Fin 4096) (j : Fin 128) (h₁ : 0 ≤ j.val) (h₂ : j.val < 4) :
    val_main_v37 (F := Ideal) x0 x1 x2 (ix3 b p j) = val_main_v13 (F := Ideal) x0 x1 x2 (ix3 b p ⟨src (8064 + j.val), src_lt (by omega)⟩) := by
  have e : 1536 + (j.val - 0) = src (8064 + j.val) := by
    unfold src
    rw [if_neg (show ¬ 8064 + j.val < 1536 by omega), if_neg (show ¬ 8064 + j.val < 2048 by omega), if_neg (show ¬ 8064 + j.val < 3072 by omega), if_neg (show ¬ 8064 + j.val < 3584 by omega), if_neg (show ¬ 8064 + j.val < 5120 by omega), if_neg (show ¬ 8064 + j.val < 5632 by omega), if_neg (show ¬ 8064 + j.val < 6656 by omega), if_neg (show ¬ 8064 + j.val < 7680 by omega), if_neg (show ¬ 8064 + j.val < 7744 by omega), if_neg (show ¬ 8064 + j.val < 7872 by omega), if_neg (show ¬ 8064 + j.val < 7936 by omega), if_neg (show ¬ 8064 + j.val < 8000 by omega), if_neg (show ¬ 8064 + j.val < 8064 by omega), if_pos (show 8064 + j.val < 8072 by omega)]
    omega
  unfold val_main_v37
  refine (concatenate_apply_piece (t := S8x4096x128) 2 _ _ _ 0 (by show 0 < 5; decide) S8x4096x4 (val_main_v15 (F := Ideal) x0 x1 x2)
    rfl rfl 0 (by rfl) (ix3 b p (⟨j.val - 0, by omega⟩ : Fin 4)) (col_off _ _) ?_).trans ((group15 x0 x1 x2 b p _).trans
      (congrArg (fun l => val_main_v13 (F := Ideal) x0 x1 x2 (ix3 b p l)) (Fin.ext e)))
  show 0 + (j.val - 0) = j.val
  omega

theorem join37_1 (b : Fin 8) (p : Fin 4096) (j : Fin 128) (h₁ : 4 ≤ j.val) (h₂ : j.val < 8) :
    val_main_v37 (F := Ideal) x0 x1 x2 (ix3 b p j) = val_main_v13 (F := Ideal) x0 x1 x2 (ix3 b p ⟨src (8064 + j.val), src_lt (by omega)⟩) := by
  have e : 1540 + (j.val - 4) = src (8064 + j.val) := by
    unfold src
    rw [if_neg (show ¬ 8064 + j.val < 1536 by omega), if_neg (show ¬ 8064 + j.val < 2048 by omega), if_neg (show ¬ 8064 + j.val < 3072 by omega), if_neg (show ¬ 8064 + j.val < 3584 by omega), if_neg (show ¬ 8064 + j.val < 5120 by omega), if_neg (show ¬ 8064 + j.val < 5632 by omega), if_neg (show ¬ 8064 + j.val < 6656 by omega), if_neg (show ¬ 8064 + j.val < 7680 by omega), if_neg (show ¬ 8064 + j.val < 7744 by omega), if_neg (show ¬ 8064 + j.val < 7872 by omega), if_neg (show ¬ 8064 + j.val < 7936 by omega), if_neg (show ¬ 8064 + j.val < 8000 by omega), if_neg (show ¬ 8064 + j.val < 8064 by omega), if_pos (show 8064 + j.val < 8072 by omega)]
    omega
  unfold val_main_v37
  refine (concatenate_apply_piece (t := S8x4096x128) 2 _ _ _ 1 (by show 1 < 5; decide) S8x4096x4 (val_main_v16 (F := Ideal) x0 x1 x2)
    rfl rfl 4 (by rfl) (ix3 b p (⟨j.val - 4, by omega⟩ : Fin 4)) (col_off _ _) ?_).trans ((group16 x0 x1 x2 b p _).trans
      (congrArg (fun l => val_main_v13 (F := Ideal) x0 x1 x2 (ix3 b p l)) (Fin.ext e)))
  show 4 + (j.val - 4) = j.val
  omega

theorem join37_2 (b : Fin 8) (p : Fin 4096) (j : Fin 128) (h₁ : 8 ≤ j.val) (h₂ : j.val < 16) :
    val_main_v37 (F := Ideal) x0 x1 x2 (ix3 b p j) = val_main_v13 (F := Ideal) x0 x1 x2 (ix3 b p ⟨src (8064 + j.val), src_lt (by omega)⟩) := by
  have e : 6864 + (j.val - 8) = src (8064 + j.val) := by
    unfold src
    rw [if_neg (show ¬ 8064 + j.val < 1536 by omega), if_neg (show ¬ 8064 + j.val < 2048 by omega), if_neg (show ¬ 8064 + j.val < 3072 by omega), if_neg (show ¬ 8064 + j.val < 3584 by omega), if_neg (show ¬ 8064 + j.val < 5120 by omega), if_neg (show ¬ 8064 + j.val < 5632 by omega), if_neg (show ¬ 8064 + j.val < 6656 by omega), if_neg (show ¬ 8064 + j.val < 7680 by omega), if_neg (show ¬ 8064 + j.val < 7744 by omega), if_neg (show ¬ 8064 + j.val < 7872 by omega), if_neg (show ¬ 8064 + j.val < 7936 by omega), if_neg (show ¬ 8064 + j.val < 8000 by omega), if_neg (show ¬ 8064 + j.val < 8064 by omega), if_neg (show ¬ 8064 + j.val < 8072 by omega), if_pos (show 8064 + j.val < 8080 by omega)]
    omega
  unfold val_main_v37
  refine (concatenate_apply_piece (t := S8x4096x128) 2 _ _ _ 2 (by show 2 < 5; decide) S8x4096x8 (val_main_v30 (F := Ideal) x0 x1 x2)
    rfl rfl 8 (by rfl) (ix3 b p (⟨j.val - 8, by omega⟩ : Fin 8)) (col_off _ _) ?_).trans ((group30 x0 x1 x2 b p _).trans
      (congrArg (fun l => val_main_v13 (F := Ideal) x0 x1 x2 (ix3 b p l)) (Fin.ext e)))
  show 8 + (j.val - 8) = j.val
  omega

theorem join37_3 (b : Fin 8) (p : Fin 4096) (j : Fin 128) (h₁ : 16 ≤ j.val) (h₂ : j.val < 24) :
    val_main_v37 (F := Ideal) x0 x1 x2 (ix3 b p j) = val_main_v13 (F := Ideal) x0 x1 x2 (ix3 b p ⟨src (8064 + j.val), src_lt (by omega)⟩) := by
  have e : 4808 + (j.val - 16) = src (8064 + j.val) := by
    unfold src
    rw [if_neg (show ¬ 8064 + j.val < 1536 by omega), if_neg (show ¬ 8064 + j.val < 2048 by omega), if_neg (show ¬ 8064 + j.val < 3072 by omega), if_neg (show ¬ 8064 + j.val < 3584 by omega), if_neg (show ¬ 8064 + j.val < 5120 by omega), if_neg (show ¬ 8064 + j.val < 5632 by omega), if_neg (show ¬ 8064 + j.val < 6656 by omega), if_neg (show ¬ 8064 + j.val < 7680 by omega), if_neg (show ¬ 8064 + j.val < 7744 by omega), if_neg (show ¬ 8064 + j.val < 7872 by omega), if_neg (show ¬ 8064 + j.val < 7936 by omega), if_neg (show ¬ 8064 + j.val < 8000 by omega), if_neg (show ¬ 8064 + j.val < 8064 by omega), if_neg (show ¬ 8064 + j.val < 8072 by omega), if_neg (show ¬ 8064 + j.val < 8080 by omega)]
    omega
  unfold val_main_v37
  refine (concatenate_apply_piece (t := S8x4096x128) 2 _ _ _ 3 (by show 3 < 5; decide) S8x4096x8 (val_main_v26 (F := Ideal) x0 x1 x2)
    rfl rfl 16 (by rfl) (ix3 b p (⟨j.val - 16, by omega⟩ : Fin 8)) (col_off _ _) ?_).trans ((group26 x0 x1 x2 b p _).trans
      (congrArg (fun l => val_main_v13 (F := Ideal) x0 x1 x2 (ix3 b p l)) (Fin.ext e)))
  show 16 + (j.val - 16) = j.val
  omega

theorem join37_zero (b : Fin 8) (p : Fin 4096) (j : Fin 128) (h₁ : 24 ≤ j.val) :
    val_main_v37 (F := Ideal) x0 x1 x2 (ix3 b p j) = (0 : EReal) := by
  unfold val_main_v37
  refine (concatenate_apply_piece (t := S8x4096x128) 2 _ _ _ 4 (by show 4 < 5; decide) S8x4096x104 (val_main_v36 (F := Ideal))
    rfl rfl 24 (by rfl) (ix3 b p (⟨j.val - 24, by omega⟩ : Fin 104)) (col_off _ _) ?_).trans ?_
  · show 24 + (j.val - 24) = j.val
    omega
  · pointwise [val_main_v36, val_main_cst_2]

theorem join37 (b : Fin 8) (p : Fin 4096) (j : Fin 128) (h : j.val < 24) :
    val_main_v37 (F := Ideal) x0 x1 x2 (ix3 b p j) = val_main_v13 (F := Ideal) x0 x1 x2 (ix3 b p ⟨src (8064 + j.val), src_lt (by omega)⟩) := by
  by_cases h0 : j.val < 4
  · exact join37_0 x0 x1 x2 b p j (by omega) h0
  by_cases h1 : j.val < 8
  · exact join37_1 x0 x1 x2 b p j (by omega) h1
  by_cases h2 : j.val < 16
  · exact join37_2 x0 x1 x2 b p j (by omega) h2
  exact join37_3 x0 x1 x2 b p j (by omega) h

/-- All the wide columns. -/
theorem join35 (b : Fin 8) (p : Fin 4096) (j : Fin 8064) :
    val_main_v35 (F := Ideal) x0 x1 x2 (ix3 b p j) = val_main_v13 (F := Ideal) x0 x1 x2 (ix3 b p ⟨src j.val, src_lt (by omega)⟩) := by
  unfold val_main_v35
  by_cases h : j.val < 7680
  · exact (concatenate_pair_apply_left (t := S8x4096x8064) (s₁ := S8x4096x7680) (s₂ := S8x4096x384) 2 _ _ _ _ rfl
      (ix3 b p (⟨j.val, h⟩ : Fin 7680)) (by intro d; fin_cases d <;> rfl)).trans (join33 x0 x1 x2 b p _)
  · have e : 7680 + (j.val - 7680) = j.val := by omega
    have e' : (⟨src j.val, src_lt (by omega)⟩ : Fin 7896) = ⟨src (7680 + (j.val - 7680)), src_lt (by omega)⟩ := by
      simp only [e]
    rw [e']
    refine (concatenate_pair_apply_right (t := S8x4096x8064) (s₁ := S8x4096x7680) (s₂ := S8x4096x384) 2 _ _ _ _ rfl rfl
      (ix3 b p (⟨j.val - 7680, by omega⟩ : Fin 384)) (col_off _ _) ?_).trans (join34 x0 x1 x2 b p ⟨j.val - 7680, by omega⟩)
    show j.val - 7680 + 7680 = j.val
    omega

/-! ### The two results -/

theorem wide_apply (r : Fin 32768) (j : Fin 8064) :
    val_main_v39 (F := Ideal) x0 x1 x2 (ix2 r j)
      = projRow (fun a => x0 (ix3 (bat r) (pos r) a)) (fun a => x1 (ix1 a))
          (fun k => packed (fun k l => x2 (ix2 k l)) k ⟨j.val, by omega⟩) := by
  have e : val_main_v39 (F := Ideal) x0 x1 x2 (ix2 r j) = val_main_v35 (F := Ideal) x0 x1 x2 (ix3 (bat r) (pos r) j) := by
    pointwise [val_main_v39, val_main_v38, bat, pos]
  rw [e, join35, product_apply]
  unfold packed
  simp only [dif_pos (show j.val < 8088 by omega)]

theorem narrow_apply (r : Fin 32768) (j : Fin 128) :
    val_main_v40 (F := Ideal) x0 x1 x2 (ix2 r j)
      = projRow (fun a => x0 (ix3 (bat r) (pos r) a)) (fun a => x1 (ix1 a))
          (fun k => packed (fun k l => x2 (ix2 k l)) k ⟨8064 + j.val, by omega⟩) := by
  have e : val_main_v40 (F := Ideal) x0 x1 x2 (ix2 r j) = val_main_v37 (F := Ideal) x0 x1 x2 (ix3 (bat r) (pos r) j) := by
    pointwise [val_main_v40, bat, pos]
  rw [e]
  unfold packed
  by_cases h : j.val < 24
  · rw [join37 x0 x1 x2 _ _ _ h, product_apply]
    simp only [dif_pos (show 8064 + j.val < 8088 by omega)]
  · rw [join37_zero x0 x1 x2 _ _ _ (by omega)]
    simp only [dif_neg (show ¬ 8064 + j.val < 8088 by omega), projRow, mul_zero, Finset.sum_const_zero]

end Cert.InProjRefIdeal.Whole

end
-- ==== Proof.InProjClaims.lean ====
/-
  The input projection's claims, assembled: from arguments that agree, each of the kernel's two result arrays and the
  reference's hold the same extended reals.
-/
module

public import proofs.«01_k».proof.Defs
public import proofs.«01_k».proof.Proof.InProjValue
public import proofs.«01_k».proof.Proof.InProjRef
public import proofs.«01_k».proof.Proof.Gen.InProj.Frame
public import Idealize.ShloMosaic.Lib.Quiescent

@[expose] public section

noncomputable section

open Idealize.ShloMosaic Idealize.ShloMosaic.TcCoe Idealize.SL.Sem

namespace Cert.InProjClaims

/-- The reference runs and leaves its arguments; it has no semaphore. -/
theorem frame_ref : Cert.quiescent_InProjRefIdeal := fun m ρ _ =>
  (θ_run Cert.InProjRefIdeal.defs _ _).mono (fun r h => ⟨fun c => (h c).2.2,
      Idealize.ShloMosaic.sem_eq_zero_of_no_sems (by decide) r.2⟩)
    (Cert.InProjRefIdeal.Value.run (F := Ideal) m ρ)

/-- From agreeing arguments the result arrays are equal. -/
theorem algebraic : Cert.algebraic_InProjIdeal_InProjRefIdeal := by
  intro m ρ m' ρ' _ hagree
  refine ⟨fun c => Cert.InProjIdeal.Whole.wide m c, fun c => Cert.InProjIdeal.Whole.narrow m c, Cert.InProjIdeal.Whole.run m ρ, ?_⟩
  refine (θ_run Cert.InProjRefIdeal.defs _ _).mono (fun _ h c => ⟨(h c).1.trans ?_, (h c).2.1.trans ?_, (h c).2.2⟩)
    (Cert.InProjRefIdeal.Value.run (F := Ideal) m' ρ')
  · obtain ⟨h0, h1, h2⟩ := hagree c
    rw [Cert.InProjRefIdeal.Read.val_main_v39_eq, h0, h1, h2]
    funext i
    obtain ⟨r, j, rfl⟩ : ∃ (r : Fin 32768) (j : Fin 8064), i = ix2 r j := ⟨i 0, i 1, eq_ix2 i⟩
    exact Cert.InProjRefIdeal.Whole.wide_apply _ _ _ r j
  · obtain ⟨h0, h1, h2⟩ := hagree c
    rw [Cert.InProjRefIdeal.Read.val_main_v40_eq, h0, h1, h2]
    funext i
    obtain ⟨r, j, rfl⟩ : ∃ (r : Fin 32768) (j : Fin 128), i = ix2 r j := ⟨i 0, i 1, eq_ix2 i⟩
    exact Cert.InProjRefIdeal.Whole.narrow_apply _ _ _ r j

end Cert.InProjClaims

end
-- ==== Proof.BranchSpec.lean ====
/-
  What the branches' kernels compute, one token and one output column at a time, on extended reals: the memory's keys
  and values, and the spatial gating. Both the kernels' blocks and the references' whole arrays are read as these.
-/
module

public import proofs.«01_k».proof.Proof.Spec

@[expose] public section

noncomputable section

namespace Cert.Layer

open Idealize.ShloMosaic

/-- One entry of a head's normed row of 128. -/
def headRow (x g : Fin 128 → EReal) (k : Fin 128) : EReal :=
  x k * Ideal.rsqrt (Ideal.div (∑ i, x i * x i) (lit 0x43000000#32) + lit 0x358637BD#32) * g k

/-- Column `a` of the head that column `j` belongs to. -/
def headCol (j : Fin 512) (a : Fin 128) : Fin 1024 := ⟨j.val / 128 * 128 + a.val, by omega⟩

/-- Column `j`'s place in its head. -/
def inHead (j : Fin 512) : Fin 128 := ⟨j.val % 128, by omega⟩

/-- A memory row's key at column `j`: the row's projection, normed over the column's head. -/
def keyAt (x g : Fin 1024 → EReal) (w : Fin 1024 → Fin 1024 → EReal) (kg : Fin 128 → EReal) (j : Fin 512) : EReal :=
  headRow (fun a => projRow x g (fun k => w k (headCol j a))) kg (inHead j)

/-- A memory row's value at column `j`: the projection's column 512 + j. -/
def valueAt (x g : Fin 1024 → EReal) (w : Fin 1024 → Fin 1024 → EReal) (j : Fin 512) : EReal :=
  projRow x g (fun k => w k ⟨512 + j.val, by omega⟩)

/-- The approximate Gaussian error linear unit, by the hyperbolic tangent. -/
def gelu (x : EReal) : EReal :=
  x * (lit 0x3F000000#32 * (1 + Ideal.tanh (lit 0x3F4C422A#32 * (x + lit 0x3D372713#32 * (x * x * x)))))

/-- The mean of a row of 512. -/
def mean512 (x : Fin 512 → EReal) : EReal := Ideal.div (∑ i, x i) (lit 0x44000000#32)

/-- One entry of a row's layer norm. -/
def lnRow (x g b : Fin 512 → EReal) (k : Fin 512) : EReal :=
  (x k - mean512 x) * Ideal.rsqrt (mean512 (fun i => (x i - mean512 x) * (x i - mean512 x)) + lit 0x3727C5AC#32) * g k + b k

/-- The spatial gating at column `j` of the token at place `t` of its chunk of 128: `u` and `gate` are the token's own
    entries, `v` the chunk's rows, `w` the column's group's mixing weights (used where the row's place is at most `t`). -/
def spatial (t : Fin 128) (u gt : EReal) (v : Fin 128 → Fin 512 → EReal) (g b : Fin 512 → EReal) (w : Fin 128 → EReal)
    (bias : EReal) (j : Fin 512) : EReal :=
  gelu u * ((∑ s : Fin 128, (if s.val ≤ t.val then w s else 0) * lnRow (fun a => gelu (v s a)) g b j) + bias)
    * (gt * gate gt)

end Cert.Layer

end
-- ==== Proof.SgBlock.lean ====
/-
  What one grid point of the spatial gating computes: 512 tokens, four chunks of 128, each stored apart.
-/
module

public import proofs.«01_k».proof.Proof.Gen.SgIdeal.Value
public import proofs.«01_k».proof.Proof.BranchSpec
public import Idealize.ShloMosaic.Lib.Pipeline.ValueKit

@[expose] public section

set_option maxRecDepth 16384

noncomputable section

namespace Cert.SgIdeal.Block

open Cert.SgIdeal Cert.SgIdeal.Gen Cert.Layer Idealize.ShloMosaic Idealize.ShloMosaic.TcCoe

/-! ## The mixing weights -/

theorem mask (t s : Fin 128) (w : EReal) :
    Scalar.select (IntOp.cmpi .sge (BitVec.ofNat 32 t.val) (BitVec.ofNat 32 s.val)) w 0 = if s.val ≤ t.val then w else 0 := by
  have ht := t.isLt
  have hs := s.isLt
  rw [WordCmp.cmpi_sge_ofNat (by omega) (by omega)]
  by_cases h : s.val ≤ t.val
  · simp [h, Scalar.select]
  · simp [h, Scalar.select]

theorem w0_apply (w : Vec Ideal S1x128x128 .f32) (t s : Fin 128) :
    k0_pay2 w (ix2 t s) = if s.val ≤ t.val then w (ix3 0 t s) else 0 := by
  pointwise [k0_pay2, mask]

theorem w1_apply (w : Vec Ideal S1x128x128 .f32) (t s : Fin 128) :
    k0_pay3 w (ix2 t s) = if s.val ≤ t.val then w (ix3 0 t s) else 0 := by
  pointwise [k0_pay3, mask]

theorem w2_apply (w : Vec Ideal S1x128x128 .f32) (t s : Fin 128) :
    k0_pay4 w (ix2 t s) = if s.val ≤ t.val then w (ix3 0 t s) else 0 := by
  pointwise [k0_pay4, mask]

theorem w3_apply (w : Vec Ideal S1x128x128 .f32) (t s : Fin 128) :
    k0_pay5 w (ix2 t s) = if s.val ≤ t.val then w (ix3 0 t s) else 0 := by
  pointwise [k0_pay5, mask]

/-! ## The four groups' products, joined along the columns -/

variable (w0 w1 w2 w3 : FVec Ideal S128x128 .bf16) (v : FVec Ideal S128x512 .bf16)

/-- The four products side by side. -/
def mixed : FVec Ideal S128x512 .f32 :=
  concatenate S128x512 1
    [⟨S128x128, matmul dot_S128x128_S128x128_S128x128_1_0_0_1_n_n none w0
        (extractStridedSlice S128x128 ![0, 0] v slices_S128x512_o0_0_S128x128) (constant S128x128 .f32 0x00000000#32)⟩,
      ⟨S128x128, matmul dot_S128x128_S128x128_S128x128_1_0_0_1_n_n none w1
        (extractStridedSlice S128x128 ![0, 128] v slices_S128x512_o0_128_S128x128) (constant S128x128 .f32 0x00000000#32)⟩,
      ⟨S128x128, matmul dot_S128x128_S128x128_S128x128_1_0_0_1_n_n none w2
        (extractStridedSlice S128x128 ![0, 256] v slices_S128x512_o0_256_S128x128) (constant S128x128 .f32 0x00000000#32)⟩,
      ⟨S128x128, matmul dot_S128x128_S128x128_S128x128_1_0_0_1_n_n none w3
        (extractStridedSlice S128x128 ![0, 384] v slices_S128x512_o0_384_S128x128) (constant S128x128 .f32 0x00000000#32)⟩]
    concatenates_S128x128_S128x128_S128x128_S128x128_S128x512_d1

theorem col_off (i : Fin 128) {n : Nat} (k : Fin n) (j : Fin 512) :
    ∀ b : Fin 2, b.cast rfl ≠ (1 : Fin 2) → ((ix2 i k : Shape.Idx ⟨2, ![128, n]⟩) b).val = ((ix2 i j : S128x512.Idx) (b.cast rfl)).val := by
  intro b hb
  fin_cases b
  · rfl
  · exact absurd rfl hb

theorem mixed0 (i : Fin 128) (j : Fin 512) (h : j.val < 128) :
    mixed w0 w1 w2 w3 v (ix2 i j) = ∑ s : Fin 128, w0 (ix2 i s) * v (ix2 s j) := by
  unfold mixed
  refine (concatenate_apply_piece (t := S128x512) 1 _ _ _ 0 (by show 0 < 4; decide) S128x128 _ rfl rfl 0 (by rfl)
    (ix2 i (⟨j.val, by omega⟩ : Fin 128)) (col_off _ _ _) (by show 0 + j.val = j.val; omega)).trans ?_
  pointwise

theorem mixed1 (i : Fin 128) (j : Fin 512) (h₁ : 128 ≤ j.val) (h₂ : j.val < 256) :
    mixed w0 w1 w2 w3 v (ix2 i j) = ∑ s : Fin 128, w1 (ix2 i s) * v (ix2 s j) := by
  unfold mixed
  refine (concatenate_apply_piece (t := S128x512) 1 _ _ _ 1 (by show 1 < 4; decide) S128x128 _ rfl rfl 128 (by rfl)
    (ix2 i (⟨j.val - 128, by omega⟩ : Fin 128)) (col_off _ _ _) (by show 128 + (j.val - 128) = j.val; omega)).trans ?_
  pointwise
  blk_point

theorem mixed2 (i : Fin 128) (j : Fin 512) (h₁ : 256 ≤ j.val) (h₂ : j.val < 384) :
    mixed w0 w1 w2 w3 v (ix2 i j) = ∑ s : Fin 128, w2 (ix2 i s) * v (ix2 s j) := by
  unfold mixed
  refine (concatenate_apply_piece (t := S128x512) 1 _ _ _ 2 (by show 2 < 4; decide) S128x128 _ rfl rfl 256 (by rfl)
    (ix2 i (⟨j.val - 256, by omega⟩ : Fin 128)) (col_off _ _ _) (by show 256 + (j.val - 256) = j.val; omega)).trans ?_
  pointwise
  blk_point

theorem mixed3 (i : Fin 128) (j : Fin 512) (h₁ : 384 ≤ j.val) :
    mixed w0 w1 w2 w3 v (ix2 i j) = ∑ s : Fin 128, w3 (ix2 i s) * v (ix2 s j) := by
  unfold mixed
  refine (concatenate_apply_piece (t := S128x512) 1 _ _ _ 3 (by show 3 < 4; decide) S128x128 _ rfl rfl 384 (by rfl)
    (ix2 i (⟨j.val - 384, by omega⟩ : Fin 128)) (col_off _ _ _) (by show 384 + (j.val - 384) = j.val; omega)).trans ?_
  pointwise
  blk_point

/-! ## The activation -/

theorem gelu_eq (x : EReal) :
    lit 0x3F000000#32 * x * (1 + Ideal.tanh (lit 0x3F4C422A#32 * (x + lit 0x3D372713#32 * (x * x * x)))) = gelu x := by
  unfold gelu
  rw [mul_comm (lit 0x3F000000#32) x, mul_assoc]

theorem u0_apply (u : Vec Ideal S1x128x512 .bf16) (i : Fin 128) (j : Fin 512) :
    k0_pay9 (k0_pay7 u) (k0_pay8 u) (Scalar.ofBits .f32 0x3F4C422A#32) (ix2 i j) = gelu (u (ix3 0 i j)) := by
  rw [← gelu_eq]
  pointwise [k0_pay9, k0_pay8, k0_pay7, k0_pay6]

theorem u1_apply (u : Vec Ideal S1x128x512 .bf16) (i : Fin 128) (j : Fin 512) :
    k0_pay14 (k0_pay12 u) (k0_pay13 u) (ix2 i j) = gelu (u (ix3 0 i j)) := by
  rw [← gelu_eq]
  pointwise [k0_pay14, k0_pay13, k0_pay12]

theorem u2_apply (u : Vec Ideal S1x128x512 .bf16) (i : Fin 128) (j : Fin 512) : k0_pay17 u (ix2 i j) = gelu (u (ix3 0 i j)) := by
  rw [← gelu_eq]
  pointwise [k0_pay17]

theorem u3_apply (u : Vec Ideal S1x128x512 .bf16) (i : Fin 128) (j : Fin 512) : k0_pay24 u (ix2 i j) = gelu (u (ix3 0 i j)) := by
  rw [← gelu_eq]
  pointwise [k0_pay24]

theorem v2_apply (u : Vec Ideal S1x128x512 .bf16) (i : Fin 128) (j : Fin 512) : k0_pay18 u (ix2 i j) = gelu (u (ix3 0 i j)) := by
  rw [← gelu_eq]
  pointwise [k0_pay18]

theorem v3_apply (u : Vec Ideal S1x128x512 .bf16) (i : Fin 128) (j : Fin 512) : k0_pay25 u (ix2 i j) = gelu (u (ix3 0 i j)) := by
  rw [← gelu_eq]
  pointwise [k0_pay25]

/-! ## The norm -/

/-- A row's entry less the row's mean, over the row's spread. -/
def unit (x : Fin 512 → EReal) (k : Fin 512) : EReal :=
  (x k - mean512 x) * Ideal.rsqrt (mean512 (fun i => (x i - mean512 x) * (x i - mean512 x)) + lit 0x3727C5AC#32)

theorem n0_apply (v : Vec Ideal S1x128x512 .bf16) (g : Vec Ideal S1x512 .f32) (i : Fin 128) (j : Fin 512) :
    k0_pay10 v g (ix2 i j) = unit (fun a => gelu (v (ix3 0 i a))) j * g (ix2 0 j) := by
  simp only [← gelu_eq]
  pointwise [k0_pay10, unit, mean512]

theorem n1_apply (v : Vec Ideal S1x128x512 .bf16) (i : Fin 128) (j : Fin 512) :
    k0_pay15 v (ix2 i j) = unit (fun a => gelu (v (ix3 0 i a))) j := by
  simp only [← gelu_eq]
  pointwise [k0_pay15, unit, mean512]

theorem n2_apply (v : Vec Ideal S1x128x512 .bf16) (i : Fin 128) (j : Fin 512) :
    (k0_pay18 v (ix2 i j) - k0_pay21 v (ix2 i j)) * Ideal.rsqrt (k0_pay20 v (ix2 i 0) + lit 0x3727C5AC#32)
      = unit (fun a => gelu (v (ix3 0 i a))) j := by
  pointwise [k0_pay21, k0_pay20, k0_pay19, v2_apply, unit, mean512]

theorem n3_apply (v : Vec Ideal S1x128x512 .bf16) (i : Fin 128) (j : Fin 512) :
    (k0_pay25 v (ix2 i j) - k0_pay26 v (ix2 i 0))
        * Ideal.rsqrt (mean512 (fun a => k0_pay27 v (ix2 i a)) + lit 0x3727C5AC#32)
      = unit (fun a => gelu (v (ix3 0 i a))) j := by
  pointwise [k0_pay27, k0_pay26, v3_apply, unit, mean512]

/-! ## A chunk's entry -/

section
variable (w0 w1 w2 w3 : FVec Ideal S128x128 .bf16) (u n : FVec Ideal S128x512 .f32) (g b : Vec Ideal S1x512 .f32)
  (bs : Vec Ideal S128x512 .f32) (gt : Vec Ideal S1x128x512 .bf16)

/-- The rows to be mixed: `n`'s rows plus the offset. -/
def rows : FVec Ideal S128x512 .bf16 :=
  truncf .bf16 (addf n (broadcastTo S128x512 (shapeCast S1x512 b shapeCasts_S1x512_S1x512) broadcasts_S1x512_S128x512)) bitsLt_bf16_f32

theorem rows_apply (i : Fin 128) (j : Fin 512) : rows n b (ix2 i j) = n (ix2 i j) + b (ix2 0 j) := by
  pointwise [rows]

/-- A matrix's rows times the gain. -/
def scaled : FVec Ideal S128x512 .f32 :=
  mulf n (broadcastTo S128x512 (shapeCast S1x512 g shapeCasts_S1x512_S1x512) broadcasts_S1x512_S128x512)

theorem scaled_apply (i : Fin 128) (j : Fin 512) : scaled n g (ix2 i j) = n (ix2 i j) * g (ix2 0 j) := by
  pointwise [scaled]

theorem piece0 (i : Fin 128) (j : Fin 512) :
    k0_pay11 w0 w1 w2 w3 u n b bs gt (ix3 0 i j)
      = u (ix2 i j) * (mixed w0 w1 w2 w3 (rows n b) (ix2 i j) + bs (ix2 i j)) * (gt (ix3 0 i j) * gate (gt (ix3 0 i j))) := by
  unfold k0_pay11
  rw [← mixed.eq_1, ← rows.eq_1]
  pointwise [gate, zero_sub]

theorem piece1 (i : Fin 128) (j : Fin 512) :
    k0_pay16 w0 w1 w2 w3 u n g b bs gt (ix3 0 i j)
      = u (ix2 i j) * (mixed w0 w1 w2 w3 (rows (scaled n g) b) (ix2 i j) + bs (ix2 i j))
          * (gt (ix3 0 i j) * gate (gt (ix3 0 i j))) := by
  unfold k0_pay16
  rw [← mixed.eq_1, ← scaled.eq_1, ← rows.eq_1]
  pointwise [gate, zero_sub]

/-- A matrix less its rows' means, over the rows' spreads. -/
def normed (v mu : FVec Ideal S128x512 .f32) (var : FVec Ideal S128x1 .f32) : FVec Ideal S128x512 .f32 :=
  mulf (subf v mu) (broadcastTo S128x512 (rsqrt (addf var (broadcast S128x1 (Scalar.ofBits .f32 0x3727C5AC#32)))) broadcasts_S128x1_S128x512)

theorem normed_apply (v mu : FVec Ideal S128x512 .f32) (var : FVec Ideal S128x1 .f32) (i : Fin 128) (j : Fin 512) :
    normed v mu var (ix2 i j) = (v (ix2 i j) - mu (ix2 i j)) * Ideal.rsqrt (var (ix2 i 0) + lit 0x3727C5AC#32) := by
  pointwise [normed]

theorem stage2 (v mu : FVec Ideal S128x512 .f32) (var : FVec Ideal S128x1 .f32) (i : Fin 128) (j : Fin 512) :
    k0_pay22 w0 w1 w2 w3 u v var mu g b bs gt (ix2 i j)
      = u (ix2 i j) * (mixed w0 w1 w2 w3 (rows (scaled (normed v mu var) g) b) (ix2 i j) + bs (ix2 i j))
          * (gt (ix3 0 i j) * gate (gt (ix3 0 i j))) := by
  unfold k0_pay22
  rw [← mixed.eq_1, ← normed.eq_1, ← scaled.eq_1, ← rows.eq_1]
  pointwise [gate, zero_sub]

theorem piece2 (v mu : FVec Ideal S128x512 .f32) (var : FVec Ideal S128x1 .f32) (i : Fin 128) (j : Fin 512) :
    k0_pay23 (k0_pay22 w0 w1 w2 w3 u v var mu g b bs gt) (ix3 0 i j)
      = u (ix2 i j) * (mixed w0 w1 w2 w3 (rows (scaled (normed v mu var) g) b) (ix2 i j) + bs (ix2 i j))
          * (gt (ix3 0 i j) * gate (gt (ix3 0 i j))) := by
  pointwise [k0_pay23, stage2]

/-- A matrix's row means. -/
def means (v : FVec Ideal S128x512 .f32) : FVec Ideal S128x1 .f32 :=
  divf (shapeCast S128x1 (multiReduction .add [1] S128 v 0x00000000#32 reduces_S128x512_S128 (.inl rfl) rfl) shapeCasts_S128_S128x1)
    (broadcast S128x1 (Scalar.ofBits .f32 0x44000000#32))

theorem means_apply (v : FVec Ideal S128x512 .f32) (i : Fin 128) : means v (ix2 i 0) = mean512 (fun a => v (ix2 i a)) := by
  pointwise [means, mean512]

theorem stage3 (v sq : FVec Ideal S128x512 .f32) (mu : FVec Ideal S128x1 .f32) (i : Fin 128) (j : Fin 512) :
    k0_pay28 w0 w1 w2 w3 u v mu sq g b bs (ix2 i j)
      = u (ix2 i j) * (mixed w0 w1 w2 w3
            (rows (scaled (normed v (broadcastTo S128x512 mu broadcasts_S128x1_S128x512) (means sq)) g) b) (ix2 i j) + bs (ix2 i j)) := by
  unfold k0_pay28
  rw [← mixed.eq_1, ← means.eq_1, ← normed.eq_1, ← scaled.eq_1, ← rows.eq_1]
  pointwise

theorem piece3 (v sq : FVec Ideal S128x512 .f32) (mu : FVec Ideal S128x1 .f32) (i : Fin 128) (j : Fin 512) :
    k0_pay1 (k0_pay28 w0 w1 w2 w3 u v mu sq g b bs) (k0_pay29 gt) (k0_pay30 gt) (Scalar.ofBits .f32 0x3F800000#32) (ix3 0 i j)
      = u (ix2 i j) * (mixed w0 w1 w2 w3
            (rows (scaled (normed v (broadcastTo S128x512 mu broadcasts_S128x1_S128x512) (means sq)) g) b) (ix2 i j) + bs (ix2 i j))
          * (gt (ix3 0 i j) * gate (gt (ix3 0 i j))) := by
  pointwise [k0_pay1, k0_pay30, k0_pay29, stage3, gate, zero_sub]

/-- One of four group matrices. -/
def pick (a0 a1 a2 a3 : Vec Ideal S1x128x128 .f32) (k : Fin 4) : Vec Ideal S1x128x128 .f32 :=
  match k with
  | 0 => a0
  | 1 => a1
  | 2 => a2
  | 3 => a3

/-- A chunk's entry in the specification's words, once the mixed rows are known to be the normed ones. -/
theorem chunk (a0 a1 a2 a3 : Vec Ideal S1x128x128 .f32) (v : Vec Ideal S1x128x512 .bf16) (r : FVec Ideal S128x512 .bf16) (ui : EReal)
    (i : Fin 128) (j : Fin 512)
    (hr : ∀ s, r (ix2 s j) = unit (fun a => gelu (v (ix3 0 s a))) j * g (ix2 0 j) + b (ix2 0 j)) :
    gelu ui * (mixed (k0_pay2 a0) (k0_pay3 a1) (k0_pay4 a2) (k0_pay5 a3) r (ix2 i j) + bs (ix2 i j))
        * (gt (ix3 0 i j) * gate (gt (ix3 0 i j)))
      = spatial i ui (gt (ix3 0 i j)) (fun s a => v (ix3 0 s a)) (fun a => g (ix2 0 a)) (fun a => b (ix2 0 a))
          (fun s => pick a0 a1 a2 a3 ⟨j.val / 128, by omega⟩ (ix3 0 i s)) (bs (ix2 i j)) j := by
  have hm : mixed (k0_pay2 a0) (k0_pay3 a1) (k0_pay4 a2) (k0_pay5 a3) r (ix2 i j)
      = ∑ s : Fin 128, (if s.val ≤ i.val then pick a0 a1 a2 a3 ⟨j.val / 128, by omega⟩ (ix3 0 i s) else 0) * r (ix2 s j) := by
    have hj := j.isLt
    rcases Nat.lt_or_ge j.val 128 with h1 | h1
    · have e : (⟨j.val / 128, by omega⟩ : Fin 4) = 0 := Fin.ext (by show j.val / 128 = 0; omega)
      rw [mixed0 _ _ _ _ _ _ _ h1, e]
      simp only [w0_apply, pick]
    rcases Nat.lt_or_ge j.val 256 with h2 | h2
    · have e : (⟨j.val / 128, by omega⟩ : Fin 4) = 1 := Fin.ext (by show j.val / 128 = 1; omega)
      rw [mixed1 _ _ _ _ _ _ _ h1 h2, e]
      simp only [w1_apply, pick]
    rcases Nat.lt_or_ge j.val 384 with h3 | h3
    · have e : (⟨j.val / 128, by omega⟩ : Fin 4) = 2 := Fin.ext (by show j.val / 128 = 2; omega)
      rw [mixed2 _ _ _ _ _ _ _ h2 h3, e]
      simp only [w2_apply, pick]
    · have e : (⟨j.val / 128, by omega⟩ : Fin 4) = 3 := Fin.ext (by show j.val / 128 = 3; omega)
      rw [mixed3 _ _ _ _ _ _ _ h3, e]
      simp only [w3_apply, pick]
  rw [hm]
  simp only [hr]
  rfl

end

/-! ## The block -/

/-- The four groups' weights, cut from the array. -/
theorem weights (x5 : Vec Ideal S4x128x128 .f32) (k : Fin 4) (i s : Fin 128) :
    pick (View.ld x5 (Rect.unit ![0, 0, 0] ![1, 128, 128] inb_S4x128x128_S1x128x128_0_0_0))
      (View.ld x5 (Rect.unit ![1, 0, 0] ![1, 128, 128] inb_S4x128x128_S1x128x128_1_0_0))
      (View.ld x5 (Rect.unit ![2, 0, 0] ![1, 128, 128] inb_S4x128x128_S1x128x128_2_0_0))
      (View.ld x5 (Rect.unit ![3, 0, 0] ![1, 128, 128] inb_S4x128x128_S1x128x128_3_0_0)) k (ix3 0 i s) = x5 (ix3 k i s) := by
  fin_cases k
  all_goals
    simp only [pick]
    pointwise

set_option maxHeartbeats 2000000 in
/-- The block's entry at row `r`, column `j`. -/
theorem out_apply (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x512 .f32) (harg8 : arg8.IsWhole) (arg9 : Memref sig .tc .vmem S1x512x512 .bf16) (harg9 : arg9.IsWhole)
    (q0 q1 q2 : Vec Ideal S1x512x512 .bf16) (x3 x4 : Vec Ideal S1x512 .f32) (x5 : Vec Ideal S4x128x128 .f32) (x6 : Vec Ideal S128x512 .f32)
    (r j : Fin 512) :
    out0_A_7 c i arg2 harg2 arg3 harg3 arg4 harg4 arg5 harg5 arg6 harg6 arg7 harg7 arg8 harg8 arg9 harg9 q0 q1 q2 x3 x4 x5 x6 (ix3 0 r j)
      = spatial ⟨r.val % 128, by omega⟩ (q0 (ix3 0 r j)) (q2 (ix3 0 r j)) (fun s a => q1 (ix3 0 ⟨r.val / 128 * 128 + s.val, by omega⟩ a))
          (fun a => x3 (ix2 0 a)) (fun a => x4 (ix2 0 a)) (fun s => x5 (ix3 ⟨j.val / 128, by omega⟩ ⟨r.val % 128, by omega⟩ s))
          (x6 (ix2 ⟨r.val % 128, by omega⟩ j)) j := by
  unfold out0_A_7
  frame_out
  canon_tiles x h using (View.cover_of_tiledBy _ ![1, 128, 512] (by sl_kernel_rfl) _)
  · idx_vars x
    obtain rfl : x0 = 0 := Subsingleton.elim _ _
    obtain rfl : j = x2 := Fin.ext h2
    refine (piece3 _ _ _ _ _ _ _ _ _ _ _ _ x1 j).trans ?_
    rw [u3_apply]
    refine (chunk x3 x4 _ _ _ _ _ _ (View.ld q1 (Rect.unit ![0, 384, 0] ![1, 128, 512] inb_S1x512x512_S1x128x512_0_384_0)) _ _ x1 j fun s => ?_).trans ?_
    · rw [rows_apply, scaled_apply, normed_apply, means_apply, ← n3_apply]
      pointwise [means_apply]
    have e : (⟨r.val % 128, by omega⟩ : Fin 128) = x1 := Fin.ext (by show r.val % 128 = x1.val; omega)
    have e' : r.val / 128 * 128 = 384 := by omega
    simp only [e, e', weights]
    congr 1
    all_goals
      pointwise
      try blk_point
  · idx_vars x
    obtain rfl : x0 = 0 := Subsingleton.elim _ _
    obtain rfl : j = x2 := Fin.ext h2
    refine (piece2 _ _ _ _ _ _ _ _ _ _ _ _ x1 j).trans ?_
    rw [u2_apply]
    refine (chunk x3 x4 _ _ _ _ _ _ (View.ld q1 (Rect.unit ![0, 256, 0] ![1, 128, 512] inb_S1x512x512_S1x128x512_0_256_0)) _ _ x1 j fun s => ?_).trans ?_
    · rw [rows_apply, scaled_apply, normed_apply, n2_apply]
    have e : (⟨r.val % 128, by omega⟩ : Fin 128) = x1 := Fin.ext (by show r.val % 128 = x1.val; omega)
    have e' : r.val / 128 * 128 = 256 := by omega
    simp only [e, e', weights]
    congr 1
    all_goals
      pointwise
      try blk_point
  · idx_vars x
    obtain rfl : x0 = 0 := Subsingleton.elim _ _
    obtain rfl : j = x2 := Fin.ext h2
    refine (piece1 _ _ _ _ _ _ _ _ _ _ x1 j).trans ?_
    rw [u1_apply]
    refine (chunk x3 x4 _ _ _ _ _ _ (View.ld q1 (Rect.unit ![0, 128, 0] ![1, 128, 512] inb_S1x512x512_S1x128x512_0_128_0)) _ _ x1 j fun s => ?_).trans ?_
    · rw [rows_apply, scaled_apply, n1_apply]
    have e : (⟨r.val % 128, by omega⟩ : Fin 128) = x1 := Fin.ext (by show r.val % 128 = x1.val; omega)
    have e' : r.val / 128 * 128 = 128 := by omega
    simp only [e, e', weights]
    congr 1
    all_goals
      pointwise
      try blk_point
  · idx_vars x
    obtain rfl : x0 = 0 := Subsingleton.elim _ _
    obtain rfl : j = x2 := Fin.ext h2
    refine (piece0 _ _ _ _ _ _ _ _ _ x1 j).trans ?_
    rw [u0_apply]
    refine (chunk x3 x4 _ _ _ _ _ _ (View.ld q1 (Rect.unit ![0, 0, 0] ![1, 128, 512] inb_S1x512x512_S1x128x512_0_0_0)) _ _ x1 j fun s => ?_).trans ?_
    · rw [rows_apply, n0_apply]
    have e : (⟨r.val % 128, by omega⟩ : Fin 128) = x1 := Fin.ext (by show r.val % 128 = x1.val; omega)
    have e' : r.val / 128 * 128 = 0 := by omega
    simp only [e, e', weights]
    congr 1
    all_goals
      pointwise
      try blk_point

end Cert.SgIdeal.Block

end
-- ==== Proof.SgValue.lean ====
/-
  What the spatial gating's result array holds after the run: for each token its gated mixture, read from the arguments.
-/
module

public import proofs.«01_k».proof.Proof.SgBlock

@[expose] public section

set_option maxRecDepth 16384

noncomputable section

namespace Cert.SgIdeal.Whole

open Cert.SgIdeal Cert.SgIdeal.Gen Cert.Layer Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Device `c`'s gated mixture at token `p` of batch `b`, column `j`. -/
def entryAt (c : Dev nD) (b : Fin 8) (p : Fin 4096) (j : Fin 512) : EReal :=
  spatial ⟨p.val % 128, by omega⟩ (m ((c : Thread nD τ).loc main_arg0) (ix3 b p ⟨1536 + j.val, by omega⟩))
    (m ((c : Thread nD τ).loc main_arg0) (ix3 b p ⟨4096 + j.val, by omega⟩))
    (fun s a => m ((c : Thread nD τ).loc main_arg0) (ix3 b ⟨p.val / 128 * 128 + s.val, by omega⟩ ⟨3584 + a.val, by omega⟩))
    (fun a => m ((c : Thread nD τ).loc main_arg1) (ix1 a)) (fun a => m ((c : Thread nD τ).loc main_arg2) (ix1 a))
    (fun s => m ((c : Thread nD τ).loc main_arg3) (ix3 ⟨j.val / 128, by omega⟩ ⟨p.val % 128, by omega⟩ s))
    (m ((c : Thread nD τ).loc main_arg4) (ix2 ⟨j.val / 128, by omega⟩ ⟨p.val % 128, by omega⟩)) j

/-- The result array. -/
def result (c : Dev nD) : Buf (Elt Ideal) ((c : Thread nD τ).loc main_v5) :=
  fun i : S8x4096x512.Idx => entryAt m c (i 0) (i 1) (i 2)

/-- Where each window's block sits at grid point `t`: batch `t / 8`, rows' block `t % 8`; the packed projection's three column
    blocks are fixed, and the weights' windows stay. -/
theorem idx : ∀ t : Fin cfg0.N, win0_0.index t = ![t.val / 8, t.val % 8, 3] ∧ win0_1.index t = ![t.val / 8, t.val % 8, 7]
    ∧ win0_2.index t = ![t.val / 8, t.val % 8, 8] ∧ win0_3.index t = ![0, 0] ∧ win0_4.index t = ![0, 0]
    ∧ win0_5.index t = ![0, 0, 0] ∧ win0_6.index t = ![0, 0] ∧ win0_7.index t = ![t.val / 8, t.val % 8, 0] :=
  (by decide +kernel : ∀ t : Fin grid0.N, _)

/-! ## The windows' blocks, read as the arguments -/

theorem blk0 (c : Dev nD) (t : Fin cfg0.N) (i a : Fin 512) (b : Fin 8) (p : Fin 4096) (q : Fin 8064) (hb : b.val = t.val / 8)
    (hp : p.val = t.val % 8 * 512 + i.val) (hq : q.val = 1536 + a.val) :
    X0_0 m c t (ix3 0 i a) = m ((c : Thread nD τ).loc main_arg0) (ix3 b p q) := by
  unfold X0_0 Pipeline.Window.fill
  rw [dif_pos (moved0_0 t _)]
  blk_simp [iblk]
  entry_read
  blk_ext [idx t]

theorem blk1 (c : Dev nD) (t : Fin cfg0.N) (i a : Fin 512) (b : Fin 8) (p : Fin 4096) (q : Fin 8064) (hb : b.val = t.val / 8)
    (hp : p.val = t.val % 8 * 512 + i.val) (hq : q.val = 3584 + a.val) :
    X0_1 m c t (ix3 0 i a) = m ((c : Thread nD τ).loc main_arg0) (ix3 b p q) := by
  unfold X0_1 Pipeline.Window.fill
  rw [dif_pos (moved0_1 t _)]
  blk_simp [iblk]
  entry_read
  blk_ext [idx t]

theorem blk2 (c : Dev nD) (t : Fin cfg0.N) (i a : Fin 512) (b : Fin 8) (p : Fin 4096) (q : Fin 8064) (hb : b.val = t.val / 8)
    (hp : p.val = t.val % 8 * 512 + i.val) (hq : q.val = 4096 + a.val) :
    X0_2 m c t (ix3 0 i a) = m ((c : Thread nD τ).loc main_arg0) (ix3 b p q) := by
  unfold X0_2 Pipeline.Window.fill
  rw [dif_pos (moved0_2 t _)]
  blk_simp [iblk]
  entry_read
  blk_ext [idx t]

theorem blk3 (c : Dev nD) (t : Fin cfg0.N) (a : Fin 512) :
    iblk m c 3 t (ix2 0 a) = m ((c : Thread nD τ).loc main_arg1) (ix1 a) := by
  blk_simp [iblk]
  entry_read
  pointwise
  blk_ext [idx t]

theorem blk4 (c : Dev nD) (t : Fin cfg0.N) (a : Fin 512) :
    iblk m c 4 t (ix2 0 a) = m ((c : Thread nD τ).loc main_arg2) (ix1 a) := by
  blk_simp [iblk]
  entry_read
  pointwise
  blk_ext [idx t]

theorem blk5 (c : Dev nD) (t : Fin cfg0.N) (g : Fin 4) (k l : Fin 128) :
    iblk m c 5 t (ix3 g k l) = m ((c : Thread nD τ).loc main_arg3) (ix3 g k l) := by
  blk_simp [iblk]
  entry_read
  pointwise
  blk_ext [idx t]

theorem blk6 (c : Dev nD) (t : Fin cfg0.N) (k : Fin 128) (j : Fin 512) :
    iblk m c 6 t (ix2 k j) = m ((c : Thread nD τ).loc main_arg4) (ix2 ⟨j.val / 128, by omega⟩ k) := by
  blk_simp [iblk]
  entry_read
  pointwise
  blk_ext [idx t]

/-! ## The array after the run -/

set_option maxHeartbeats 2000000 in
/-- Every point's block is its 512 tokens of `result`, and the blocks fill the array. -/
theorem final (c : Dev nD) : (dats m 0 c).arrAt 7 cfg0.N = result m c := by
  refine (dats m 0 c).arrAt_eq_of_covers 7 _ (by decide +kernel) fun t hf y => ?_
  blk_simp
  rw [after0_7]
  idx_vars y
  obtain rfl : y0 = 0 := Subsingleton.elim _ _
  refine (Block.out_apply c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (X0_0 m c t) (X0_1 m c t) (X0_2 m c t)
    (iblk m c 3 t) (iblk m c 4 t) (iblk m c 5 t) (iblk m c 6 t) y1 y2).trans ?_
  have ht : t.val < 64 := t.isLt
  have e : ((View.whole main_v5).slice (win0_7.rect t)).emb (ix3 0 y1 y2)
      = ix3 (⟨t.val / 8, by omega⟩ : Fin 8) (⟨t.val % 8 * 512 + y1.val, by omega⟩ : Fin 4096) y2 := by
    blk_ext [idx t]
  rw [e]
  show _ = entryAt m c ⟨t.val / 8, by omega⟩ ⟨t.val % 8 * 512 + y1.val, by omega⟩ y2
  unfold entryAt
  have e₁ : (⟨(t.val % 8 * 512 + y1.val) % 128, by omega⟩ : Fin 128) = ⟨y1.val % 128, by omega⟩ := Fin.ext (by show _ % 128 = _ % 128; omega)
  have e₂ : (t.val % 8 * 512 + y1.val) / 128 * 128 = t.val % 8 * 512 + y1.val / 128 * 128 := by omega
  rw [blk0 m c t y1 y2 ⟨t.val / 8, by omega⟩ ⟨t.val % 8 * 512 + y1.val, by omega⟩ ⟨1536 + y2.val, by omega⟩ rfl rfl rfl,
    blk2 m c t y1 y2 ⟨t.val / 8, by omega⟩ ⟨t.val % 8 * 512 + y1.val, by omega⟩ ⟨4096 + y2.val, by omega⟩ rfl rfl rfl]
  have e₃ : (fun (s : Fin 128) (a : Fin 512) => X0_1 m c t (ix3 0 ⟨y1.val / 128 * 128 + s.val, by omega⟩ a))
      = fun s a => m ((c : Thread nD τ).loc main_arg0) (ix3 (⟨t.val / 8, by omega⟩ : Fin 8)
          (⟨(t.val % 8 * 512 + y1.val) / 128 * 128 + s.val, by omega⟩ : Fin 4096) (⟨3584 + a.val, by omega⟩ : Fin 8064)) := by
    funext s a
    exact blk1 m c t _ a _ _ _ rfl (by show (t.val % 8 * 512 + y1.val) / 128 * 128 + s.val = t.val % 8 * 512 + (y1.val / 128 * 128 + s.val); omega) rfl
  rw [e₃]
  simp only [blk3, blk4, blk5, blk6, e₁]

/-- The run: the result array, and the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.SgIdeal.Whole

end
-- ==== Proof.SgRef.lean ====
/-
  What the spatial gating's reference computes: each token's gated mixture at each column.
-/
module

public import proofs.«01_k».proof.Proof.Gen.SgRefIdeal.Read
public import proofs.«01_k».proof.Proof.BranchSpec
public import Idealize.ShloMosaic.Lib.WordCmp
public import Idealize.ShloMosaic.Lib.Pipeline.ValueKit

@[expose] public section

set_option maxRecDepth 16384

noncomputable section

namespace Cert.SgRefIdeal.Whole

open Cert.SgRefIdeal Cert.SgRefIdeal.Read Cert.Layer Idealize.ShloMosaic Idealize.ShloMosaic.TcCoe Idealize.SL.Sem

variable (x0 : (⟨S8x4096x8064, .bf16⟩ : BufTy).Contents (Elt Ideal)) (x1 x2 : (⟨S512, .f32⟩ : BufTy).Contents (Elt Ideal))
variable (x3 : (⟨S4x128x128, .f32⟩ : BufTy).Contents (Elt Ideal)) (x4 : (⟨S4x128, .f32⟩ : BufTy).Contents (Elt Ideal))

/-- The first factor. -/
theorem u_apply (b : Fin 8) (p : Fin 4096) (j : Fin 512) :
    val_main_v18 (F := Ideal) x0 (ix3 b p j) = gelu (x0 (ix3 b p ⟨1536 + j.val, by omega⟩)) := by
  pointwise [val_main_v18, val_main_v17, val_main_v16, val_main_cst_2, val_main_v15, val_main_v14, val_main_cst_1, val_main_v13,
    val_main_v12, val_main_v11, val_main_cst_0, val_main_v10, val_main_v9, val_main_v8, val_main_cst, val_main_v7, val_main_v6,
    val_main_v1, val_main_v0, gelu]

/-- The rows to be mixed, before their norm. -/
theorem v_apply (b : Fin 8) (p : Fin 4096) (j : Fin 512) :
    val_main_v31 (F := Ideal) x0 (ix3 b p j) = gelu (x0 (ix3 b p ⟨3584 + j.val, by omega⟩)) := by
  pointwise [val_main_v31, val_main_v30, val_main_v29, val_main_cst_6, val_main_v28, val_main_v27, val_main_cst_5, val_main_v26,
    val_main_v25, val_main_v24, val_main_cst_4, val_main_v23, val_main_v22, val_main_v21, val_main_cst_3, val_main_v20, val_main_v19,
    val_main_v3, val_main_v2, gelu]

/-- The rows to be mixed. -/
theorem ln_apply (b : Fin 8) (p : Fin 4096) (j : Fin 512) :
    val_main_v55 (F := Ideal) x0 x1 x2 (ix3 b p j)
      = lnRow (fun a => gelu (x0 (ix3 b p ⟨3584 + a.val, by omega⟩))) (fun a => x1 (ix1 a)) (fun a => x2 (ix1 a)) j := by
  pointwise [val_main_v55, val_main_v54, val_main_v53, val_main_v52, val_main_v51, val_main_v50, val_main_v49, val_main_v48,
    val_main_v47, val_main_v46, val_main_v45, val_main_cst_11, val_main_v44, val_main_v43, val_main_v42, val_main_v41, val_main_cst_10,
    val_main_v40, val_main_v39, val_main_cst_9, val_main_v38, val_main_v37, val_main_v36, val_main_v35, val_main_v34, val_main_cst_8,
    val_main_v33, val_main_v32, val_main_cst_7, v_apply, lnRow, mean512]

/-- The causal weights. -/
theorem w_apply (g : Fin 4) (t s : Fin 128) :
    val_main_v59 (F := Ideal) x3 (ix3 g t s) = if s.val ≤ t.val then x3 (ix3 g t s) else 0 := by
  pointwise [val_main_v59, val_main_call1_v2, val_main_call1_v1, val_main_call1_v0, val_main_cst_12, val_main_v58, val_main_call0_v5,
    val_main_call0_c_0, val_main_call0_v4, val_main_call0_v3, val_main_call0_v2, val_main_call0_v1, val_main_call0_c, val_main_call0_v0,
    val_main_v57, val_main_c]
  have ht := t.isLt
  have hs := s.isLt
  have e0 : (constant (F := Ideal) S_ .f32 0#32) ix0 = 0 := by pointwise
  have et : IntOp.addi (BitVec.ofNat 32 t.val) 0#32 = BitVec.ofNat 32 t.val := BitVec.add_zero _
  rw [et, WordCmp.cmpi_sge_ofNat (by omega) (by omega)]
  by_cases h : s.val ≤ t.val
  · simp [h, Scalar.select]
  · simp [h, Scalar.select, e0]

/-- The result. -/
theorem result_apply (b : Fin 8) (p : Fin 4096) (j : Fin 512) :
    val_main_v70 (F := Ideal) x0 x1 x2 x3 x4 (ix3 b p j)
      = spatial ⟨p.val % 128, by omega⟩ (x0 (ix3 b p ⟨1536 + j.val, by omega⟩)) (x0 (ix3 b p ⟨4096 + j.val, by omega⟩))
          (fun s a => x0 (ix3 b ⟨p.val / 128 * 128 + s.val, by omega⟩ ⟨3584 + a.val, by omega⟩))
          (fun a => x1 (ix1 a)) (fun a => x2 (ix1 a))
          (fun s => x3 (ix3 ⟨j.val / 128, by omega⟩ ⟨p.val % 128, by omega⟩ s)) (x4 (ix2 ⟨j.val / 128, by omega⟩ ⟨p.val % 128, by omega⟩)) j := by
  pointwise [val_main_v70, val_main_v69, val_main_v68, val_main_v67, val_main_v66, val_main_v65, val_main_v64, val_main_v63,
    val_main_v62, val_main_v61, val_main_v60, val_main_v56, val_main_v5, val_main_v4, val_main_call2_v0, val_main_call2_v1,
    val_main_call2_v2, val_main_call2_v3, val_main_call2_v4, val_main_call2_v5, val_main_call2_cst, val_main_call2_cst_0,
    u_apply, ln_apply, w_apply, spatial, gate]
  simp only [mul_comm (lnRow _ _ _ _)]

end Cert.SgRefIdeal.Whole

end
-- ==== Proof.SgClaims.lean ====
/-
  The spatial gating's claims, assembled: from arguments that agree, the kernel's result array and the reference's hold
  the same extended reals.
-/
module

public import proofs.«01_k».proof.Defs
public import proofs.«01_k».proof.Proof.SgValue
public import proofs.«01_k».proof.Proof.SgRef
public import proofs.«01_k».proof.Proof.Gen.Sg.Frame
public import Idealize.ShloMosaic.Lib.Quiescent

@[expose] public section

noncomputable section

open Idealize.ShloMosaic Idealize.ShloMosaic.TcCoe Idealize.SL.Sem

namespace Cert.SgClaims

/-- The reference runs and leaves its arguments; it has no semaphore. -/
theorem frame_ref : Cert.quiescent_SgRefIdeal := fun m ρ _ =>
  (θ_run Cert.SgRefIdeal.defs _ _).mono (fun r h => ⟨fun c => (h c).2,
      Idealize.ShloMosaic.sem_eq_zero_of_no_sems (by decide) r.2⟩)
    (Cert.SgRefIdeal.Value.run (F := Ideal) m ρ)

/-- From agreeing arguments the result arrays are equal. -/
theorem algebraic : Cert.algebraic_SgIdeal_SgRefIdeal := by
  intro m ρ m' ρ' _ hagree
  refine ⟨fun c => Cert.SgIdeal.Whole.result m c, Cert.SgIdeal.Whole.run m ρ, ?_⟩
  refine (θ_run Cert.SgRefIdeal.defs _ _).mono (fun _ h c => ⟨(h c).1.trans ?_, (h c).2⟩)
    (Cert.SgRefIdeal.Value.run (F := Ideal) m' ρ')
  obtain ⟨h0, h1, h2, h3, h4⟩ := hagree c
  rw [Cert.SgRefIdeal.Read.val_main_v70_eq, h0, h1, h2, h3, h4]
  funext i
  obtain ⟨b, p, j, rfl⟩ : ∃ (b : Fin 8) (p : Fin 4096) (j : Fin 512), i = ix3 b p j := ⟨i 0, i 1, i 2, eq_ix3 i⟩
  exact Cert.SgRefIdeal.Whole.result_apply _ _ _ _ _ b p j

end Cert.SgClaims

end
-- ==== Proof.MemKvBlock.lean ====
/-
  What one grid point of the memory's projection computes: row i of the keys' block and of the values' block, from the
  memory's row i.
-/
module

public import proofs.«01_k».proof.Proof.Gen.MemKvIdeal.Value
public import proofs.«01_k».proof.Proof.BranchSpec
public import Idealize.ShloMosaic.Lib.Pipeline.ValueKit

@[expose] public section

set_option maxRecDepth 16384

noncomputable section

namespace Cert.MemKvIdeal.Block

open Cert.MemKvIdeal Cert.MemKvIdeal.Gen Cert.Layer Idealize.ShloMosaic Idealize.ShloMosaic.TcCoe

/-- The projection of the normed memory rows. -/
theorem proj_apply (v0 : Vec Ideal S1x256x1024 .f32) (v2 : Vec Ideal S1x1024 .f32) (v17 : Vec Ideal S1024x1024 .bf16)
    (i : Fin 256) (j : Fin 1024) :
    k0_pay3 v0 v2 v17 (ix2 i j)
      = projRow (fun a => v0 (ix3 0 i a)) (fun a => v2 (ix2 0 a)) (fun k => v17 (ix2 k j)) := by
  pointwise [k0_pay3, projRow, normRow]

theorem corner2 : (![0, 0] : Fin 2 → Nat) = fun _ => 0 := funext fun a => by fin_cases a <;> rfl
theorem corner3 : (![0, 0, 0] : Fin 3 → Nat) = fun _ => 0 := funext fun a => by fin_cases a <;> rfl

/-- The keys' block: four heads, each stored apart. -/
theorem key_apply (x0 : Vec Ideal S1x256x1024 .f32) (x1 : Vec Ideal S1x1024 .f32) (x2 : Vec Ideal S1024x1024 .bf16)
    (x3 : Vec Ideal S1x128 .f32) (i : Fin 256) (j : Fin 512) :
    out0_4 x0 x1 x2 x3 (ix3 0 i j)
      = keyAt (fun a => x0 (ix3 0 i a)) (fun a => x1 (ix2 0 a)) (fun k l => x2 (ix2 k l)) (fun a => x3 (ix2 0 a)) j := by
  unfold_out out0_4
  repeat rw [View.ld_unit_zero corner2]
  repeat rw [View.ld_unit_zero corner3]
  canon_tiles x h using (View.cover_of_tiledBy _ ![1, 256, 128] (by sl_kernel_rfl) _)
  all_goals
    idx_vars x
    pointwise [k0_pay1, k0_pay4, k0_pay5, k0_pay6, k0_pay7, proj_apply, keyAt, headRow, headCol, inHead]
    blk_point

/-- The values' block. -/
theorem value_apply (x0 : Vec Ideal S1x256x1024 .f32) (x1 : Vec Ideal S1x1024 .f32) (x2 : Vec Ideal S1024x1024 .bf16)
    (x3 : Vec Ideal S1x128 .f32) (i : Fin 256) (j : Fin 512) :
    out0_5 x0 x1 x2 x3 (ix3 0 i j)
      = valueAt (fun a => x0 (ix3 0 i a)) (fun a => x1 (ix2 0 a)) (fun k l => x2 (ix2 k l)) j := by
  unfold_out out0_5
  rw [View.canon_unit_zero corner3]
  repeat rw [View.ld_unit_zero corner2]
  repeat rw [View.ld_unit_zero corner3]
  pointwise [k0_pay2, proj_apply, valueAt]

end Cert.MemKvIdeal.Block

end
-- ==== Proof.MemKvValue.lean ====
/-
  What the memory projection's two result arrays hold after the run: for each memory row its keys and its values, read
  from the arguments.
-/
module

public import proofs.«01_k».proof.Proof.MemKvBlock

@[expose] public section

set_option maxRecDepth 16384

noncomputable section

namespace Cert.MemKvIdeal.Whole

open Cert.MemKvIdeal Cert.MemKvIdeal.Gen Cert.Layer Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Device `c`'s key of memory row `p` of batch `b`, at column `j`. -/
def keyEntry (c : Dev nD) (b : Fin 8) (p : Fin 256) (j : Fin 512) : EReal :=
  keyAt (fun a => m ((c : Thread nD τ).loc main_arg0) (ix3 b p a)) (fun a => m ((c : Thread nD τ).loc main_arg1) (ix1 a))
    (fun k l => m ((c : Thread nD τ).loc main_arg2) (ix2 k l)) (fun a => m ((c : Thread nD τ).loc main_arg3) (ix1 a)) j

/-- Device `c`'s value of memory row `p` of batch `b`, at column `j`. -/
def valueEntry (c : Dev nD) (b : Fin 8) (p : Fin 256) (j : Fin 512) : EReal :=
  valueAt (fun a => m ((c : Thread nD τ).loc main_arg0) (ix3 b p a)) (fun a => m ((c : Thread nD τ).loc main_arg1) (ix1 a))
    (fun k l => m ((c : Thread nD τ).loc main_arg2) (ix2 k l)) j

/-- The keys' array. -/
def keys (c : Dev nD) : Buf (Elt Ideal) ((c : Thread nD τ).loc main_v3_0) :=
  fun i : S8x256x512.Idx => keyEntry m c (i 0) (i 1) (i 2)

/-- The values' array. -/
def values (c : Dev nD) : Buf (Elt Ideal) ((c : Thread nD τ).loc main_v3_1) :=
  fun i : S8x256x512.Idx => valueEntry m c (i 0) (i 1) (i 2)

/-- Where each window's block sits at grid point `t`: the batch's windows move with the point, the others stay. -/
theorem idx : ∀ t : Fin cfg0.N, win0_0.index t = ![t.val, 0, 0] ∧ win0_1.index t = ![0, 0] ∧ win0_2.index t = ![0, 0]
    ∧ win0_3.index t = ![0, 0] ∧ win0_4.index t = ![t.val, 0, 0] ∧ win0_5.index t = ![t.val, 0, 0] :=
  (by decide +kernel : ∀ t : Fin grid0.N, _)

/-! ## The windows' blocks, read as the arguments -/

theorem blk0 (c : Dev nD) (t : Fin cfg0.N) (i : Fin 256) (a : Fin 1024) (b : Fin 8) (hb : b.val = t.val) :
    iblk m c 0 t (ix3 0 i a) = m ((c : Thread nD τ).loc main_arg0) (ix3 b i a) := by
  blk_simp [iblk]
  entry_read
  pointwise
  blk_ext [idx t]

theorem blk1 (c : Dev nD) (t : Fin cfg0.N) (a : Fin 1024) :
    iblk m c 1 t (ix2 0 a) = m ((c : Thread nD τ).loc main_arg1) (ix1 a) := by
  blk_simp [iblk]
  entry_read
  pointwise
  blk_ext [idx t]

theorem blk2 (c : Dev nD) (t : Fin cfg0.N) (k l : Fin 1024) :
    iblk m c 2 t (ix2 k l) = m ((c : Thread nD τ).loc main_arg2) (ix2 k l) := by
  blk_simp [iblk]
  entry_read
  pointwise
  blk_ext [idx t]

theorem blk3 (c : Dev nD) (t : Fin cfg0.N) (a : Fin 128) :
    iblk m c 3 t (ix2 0 a) = m ((c : Thread nD τ).loc main_arg3) (ix1 a) := by
  blk_simp [iblk]
  entry_read
  pointwise
  blk_ext [idx t]

/-! ## The arrays after the run -/

/-- Every point's block of keys is its batch of `keys`, and the blocks fill the array. -/
theorem final_keys (c : Dev nD) : (dats m 0 c).arrAt 4 cfg0.N = keys m c := by
  refine (dats m 0 c).arrAt_eq_of_covers 4 _ (by decide +kernel) fun t hf y => ?_
  blk_simp
  rw [after0_4]
  idx_vars y
  obtain rfl : y0 = 0 := Subsingleton.elim _ _
  refine (Block.key_apply _ _ _ _ y1 y2).trans ?_
  have ht : t.val < 8 := t.isLt
  have e : ((View.whole main_v3_0).slice (win0_4.rect t)).emb (ix3 0 y1 y2) = ix3 (⟨t.val, ht⟩ : Fin 8) y1 y2 := by
    blk_ext [idx t]
  rw [e]
  show _ = keyEntry m c ⟨t.val, ht⟩ y1 y2
  unfold keyEntry
  simp only [blk0 m c t y1 _ ⟨t.val, ht⟩ rfl, blk1, blk2, blk3]

/-- Every point's block of values is its batch of `values`, and the blocks fill the array. -/
theorem final_values (c : Dev nD) : (dats m 0 c).arrAt 5 cfg0.N = values m c := by
  refine (dats m 0 c).arrAt_eq_of_covers 5 _ (by decide +kernel) fun t hf y => ?_
  blk_simp
  rw [after0_5]
  idx_vars y
  obtain rfl : y0 = 0 := Subsingleton.elim _ _
  refine (Block.value_apply _ _ _ _ y1 y2).trans ?_
  have ht : t.val < 8 := t.isLt
  have e : ((View.whole main_v3_1).slice (win0_5.rect t)).emb (ix3 0 y1 y2) = ix3 (⟨t.val, ht⟩ : Fin 8) y1 y2 := by
    blk_ext [idx t]
  rw [e]
  show _ = valueEntry m c ⟨t.val, ht⟩ y1 y2
  unfold valueEntry
  simp only [blk0 m c t y1 _ ⟨t.val, ht⟩ rfl, blk1, blk2]

/-- The run: the two result arrays, and the arguments unchanged. -/
theorem run : θ_run defs (onTc (τ := τ) (main (F := Ideal))) ⟨m, fun _ => 0, ρ⟩ fun r => ∀ c : Dev nD,
      r.2.mem ((c : Thread nD τ).loc main_v3_0) = keys m c
      ∧ r.2.mem ((c : Thread nD τ).loc main_v3_1) = values m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_keys m c), (h c).2.1.trans (final_values m c), (h c).2.2⟩)
    (Value.run_blocks m ρ)

end Cert.MemKvIdeal.Whole

end
-- ==== Proof.MemKvRef.lean ====
/-
  What the memory projection's reference computes: each memory row's keys and values.
-/
module

public import proofs.«01_k».proof.Proof.Gen.MemKvRefIdeal.Read
public import proofs.«01_k».proof.Proof.BranchSpec
public import Idealize.ShloMosaic.Lib.Pipeline.ValueKit

@[expose] public section

set_option maxRecDepth 16384

noncomputable section

namespace Cert.MemKvRefIdeal.Whole

open Cert.MemKvRefIdeal Cert.MemKvRefIdeal.Read Cert.Layer Idealize.ShloMosaic Idealize.ShloMosaic.TcCoe Idealize.SL.Sem

variable (x0 : (⟨S8x256x1024, .f32⟩ : BufTy).Contents (Elt Ideal)) (x1 : (⟨S1024, .f32⟩ : BufTy).Contents (Elt Ideal))
variable (x2 : (⟨S1024x1024, .f32⟩ : BufTy).Contents (Elt Ideal)) (x3 : (⟨S128, .f32⟩ : BufTy).Contents (Elt Ideal))

/-- The projection of the normed memory rows. -/
theorem proj_apply (b : Fin 8) (p : Fin 256) (j : Fin 1024) :
    val_main_v13 (F := Ideal) x0 x1 x2 (ix3 b p j)
      = projRow (fun a => x0 (ix3 b p a)) (fun a => x1 (ix1 a)) (fun k => x2 (ix2 k j)) := by
  pointwise [val_main_v13, val_main_v12, val_main_v11, val_main_v10, val_main_v9, val_main_v8, val_main_v7, val_main_v6, val_main_v5,
    val_main_cst_1, val_main_v4, val_main_v3, val_main_cst_0, val_main_v2, val_main_v1, val_main_cst, val_main_v0, normRow, projRow]

/-- The projection's first half, one head apart. -/
theorem heads_apply (b : Fin 8) (p : Fin 256) (h : Fin 4) (a : Fin 128) :
    val_main_v16 (F := Ideal) x0 x1 x2 (ix4 b p h a)
      = projRow (fun a => x0 (ix3 b p a)) (fun a => x1 (ix1 a)) (fun k => x2 (ix2 k ⟨h.val * 128 + a.val, by omega⟩)) := by
  pointwise [val_main_v16, val_main_v14, proj_apply]

/-- The normed heads. -/
theorem normed_apply (b : Fin 8) (p : Fin 256) (h : Fin 4) (a : Fin 128) :
    val_main_v29 (F := Ideal) x0 x1 x2 x3 (ix4 b p h a)
      = headRow (fun a => projRow (fun a => x0 (ix3 b p a)) (fun a => x1 (ix1 a)) (fun k => x2 (ix2 k ⟨h.val * 128 + a.val, by omega⟩)))
          (fun a => x3 (ix1 a)) a := by
  pointwise [val_main_v29, val_main_v28, val_main_v27, val_main_v26, val_main_v25, val_main_v24, val_main_v23, val_main_v22,
    val_main_cst_4, val_main_v21, val_main_v20, val_main_cst_3, val_main_v19, val_main_v18, val_main_cst_2, val_main_v17,
    heads_apply, headRow]

/-- The keys. -/
theorem key_apply (b : Fin 8) (p : Fin 256) (j : Fin 512) :
    val_main_v31 (F := Ideal) x0 x1 x2 x3 (ix3 b p j)
      = keyAt (fun a => x0 (ix3 b p a)) (fun a => x1 (ix1 a)) (fun k l => x2 (ix2 k l)) (fun a => x3 (ix1 a)) j := by
  pointwise [val_main_v31, val_main_v30, normed_apply, keyAt, headCol, inHead]

/-- The values. -/
theorem value_apply (b : Fin 8) (p : Fin 256) (j : Fin 512) :
    val_main_v32 (F := Ideal) x0 x1 x2 (ix3 b p j)
      = valueAt (fun a => x0 (ix3 b p a)) (fun a => x1 (ix1 a)) (fun k l => x2 (ix2 k l)) j := by
  pointwise [val_main_v32, val_main_v15, proj_apply, valueAt]

end Cert.MemKvRefIdeal.Whole

end
-- ==== Proof.MemKvClaims.lean ====
/-
  The memory projection's claims, assembled: from arguments that agree, each of the kernel's two result arrays and the
  reference's hold the same extended reals.
-/
module

public import proofs.«01_k».proof.Defs
public import proofs.«01_k».proof.Proof.MemKvValue
public import proofs.«01_k».proof.Proof.MemKvRef
public import proofs.«01_k».proof.Proof.Gen.MemKv.Frame
public import Idealize.ShloMosaic.Lib.Quiescent

@[expose] public section

noncomputable section

open Idealize.ShloMosaic Idealize.ShloMosaic.TcCoe Idealize.SL.Sem

namespace Cert.MemKvClaims

/-- The reference runs and leaves its arguments; it has no semaphore. -/
theorem frame_ref : Cert.quiescent_MemKvRefIdeal := fun m ρ _ =>
  (θ_run Cert.MemKvRefIdeal.defs _ _).mono (fun r h => ⟨fun c => (h c).2.2,
      Idealize.ShloMosaic.sem_eq_zero_of_no_sems (by decide) r.2⟩)
    (Cert.MemKvRefIdeal.Value.run (F := Ideal) m ρ)

/-- From agreeing arguments the result arrays are equal. -/
theorem algebraic : Cert.algebraic_MemKvIdeal_MemKvRefIdeal := by
  intro m ρ m' ρ' _ hagree
  refine ⟨fun c => Cert.MemKvIdeal.Whole.keys m c, fun c => Cert.MemKvIdeal.Whole.values m c, Cert.MemKvIdeal.Whole.run m ρ, ?_⟩
  refine (θ_run Cert.MemKvRefIdeal.defs _ _).mono (fun _ h c => ⟨(h c).1.trans ?_, (h c).2.1.trans ?_, (h c).2.2⟩)
    (Cert.MemKvRefIdeal.Value.run (F := Ideal) m' ρ')
  · obtain ⟨h0, h1, h2, h3⟩ := hagree c
    rw [Cert.MemKvRefIdeal.Read.val_main_v31_eq, h0, h1, h2, h3]
    funext i
    obtain ⟨b, p, j, rfl⟩ : ∃ (b : Fin 8) (p : Fin 256) (j : Fin 512), i = ix3 b p j := ⟨i 0, i 1, i 2, eq_ix3 i⟩
    exact Cert.MemKvRefIdeal.Whole.key_apply _ _ _ _ b p j
  · obtain ⟨h0, h1, h2, h3⟩ := hagree c
    rw [Cert.MemKvRefIdeal.Read.val_main_v32_eq, h0, h1, h2]
    funext i
    obtain ⟨b, p, j, rfl⟩ : ∃ (b : Fin 8) (p : Fin 256) (j : Fin 512), i = ix3 b p j := ⟨i 0, i 1, i 2, eq_ix3 i⟩
    exact Cert.MemKvRefIdeal.Whole.value_apply _ _ _ b p j

end Cert.MemKvClaims

end
-- ==== Proof.MemSpec.lean ====
/-
  The attention over the memory, one token and one output column at a time, on extended reals: the head's logits, their
  softmax's weights, and the mixture of the values, with the division by the weights' sum taken after the mixture or before
  it. Where the keys and the norm's gain are real numbers, so are the logits, and the two agree.
-/
module

public import proofs.«01_k».proof.Proof.BranchSpec

@[expose] public section

noncomputable section

namespace Cert.Layer

open Idealize.ShloMosaic

/-- The normed query's product with memory row `s`'s key, over the root of the head's width. -/
def logit (q g : Fin 128 → EReal) (k : Fin 256 → Fin 128 → EReal) (s : Fin 256) : EReal :=
  (∑ a, headRow q g a * k s a) * lit 0x3DB504F3#32

/-- The greatest logit. -/
def top (l : Fin 256 → EReal) : EReal := Finset.univ.fold max (lit 0xFF800000#32) l

/-- Row `s`'s weight before the division. -/
def weight (l : Fin 256 → EReal) (s : Fin 256) : EReal := Ideal.exp (l s - top l)

/-- The values mixed by the weights, then divided by the weights' sum. -/
def attend (l v : Fin 256 → EReal) : EReal := Ideal.div (∑ s, weight l s * v s) (∑ s, weight l s)

/-- The values mixed by the divided weights. -/
def softAttend (l v : Fin 256 → EReal) : EReal := ∑ s, v s * Ideal.div (weight l s) (∑ s, weight l s)

/-- Column `a` of the head, among 512 columns, that column `j` belongs to. -/
def headOf (j : Fin 512) (a : Fin 128) : Fin 512 := ⟨j.val / 128 * 128 + a.val, by omega⟩

/-- The gated mixture at column `j`: the token's queries `q` and gate entry `gt`, the memory's keys `k` and values `v`. -/
def memRow (q : Fin 512 → EReal) (gt : EReal) (k v : Fin 256 → Fin 512 → EReal) (g : Fin 128 → EReal) (j : Fin 512) : EReal :=
  attend (logit (fun a => q (headOf j a)) g (fun s a => k s (headOf j a))) (fun s => v s j) * (gt * gate gt)

theorem lowest : lit 0xFF800000#32 = ⊥ := by
  simp [Ideal.ofBits, Ideal.ieee]

theorem max_top (l : Fin 256 → EReal) : max (lit 0xFF800000#32) (top l) = top l := by
  rw [lowest]
  exact max_eq_right bot_le

/-- An extended real that is a real number. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem coe_sum {n : Nat} (f : Fin n → ℝ) : ∑ i, (f i : EReal) = ((∑ i, f i : ℝ) : EReal) := by
  have h : ∀ S : Finset (Fin n), ∑ i ∈ S, (f i : EReal) = ((∑ i ∈ S, f i : ℝ) : EReal) := by
    intro S
    induction S using Finset.induction_on with
    | empty => simp
    | insert a S ha ih => rw [Finset.sum_insert ha, Finset.sum_insert ha, ih, EReal.coe_add]
  exact h _

theorem IsReal.sum {n : Nat} {f : Fin n → EReal} (h : ∀ i, IsReal (f i)) : IsReal (∑ i, f i) := by
  choose r hr using h
  exact ⟨∑ i, r i, by simp only [hr]; exact coe_sum _⟩

theorem real_of_ne {x : EReal} (h₁ : x ≠ ⊤) (h₂ : x ≠ ⊥) : IsReal x := ⟨x.toReal, (EReal.coe_toReal h₁ h₂).symm⟩

theorem width : lit 0x43000000#32 = ((128 : ℝ) : EReal) := by
  simp [Ideal.ofBits, Ideal.ieee, -EReal.coe_mul, -EReal.coe_neg]; norm_num

theorem small : ∃ r : ℝ, 0 < r ∧ lit 0x358637BD#32 = (r : EReal) := by
  refine ⟨_, ?_, by simp [Ideal.ofBits, Ideal.ieee, -EReal.coe_mul, -EReal.coe_neg]; rfl⟩
  positivity

theorem scale_real : IsReal (lit 0x3DB504F3#32) :=
  ⟨_, by simp [Ideal.ofBits, Ideal.ieee, -EReal.coe_mul, -EReal.coe_neg]; rfl⟩

theorem sq_nonneg' (x : EReal) : 0 ≤ x * x := by
  induction x with
  | bot => simp
  | top => simp
  | coe r => exact_mod_cast mul_self_nonneg r

/-- A normed entry is real where the gain is: an infinite entry of the row makes the row's spread infinite, and the entry 0. -/
theorem headRow_real (x g : Fin 128 → EReal) (k : Fin 128) (hg : IsReal (g k)) : IsReal (headRow x g k) := by
  unfold headRow
  refine IsReal.mul ?_ hg
  have hd : ((128 : ℝ) : EReal) ≠ 0 := by norm_num
  obtain ⟨ε, hε, he⟩ := small
  rw [width, he]
  unfold Ideal.div
  rw [if_neg hd]
  by_cases h : ∀ i, IsReal (x i)
  · choose r hr using h
    have hs : ∑ i, x i * x i = ((∑ i, r i * r i : ℝ) : EReal) := by
      simp only [hr, ← EReal.coe_mul]
      exact coe_sum _
    have hp : 0 < (∑ i, r i * r i) * (128 : ℝ)⁻¹ + ε :=
      add_pos_of_nonneg_of_pos (mul_nonneg (Finset.sum_nonneg fun i _ => mul_self_nonneg _) (by norm_num)) hε
    rw [hs, hr k, ← EReal.coe_inv, ← EReal.coe_mul, ← EReal.coe_add]
    refine IsReal.mul ⟨_, rfl⟩ ?_
    show IsReal (if _ < (0 : ℝ) then _ else if _ = (0 : ℝ) then _ else _)
    rw [if_neg (not_lt.mpr hp.le), if_neg hp.ne']
    exact ⟨_, rfl⟩
  · push Not at h
    obtain ⟨i, hi⟩ := h
    have hi' : x i * x i = ⊤ := by
      generalize hy : x i = y at hi
      induction y with
      | bot => rfl
      | top => rfl
      | coe r => exact absurd ⟨r, rfl⟩ hi
    have hs : ∑ i, x i * x i = ⊤ :=
      top_le_iff.mp (hi' ▸ Finset.single_le_sum (f := fun i => x i * x i) (fun i _ => sq_nonneg' _) (Finset.mem_univ i))
    rw [hs, ← EReal.coe_inv, EReal.top_mul_coe_of_pos (by norm_num), EReal.top_add_coe]
    exact ⟨0, by show x k * 0 = _; simp⟩

theorem logit_real (q g : Fin 128 → EReal) (k : Fin 256 → Fin 128 → EReal) (hg : ∀ a, IsReal (g a)) (s : Fin 256)
    (hk : ∀ a, IsReal (k s a)) : IsReal (logit q g k s) :=
  (IsReal.sum fun a => (headRow_real q g a (hg a)).mul (hk a)).mul scale_real

/-- A product with a real number that is not negative distributes over a sum. -/
theorem sum_mul_real {n : Nat} (f : Fin n → EReal) (c : ℝ) (hc : 0 ≤ c) : (∑ i, f i) * (c : EReal) = ∑ i, f i * (c : EReal) := by
  have h : ∀ S : Finset (Fin n), (∑ i ∈ S, f i) * (c : EReal) = ∑ i ∈ S, f i * (c : EReal) := by
    intro S
    induction S using Finset.induction_on with
    | empty => simp
    | insert a S ha ih =>
      rw [Finset.sum_insert ha, Finset.sum_insert ha, ← ih, EReal.right_distrib_of_nonneg_of_ne_top (by exact_mod_cast hc) (EReal.coe_ne_top c)]
  exact h _

/-- Where the logits are real, the division may be taken after the mixture. -/
theorem attend_eq (l v : Fin 256 → EReal) (hl : ∀ s, IsReal (l s)) : softAttend l v = attend l v := by
  obtain ⟨i, -, hi⟩ := Finset.exists_mem_eq_sup (Finset.univ : Finset (Fin 256)) Finset.univ_nonempty l
  have ht : top l = l i := by
    unfold top
    rw [lowest]
    exact hi
  choose r hr using hl
  have hw : ∀ s, weight l s = ((Real.exp (r s - r i) : ℝ) : EReal) := by
    intro s
    unfold weight
    rw [ht, hr s, hr i, ← EReal.coe_sub]
    rfl
  have hs : ∑ s, weight l s = ((∑ s, Real.exp (r s - r i) : ℝ) : EReal) := by
    simp only [hw]
    exact coe_sum _
  have hp : 0 < ∑ s, Real.exp (r s - r i) := Finset.sum_pos (fun s _ => Real.exp_pos _) Finset.univ_nonempty
  have hne : ((∑ s, Real.exp (r s - r i) : ℝ) : EReal) ≠ 0 := by exact_mod_cast hp.ne'
  unfold softAttend attend Ideal.div
  rw [hs]
  simp only [if_neg hne, ← EReal.coe_inv]
  rw [sum_mul_real _ _ (inv_nonneg.mpr hp.le)]
  refine Finset.sum_congr rfl fun s _ => ?_
  rw [← mul_assoc, mul_comm (v s)]

end Cert.Layer

end
-- ==== Proof.MemAttnPre.lean ====
/-
  The precondition of the attention over the memory, read: every key and every entry of the gain is a real number.
-/
module

public import proofs.«01_k».proof.Pre_finite_keys
public import proofs.«01_k».proof.Proof.MemSpec
public import Idealize.ShloMosaic.Lib.Pipeline.ValueKit

@[expose] public section

noncomputable section

namespace Cert.Pre_finite_keys

open Cert.Layer Idealize.ShloMosaic

/-- The predicate's side conditions. -/
theorem facts : Facts where
  bitsLt_bf16_f32 := by decide
  bcast_S_S8x256x512 := by decide
  bcast_S_S128 := by decide

/-- A number whose absolute value is at most a real one is real. -/
theorem real_of_abs_le {x y : EReal} (hy : IsReal y) (h : Ideal.cmp .ole (max x (-x)) y = 1#1) : IsReal x := by
  obtain ⟨r, rfl⟩ := hy
  have h' : max x (-x) ≤ (r : EReal) := by
    by_contra hn
    have : Ideal.cmp .ole (max x (-x)) (r : EReal) = 0#1 := by
      show BitVec.ofBool (decide _) = _
      rw [decide_eq_false hn]
      rfl
    rw [this] at h
    exact absurd h (by decide)
  refine real_of_ne ?_ ?_
  · rintro rfl
    exact absurd ((le_max_left _ _).trans h') (by simp)
  · rintro rfl
    exact absurd ((le_max_right _ _).trans h') (by simp)

theorem bound_real : IsReal (lit 0x7F7FFFFF#32) :=
  ⟨_, by simp [Ideal.ofBits, Ideal.ieee, -EReal.coe_mul, -EReal.coe_neg]; rfl⟩

variable [hF : Facts] (x0 : FVec Ideal S8x4096x8064 .bf16) (x1 x2 : FVec Ideal S8x256x512 .bf16) (x3 : FVec Ideal S128 .f32)

theorem key_real (h : (fn (F := Ideal) x0 x1 x2 x3).1 = fun _ => 1#1) (b : Fin 8) (s : Fin 256) (a : Fin 512) :
    IsReal (x1 (ix3 b s a)) := by
  refine real_of_abs_le bound_real ?_
  refine Eq.trans ?_ (congrFun h (ix3 b s a))
  unfold fn
  pointwise
  rfl

theorem gain_real (h : (fn (F := Ideal) x0 x1 x2 x3).2 = fun _ => 1#1) (a : Fin 128) : IsReal (x3 (ix1 a)) := by
  refine real_of_abs_le bound_real ?_
  refine Eq.trans ?_ (congrFun h (ix1 a))
  unfold fn
  pointwise
  rfl

end Cert.Pre_finite_keys

end
-- ==== Proof.MemAttnBlock.lean ====
/-
  What one grid point of the attention over the memory computes: row i of its 512 tokens, four heads side by side.
-/
module

public import proofs.«01_k».proof.Proof.Gen.MemAttnIdeal.Value
public import proofs.«01_k».proof.Proof.MemSpec
public import Idealize.ShloMosaic.Lib.Pipeline.ValueKit

@[expose] public section

set_option maxRecDepth 16384

noncomputable section

namespace Cert.MemAttnIdeal.Block

open Cert.MemAttnIdeal Cert.MemAttnIdeal.Gen Cert.Layer Idealize.ShloMosaic Idealize.ShloMosaic.TcCoe

/-! ## One head -/

variable (g : Vec Ideal S1x128 .f32) (k v : Vec Ideal S1x256x128 .bf16)

/-- One head's mixture at row `i`, column `a`, from the row's queries. -/
abbrev headAt (q : Fin 128 → EReal) (a : Fin 128) : EReal :=
  attend (logit q (fun b => g (ix2 0 b)) (fun s b => k (ix3 0 s b))) (fun s => v (ix3 0 s a))

theorem head1 (q : FVec Ideal S512x128 .f32) (i : Fin 512) (a : Fin 128) :
    k0_pay5 q g k v (ix2 i a) = headAt g k v (fun b => q (ix2 i b)) a := by
  pointwise [k0_pay5, attend, weight, top, logit, headRow]

theorem head0 (q : Vec Ideal S1x512x512 .bf16) (i : Fin 512) (a : Fin 128) :
    k0_pay3 q g k v (ix2 i a) = headAt g k v (fun b => q (ix3 0 i ⟨b.val, by omega⟩)) a := by
  pointwise [k0_pay3, k0_pay2, attend, weight, top, logit, headRow]

theorem head2 (q : FVec Ideal S512x512 .f32) (i : Fin 512) (a : Fin 128) :
    k0_pay9 (k0_pay6 q) (k0_pay7 g) (k0_pay8 q) k v (ix2 i a) = headAt g k v (fun b => q (ix2 i ⟨256 + b.val, by omega⟩)) a := by
  pointwise [k0_pay9, k0_pay8, k0_pay7, k0_pay6, attend, weight, top, logit, headRow]

theorem normed3 (q : FVec Ideal S512x512 .f32) (i : Fin 512) (a : Fin 128) :
    k0_pay10 q g (ix2 i a) = headRow (fun b => q (ix2 i ⟨384 + b.val, by omega⟩)) (fun b => g (ix2 0 b)) a := by
  pointwise [k0_pay10, headRow]

/-- The last head's mixture, from its normed queries. -/
def last (n : FVec Ideal S512x128 .bf16) : FVec Ideal S512x128 .f32 :=
  have kk : FVec Ideal S256x128 .bf16 := shapeCast S256x128 k shapeCasts_S1x256x128_S256x128
  have vv : FVec Ideal S256x128 .bf16 := shapeCast S256x128 v shapeCasts_S1x256x128_S256x128
  have lg : FVec Ideal S512x256 .f32 := mulf (matmul dot_S512x128_S256x128_S512x256_1_1_0_0_n_n none n kk
    (constant S512x256 .f32 0x00000000#32)) (broadcast S512x256 (Scalar.ofBits .f32 0x3DB504F3#32))
  have e : FVec Ideal S512x256 .f32 := exp (subf lg (broadcastTo S512x256 (shapeCast S512x1
    (multiReduction .maximumf [1] S512 lg 0xFF800000#32 reduces_S512x256_S512 (.inl rfl) rfl) shapeCasts_S512_S512x1) broadcasts_S512x1_S512x256))
  have eb : FVec Ideal S512x256 .bf16 := truncf .bf16 e bitsLt_bf16_f32
  divf (matmul dot_S512x256_S256x128_S512x128_1_0_0_1_n_n none eb vv (constant S512x128 .f32 0x00000000#32))
    (broadcastTo S512x128 (shapeCast S512x1 (multiReduction .add [1] S512 e 0x00000000#32 reduces_S512x256_S512 (.inl rfl) rfl)
      shapeCasts_S512_S512x1) broadcasts_S512x1_S512x128)

theorem last_apply (q : FVec Ideal S512x512 .f32) (i : Fin 512) (a : Fin 128) :
    last k v (k0_pay10 q g) (ix2 i a) = headAt g k v (fun b => q (ix2 i ⟨384 + b.val, by omega⟩)) a := by
  pointwise [last, normed3, attend, weight, top, logit]

/-! ## The heads joined, and the gate -/

variable (h0 h1 h2 h3 : FVec Ideal S512x128 .f32)

/-- Four heads side by side. -/
def joined : FVec Ideal S512x512 .f32 :=
  concatenate S512x512 1 [⟨S512x128, h0⟩, ⟨S512x128, h1⟩, ⟨S512x128, h2⟩, ⟨S512x128, h3⟩]
    concatenates_S512x128_S512x128_S512x128_S512x128_S512x512_d1

theorem col_off (i : Fin 512) {n : Nat} (k : Fin n) (j : Fin 512) :
    ∀ b : Fin 2, b.cast rfl ≠ (1 : Fin 2) → ((ix2 i k : Shape.Idx ⟨2, ![512, n]⟩) b).val = ((ix2 i j : S512x512.Idx) (b.cast rfl)).val := by
  intro b hb
  fin_cases b
  · rfl
  · exact absurd rfl hb

theorem joined0 (i : Fin 512) (j : Fin 512) (h : j.val < 128) : joined h0 h1 h2 h3 (ix2 i j) = h0 (ix2 i ⟨j.val, h⟩) := by
  unfold joined
  exact concatenate_apply_piece (t := S512x512) 1 _ _ _ 0 (by show 0 < 4; decide) S512x128 _ rfl rfl 0 (by rfl)
    (ix2 i (⟨j.val, by omega⟩ : Fin 128)) (col_off _ _ _) (by show 0 + j.val = j.val; omega)

theorem joined1 (i : Fin 512) (j : Fin 512) (h₁ : 128 ≤ j.val) (h₂ : j.val < 256) :
    joined h0 h1 h2 h3 (ix2 i j) = h1 (ix2 i ⟨j.val - 128, by omega⟩) := by
  unfold joined
  exact concatenate_apply_piece (t := S512x512) 1 _ _ _ 1 (by show 1 < 4; decide) S512x128 _ rfl rfl 128 (by rfl)
    (ix2 i (⟨j.val - 128, by omega⟩ : Fin 128)) (col_off _ _ _) (by show 128 + (j.val - 128) = j.val; omega)

theorem joined2 (i : Fin 512) (j : Fin 512) (h₁ : 256 ≤ j.val) (h₂ : j.val < 384) :
    joined h0 h1 h2 h3 (ix2 i j) = h2 (ix2 i ⟨j.val - 256, by omega⟩) := by
  unfold joined
  exact concatenate_apply_piece (t := S512x512) 1 _ _ _ 2 (by show 2 < 4; decide) S512x128 _ rfl rfl 256 (by rfl)
    (ix2 i (⟨j.val - 256, by omega⟩ : Fin 128)) (col_off _ _ _) (by show 256 + (j.val - 256) = j.val; omega)

theorem joined3 (i : Fin 512) (j : Fin 512) (h₁ : 384 ≤ j.val) :
    joined h0 h1 h2 h3 (ix2 i j) = h3 (ix2 i ⟨j.val - 384, by omega⟩) := by
  unfold joined
  exact concatenate_apply_piece (t := S512x512) 1 _ _ _ 3 (by show 3 < 4; decide) S512x128 _ rfl rfl 384 (by rfl)
    (ix2 i (⟨j.val - 384, by omega⟩ : Fin 128)) (col_off _ _ _) (by show 384 + (j.val - 384) = j.val; omega)

theorem gated_apply (n : FVec Ideal S512x128 .bf16) (gt : Vec Ideal S1x512x512 .bf16) (i j : Fin 512) :
    k0_pay1 h0 h1 h2 n k v gt (ix3 0 i j)
      = joined h0 h1 h2 (last k v n) (ix2 i j) * (gt (ix3 0 i j) * gate (gt (ix3 0 i j))) := by
  unfold k0_pay1
  rw [← last.eq_1, ← joined.eq_1]
  pointwise [gate, zero_sub]

/-! ## The block -/

/-- A head's mixture from equal queries, keys and values. -/
theorem headAt_eq (q q' : Fin 128 → EReal) (k' : Fin 256 → Fin 128 → EReal) (v' : Fin 256 → EReal) (a : Fin 128)
    (hq : ∀ b, q b = q' b) (hk : ∀ s b, k (ix3 0 s b) = k' s b) (hv : ∀ s, v (ix3 0 s a) = v' s) :
    headAt g k v q a = attend (logit q' (fun b => g (ix2 0 b)) k') v' := by
  unfold headAt
  simp only [hk, hv, show q = q' from funext hq]

set_option maxHeartbeats 2000000 in
/-- The block's entry at row `r`, column `j`. -/
theorem out_apply (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x128 .f32) (harg6 : arg6.IsWhole) (arg7 : Memref sig .tc .vmem S1x512x512 .bf16) (harg7 : arg7.IsWhole)
    (x0 x1 : Vec Ideal S1x512x512 .bf16) (x2 x3 : Vec Ideal S1x256x512 .bf16) (x4 : Vec Ideal S1x128 .f32) (r j : Fin 512) :
    out0_A_5 c i arg2 harg2 arg3 harg3 arg4 harg4 arg5 harg5 arg6 harg6 arg7 harg7 x0 x1 x2 x3 x4 (ix3 0 r j)
      = memRow (fun a => x0 (ix3 0 r a)) (x1 (ix3 0 r j)) (fun s a => x2 (ix3 0 s a)) (fun s a => x3 (ix3 0 s a)) (fun a => x4 (ix2 0 a)) j := by
  unfold out0_A_5
  frame_out
  refine (gated_apply _ _ _ _ _ _ _ r j).trans ?_
  unfold memRow
  congr 1
  have hj := j.isLt
  rcases Nat.lt_or_ge j.val 128 with h1 | h1
  · rw [joined0 _ _ _ _ _ _ h1, head0]
    refine headAt_eq _ _ _ _ _ _ _ _ (fun b => ?_) (fun s b => ?_) (fun s => ?_)
    all_goals
      pointwise [headOf]
      try blk_point
  rcases Nat.lt_or_ge j.val 256 with h2 | h2
  · rw [joined1 _ _ _ _ _ _ h1 h2, head1]
    refine headAt_eq _ _ _ _ _ _ _ _ (fun b => ?_) (fun s b => ?_) (fun s => ?_)
    all_goals
      pointwise [headOf, k0_pay4, k0_pay2]
      try blk_point
  rcases Nat.lt_or_ge j.val 384 with h3 | h3
  · rw [joined2 _ _ _ _ _ _ h2 h3, head2]
    refine headAt_eq _ _ _ _ _ _ _ _ (fun b => ?_) (fun s b => ?_) (fun s => ?_)
    all_goals
      pointwise [headOf, k0_pay2]
      try blk_point
  · rw [joined3 _ _ _ _ _ _ h3, last_apply]
    refine headAt_eq _ _ _ _ _ _ _ _ (fun b => ?_) (fun s b => ?_) (fun s => ?_)
    all_goals
      pointwise [headOf, k0_pay2]
      try blk_point

end Cert.MemAttnIdeal.Block

end
-- ==== Proof.MemAttnValue.lean ====
/-
  What the result array of the attention over the memory holds after the run: for each token its gated mixture of the
  memory's values, read from the arguments.
-/
module

public import proofs.«01_k».proof.Proof.MemAttnBlock

@[expose] public section

set_option maxRecDepth 16384

noncomputable section

namespace Cert.MemAttnIdeal.Whole

open Cert.MemAttnIdeal Cert.MemAttnIdeal.Gen Cert.Layer Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Device `c`'s gated mixture at token `p` of batch `b`, column `j`. -/
def entryAt (c : Dev nD) (b : Fin 8) (p : Fin 4096) (j : Fin 512) : EReal :=
  memRow (fun a => m ((c : Thread nD τ).loc main_arg0) (ix3 b p ⟨6656 + a.val, by omega⟩))
    (m ((c : Thread nD τ).loc main_arg0) (ix3 b p ⟨7168 + j.val, by omega⟩))
    (fun s a => m ((c : Thread nD τ).loc main_arg1) (ix3 b s a)) (fun s a => m ((c : Thread nD τ).loc main_arg2) (ix3 b s a))
    (fun a => m ((c : Thread nD τ).loc main_arg3) (ix1 a)) j

/-- The result array. -/
def result (c : Dev nD) : Buf (Elt Ideal) ((c : Thread nD τ).loc main_v1) :=
  fun i : S8x4096x512.Idx => entryAt m c (i 0) (i 1) (i 2)

/-- Where each window's block sits at grid point `t`: batch `t / 8`, rows' block `t % 8`; the packed projection's two column
    blocks are fixed, the memory's windows move with the batch, and the gain stays. -/
theorem idx : ∀ t : Fin cfg0.N, win0_0.index t = ![t.val / 8, t.val % 8, 13] ∧ win0_1.index t = ![t.val / 8, t.val % 8, 14]
    ∧ win0_2.index t = ![t.val / 8, 0, 0] ∧ win0_3.index t = ![t.val / 8, 0, 0] ∧ win0_4.index t = ![0, 0]
    ∧ win0_5.index t = ![t.val / 8, t.val % 8, 0] :=
  (by decide +kernel : ∀ t : Fin grid0.N, _)

/-! ## The windows' blocks, read as the arguments -/

theorem blk0 (c : Dev nD) (t : Fin cfg0.N) (i a : Fin 512) (b : Fin 8) (p : Fin 4096) (q : Fin 8064) (hb : b.val = t.val / 8)
    (hp : p.val = t.val % 8 * 512 + i.val) (hq : q.val = 6656 + a.val) :
    X0_0 m c t (ix3 0 i a) = m ((c : Thread nD τ).loc main_arg0) (ix3 b p q) := by
  unfold X0_0 Pipeline.Window.fill
  rw [dif_pos (moved0_0 t _)]
  blk_simp [iblk]
  entry_read
  blk_ext [idx t]

theorem blk1 (c : Dev nD) (t : Fin cfg0.N) (i a : Fin 512) (b : Fin 8) (p : Fin 4096) (q : Fin 8064) (hb : b.val = t.val / 8)
    (hp : p.val = t.val % 8 * 512 + i.val) (hq : q.val = 7168 + a.val) :
    X0_1 m c t (ix3 0 i a) = m ((c : Thread nD τ).loc main_arg0) (ix3 b p q) := by
  unfold X0_1 Pipeline.Window.fill
  rw [dif_pos (moved0_1 t _)]
  blk_simp [iblk]
  entry_read
  blk_ext [idx t]

theorem blk2 (c : Dev nD) (t : Fin cfg0.N) (s : Fin 256) (a : Fin 512) (b : Fin 8) (hb : b.val = t.val / 8) :
    iblk m c 2 t (ix3 0 s a) = m ((c : Thread nD τ).loc main_arg1) (ix3 b s a) := by
  blk_simp [iblk]
  entry_read
  blk_ext [idx t]

theorem blk3 (c : Dev nD) (t : Fin cfg0.N) (s : Fin 256) (a : Fin 512) (b : Fin 8) (hb : b.val = t.val / 8) :
    iblk m c 3 t (ix3 0 s a) = m ((c : Thread nD τ).loc main_arg2) (ix3 b s a) := by
  blk_simp [iblk]
  entry_read
  blk_ext [idx t]

theorem blk4 (c : Dev nD) (t : Fin cfg0.N) (a : Fin 128) :
    iblk m c 4 t (ix2 0 a) = m ((c : Thread nD τ).loc main_arg3) (ix1 a) := by
  blk_simp [iblk]
  entry_read
  pointwise
  blk_ext [idx t]

/-! ## The array after the run -/

set_option maxHeartbeats 2000000 in
/-- Every point's block is its 512 tokens of `result`, and the blocks fill the array. -/
theorem final (c : Dev nD) : (dats m 0 c).arrAt 5 cfg0.N = result m c := by
  refine (dats m 0 c).arrAt_eq_of_covers 5 _ (by decide +kernel) fun t hf y => ?_
  blk_simp
  rw [after0_5]
  idx_vars y
  obtain rfl : y0 = 0 := Subsingleton.elim _ _
  refine (Block.out_apply c (grid0.coords t) (ms0_0 t) (hs0_0 t) (ms0_1 t) (hs0_1 t) (ms0_2 t) (hs0_2 t) (ms0_3 t) (hs0_3 t) (ms0_4 t) (hs0_4 t)
    (ms0_5 t) (hs0_5 t) (X0_0 m c t) (X0_1 m c t) (iblk m c 2 t) (iblk m c 3 t) (iblk m c 4 t) y1 y2).trans ?_
  have ht : t.val < 64 := t.isLt
  have e : ((View.whole main_v1).slice (win0_5.rect t)).emb (ix3 0 y1 y2)
      = ix3 (⟨t.val / 8, by omega⟩ : Fin 8) (⟨t.val % 8 * 512 + y1.val, by omega⟩ : Fin 4096) y2 := by
    blk_ext [idx t]
  rw [e]
  show _ = entryAt m c ⟨t.val / 8, by omega⟩ ⟨t.val % 8 * 512 + y1.val, by omega⟩ y2
  unfold entryAt
  rw [blk1 m c t y1 y2 ⟨t.val / 8, by omega⟩ ⟨t.val % 8 * 512 + y1.val, by omega⟩ ⟨7168 + y2.val, by omega⟩ rfl rfl rfl]
  have e₀ : (fun a : Fin 512 => X0_0 m c t (ix3 0 y1 a))
      = fun a => m ((c : Thread nD τ).loc main_arg0) (ix3 (⟨t.val / 8, by omega⟩ : Fin 8)
          (⟨t.val % 8 * 512 + y1.val, by omega⟩ : Fin 4096) (⟨6656 + a.val, by omega⟩ : Fin 8064)) := by
    funext a
    exact blk0 m c t y1 a _ _ _ rfl rfl rfl
  rw [e₀]
  simp only [blk2 m c t _ _ ⟨t.val / 8, by omega⟩ rfl, blk3 m c t _ _ ⟨t.val / 8, by omega⟩ rfl, blk4]

/-- The run: the result array, and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.MemAttnIdeal.Whole

end
-- ==== Proof.MemAttnRef.lean ====
/-
  What the reference of the attention over the memory computes: each token's gated mixture at each column, the softmax's
  division taken before the mixture.
-/
module

public import proofs.«01_k».proof.Proof.Gen.MemAttnRefIdeal.Read
public import proofs.«01_k».proof.Proof.MemSpec
public import Idealize.ShloMosaic.Lib.Pipeline.ValueKit

@[expose] public section

set_option maxRecDepth 16384

noncomputable section

namespace Cert.MemAttnRefIdeal.Whole

open Cert.MemAttnRefIdeal Cert.MemAttnRefIdeal.Read Cert.Layer Idealize.ShloMosaic Idealize.ShloMosaic.TcCoe Idealize.SL.Sem

variable (x0 : (⟨S8x4096x8064, .bf16⟩ : BufTy).Contents (Elt Ideal)) (x1 x2 : (⟨S8x256x512, .bf16⟩ : BufTy).Contents (Elt Ideal))
variable (x3 : (⟨S128, .f32⟩ : BufTy).Contents (Elt Ideal))

/-- A head's logits, from the arrays. -/
abbrev logits (b : Fin 8) (h : Fin 4) (p : Fin 4096) : Fin 256 → EReal :=
  logit (fun a => x0 (ix3 b p ⟨6656 + (h.val * 128 + a.val), by omega⟩)) (fun a => x3 (ix1 a))
    (fun s a => x1 (ix3 b s ⟨h.val * 128 + a.val, by omega⟩))

theorem query_apply (b : Fin 8) (p : Fin 4096) (h : Fin 4) (a : Fin 128) :
    val_main_v17 (F := Ideal) x0 x3 (ix4 b p h a)
      = headRow (fun a => x0 (ix3 b p ⟨6656 + (h.val * 128 + a.val), by omega⟩)) (fun a => x3 (ix1 a)) a := by
  pointwise [val_main_v17, val_main_v16, val_main_v15, val_main_v14, val_main_v13, val_main_v12, val_main_v11, val_main_v10,
    val_main_cst_1, val_main_v9, val_main_v8, val_main_cst_0, val_main_v7, val_main_v6, val_main_cst, val_main_v5, val_main_v4,
    val_main_v1, val_main_v0, headRow]

theorem key_apply (b : Fin 8) (s : Fin 256) (h : Fin 4) (a : Fin 128) :
    val_main_v19 (F := Ideal) x1 (ix4 b s h a) = x1 (ix3 b s ⟨h.val * 128 + a.val, by omega⟩) := by
  pointwise [val_main_v19, val_main_v18]

/-- The logits' product, at an index. -/
theorem product_apply (y : FVec Ideal S8x4096x4x128 .f32) (z : FVec Ideal S8x256x4x128 .f32) (b : Fin 8) (h : Fin 4) (p : Fin 4096) (s : Fin 256) :
    Host.dotGeneral dot_S8x4096x4x128_S8x256x4x128_S8x4x4096x256_3_3_1_1_02_02 none y z (ix4 b h p s)
      = ∑ a : Fin 128, y (ix4 b p h a) * z (ix4 b s h a) := by
  pointwise

theorem scale_apply (i : S8x4x4096x256.Idx) : val_main_v23 (F := Ideal) i = lit 0x3DB504F3#32 :=
  (val_main_v23_apply (F := Ideal) i).trans rfl

theorem logit_apply (b : Fin 8) (h : Fin 4) (p : Fin 4096) (s : Fin 256) :
    val_main_v24 (F := Ideal) x0 x1 x3 (ix4 b h p s) = logits x0 x1 x3 b h p s := by
  refine (val_main_v24_apply (F := Ideal) x0 x1 x3 _).trans ?_
  rw [scale_apply]
  unfold val_main_v22
  rw [product_apply]
  simp only [query_apply, key_apply]
  rfl

/-- The greatest along the last axis, at an index. -/
theorem greatest_apply (y : FVec Ideal S8x4x4096x256 .f32) (z : FVec Ideal S_ .f32) (b : Fin 8) (h : Fin 4) (p : Fin 4096) :
    Host.reduce FloatOps.maximumf y z Gen.reducesTo_S8x4x4096x256_S8x4x4096_d3 Gen.h_S_ (ix3 b h p)
      = Finset.univ.fold max (z (Shape.Idx.first Gen.h_S_)) fun s : Fin 256 => y (ix4 b h p s) := by
  pointwise

theorem top_apply (b : Fin 8) (h : Fin 4) (p : Fin 4096) :
    val_main_v27 (F := Ideal) x0 x1 x3 (ix3 b h p) = top (logits x0 x1 x3 b h p) := by
  refine (val_main_v27_apply (F := Ideal) x0 x1 x3 _).trans ?_
  unfold val_main_v25
  rw [greatest_apply, val_main_v26_apply, val_main_cst_4_apply, val_main_cst_3_apply]
  simp only [logit_apply]
  exact max_top _

theorem weight_apply (b : Fin 8) (h : Fin 4) (p : Fin 4096) (s : Fin 256) :
    val_main_v31 (F := Ideal) x0 x1 x3 (ix4 b h p s) = weight (logits x0 x1 x3 b h p) s := by
  pointwise [val_main_v31, val_main_v30, val_main_v29, val_main_v28, top_apply, logit_apply, weight]

theorem mixed_apply (b : Fin 8) (h : Fin 4) (a : Fin 128) (p : Fin 4096) :
    val_main_v36 (F := Ideal) x0 x1 x2 x3 (ix4 b h a p)
      = softAttend (logits x0 x1 x3 b h p) (fun s => x2 (ix3 b s ⟨h.val * 128 + a.val, by omega⟩)) := by
  pointwise [val_main_v36, val_main_v35, val_main_v34, val_main_v33, val_main_v32, val_main_cst_5, val_main_v21, val_main_v20,
    weight_apply, softAttend]

/-- The result. -/
theorem result_apply (b : Fin 8) (p : Fin 4096) (j : Fin 512) :
    val_main_v41 (F := Ideal) x0 x1 x2 x3 (ix3 b p j)
      = softAttend (logits x0 x1 x3 b ⟨j.val / 128, by omega⟩ p) (fun s => x2 (ix3 b s j))
          * (x0 (ix3 b p ⟨7168 + j.val, by omega⟩) * gate (x0 (ix3 b p ⟨7168 + j.val, by omega⟩))) := by
  pointwise [val_main_v41, val_main_v40, val_main_v39, val_main_v38, val_main_v37, val_main_call0_v5, val_main_call0_v4,
    val_main_call0_v3, val_main_call0_v2, val_main_call0_v1, val_main_call0_v0, val_main_call0_cst, val_main_call0_cst_0,
    val_main_v3, val_main_v2, mixed_apply, gate]
  congr 2
  funext s
  blk_point

end Cert.MemAttnRefIdeal.Whole

end
-- ==== Proof.MemAttnClaims.lean ====
/-
  The claims of the attention over the memory, assembled: from arguments that agree, with real keys and a real gain, the
  kernel's result array and the reference's hold the same extended reals.
-/
module

public import proofs.«01_k».proof.Defs
public import proofs.«01_k».proof.Proof.MemAttnPre
public import proofs.«01_k».proof.Proof.MemAttnValue
public import proofs.«01_k».proof.Proof.MemAttnRef
public import proofs.«01_k».proof.Proof.Gen.MemAttn.Frame
public import Idealize.ShloMosaic.Lib.Quiescent

@[expose] public section

noncomputable section

open Idealize.ShloMosaic Idealize.ShloMosaic.TcCoe Idealize.SL.Sem

namespace Cert.MemAttnClaims

/-- The reference runs and leaves its arguments; it has no semaphore. -/
theorem frame_ref : Cert.quiescent_MemAttnRefIdeal := fun m ρ _ =>
  (θ_run Cert.MemAttnRefIdeal.defs _ _).mono (fun r h => ⟨fun c => (h c).2,
      Idealize.ShloMosaic.sem_eq_zero_of_no_sems (by decide) r.2⟩)
    (Cert.MemAttnRefIdeal.Value.run (F := Ideal) m ρ)

/-- From agreeing arguments, with real keys and gain, the result arrays are equal. -/
theorem algebraic : Cert.algebraic_MemAttnIdeal_MemAttnRefIdeal_pre_finite_keys (hPre_finite_keys := Cert.Pre_finite_keys.facts) := by
  intro m ρ m' ρ' hpre hagree
  refine ⟨fun c => Cert.MemAttnIdeal.Whole.result m c, Cert.MemAttnIdeal.Whole.run m ρ, ?_⟩
  refine (θ_run Cert.MemAttnRefIdeal.defs _ _).mono (fun _ h c => ⟨(h c).1.trans ?_, (h c).2⟩)
    (Cert.MemAttnRefIdeal.Value.run (F := Ideal) m' ρ')
  obtain ⟨h0, h1, h2, h3⟩ := hagree c
  obtain ⟨hk, hg⟩ := hpre c
  rw [Cert.MemAttnRefIdeal.Read.val_main_v41_eq, h0, h1, h2, h3]
  funext i
  obtain ⟨b, p, j, rfl⟩ : ∃ (b : Fin 8) (p : Fin 4096) (j : Fin 512), i = ix3 b p j := ⟨i 0, i 1, i 2, eq_ix3 i⟩
  refine (Cert.MemAttnRefIdeal.Whole.result_apply _ _ _ _ b p j).trans ?_
  rw [Cert.Layer.attend_eq _ _ fun s => Cert.Layer.logit_real _ _ _
    (fun a => Cert.Pre_finite_keys.gain_real (hF := Cert.Pre_finite_keys.facts) _ _ _ _ hg a) s
    fun a => Cert.Pre_finite_keys.key_real (hF := Cert.Pre_finite_keys.facts) _ _ _ _ hk b s _]
  rfl

end Cert.MemAttnClaims

end
-- ==== Proof.SsdKeeps.lean ====
/-
  PROGRAMS THAT KEEP WHAT THEY HOLD, for the state space scan: the notions of `Proof/Keeps.lean` over this call's own
  buffers. Its body, too, only loads, stores, branches and loops, so for its frame nothing has to be known of the
  values, the carried state's included.
-/
module

public import proofs.«01_k».proof.Proof.Gen.Ssd.Frame

@[expose] public section

noncomputable section

namespace Cert.Ssd.Scan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Ssd

variable {F : FTy → Type} [BitOps F]

/-- What a core can hold. -/
abbrev Res (F : FTy → Type) : Type _ := sProp (MT nD τ sig Unit (Elt F) ℕ (UR sig nD τ) ℕ)

/-- The programs of a TensorCore body. -/
abbrev Body (F : FTy → Type) (α : Type) : Type _ := Prog (TpuEff nD τ sig (Elt F) Λ₀ .tc) α

/-- Started on core `c` holding `R`, the program ends holding `R`. -/
def Keeps (c : Dev nD) (R : Res F) {α : Type} (p : Body F α) : Prop :=
  R ⊢ wp frame (wpE (defs₀ (F := F)) Variants.none (c : Thread nD τ) none) Set.univ p (fun _ => R)

/-- `R` holds the memref's elements, at some contents, and is made whole again by the same contents. -/
def Reads (c : Dev nD) (R : Res F) {cs : CoreSpace} {s : Shape} {e : EltTy} (M : Memref sig .tc cs s e) : Prop :=
  R ⊢ iprop(∃ f : Buf (Elt F) (M.view.loc (c : Thread nD τ)),
    (M.view.loc (c : Thread nD τ) ↦[M.view.set]{fullShare} f)
      ∗ ((M.view.loc (c : Thread nD τ) ↦[M.view.set]{fullShare} f) -∗ R))

/-- `R` holds the memref's elements, at some contents, and is made whole again by any contents. -/
def Writes (c : Dev nD) (R : Res F) {cs : CoreSpace} {s : Shape} {e : EltTy} (M : Memref sig .tc cs s e) : Prop :=
  R ⊢ iprop(∃ f : Buf (Elt F) (M.view.loc (c : Thread nD τ)),
    (M.view.loc (c : Thread nD τ) ↦[M.view.set]{fullShare} f)
      ∗ (∀ f' : Buf (Elt F) (M.view.loc (c : Thread nD τ)), (M.view.loc (c : Thread nD τ) ↦[M.view.set]{fullShare} f') -∗ R))

variable {c : Dev nD} {R : Res F}

theorem Writes.reads {cs : CoreSpace} {s : Shape} {e : EltTy} {M : Memref sig .tc cs s e} (h : Writes (F := F) c R M) :
    Reads (F := F) c R M := by
  unfold Reads
  refine h.trans ?_
  iintro ⟨%f, Hf, HR⟩
  iexists f
  isplitl [Hf]
  · iexact Hf
  · iapply HR

/-- An input's elements at known contents, held beside anything. -/
theorem reads_owns {cs : CoreSpace} {s : Shape} {e : EltTy} (M : Memref sig .tc cs s e) (X : s.Idx → Elt F e) :
    Reads (F := F) c (owns (c : Thread nD τ) M fullShare X) M := by
  unfold Reads owns
  iintro ⟨%f, %hf, Hf⟩
  iexists f
  isplitl [Hf]
  · iexact Hf
  · iintro Hf
    iexists f
    isplitr
    · ipureintro; exact hf
    · iexact Hf

/-- An output's elements at some contents. -/
theorem writes_owns {cs : CoreSpace} {s : Shape} {e : EltTy} (M : Memref sig .tc cs s e) :
    Writes (F := F) c iprop(∃ X, owns (c : Thread nD τ) M fullShare X) M := by
  unfold Writes owns
  iintro ⟨%X, %f, %hf, Hf⟩
  iexists f
  isplitl [Hf]
  · iexact Hf
  · iintro %f' Hf'
    iexists (M.view.read (Elt F) f'), f'
    isplitr
    · ipureintro; rfl
    · iexact Hf'

/-- A scratch buffer, whole at some contents. -/
theorem writes_whole {cs : CoreSpace} {s : Shape} {e : EltTy} (M : Memref sig .tc cs s e) (hM : M.view.set = Finset.univ) :
    Writes (F := F) c iprop(∃ f : Buf (Elt F) (M.view.loc (c : Thread nD τ)), (M.view.loc (c : Thread nD τ)) ↦{fullShare} f) M := by
  unfold Writes
  rw [hM]
  iintro ⟨%f, Hf⟩
  iexists f
  isplitl [Hf]
  · iexact Hf
  · iintro %f' Hf'
    iexists f'
    iexact Hf'

theorem Reads.left {S : Res F} {cs : CoreSpace} {s : Shape} {e : EltTy} {M : Memref sig .tc cs s e}
    (h : Reads (F := F) c R M) : Reads (F := F) c iprop(R ∗ S) M := by
  unfold Reads
  refine (sep_mono_left h).trans ?_
  iintro ⟨⟨%f, Hf, HR⟩, HS⟩
  iexists f
  isplitl [Hf]
  · iexact Hf
  · iintro Hf
    isplitl [HR Hf]
    · iapply HR; iexact Hf
    · iexact HS

theorem Reads.right {S : Res F} {cs : CoreSpace} {s : Shape} {e : EltTy} {M : Memref sig .tc cs s e}
    (h : Reads (F := F) c R M) : Reads (F := F) c iprop(S ∗ R) M := by
  unfold Reads
  refine (sep_mono_right h).trans ?_
  iintro ⟨HS, ⟨%f, Hf, HR⟩⟩
  iexists f
  isplitl [Hf]
  · iexact Hf
  · iintro Hf
    isplitl [HS]
    · iexact HS
    · iapply HR; iexact Hf

theorem Writes.left {S : Res F} {cs : CoreSpace} {s : Shape} {e : EltTy} {M : Memref sig .tc cs s e}
    (h : Writes (F := F) c R M) : Writes (F := F) c iprop(R ∗ S) M := by
  unfold Writes
  refine (sep_mono_left h).trans ?_
  iintro ⟨⟨%f, Hf, HR⟩, HS⟩
  iexists f
  isplitl [Hf]
  · iexact Hf
  · iintro %f' Hf
    isplitl [HR Hf]
    · iapply HR $$ %f'; iexact Hf
    · iexact HS

theorem Writes.right {S : Res F} {cs : CoreSpace} {s : Shape} {e : EltTy} {M : Memref sig .tc cs s e}
    (h : Writes (F := F) c R M) : Writes (F := F) c iprop(S ∗ R) M := by
  unfold Writes
  refine (sep_mono_right h).trans ?_
  iintro ⟨HS, ⟨%f, Hf, HR⟩⟩
  iexists f
  isplitl [Hf]
  · iexact Hf
  · iintro %f' Hf
    isplitl [HS]
    · iexact HS
    · iapply HR $$ %f'; iexact Hf

/-! ## The statements -/

theorem Keeps.pure {α : Type} (a : α) : Keeps (F := F) c R (Pure.pure a : Body F α) := by
  unfold Keeps
  rw [wp_pure]
  iintro HR
  imodintro
  iexact HR

theorem Keeps.bind {α β : Type} {p : Body F α} {k : α → Body F β} (hp : Keeps (F := F) c R p) (hk : ∀ a, Keeps (F := F) c R (k a)) :
    Keeps (F := F) c R (p >>= k) := by
  unfold Keeps
  rw [wp_bind]
  exact hp.trans (wp_mono _ _ _ fun a => hk a)

theorem Keeps.load {cs : CoreSpace} {s : Shape} {e : EltTy} {M : Memref sig .tc cs s e} (h : Reads (F := F) c R M)
    (r : LoadRect s) (hl : M.view.LoadsAt r) :
    Keeps (F := F) c R (Prog.lift (.load M r hl) : Body F _) := by
  unfold Keeps
  refine h.trans ?_
  iintro ⟨%f, Hf, HR⟩
  iapply (wp_load Variants.none (c : Thread nD τ) none Set.univ (M.view.setOn_subset_set _)) $$ Hf
  iintro Hf
  rw [wp_ret]
  imodintro
  iapply HR; iexact Hf

theorem Keeps.store {cs : CoreSpace} {s : Shape} {e : EltTy} {M : Memref sig .tc cs s e} (h : Writes (F := F) c R M)
    (r : Rect s) (w : r.shape.Idx → Elt F e) (Mk : Finset r.shape.Idx) (hx : (M.access r).Stores Mk)
    (hm : Mk = Finset.univ ∨ ∀ a, r.stride a = 1) :
    Keeps (F := F) c R (Prog.lift (.store M r w Mk hx hm) : Body F _) := by
  unfold Keeps
  refine h.trans ?_
  iintro ⟨%f, Hf, HR⟩
  iapply (wp_store Variants.none (c : Thread nD τ) none Set.univ
    (((M.access r).setOn_subset_set Mk).trans (M.view.set_slice_subset r))) $$ Hf
  iintro Hf
  rw [wp_ret]
  imodintro
  iapply HR; iexact Hf

theorem Keeps.ite {α : Type} {C : Prop} [Decidable C] {p q : Body F α} (hp : Keeps (F := F) c R p) (hq : Keeps (F := F) c R q) :
    Keeps (F := F) c R (if C then p else q) := by
  split <;> assumption

theorem Keeps.dite {α : Type} {C : Prop} [Decidable C] {p : C → Body F α} {q : ¬ C → Body F α} (hp : ∀ h, Keeps (F := F) c R (p h))
    (hq : ∀ h, Keeps (F := F) c R (q h)) : Keeps (F := F) c R (if h : C then p h else q h) := by
  split
  · exact hp _
  · exact hq _

theorem Keeps.loop {α : Type} {n : ℕ} (L : Scf.Loop n) (hok : L.OK) (init : α) (body : Fin L.trips → α → Body F α)
    (hb : ∀ k a, Keeps (F := F) c R (body k a)) : Keeps (F := F) c R (Scf.Loop.for L hok init body) := by
  unfold Keeps Scf.Loop.for
  refine BIBase.Entails.trans ?_ (Scf.wp_for _ _ _ _ _ _ hok init body (fun _ _ => R) (fun k a => hb k a))
  iintro HR
  isplitl
  · iexact HR
  · iintro %a HR
    iexact HR

attribute [irreducible] Keeps Reads Writes

end Cert.Ssd.Scan

end
-- ==== Proof.SsdParts.lean ====
/-
  THE SCAN'S BODY: `R` holds each of the twelve staged inputs to be read, and the result's buffer and the three scratch
  buffers (the state, the last rows of the tile before, the rows the convolution reads) to be read and written. Each part
  of the body, each trip of its loop and the whole body end holding `R` again.
-/
module

public import proofs.«01_k».proof.Proof.SsdKeeps
public import proofs.«01_k».proof.Proof.Gen.Ssd.Skeleton

@[expose] public section

set_option maxRecDepth 65536

noncomputable section

namespace Cert.Ssd.Scan

open Idealize.ShloMosaic Idealize.ShloMosaic.TcCoe
open Idealize.SL Idealize.SL.RA Idealize.SL.BI
open Cert.Ssd Cert.Ssd.Gen

variable {F : FTy → Type} [BitOps F]

/-- `R` lets the body reach its sixteen buffers: the inputs to read, the result and the scratch to write. -/
structure Access (c : Dev nD) (R : Res F) (arg2 : Memref sig .tc .vmem S1x512x512 .bf16) (arg3 : Memref sig .tc .vmem S1x512x1024 .bf16) (arg4 : Memref sig .tc .vmem S1x512x128 .f32) (arg5 : Memref sig .tc .vmem S4x1024 .f32) (arg6 : Memref sig .tc .vmem S1x1024 .f32) (arg7 : Memref sig .tc .vmem S1x128 .f32) (arg8 : Memref sig .tc .vmem S1x128 .f32) (arg9 : Memref sig .tc .vmem S1x512 .f32) (arg10 : Memref sig .tc .vmem S1x512 .f32) (arg11 : Memref sig .tc .vmem S128x128 .bf16) (arg12 : Memref sig .tc .vmem S128x512 .bf16) (arg13 : Memref sig .tc .vmem S128x1024 .bf16) (arg14 : Memref sig .tc .vmem S1x512x512 .bf16) (arg15 : Memref sig .tc .vmem S2x128x256 .f32) (arg16 : Memref sig .tc .vmem S8x1024 .f32) (arg17 : Memref sig .tc .vmem S136x1024 .f32) : Prop where
  r2 : Reads (F := F) c R arg2
  r3 : Reads (F := F) c R arg3
  r4 : Reads (F := F) c R arg4
  r5 : Reads (F := F) c R arg5
  r6 : Reads (F := F) c R arg6
  r7 : Reads (F := F) c R arg7
  r8 : Reads (F := F) c R arg8
  r9 : Reads (F := F) c R arg9
  r10 : Reads (F := F) c R arg10
  r11 : Reads (F := F) c R arg11
  r12 : Reads (F := F) c R arg12
  r13 : Reads (F := F) c R arg13
  w14 : Writes (F := F) c R arg14
  w15 : Writes (F := F) c R arg15
  w16 : Writes (F := F) c R arg16
  w17 : Writes (F := F) c R arg17

variable {c : Dev nD} {R : Res F} {i : grid0.Coords}
  {arg2 : Memref sig .tc .vmem S1x512x512 .bf16} {arg3 : Memref sig .tc .vmem S1x512x1024 .bf16} {arg4 : Memref sig .tc .vmem S1x512x128 .f32} {arg5 : Memref sig .tc .vmem S4x1024 .f32} {arg6 : Memref sig .tc .vmem S1x1024 .f32} {arg7 : Memref sig .tc .vmem S1x128 .f32} {arg8 : Memref sig .tc .vmem S1x128 .f32} {arg9 : Memref sig .tc .vmem S1x512 .f32} {arg10 : Memref sig .tc .vmem S1x512 .f32} {arg11 : Memref sig .tc .vmem S128x128 .bf16} {arg12 : Memref sig .tc .vmem S128x512 .bf16} {arg13 : Memref sig .tc .vmem S128x1024 .bf16} {arg14 : Memref sig .tc .vmem S1x512x512 .bf16} {arg15 : Memref sig .tc .vmem S2x128x256 .f32} {arg16 : Memref sig .tc .vmem S8x1024 .f32} {arg17 : Memref sig .tc .vmem S136x1024 .f32}
  {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole}
  (H : Access c R arg2 arg3 arg4 arg5 arg6 arg7 arg8 arg9 arg10 arg11 arg12 arg13 arg14 arg15 arg16 arg17)
include H

namespace Access

theorem r14 : Reads (F := F) c R arg14 := H.w14.reads
theorem r15 : Reads (F := F) c R arg15 := H.w15.reads
theorem r16 : Reads (F := F) c R arg16 := H.w16.reads
theorem r17 : Reads (F := F) c R arg17 := H.w17.reads

end Access

theorem part1 {c0_i32_1} {c1_i32} {k0_t1} :
    Keeps (F := F) c R (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_1 c1_i32 k0_t1) := by
  rw [k0_part1_eq_skeleton]
  unfold k0_part1_skel
  refine .bind (.load H.r3 _ _) ?_; intro _
  refine .bind (.load H.r16 _ _) ?_; intro _
  refine .bind (.load H.r17 _ _) ?_; intro _
  refine .bind (.store H.w17 _ _ _ _ _) fun _ => ?_
  refine .bind (.load H.r17 _ _) ?_; intro _
  refine .bind (.store H.w17 _ _ _ _ _) fun _ => ?_
  refine .bind (.load H.r5 _ _) ?_; intro _
  refine .bind (.load H.r5 _ _) ?_; intro _
  refine .bind (.load H.r17 _ _) ?_; intro _
  refine .bind (.load H.r5 _ _) ?_; intro _
  refine .bind (.load H.r17 _ _) ?_; intro _
  refine .bind (.load H.r5 _ _) ?_; intro _
  refine .bind (.load H.r17 _ _) ?_; intro _
  exact .pure _

theorem part2 {k0_t1} {v5} {v34} {v35} :
    Keeps (F := F) c R (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 v5 v34 v35) := by
  rw [k0_part2_eq_skeleton]
  unfold k0_part2_skel
  refine .bind (.load H.r16 _ _) ?_; intro _
  refine .bind (.store H.w16 _ _ _ _ _) fun _ => ?_
  refine .bind (.load H.r6 _ _) ?_; intro _
  refine .bind (.load H.r4 _ _) ?_; intro _
  refine .bind (.load H.r7 _ _) ?_; intro _
  refine .bind (.load H.r11 _ _) ?_; intro _
  refine .bind (.load H.r8 _ _) ?_; intro _
  exact .pure _

theorem part3 {v68} {v69} {v74} {v77} {v79} :
    Keeps (F := F) c R (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v68 v69 v74 v77 v79) := by
  rw [k0_part3_eq_skeleton]
  unfold k0_part3_skel
  refine .bind (.load H.r12 _ _) ?_; intro _
  refine .bind (.load H.r12 _ _) ?_; intro _
  refine .bind (.load H.r13 _ _) ?_; intro _
  exact .pure _

theorem part4 {v51} {v52} {v53} {v98} {v111} {v112} {v119} {v122} :
    Keeps (F := F) c R (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v51 v52 v53 v98 v111 v112 v119 v122) := by
  rw [k0_part4_eq_skeleton]
  unfold k0_part4_skel
  exact .pure _

theorem part5 {v52} {v53} {v124} {v126} {v131} {v132} {v136} {v138} {v139} {v141} {v143} {v167} {v168} {v171} {v172} :
    Keeps (F := F) c R (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v52 v53 v124 v126 v131 v132 v136 v138 v139 v141 v143 v167 v168 v171 v172) := by
  rw [k0_part5_eq_skeleton]
  unfold k0_part5_skel
  refine .bind (.load H.r15 _ _) ?_; intro _
  refine .bind (.load H.r15 _ _) ?_; intro _
  refine .bind (.store H.w15 _ _ _ _ _) fun _ => ?_
  exact .pure _

theorem part6 {v124} {v133} {v136} {v138} {v216} {v217} {cst_72} :
    Keeps (F := F) c R (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v124 v133 v136 v138 v216 v217 cst_72) := by
  rw [k0_part6_eq_skeleton]
  unfold k0_part6_skel
  exact .pure _

theorem part7 {k0_t1} {v5} {v51} {v126} {v131} {v132} {v138} {v199} {v201} {v214} {v216} {v242} {v254} {v265} :
    Keeps (F := F) c R (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 v5 v51 v126 v131 v132 v138 v199 v201 v214 v216 v242 v254 v265) := by
  rw [k0_part7_eq_skeleton]
  unfold k0_part7_skel
  refine .bind (.load H.r15 _ _) ?_; intro _
  refine .bind (.load H.r15 _ _) ?_; intro _
  refine .bind (.store H.w15 _ _ _ _ _) fun _ => ?_
  refine .bind (.load H.r9 _ _) ?_; intro _
  refine .bind (.load H.r2 _ _) ?_; intro _
  exact .pure _

theorem trip k a :
    Keeps (F := F) c R (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k a) := by
  unfold k0_t1_body
  refine .bind (part1 H) ?_; rintro ⟨_, _, _⟩
  refine .bind (part2 H) ?_; rintro ⟨_, _, _, _, _, _, _, _⟩
  refine .bind (part3 H) ?_; rintro ⟨_, _, _, _, _⟩
  refine .bind (part4 H) ?_; rintro ⟨_, _, _, _, _, _, _, _, _, _, _, _, _, _⟩
  refine .bind (part5 H) ?_; rintro ⟨_, _, _, _, _, _⟩
  refine .bind (part6 H) ?_; rintro ⟨_, _, _⟩
  refine .bind (part7 H) ?_; intro _
  refine .bind (.load H.r10 _ _) ?_; intro _
  refine .bind (.load H.r14 _ _) ?_; intro _
  refine .bind (.store H.w14 _ _ _ _ _) fun _ => ?_
  exact .pure _

theorem root :
    Keeps (F := F) c R (cc0_ssd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  rw [cc0_ssd_eq_skeleton]
  unfold cc0_ssd_skel
  refine .dite (fun _ => ?_) (fun _ => ?_)
  · refine .bind (.load H.r15 _ _) ?_; intro _
    refine .bind (.store H.w15 _ _ _ _ _) fun _ => ?_
    refine .bind (.load H.r16 _ _) ?_; intro _
    refine .bind (.store H.w16 _ _ _ _ _) fun _ => ?_
    refine .bind (.loop _ _ _ _ (trip H)) fun _ => ?_
    exact .pure _
  · refine .bind (.loop _ _ _ _ (trip H)) fun _ => ?_
    exact .pure _

end Cert.Ssd.Scan

end
-- ==== Proof.SsdFrame.lean ====
/-
  THE FRAME OF THE STATE SPACE SCAN. At a grid point the pipeline hands the body its twelve staged inputs at their blocks,
  the result's buffer and the three scratch buffers at anything; the body keeps all of them (`root`), so every argument
  array ends as it was and every counter ends at zero. The result's contents are not named.
-/
module

public import proofs.«01_k».proof.Proof.SsdParts
public import Idealize.ShloMosaic.Adequacy
public import Idealize.ShloMosaic.Init

@[expose] public section

set_option maxRecDepth 65536

noncomputable section

namespace Cert.Ssd.Scan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Ssd Cert.Ssd.Gen

variable {F : FTy → Type} [BitOps F]
variable (m : (ℓ : Loc nD τ sig) → Buf (Elt F) ℓ)

/-- The proof data: each input's buffer holds its block before and after every point; the result's contents are
    left unnamed; the scratch is held at some contents. -/
def dats (_ : Fin 1) (c : Dev nD) : Dat τ (Elt F) Unit ℕ (UR sig nD τ) ℕ cfg0 c where
  A w := V m c (Pipeline.arrRef spec0 w)
  after w t := match w with
    | 0 => X0_0 m c t
    | 1 => X0_1 m c t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => fun _ => Classical.arbitrary _
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem before_0 (c : Dev nD) (t : Fin cfg0.N) (d) : (dats m 0 c).before 0 t d = X0_0 m c t :=
  before0_0_of m (dats m 0 c) (A_eq m c 0) (fun t => after_0 m c t) t d
theorem before_1 (c : Dev nD) (t : Fin cfg0.N) (d) : (dats m 0 c).before 1 t d = X0_1 m c t :=
  before0_1_of m (dats m 0 c) (A_eq m c 1) (fun t => after_1 m c t) t d
theorem before_2 (c : Dev nD) (t : Fin cfg0.N) (d) : (dats m 0 c).before 2 t d = iblk m c 2 t :=
  before0_2_of m (dats m 0 c) (A_eq m c 2) (fun t => after_2 m c t) t d
theorem before_3 (c : Dev nD) (t : Fin cfg0.N) (d) : (dats m 0 c).before 3 t d = iblk m c 3 t :=
  before0_3_of m (dats m 0 c) (A_eq m c 3) (fun t => after_3 m c t) t d
theorem before_4 (c : Dev nD) (t : Fin cfg0.N) (d) : (dats m 0 c).before 4 t d = iblk m c 4 t :=
  before0_4_of m (dats m 0 c) (A_eq m c 4) (fun t => after_4 m c t) t d
theorem before_5 (c : Dev nD) (t : Fin cfg0.N) (d) : (dats m 0 c).before 5 t d = iblk m c 5 t :=
  before0_5_of m (dats m 0 c) (A_eq m c 5) (fun t => after_5 m c t) t d
theorem before_6 (c : Dev nD) (t : Fin cfg0.N) (d) : (dats m 0 c).before 6 t d = iblk m c 6 t :=
  before0_6_of m (dats m 0 c) (A_eq m c 6) (fun t => after_6 m c t) t d
theorem before_7 (c : Dev nD) (t : Fin cfg0.N) (d) : (dats m 0 c).before 7 t d = iblk m c 7 t :=
  before0_7_of m (dats m 0 c) (A_eq m c 7) (fun t => after_7 m c t) t d
theorem before_8 (c : Dev nD) (t : Fin cfg0.N) (d) : (dats m 0 c).before 8 t d = iblk m c 8 t :=
  before0_8_of m (dats m 0 c) (A_eq m c 8) (fun t => after_8 m c t) t d
theorem before_9 (c : Dev nD) (t : Fin cfg0.N) (d) : (dats m 0 c).before 9 t d = iblk m c 9 t :=
  before0_9_of m (dats m 0 c) (A_eq m c 9) (fun t => after_9 m c t) t d
theorem before_10 (c : Dev nD) (t : Fin cfg0.N) (d) : (dats m 0 c).before 10 t d = iblk m c 10 t :=
  before0_10_of m (dats m 0 c) (A_eq m c 10) (fun t => after_10 m c t) t d
theorem before_11 (c : Dev nD) (t : Fin cfg0.N) (d) : (dats m 0 c).before 11 t d = iblk m c 11 t :=
  before0_11_of m (dats m 0 c) (A_eq m c 11) (fun t => after_11 m c t) t d

/-- What a body holds over any memrefs of the body's shapes: the scratch, two more resources, the inputs at their
    blocks and the result's buffer at anything. -/
def heldAt (c : Dev nD) (P O : Res F) (M2 : Memref sig .tc .vmem S1x512x512 .bf16) (M3 : Memref sig .tc .vmem S1x512x1024 .bf16) (M4 : Memref sig .tc .vmem S1x512x128 .f32) (M5 : Memref sig .tc .vmem S4x1024 .f32) (M6 : Memref sig .tc .vmem S1x1024 .f32) (M7 : Memref sig .tc .vmem S1x128 .f32) (M8 : Memref sig .tc .vmem S1x128 .f32) (M9 : Memref sig .tc .vmem S1x512 .f32) (M10 : Memref sig .tc .vmem S1x512 .f32) (M11 : Memref sig .tc .vmem S128x128 .bf16) (M12 : Memref sig .tc .vmem S128x512 .bf16) (M13 : Memref sig .tc .vmem S128x1024 .bf16) (M14 : Memref sig .tc .vmem S1x512x512 .bf16) (M15 : Memref sig .tc .vmem S2x128x256 .f32) (M16 : Memref sig .tc .vmem S8x1024 .f32) (M17 : Memref sig .tc .vmem S136x1024 .f32)
    (X2 : S1x512x512.Idx → Elt F .bf16) (X3 : S1x512x1024.Idx → Elt F .bf16) (X4 : S1x512x128.Idx → Elt F .f32) (X5 : S4x1024.Idx → Elt F .f32) (X6 : S1x1024.Idx → Elt F .f32) (X7 : S1x128.Idx → Elt F .f32) (X8 : S1x128.Idx → Elt F .f32) (X9 : S1x512.Idx → Elt F .f32) (X10 : S1x512.Idx → Elt F .f32) (X11 : S128x128.Idx → Elt F .bf16) (X12 : S128x512.Idx → Elt F .bf16) (X13 : S128x1024.Idx → Elt F .bf16) : Res F :=
  iprop((((∃ f : Buf (Elt F) (M15.view.loc (c : Thread nD τ)), (M15.view.loc (c : Thread nD τ)) ↦{fullShare} f)
      ∗ (∃ f : Buf (Elt F) (M16.view.loc (c : Thread nD τ)), (M16.view.loc (c : Thread nD τ)) ↦{fullShare} f)
      ∗ (∃ f : Buf (Elt F) (M17.view.loc (c : Thread nD τ)), (M17.view.loc (c : Thread nD τ)) ↦{fullShare} f))
      ∗ P)
    ∗ O
    ∗ owns (c : Thread nD τ) M2 fullShare X2
    ∗ owns (c : Thread nD τ) M3 fullShare X3
    ∗ owns (c : Thread nD τ) M4 fullShare X4
    ∗ owns (c : Thread nD τ) M5 fullShare X5
    ∗ owns (c : Thread nD τ) M6 fullShare X6
    ∗ owns (c : Thread nD τ) M7 fullShare X7
    ∗ owns (c : Thread nD τ) M8 fullShare X8
    ∗ owns (c : Thread nD τ) M9 fullShare X9
    ∗ owns (c : Thread nD τ) M10 fullShare X10
    ∗ owns (c : Thread nD τ) M11 fullShare X11
    ∗ owns (c : Thread nD τ) M12 fullShare X12
    ∗ owns (c : Thread nD τ) M13 fullShare X13
    ∗ ∃ X, owns (c : Thread nD τ) M14 fullShare X)

section Reach

variable {c : Dev nD} {P O : Res F} {M2 : Memref sig .tc .vmem S1x512x512 .bf16} {M3 : Memref sig .tc .vmem S1x512x1024 .bf16} {M4 : Memref sig .tc .vmem S1x512x128 .f32} {M5 : Memref sig .tc .vmem S4x1024 .f32} {M6 : Memref sig .tc .vmem S1x1024 .f32} {M7 : Memref sig .tc .vmem S1x128 .f32} {M8 : Memref sig .tc .vmem S1x128 .f32} {M9 : Memref sig .tc .vmem S1x512 .f32} {M10 : Memref sig .tc .vmem S1x512 .f32} {M11 : Memref sig .tc .vmem S128x128 .bf16} {M12 : Memref sig .tc .vmem S128x512 .bf16} {M13 : Memref sig .tc .vmem S128x1024 .bf16} {M14 : Memref sig .tc .vmem S1x512x512 .bf16} {M15 : Memref sig .tc .vmem S2x128x256 .f32} {M16 : Memref sig .tc .vmem S8x1024 .f32} {M17 : Memref sig .tc .vmem S136x1024 .f32}
  {X2 : S1x512x512.Idx → Elt F .bf16} {X3 : S1x512x1024.Idx → Elt F .bf16} {X4 : S1x512x128.Idx → Elt F .f32} {X5 : S4x1024.Idx → Elt F .f32} {X6 : S1x1024.Idx → Elt F .f32} {X7 : S1x128.Idx → Elt F .f32} {X8 : S1x128.Idx → Elt F .f32} {X9 : S1x512.Idx → Elt F .f32} {X10 : S1x512.Idx → Elt F .f32} {X11 : S128x128.Idx → Elt F .bf16} {X12 : S128x512.Idx → Elt F .bf16} {X13 : S128x1024.Idx → Elt F .bf16}

theorem reach2 : Reads (F := F) c (heldAt c P O M2 M3 M4 M5 M6 M7 M8 M9 M10 M11 M12 M13 M14 M15 M16 M17 X2 X3 X4 X5 X6 X7 X8 X9 X10 X11 X12 X13) M2 := by
  unfold heldAt; exact .right (.right (.left (reads_owns M2 X2)))
theorem reach3 : Reads (F := F) c (heldAt c P O M2 M3 M4 M5 M6 M7 M8 M9 M10 M11 M12 M13 M14 M15 M16 M17 X2 X3 X4 X5 X6 X7 X8 X9 X10 X11 X12 X13) M3 := by
  unfold heldAt; exact .right (.right (.right (.left (reads_owns M3 X3))))
theorem reach4 : Reads (F := F) c (heldAt c P O M2 M3 M4 M5 M6 M7 M8 M9 M10 M11 M12 M13 M14 M15 M16 M17 X2 X3 X4 X5 X6 X7 X8 X9 X10 X11 X12 X13) M4 := by
  unfold heldAt; exact .right (.right (.right (.right (.left (reads_owns M4 X4)))))
theorem reach5 : Reads (F := F) c (heldAt c P O M2 M3 M4 M5 M6 M7 M8 M9 M10 M11 M12 M13 M14 M15 M16 M17 X2 X3 X4 X5 X6 X7 X8 X9 X10 X11 X12 X13) M5 := by
  unfold heldAt; exact .right (.right (.right (.right (.right (.left (reads_owns M5 X5))))))
theorem reach6 : Reads (F := F) c (heldAt c P O M2 M3 M4 M5 M6 M7 M8 M9 M10 M11 M12 M13 M14 M15 M16 M17 X2 X3 X4 X5 X6 X7 X8 X9 X10 X11 X12 X13) M6 := by
  unfold heldAt; exact .right (.right (.right (.right (.right (.right (.left (reads_owns M6 X6)))))))
theorem reach7 : Reads (F := F) c (heldAt c P O M2 M3 M4 M5 M6 M7 M8 M9 M10 M11 M12 M13 M14 M15 M16 M17 X2 X3 X4 X5 X6 X7 X8 X9 X10 X11 X12 X13) M7 := by
  unfold heldAt; exact .right (.right (.right (.right (.right (.right (.right (.left (reads_owns M7 X7))))))))
theorem reach8 : Reads (F := F) c (heldAt c P O M2 M3 M4 M5 M6 M7 M8 M9 M10 M11 M12 M13 M14 M15 M16 M17 X2 X3 X4 X5 X6 X7 X8 X9 X10 X11 X12 X13) M8 := by
  unfold heldAt; exact .right (.right (.right (.right (.right (.right (.right (.right (.left (reads_owns M8 X8)))))))))
theorem reach9 : Reads (F := F) c (heldAt c P O M2 M3 M4 M5 M6 M7 M8 M9 M10 M11 M12 M13 M14 M15 M16 M17 X2 X3 X4 X5 X6 X7 X8 X9 X10 X11 X12 X13) M9 := by
  unfold heldAt; exact .right (.right (.right (.right (.right (.right (.right (.right (.right (.left (reads_owns M9 X9))))))))))
theorem reach10 : Reads (F := F) c (heldAt c P O M2 M3 M4 M5 M6 M7 M8 M9 M10 M11 M12 M13 M14 M15 M16 M17 X2 X3 X4 X5 X6 X7 X8 X9 X10 X11 X12 X13) M10 := by
  unfold heldAt; exact .right (.right (.right (.right (.right (.right (.right (.right (.right (.right (.left (reads_owns M10 X10)))))))))))
theorem reach11 : Reads (F := F) c (heldAt c P O M2 M3 M4 M5 M6 M7 M8 M9 M10 M11 M12 M13 M14 M15 M16 M17 X2 X3 X4 X5 X6 X7 X8 X9 X10 X11 X12 X13) M11 := by
  unfold heldAt; exact .right (.right (.right (.right (.right (.right (.right (.right (.right (.right (.right (.left (reads_owns M11 X11))))))))))))
theorem reach12 : Reads (F := F) c (heldAt c P O M2 M3 M4 M5 M6 M7 M8 M9 M10 M11 M12 M13 M14 M15 M16 M17 X2 X3 X4 X5 X6 X7 X8 X9 X10 X11 X12 X13) M12 := by
  unfold heldAt; exact .right (.right (.right (.right (.right (.right (.right (.right (.right (.right (.right (.right (.left (reads_owns M12 X12)))))))))))))
theorem reach13 : Reads (F := F) c (heldAt c P O M2 M3 M4 M5 M6 M7 M8 M9 M10 M11 M12 M13 M14 M15 M16 M17 X2 X3 X4 X5 X6 X7 X8 X9 X10 X11 X12 X13) M13 := by
  unfold heldAt; exact .right (.right (.right (.right (.right (.right (.right (.right (.right (.right (.right (.right (.right (.left (reads_owns M13 X13))))))))))))))
theorem reach14 : Writes (F := F) c (heldAt c P O M2 M3 M4 M5 M6 M7 M8 M9 M10 M11 M12 M13 M14 M15 M16 M17 X2 X3 X4 X5 X6 X7 X8 X9 X10 X11 X12 X13) M14 := by
  unfold heldAt; exact .right (.right (.right (.right (.right (.right (.right (.right (.right (.right (.right (.right (.right (.right (writes_owns M14))))))))))))))
theorem reach15 (h : M15.view.set = Finset.univ) : Writes (F := F) c (heldAt c P O M2 M3 M4 M5 M6 M7 M8 M9 M10 M11 M12 M13 M14 M15 M16 M17 X2 X3 X4 X5 X6 X7 X8 X9 X10 X11 X12 X13) M15 := by
  unfold heldAt; exact .left (.left (.left (writes_whole M15 h)))
theorem reach16 (h : M16.view.set = Finset.univ) : Writes (F := F) c (heldAt c P O M2 M3 M4 M5 M6 M7 M8 M9 M10 M11 M12 M13 M14 M15 M16 M17 X2 X3 X4 X5 X6 X7 X8 X9 X10 X11 X12 X13) M16 := by
  unfold heldAt; exact .left (.left (.right (.left (writes_whole M16 h))))
theorem reach17 (h : M17.view.set = Finset.univ) : Writes (F := F) c (heldAt c P O M2 M3 M4 M5 M6 M7 M8 M9 M10 M11 M12 M13 M14 M15 M16 M17 X2 X3 X4 X5 X6 X7 X8 X9 X10 X11 X12 X13) M17 := by
  unfold heldAt; exact .left (.left (.right (.right (writes_whole M17 h))))

/-- Over any such memrefs, the three scratch ones whole, what is held reaches every buffer. -/
theorem accessAt (h15 : M15.view.set = Finset.univ) (h16 : M16.view.set = Finset.univ) (h17 : M17.view.set = Finset.univ) :
    Access c (heldAt c P O M2 M3 M4 M5 M6 M7 M8 M9 M10 M11 M12 M13 M14 M15 M16 M17 X2 X3 X4 X5 X6 X7 X8 X9 X10 X11 X12 X13) M2 M3 M4 M5 M6 M7 M8 M9 M10 M11 M12 M13 M14 M15 M16 M17 :=
  ⟨reach2, reach3, reach4, reach5, reach6, reach7, reach8, reach9, reach10, reach11, reach12, reach13, reach14, reach15 h15, reach16 h16, reach17 h17⟩

end Reach

/-- The result's window, the one whose contents are not named. -/
def forgotten : Fin cfg0.W → Bool := fun w => w == 12

/-- What the body holds at point `t`: the scratch, the generator register, what the core owes, the inputs at their
    blocks and the result's buffer at anything. -/
def held (c : Dev nD) (t : Fin cfg0.N) : Res F :=
  heldAt c iprop(∃ r, prngReg c r) ((dats m 0 c).owesAt () t.castSucc)
    (st0_0 t) (st0_1 t) (st0_2 t) (st0_3 t) (st0_4 t) (st0_5 t) (st0_6 t) (st0_7 t) (st0_8 t) (st0_9 t) (st0_10 t) (st0_11 t) (st0_12 t)
    (Memref.whole cc0_scratch0) (Memref.whole cc0_scratch1) (Memref.whole cc0_scratch2)
    (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t)

/-- What is held reaches each of the sixteen buffers. -/
theorem access (c : Dev nD) (t : Fin cfg0.N) : Access c (held m c t) (st0_0 t) (st0_1 t) (st0_2 t) (st0_3 t) (st0_4 t) (st0_5 t) (st0_6 t) (st0_7 t) (st0_8 t) (st0_9 t) (st0_10 t) (st0_11 t) (st0_12 t) (Memref.whole cc0_scratch0) (Memref.whole cc0_scratch1) (Memref.whole cc0_scratch2) := by
  unfold held
  exact accessAt (View.set_whole _) (View.set_whole _) (View.set_whole _)

/-- The body ends holding what it began with. -/
theorem body_keeps (c : Dev nD) (t : Fin cfg0.N) :
    held m c t ⊢ wp frame (wpE (defs₀ (F := F)) Variants.none (c : Thread nD τ) none) Set.univ (bodyAt0 (F := F) t)
      (fun _ => held m c t) := by
  have h : Keeps (F := F) c (held m c t) (bodyAt0 (F := F) t) := root (access m c t)
  unfold Keeps at h
  exact h

/-- What the pipeline hands the body at point `t`, window by window, -/
def pre (c : Dev nD) (t : Fin cfg0.N) : Res F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ X, owns (c : Thread nD τ) (st0_12 t) fullShare X))

/-- and what it takes back. -/
def post (c : Dev nD) (t : Fin cfg0.N) : Res F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ X, owns (c : Thread nD τ) (st0_12 t) fullShare X))

theorem phi_eq (c : Dev nD) (t : Fin (cfg0.N + 1)) : (dats m 0 c).Φ t
    = iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f))
      ∗ ∃ r, prngReg c r) := by
  show Pipeline.ΦA spec0 c = _
  unfold Pipeline.ΦA
  rw [scopedRest0_eq]

theorem pre_held (c : Dev nD) (t : Fin cfg0.N) : pre m c t ⊢ held m c t := by
  unfold pre held heldAt
  rw [phi_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
  isplitl [HΦ]; · iexact HΦ
  isplitl [Ho]; · iexact Ho
  isplitl [H0]; · rw [← before_0 m c t d0]; iexact H0
  isplitl [H1]; · rw [← before_1 m c t d1]; iexact H1
  isplitl [H2]; · rw [← before_2 m c t d2]; iexact H2
  isplitl [H3]; · rw [← before_3 m c t d3]; iexact H3
  isplitl [H4]; · rw [← before_4 m c t d4]; iexact H4
  isplitl [H5]; · rw [← before_5 m c t d5]; iexact H5
  isplitl [H6]; · rw [← before_6 m c t d6]; iexact H6
  isplitl [H7]; · rw [← before_7 m c t d7]; iexact H7
  isplitl [H8]; · rw [← before_8 m c t d8]; iexact H8
  isplitl [H9]; · rw [← before_9 m c t d9]; iexact H9
  isplitl [H10]; · rw [← before_10 m c t d10]; iexact H10
  isplitl [H11]; · rw [← before_11 m c t d11]; iexact H11
  iexact H12

theorem held_post (c : Dev nD) (t : Fin cfg0.N) : held m c t ⊢ post m c t := by
  unfold post held heldAt
  rw [phi_eq, show (dats m 0 c).owesAt () t.succ = (dats m 0 c).owesAt () t.castSucc from rfl]
  iintro ⟨HΦ, Ho, H0, H1, H2, H3, H4, H5, H6, H7, H8, H9, H10, H11, H12⟩
  isplitl [HΦ]; · iexact HΦ
  isplitl [Ho]; · iexact Ho
  isplitl [H0]; · rw [after_0 m c t]; iexact H0
  isplitl [H1]; · rw [after_1 m c t]; iexact H1
  isplitl [H2]; · rw [after_2 m c t]; iexact H2
  isplitl [H3]; · rw [after_3 m c t]; iexact H3
  isplitl [H4]; · rw [after_4 m c t]; iexact H4
  isplitl [H5]; · rw [after_5 m c t]; iexact H5
  isplitl [H6]; · rw [after_6 m c t]; iexact H6
  isplitl [H7]; · rw [after_7 m c t]; iexact H7
  isplitl [H8]; · rw [after_8 m c t]; iexact H8
  isplitl [H9]; · rw [after_9 m c t]; iexact H9
  isplitl [H10]; · rw [after_10 m c t]; iexact H10
  isplitl [H11]; · rw [after_11 m c t]; iexact H11
  iexact H12

/-- The body table's row at point `t`'s slots is the body. -/
theorem row (t : Fin cfg0.N) :
    defs₀ (F := F) .tc cfg0.body (cfg0.bodyArgs t (cfg0.slots t)) = bodyAt0 t := by
  unfold defs₀; rw [Defs.onTc_tc]

theorem obligation (c : Dev nD) :
    BodyObligation (dats m 0 c) (defs₀ (F := F)) Variants.none () Set.univ forgotten := fun t => by
  rw [bigSep_W0, bigSep_W0, row]
  exact triple_restated (body_keeps m c t) rfl (pre_held m c t) fun _ => held_post m c t

/-- The whole run, over any float values: the eight arguments end unchanged and every counter ends at zero. -/
theorem run (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_frame_forget_shared cfgs (dats m) 0 launch₀0 defs₀ Variants.none forgotten m g main
    (fun c => (obligation m c).loose) (fun _ _ _ => rfl) (fun _ _ => rfl) (V m) (hmain m Variants.none)
    (fun c w => A_eq m c w) (fun _ _ => rfl) (Q' := _)
    (fun _ h => ⟨fun c =>
      ⟨(h.1.arr_in c 1 rfl).trans ((A_eq m c 1).trans (V_main_arg0 m c)),
       (h.1.arr_in c 2 rfl).trans ((A_eq m c 2).trans (V_main_arg1 m c)),
       (h.1.arr_in c 3 rfl).trans ((A_eq m c 3).trans (V_main_arg2 m c)),
       ((h.1 c).2 main_arg3 (Pipeline.mem_restRefs_of main_arg3 (by decide) (by decide))).trans (V_main_arg3 m c),
       ((h.1 c).2 main_arg4 (Pipeline.mem_restRefs_of main_arg4 (by decide) (by decide))).trans (V_main_arg4 m c),
       ((h.1 c).2 main_arg5 (Pipeline.mem_restRefs_of main_arg5 (by decide) (by decide))).trans (V_main_arg5 m c),
       ((h.1 c).2 main_arg6 (Pipeline.mem_restRefs_of main_arg6 (by decide) (by decide))).trans (V_main_arg6 m c),
       ((h.1 c).2 main_arg7 (Pipeline.mem_restRefs_of main_arg7 (by decide) (by decide))).trans (V_main_arg7 m c)⟩,
      h.2⟩)

end Cert.Ssd.Scan

end
-- ==== Proof.GdnKeeps.lean ====
/-
  PROGRAMS THAT KEEP WHAT THEY HOLD, for the gated delta rule: the notions of `Proof/Keeps.lean` over this call's own
  buffers. Its body, too, only loads, stores, branches and loops, so for its frame nothing has to be known of the
  values, the carried state's included.
-/
module

public import proofs.«01_k».proof.Proof.Gen.Gdn.Frame

@[expose] public section

noncomputable section

namespace Cert.Gdn.Delta

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Gdn

variable {F : FTy → Type} [BitOps F]

/-- What a core can hold. -/
abbrev Res (F : FTy → Type) : Type _ := sProp (MT nD τ sig Unit (Elt F) ℕ (UR sig nD τ) ℕ)

/-- The programs of a TensorCore body. -/
abbrev Body (F : FTy → Type) (α : Type) : Type _ := Prog (TpuEff nD τ sig (Elt F) Λ₀ .tc) α

/-- Started on core `c` holding `R`, the program ends holding `R`. -/
def Keeps (c : Dev nD) (R : Res F) {α : Type} (p : Body F α) : Prop :=
  R ⊢ wp frame (wpE (defs₀ (F := F)) Variants.none (c : Thread nD τ) none) Set.univ p (fun _ => R)

/-- `R` holds the memref's elements, at some contents, and is made whole again by the same contents. -/
def Reads (c : Dev nD) (R : Res F) {cs : CoreSpace} {s : Shape} {e : EltTy} (M : Memref sig .tc cs s e) : Prop :=
  R ⊢ iprop(∃ f : Buf (Elt F) (M.view.loc (c : Thread nD τ)),
    (M.view.loc (c : Thread nD τ) ↦[M.view.set]{fullShare} f)
      ∗ ((M.view.loc (c : Thread nD τ) ↦[M.view.set]{fullShare} f) -∗ R))

/-- `R` holds the memref's elements, at some contents, and is made whole again by any contents. -/
def Writes (c : Dev nD) (R : Res F) {cs : CoreSpace} {s : Shape} {e : EltTy} (M : Memref sig .tc cs s e) : Prop :=
  R ⊢ iprop(∃ f : Buf (Elt F) (M.view.loc (c : Thread nD τ)),
    (M.view.loc (c : Thread nD τ) ↦[M.view.set]{fullShare} f)
      ∗ (∀ f' : Buf (Elt F) (M.view.loc (c : Thread nD τ)), (M.view.loc (c : Thread nD τ) ↦[M.view.set]{fullShare} f') -∗ R))

variable {c : Dev nD} {R : Res F}

theorem Writes.reads {cs : CoreSpace} {s : Shape} {e : EltTy} {M : Memref sig .tc cs s e} (h : Writes (F := F) c R M) :
    Reads (F := F) c R M := by
  unfold Reads
  refine h.trans ?_
  iintro ⟨%f, Hf, HR⟩
  iexists f
  isplitl [Hf]
  · iexact Hf
  · iapply HR

/-- An input's elements at known contents, held beside anything. -/
theorem reads_owns {cs : CoreSpace} {s : Shape} {e : EltTy} (M : Memref sig .tc cs s e) (X : s.Idx → Elt F e) :
    Reads (F := F) c (owns (c : Thread nD τ) M fullShare X) M := by
  unfold Reads owns
  iintro ⟨%f, %hf, Hf⟩
  iexists f
  isplitl [Hf]
  · iexact Hf
  · iintro Hf
    iexists f
    isplitr
    · ipureintro; exact hf
    · iexact Hf

/-- An output's elements at some contents. -/
theorem writes_owns {cs : CoreSpace} {s : Shape} {e : EltTy} (M : Memref sig .tc cs s e) :
    Writes (F := F) c iprop(∃ X, owns (c : Thread nD τ) M fullShare X) M := by
  unfold Writes owns
  iintro ⟨%X, %f, %hf, Hf⟩
  iexists f
  isplitl [Hf]
  · iexact Hf
  · iintro %f' Hf'
    iexists (M.view.read (Elt F) f'), f'
    isplitr
    · ipureintro; rfl
    · iexact Hf'

/-- A scratch buffer, whole at some contents. -/
theorem writes_whole {cs : CoreSpace} {s : Shape} {e : EltTy} (M : Memref sig .tc cs s e) (hM : M.view.set = Finset.univ) :
    Writes (F := F) c iprop(∃ f : Buf (Elt F) (M.view.loc (c : Thread nD τ)), (M.view.loc (c : Thread nD τ)) ↦{fullShare} f) M := by
  unfold Writes
  rw [hM]
  iintro ⟨%f, Hf⟩
  iexists f
  isplitl [Hf]
  · iexact Hf
  · iintro %f' Hf'
    iexists f'
    iexact Hf'

theorem Reads.left {S : Res F} {cs : CoreSpace} {s : Shape} {e : EltTy} {M : Memref sig .tc cs s e}
    (h : Reads (F := F) c R M) : Reads (F := F) c iprop(R ∗ S) M := by
  unfold Reads
  refine (sep_mono_left h).trans ?_
  iintro ⟨⟨%f, Hf, HR⟩, HS⟩
  iexists f
  isplitl [Hf]
  · iexact Hf
  · iintro Hf
    isplitl [HR Hf]
    · iapply HR; iexact Hf
    · iexact HS

theorem Reads.right {S : Res F} {cs : CoreSpace} {s : Shape} {e : EltTy} {M : Memref sig .tc cs s e}
    (h : Reads (F := F) c R M) : Reads (F := F) c iprop(S ∗ R) M := by
  unfold Reads
  refine (sep_mono_right h).trans ?_
  iintro ⟨HS, ⟨%f, Hf, HR⟩⟩
  iexists f
  isplitl [Hf]
  · iexact Hf
  · iintro Hf
    isplitl [HS]
    · iexact HS
    · iapply HR; iexact Hf

theorem Writes.left {S : Res F} {cs : CoreSpace} {s : Shape} {e : EltTy} {M : Memref sig .tc cs s e}
    (h : Writes (F := F) c R M) : Writes (F := F) c iprop(R ∗ S) M := by
  unfold Writes
  refine (sep_mono_left h).trans ?_
  iintro ⟨⟨%f, Hf, HR⟩, HS⟩
  iexists f
  isplitl [Hf]
  · iexact Hf
  · iintro %f' Hf
    isplitl [HR Hf]
    · iapply HR $$ %f'; iexact Hf
    · iexact HS

theorem Writes.right {S : Res F} {cs : CoreSpace} {s : Shape} {e : EltTy} {M : Memref sig .tc cs s e}
    (h : Writes (F := F) c R M) : Writes (F := F) c iprop(S ∗ R) M := by
  unfold Writes
  refine (sep_mono_right h).trans ?_
  iintro ⟨HS, ⟨%f, Hf, HR⟩⟩
  iexists f
  isplitl [Hf]
  · iexact Hf
  · iintro %f' Hf
    isplitl [HS]
    · iexact HS
    · iapply HR $$ %f'; iexact Hf

/-! ## The statements -/

theorem Keeps.pure {α : Type} (a : α) : Keeps (F := F) c R (Pure.pure a : Body F α) := by
  unfold Keeps
  rw [wp_pure]
  iintro HR
  imodintro
  iexact HR

theorem Keeps.bind {α β : Type} {p : Body F α} {k : α → Body F β} (hp : Keeps (F := F) c R p) (hk : ∀ a, Keeps (F := F) c R (k a)) :
    Keeps (F := F) c R (p >>= k) := by
  unfold Keeps
  rw [wp_bind]
  exact hp.trans (wp_mono _ _ _ fun a => hk a)

theorem Keeps.load {cs : CoreSpace} {s : Shape} {e : EltTy} {M : Memref sig .tc cs s e} (h : Reads (F := F) c R M)
    (r : LoadRect s) (hl : M.view.LoadsAt r) :
    Keeps (F := F) c R (Prog.lift (.load M r hl) : Body F _) := by
  unfold Keeps
  refine h.trans ?_
  iintro ⟨%f, Hf, HR⟩
  iapply (wp_load Variants.none (c : Thread nD τ) none Set.univ (M.view.setOn_subset_set _)) $$ Hf
  iintro Hf
  rw [wp_ret]
  imodintro
  iapply HR; iexact Hf

theorem Keeps.store {cs : CoreSpace} {s : Shape} {e : EltTy} {M : Memref sig .tc cs s e} (h : Writes (F := F) c R M)
    (r : Rect s) (w : r.shape.Idx → Elt F e) (Mk : Finset r.shape.Idx) (hx : (M.access r).Stores Mk)
    (hm : Mk = Finset.univ ∨ ∀ a, r.stride a = 1) :
    Keeps (F := F) c R (Prog.lift (.store M r w Mk hx hm) : Body F _) := by
  unfold Keeps
  refine h.trans ?_
  iintro ⟨%f, Hf, HR⟩
  iapply (wp_store Variants.none (c : Thread nD τ) none Set.univ
    (((M.access r).setOn_subset_set Mk).trans (M.view.set_slice_subset r))) $$ Hf
  iintro Hf
  rw [wp_ret]
  imodintro
  iapply HR; iexact Hf

theorem Keeps.ite {α : Type} {C : Prop} [Decidable C] {p q : Body F α} (hp : Keeps (F := F) c R p) (hq : Keeps (F := F) c R q) :
    Keeps (F := F) c R (if C then p else q) := by
  split <;> assumption

theorem Keeps.dite {α : Type} {C : Prop} [Decidable C] {p : C → Body F α} {q : ¬ C → Body F α} (hp : ∀ h, Keeps (F := F) c R (p h))
    (hq : ∀ h, Keeps (F := F) c R (q h)) : Keeps (F := F) c R (if h : C then p h else q h) := by
  split
  · exact hp _
  · exact hq _

theorem Keeps.loop {α : Type} {n : ℕ} (L : Scf.Loop n) (hok : L.OK) (init : α) (body : Fin L.trips → α → Body F α)
    (hb : ∀ k a, Keeps (F := F) c R (body k a)) : Keeps (F := F) c R (Scf.Loop.for L hok init body) := by
  unfold Keeps Scf.Loop.for
  refine BIBase.Entails.trans ?_ (Scf.wp_for _ _ _ _ _ _ hok init body (fun _ _ => R) (fun k a => hb k a))
  iintro HR
  isplitl
  · iexact HR
  · iintro %a HR
    iexact HR

attribute [irreducible] Keeps Reads Writes

end Cert.Gdn.Delta

end
-- ==== Proof.GdnParts.lean ====
/-
  THE RULE'S BODY: `R` holds each of the ten staged inputs to be read, and the result's buffer and the three scratch
  buffers (the state, the last rows of the tile before, the rows the convolution reads) to be read and written. Each part
  of the body, each trip of its loop and the whole body end holding `R` again.
-/
module

public import proofs.«01_k».proof.Proof.GdnKeeps
public import proofs.«01_k».proof.Proof.Gen.Gdn.Skeleton

@[expose] public section

set_option maxRecDepth 65536

noncomputable section

namespace Cert.Gdn.Delta

open Idealize.ShloMosaic Idealize.ShloMosaic.TcCoe
open Idealize.SL Idealize.SL.RA Idealize.SL.BI
open Cert.Gdn Cert.Gdn.Gen

variable {F : FTy → Type} [BitOps F]

/-- `R` lets the body reach its fourteen buffers: the inputs to read, the result and the scratch to write. -/
structure Access (c : Dev nD) (R : Res F) (arg2 : Memref sig .tc .vmem S1x512x1536 .bf16) (arg3 : Memref sig .tc .vmem S1x512x128 .f32) (arg4 : Memref sig .tc .vmem S1x512x512 .bf16) (arg5 : Memref sig .tc .vmem S4x1536 .f32) (arg6 : Memref sig .tc .vmem S1x128 .f32) (arg7 : Memref sig .tc .vmem S1x128 .f32) (arg8 : Memref sig .tc .vmem S1x128 .f32) (arg9 : Memref sig .tc .vmem S128x128 .bf16) (arg10 : Memref sig .tc .vmem S128x512 .bf16) (arg11 : Memref sig .tc .vmem S128x512 .bf16) (arg12 : Memref sig .tc .vmem S1x512x512 .bf16) (arg13 : Memref sig .tc .vmem S4x128x128 .f32) (arg14 : Memref sig .tc .vmem S8x1536 .f32) (arg15 : Memref sig .tc .vmem S136x1536 .f32) : Prop where
  r2 : Reads (F := F) c R arg2
  r3 : Reads (F := F) c R arg3
  r4 : Reads (F := F) c R arg4
  r5 : Reads (F := F) c R arg5
  r6 : Reads (F := F) c R arg6
  r7 : Reads (F := F) c R arg7
  r8 : Reads (F := F) c R arg8
  r9 : Reads (F := F) c R arg9
  r10 : Reads (F := F) c R arg10
  r11 : Reads (F := F) c R arg11
  w12 : Writes (F := F) c R arg12
  w13 : Writes (F := F) c R arg13
  w14 : Writes (F := F) c R arg14
  w15 : Writes (F := F) c R arg15

variable {c : Dev nD} {R : Res F} {i : grid0.Coords}
  {arg2 : Memref sig .tc .vmem S1x512x1536 .bf16} {arg3 : Memref sig .tc .vmem S1x512x128 .f32} {arg4 : Memref sig .tc .vmem S1x512x512 .bf16} {arg5 : Memref sig .tc .vmem S4x1536 .f32} {arg6 : Memref sig .tc .vmem S1x128 .f32} {arg7 : Memref sig .tc .vmem S1x128 .f32} {arg8 : Memref sig .tc .vmem S1x128 .f32} {arg9 : Memref sig .tc .vmem S128x128 .bf16} {arg10 : Memref sig .tc .vmem S128x512 .bf16} {arg11 : Memref sig .tc .vmem S128x512 .bf16} {arg12 : Memref sig .tc .vmem S1x512x512 .bf16} {arg13 : Memref sig .tc .vmem S4x128x128 .f32} {arg14 : Memref sig .tc .vmem S8x1536 .f32} {arg15 : Memref sig .tc .vmem S136x1536 .f32}
  {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole}
  (H : Access c R arg2 arg3 arg4 arg5 arg6 arg7 arg8 arg9 arg10 arg11 arg12 arg13 arg14 arg15)
include H

namespace Access

theorem r12 : Reads (F := F) c R arg12 := H.w12.reads
theorem r13 : Reads (F := F) c R arg13 := H.w13.reads
theorem r14 : Reads (F := F) c R arg14 := H.w14.reads
theorem r15 : Reads (F := F) c R arg15 := H.w15.reads

end Access

theorem part1 {c0_i32_1} {c1_i32} {k0_t1} :
    Keeps (F := F) c R (k0_part1 i arg2 harg2 arg3 harg3 arg4 harg4 arg5 harg5 arg6 harg6 arg7 harg7 arg8 harg8 arg9 harg9 arg10 harg10 arg11 harg11 arg12 harg12 arg13 harg13 arg14 harg14 arg15 harg15 c0_i32_1 c1_i32 k0_t1) := by
  rw [k0_part1_eq_skeleton]
  unfold k0_part1_skel
  refine .bind (.load H.r2 _ _) ?_; intro _
  refine .bind (.load H.r14 _ _) ?_; intro _
  refine .bind (.load H.r15 _ _) ?_; intro _
  refine .bind (.store H.w15 _ _ _ _ _) fun _ => ?_
  refine .bind (.load H.r15 _ _) ?_; intro _
  refine .bind (.store H.w15 _ _ _ _ _) fun _ => ?_
  refine .bind (.load H.r5 _ _) ?_; intro _
  refine .bind (.load H.r5 _ _) ?_; intro _
  refine .bind (.load H.r15 _ _) ?_; intro _
  refine .bind (.load H.r5 _ _) ?_; intro _
  refine .bind (.load H.r15 _ _) ?_; intro _
  refine .bind (.load H.r5 _ _) ?_; intro _
  refine .bind (.load H.r15 _ _) ?_; intro _
  exact .pure _

theorem part2 {k0_t1} {v5} {v34} {v35} :
    Keeps (F := F) c R (k0_part2 i arg2 harg2 arg3 harg3 arg4 harg4 arg5 harg5 arg6 harg6 arg7 harg7 arg8 harg8 arg9 harg9 arg10 harg10 arg11 harg11 arg12 harg12 arg13 harg13 arg14 harg14 arg15 harg15 k0_t1 v5 v34 v35) := by
  rw [k0_part2_eq_skeleton]
  unfold k0_part2_skel
  refine .bind (.load H.r14 _ _) ?_; intro _
  refine .bind (.store H.w14 _ _ _ _ _) fun _ => ?_
  refine .bind (.load H.r3 _ _) ?_; intro _
  refine .bind (.load H.r6 _ _) ?_; intro _
  refine .bind (.load H.r7 _ _) ?_; intro _
  refine .bind (.load H.r9 _ _) ?_; intro _
  exact .pure _

theorem part3 {v67} {v74} {v75} {v76} {v77} :
    Keeps (F := F) c R (k0_part3 i arg2 harg2 arg3 harg3 arg4 harg4 arg5 harg5 arg6 harg6 arg7 harg7 arg8 harg8 arg9 harg9 arg10 harg10 arg11 harg11 arg12 harg12 arg13 harg13 arg14 harg14 arg15 harg15 v67 v74 v75 v76 v77) := by
  rw [k0_part3_eq_skeleton]
  unfold k0_part3_skel
  refine .bind (.load H.r10 _ _) ?_; intro _
  refine .bind (.load H.r11 _ _) ?_; intro _
  exact .pure _

theorem part4 {v46} {v100} {v113} {v114} {v115} {v120} :
    Keeps (F := F) c R (k0_part4 i arg2 harg2 arg3 harg3 arg4 harg4 arg5 harg5 arg6 harg6 arg7 harg7 arg8 harg8 arg9 harg9 arg10 harg10 arg11 harg11 arg12 harg12 arg13 harg13 arg14 harg14 arg15 harg15 v46 v100 v113 v114 v115 v120) := by
  rw [k0_part4_eq_skeleton]
  unfold k0_part4_skel
  refine .bind (.load H.r8 _ _) ?_; intro _
  exact .pure _

theorem part5 {v46} {v100} {v113} {v154} {v170} :
    Keeps (F := F) c R (k0_part5 i arg2 harg2 arg3 harg3 arg4 harg4 arg5 harg5 arg6 harg6 arg7 harg7 arg8 harg8 arg9 harg9 arg10 harg10 arg11 harg11 arg12 harg12 arg13 harg13 arg14 harg14 arg15 harg15 v46 v100 v113 v154 v170) := by
  rw [k0_part5_eq_skeleton]
  unfold k0_part5_skel
  exact .pure _

theorem part6 {v113} {v122} {v141} {v149} {v151} {v164} {v172} {v174} {v187} {v195} {v197} {v218} {v220} :
    Keeps (F := F) c R (k0_part6 i arg2 harg2 arg3 harg3 arg4 harg4 arg5 harg5 arg6 harg6 arg7 harg7 arg8 harg8 arg9 harg9 arg10 harg10 arg11 harg11 arg12 harg12 arg13 harg13 arg14 harg14 arg15 harg15 v113 v122 v141 v149 v151 v164 v172 v174 v187 v195 v197 v218 v220) := by
  rw [k0_part6_eq_skeleton]
  unfold k0_part6_skel
  exact .pure _

theorem part7 {v124} {v127} {v152} {v175} {v198} {v210} {v221} {v228} {v235} {v242} {v249} {v252} {v253} {v254} {v255} {v256} {v257} {v266} :
    Keeps (F := F) c R (k0_part7 i arg2 harg2 arg3 harg3 arg4 harg4 arg5 harg5 arg6 harg6 arg7 harg7 arg8 harg8 arg9 harg9 arg10 harg10 arg11 harg11 arg12 harg12 arg13 harg13 arg14 harg14 arg15 harg15 v124 v127 v152 v175 v198 v210 v221 v228 v235 v242 v249 v252 v253 v254 v255 v256 v257 v266) := by
  rw [k0_part7_eq_skeleton]
  unfold k0_part7_skel
  exact .pure _

theorem part8 {v298} {v299} {v300} {v301} {v306} {v307} {v308} {v309} {v310} {v311} {cst_99} :
    Keeps (F := F) c R (k0_part8 i arg2 harg2 arg3 harg3 arg4 harg4 arg5 harg5 arg6 harg6 arg7 harg7 arg8 harg8 arg9 harg9 arg10 harg10 arg11 harg11 arg12 harg12 arg13 harg13 arg14 harg14 arg15 harg15 v298 v299 v300 v301 v306 v307 v308 v309 v310 v311 cst_99) := by
  rw [k0_part8_eq_skeleton]
  unfold k0_part8_skel
  exact .pure _

theorem part9 {v337} {v341} {v345} {v349} {v353} {v354} {v355} {v356} {cst_114} :
    Keeps (F := F) c R (k0_part9 i arg2 harg2 arg3 harg3 arg4 harg4 arg5 harg5 arg6 harg6 arg7 harg7 arg8 harg8 arg9 harg9 arg10 harg10 arg11 harg11 arg12 harg12 arg13 harg13 arg14 harg14 arg15 harg15 v337 v341 v345 v349 v353 v354 v355 v356 cst_114) := by
  rw [k0_part9_eq_skeleton]
  unfold k0_part9_skel
  exact .pure _

theorem part10 {v149} {v150} {v151} {v152} {v172} {v173} {v174} {v175} {v195} {v196} {v197} {v198} {v218} {v219} {v220} {v221} {v385} {v389} {v393} {v397} {v399} {v400} {v401} {v402} {cst_128} :
    Keeps (F := F) c R (k0_part10 i arg2 harg2 arg3 harg3 arg4 harg4 arg5 harg5 arg6 harg6 arg7 harg7 arg8 harg8 arg9 harg9 arg10 harg10 arg11 harg11 arg12 harg12 arg13 harg13 arg14 harg14 arg15 harg15 v149 v150 v151 v152 v172 v173 v174 v175 v195 v196 v197 v198 v218 v219 v220 v221 v385 v389 v393 v397 v399 v400 v401 v402 cst_128) := by
  rw [k0_part10_eq_skeleton]
  unfold k0_part10_skel
  exact .pure _

theorem part11 {v114} {v141} {v151} {v164} {v174} {v187} {v197} {v210} {v220} {v422} {v423} {v424} {v425} {v432} {v439} {v446} {v447} {v452} {cst_138} :
    Keeps (F := F) c R (k0_part11 i arg2 harg2 arg3 harg3 arg4 harg4 arg5 harg5 arg6 harg6 arg7 harg7 arg8 harg8 arg9 harg9 arg10 harg10 arg11 harg11 arg12 harg12 arg13 harg13 arg14 harg14 arg15 harg15 v114 v141 v151 v164 v174 v187 v197 v210 v220 v422 v423 v424 v425 v432 v439 v446 v447 v452 cst_138) := by
  rw [k0_part11_eq_skeleton]
  unfold k0_part11_skel
  refine .bind (.load H.r13 _ _) ?_; intro _
  refine .bind (.load H.r13 _ _) ?_; intro _
  refine .bind (.load H.r13 _ _) ?_; intro _
  refine .bind (.load H.r13 _ _) ?_; intro _
  exact .pure _

theorem part12 {v149} {v151} {v261} {v265} {v269} {v273} {v457} {v459} {v461} {v463} {v464} {v465} {v467} {v469} {v471} {v473} {v474} {v486} {v487} {v491} {v492} {v493} {v494} {v495} {v496} {cst_154} :
    Keeps (F := F) c R (k0_part12 i arg2 harg2 arg3 harg3 arg4 harg4 arg5 harg5 arg6 harg6 arg7 harg7 arg8 harg8 arg9 harg9 arg10 harg10 arg11 harg11 arg12 harg12 arg13 harg13 arg14 harg14 arg15 harg15 v149 v151 v261 v265 v269 v273 v457 v459 v461 v463 v464 v465 v467 v469 v471 v473 v474 v486 v487 v491 v492 v493 v494 v495 v496 cst_154) := by
  rw [k0_part12_eq_skeleton]
  unfold k0_part12_skel
  exact .pure _

theorem part13 {v172} {v174} {v195} {v197} {v218} {v220} {v476} {v478} {v480} {v482} {v486} {v487} {v488} {v489} {v490} {v512} {v514} {v516} {v544} :
    Keeps (F := F) c R (k0_part13 i arg2 harg2 arg3 harg3 arg4 harg4 arg5 harg5 arg6 harg6 arg7 harg7 arg8 harg8 arg9 harg9 arg10 harg10 arg11 harg11 arg12 harg12 arg13 harg13 arg14 harg14 arg15 harg15 v172 v174 v195 v197 v218 v220 v476 v478 v480 v482 v486 v487 v488 v489 v490 v512 v514 v516 v544) := by
  rw [k0_part13_eq_skeleton]
  unfold k0_part13_skel
  exact .pure _

theorem part14 {v114} {v151} {v174} {v197} {v220} {v261} {v265} {v455} {v457} {v459} {v461} {v462} {v463} {v464} {v465} {v467} {v469} {v474} {v518} {v570} {v577} {v584} {v591} {v594} :
    Keeps (F := F) c R (k0_part14 i arg2 harg2 arg3 harg3 arg4 harg4 arg5 harg5 arg6 harg6 arg7 harg7 arg8 harg8 arg9 harg9 arg10 harg10 arg11 harg11 arg12 harg12 arg13 harg13 arg14 harg14 arg15 harg15 v114 v151 v174 v197 v220 v261 v265 v455 v457 v459 v461 v462 v463 v464 v465 v467 v469 v474 v518 v570 v577 v584 v591 v594) := by
  rw [k0_part14_eq_skeleton]
  unfold k0_part14_skel
  exact .pure _

theorem part15 {v149} {v151} {v172} {v174} {v195} {v197} {v218} {v220} {v269} {v273} {v471} {v473} {v577} {v602} {v603} {v604} {v605} {v606} {v609} {v610} {v632} {v634} {v641} {v643} :
    Keeps (F := F) c R (k0_part15 i arg2 harg2 arg3 harg3 arg4 harg4 arg5 harg5 arg6 harg6 arg7 harg7 arg8 harg8 arg9 harg9 arg10 harg10 arg11 harg11 arg12 harg12 arg13 harg13 arg14 harg14 arg15 harg15 v149 v151 v172 v174 v195 v197 v218 v220 v269 v273 v471 v473 v577 v602 v603 v604 v605 v606 v609 v610 v632 v634 v641 v643) := by
  rw [k0_part15_eq_skeleton]
  unfold k0_part15_skel
  exact .pure _

theorem part16 {v523} {v584} {v591} {v598} {v604} {v605} {v606} {v628} {v630} {v632} {v634} {v639} {v670} {v678} {v686} {v689} {v691} :
    Keeps (F := F) c R (k0_part16 i arg2 harg2 arg3 harg3 arg4 harg4 arg5 harg5 arg6 harg6 arg7 harg7 arg8 harg8 arg9 harg9 arg10 harg10 arg11 harg11 arg12 harg12 arg13 harg13 arg14 harg14 arg15 harg15 v523 v584 v591 v598 v604 v605 v606 v628 v630 v632 v634 v639 v670 v678 v686 v689 v691) := by
  rw [k0_part16_eq_skeleton]
  unfold k0_part16_skel
  refine .bind (.load H.r13 _ _) ?_; intro _
  refine .bind (.store H.w13 _ _ _ _ _) fun _ => ?_
  refine .bind (.load H.r13 _ _) ?_; intro _
  refine .bind (.store H.w13 _ _ _ _ _) fun _ => ?_
  refine .bind (.load H.r13 _ _) ?_; intro _
  refine .bind (.store H.w13 _ _ _ _ _) fun _ => ?_
  refine .bind (.load H.r13 _ _) ?_; intro _
  refine .bind (.store H.w13 _ _ _ _ _) fun _ => ?_
  exact .pure _

theorem part17 {v129} {v528} {v533} {v538} {v644} {v649} {v654} {v727} {v730} :
    Keeps (F := F) c R (k0_part17 i arg2 harg2 arg3 harg3 arg4 harg4 arg5 harg5 arg6 harg6 arg7 harg7 arg8 harg8 arg9 harg9 arg10 harg10 arg11 harg11 arg12 harg12 arg13 harg13 arg14 harg14 arg15 harg15 v129 v528 v533 v538 v644 v649 v654 v727 v730) := by
  rw [k0_part17_eq_skeleton]
  unfold k0_part17_skel
  exact .pure _

theorem trip k a :
    Keeps (F := F) c R (k0_t1_body i arg2 harg2 arg3 harg3 arg4 harg4 arg5 harg5 arg6 harg6 arg7 harg7 arg8 harg8 arg9 harg9 arg10 harg10 arg11 harg11 arg12 harg12 arg13 harg13 arg14 harg14 arg15 harg15 k a) := by
  unfold k0_t1_body
  refine .bind (part1 H) ?_; rintro ⟨_, _, _⟩
  refine .bind (part2 H) ?_; rintro ⟨_, _, _, _, _, _⟩
  refine .bind (part3 H) ?_; rintro ⟨_, _, _, _, _, _⟩
  refine .bind (part4 H) ?_; rintro ⟨_, _, _, _, _, _, _, _, _, _, _⟩
  refine .bind (part5 H) ?_; rintro ⟨_, _, _, _, _, _, _, _, _, _, _, _, _⟩
  refine .bind (part6 H) ?_; rintro ⟨_, _, _, _, _, _, _, _, _, _, _, _, _, _⟩
  refine .bind (part7 H) ?_; rintro ⟨_, _, _, _, _, _, _, _, _, _, _, _, _⟩
  refine .bind (part8 H) ?_; rintro ⟨_, _, _, _, _, _, _, _, _⟩
  refine .bind (part9 H) ?_; rintro ⟨_, _, _, _, _, _, _, _, _⟩
  refine .bind (part10 H) ?_; rintro ⟨_, _, _, _, _, _, _, _, _, _⟩
  refine .bind (part11 H) ?_; rintro ⟨_, _, _, _, _, _, _, _, _, _, _, _, _, _, _, _, _, _, _, _, _, _, _, _, _, _, _, _, _⟩
  refine .bind (part12 H) ?_; rintro ⟨_, _, _, _, _, _, _, _, _⟩
  refine .bind (part13 H) ?_; rintro ⟨_, _, _, _, _⟩
  refine .bind (part14 H) ?_; rintro ⟨_, _, _, _, _, _, _, _, _, _, _, _, _, _, _⟩
  refine .bind (part15 H) ?_; rintro ⟨_, _, _, _, _, _, _, _⟩
  refine .bind (part16 H) ?_; rintro ⟨_, _⟩
  refine .bind (part17 H) ?_; intro _
  refine .bind (.load H.r4 _ _) ?_; intro _
  refine .bind (.load H.r12 _ _) ?_; intro _
  refine .bind (.store H.w12 _ _ _ _ _) fun _ => ?_
  exact .pure _

theorem root :
    Keeps (F := F) c R (cc0_gdn i arg2 harg2 arg3 harg3 arg4 harg4 arg5 harg5 arg6 harg6 arg7 harg7 arg8 harg8 arg9 harg9 arg10 harg10 arg11 harg11 arg12 harg12 arg13 harg13 arg14 harg14 arg15 harg15) := by
  rw [cc0_gdn_eq_skeleton]
  unfold cc0_gdn_skel
  refine .dite (fun _ => ?_) (fun _ => ?_)
  · refine .bind (.load H.r13 _ _) ?_; intro _
    refine .bind (.store H.w13 _ _ _ _ _) fun _ => ?_
    refine .bind (.load H.r14 _ _) ?_; intro _
    refine .bind (.store H.w14 _ _ _ _ _) fun _ => ?_
    refine .bind (.loop _ _ _ _ (trip H)) fun _ => ?_
    exact .pure _
  · refine .bind (.loop _ _ _ _ (trip H)) fun _ => ?_
    exact .pure _

end Cert.Gdn.Delta

end
-- ==== Proof.GdnFrame.lean ====
/-
  THE FRAME OF THE GATED DELTA RULE. At a grid point the pipeline hands the body its ten staged inputs at their blocks,
  the result's buffer and the three scratch buffers at anything; the body keeps all of them (`root`), so every argument
  array ends as it was and every counter ends at zero. The result's contents are not named.
-/
module

public import proofs.«01_k».proof.Proof.GdnParts
public import Idealize.ShloMosaic.Adequacy
public import Idealize.ShloMosaic.Init

@[expose] public section

set_option maxRecDepth 65536

noncomputable section

namespace Cert.Gdn.Delta

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Gdn Cert.Gdn.Gen

variable {F : FTy → Type} [BitOps F]
variable (m : (ℓ : Loc nD τ sig) → Buf (Elt F) ℓ)

/-- The proof data: each input's buffer holds its block before and after every point; the result's contents are
    left unnamed; the scratch is held at some contents. -/
def dats (_ : Fin 1) (c : Dev nD) : Dat τ (Elt F) Unit ℕ (UR sig nD τ) ℕ cfg0 c where
  A w := V m c (Pipeline.arrRef spec0 w)
  after w t := match w with
    | 0 => X0_0 m c t
    | 1 => iblk m c 1 t
    | 2 => X0_2 m c t
    | 3 => iblk m c 3 t
    | 4 => iblk m c 4 t
    | 5 => iblk m c 5 t
    | 6 => iblk m c 6 t
    | 7 => iblk m c 7 t
    | 8 => iblk m c 8 t
    | 9 => iblk m c 9 t
    | 10 => fun _ => Classical.arbitrary _
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem before_0 (c : Dev nD) (t : Fin cfg0.N) (d) : (dats m 0 c).before 0 t d = X0_0 m c t :=
  before0_0_of m (dats m 0 c) (A_eq m c 0) (fun t => after_0 m c t) t d
theorem before_1 (c : Dev nD) (t : Fin cfg0.N) (d) : (dats m 0 c).before 1 t d = iblk m c 1 t :=
  before0_1_of m (dats m 0 c) (A_eq m c 1) (fun t => after_1 m c t) t d
theorem before_2 (c : Dev nD) (t : Fin cfg0.N) (d) : (dats m 0 c).before 2 t d = X0_2 m c t :=
  before0_2_of m (dats m 0 c) (A_eq m c 2) (fun t => after_2 m c t) t d
theorem before_3 (c : Dev nD) (t : Fin cfg0.N) (d) : (dats m 0 c).before 3 t d = iblk m c 3 t :=
  before0_3_of m (dats m 0 c) (A_eq m c 3) (fun t => after_3 m c t) t d
theorem before_4 (c : Dev nD) (t : Fin cfg0.N) (d) : (dats m 0 c).before 4 t d = iblk m c 4 t :=
  before0_4_of m (dats m 0 c) (A_eq m c 4) (fun t => after_4 m c t) t d
theorem before_5 (c : Dev nD) (t : Fin cfg0.N) (d) : (dats m 0 c).before 5 t d = iblk m c 5 t :=
  before0_5_of m (dats m 0 c) (A_eq m c 5) (fun t => after_5 m c t) t d
theorem before_6 (c : Dev nD) (t : Fin cfg0.N) (d) : (dats m 0 c).before 6 t d = iblk m c 6 t :=
  before0_6_of m (dats m 0 c) (A_eq m c 6) (fun t => after_6 m c t) t d
theorem before_7 (c : Dev nD) (t : Fin cfg0.N) (d) : (dats m 0 c).before 7 t d = iblk m c 7 t :=
  before0_7_of m (dats m 0 c) (A_eq m c 7) (fun t => after_7 m c t) t d
theorem before_8 (c : Dev nD) (t : Fin cfg0.N) (d) : (dats m 0 c).before 8 t d = iblk m c 8 t :=
  before0_8_of m (dats m 0 c) (A_eq m c 8) (fun t => after_8 m c t) t d
theorem before_9 (c : Dev nD) (t : Fin cfg0.N) (d) : (dats m 0 c).before 9 t d = iblk m c 9 t :=
  before0_9_of m (dats m 0 c) (A_eq m c 9) (fun t => after_9 m c t) t d

/-- What a body holds over any memrefs of the body's shapes: the scratch, two more resources, the inputs at their
    blocks and the result's buffer at anything. -/
def heldAt (c : Dev nD) (P O : Res F) (M2 : Memref sig .tc .vmem S1x512x1536 .bf16) (M3 : Memref sig .tc .vmem S1x512x128 .f32) (M4 : Memref sig .tc .vmem S1x512x512 .bf16) (M5 : Memref sig .tc .vmem S4x1536 .f32) (M6 : Memref sig .tc .vmem S1x128 .f32) (M7 : Memref sig .tc .vmem S1x128 .f32) (M8 : Memref sig .tc .vmem S1x128 .f32) (M9 : Memref sig .tc .vmem S128x128 .bf16) (M10 : Memref sig .tc .vmem S128x512 .bf16) (M11 : Memref sig .tc .vmem S128x512 .bf16) (M12 : Memref sig .tc .vmem S1x512x512 .bf16) (M13 : Memref sig .tc .vmem S4x128x128 .f32) (M14 : Memref sig .tc .vmem S8x1536 .f32) (M15 : Memref sig .tc .vmem S136x1536 .f32)
    (X2 : S1x512x1536.Idx → Elt F .bf16) (X3 : S1x512x128.Idx → Elt F .f32) (X4 : S1x512x512.Idx → Elt F .bf16) (X5 : S4x1536.Idx → Elt F .f32) (X6 : S1x128.Idx → Elt F .f32) (X7 : S1x128.Idx → Elt F .f32) (X8 : S1x128.Idx → Elt F .f32) (X9 : S128x128.Idx → Elt F .bf16) (X10 : S128x512.Idx → Elt F .bf16) (X11 : S128x512.Idx → Elt F .bf16) : Res F :=
  iprop((((∃ f : Buf (Elt F) (M13.view.loc (c : Thread nD τ)), (M13.view.loc (c : Thread nD τ)) ↦{fullShare} f)
      ∗ (∃ f : Buf (Elt F) (M14.view.loc (c : Thread nD τ)), (M14.view.loc (c : Thread nD τ)) ↦{fullShare} f)
      ∗ (∃ f : Buf (Elt F) (M15.view.loc (c : Thread nD τ)), (M15.view.loc (c : Thread nD τ)) ↦{fullShare} f))
      ∗ P)
    ∗ O
    ∗ owns (c : Thread nD τ) M2 fullShare X2
    ∗ owns (c : Thread nD τ) M3 fullShare X3
    ∗ owns (c : Thread nD τ) M4 fullShare X4
    ∗ owns (c : Thread nD τ) M5 fullShare X5
    ∗ owns (c : Thread nD τ) M6 fullShare X6
    ∗ owns (c : Thread nD τ) M7 fullShare X7
    ∗ owns (c : Thread nD τ) M8 fullShare X8
    ∗ owns (c : Thread nD τ) M9 fullShare X9
    ∗ owns (c : Thread nD τ) M10 fullShare X10
    ∗ owns (c : Thread nD τ) M11 fullShare X11
    ∗ ∃ X, owns (c : Thread nD τ) M12 fullShare X)

section Reach

variable {c : Dev nD} {P O : Res F} {M2 : Memref sig .tc .vmem S1x512x1536 .bf16} {M3 : Memref sig .tc .vmem S1x512x128 .f32} {M4 : Memref sig .tc .vmem S1x512x512 .bf16} {M5 : Memref sig .tc .vmem S4x1536 .f32} {M6 : Memref sig .tc .vmem S1x128 .f32} {M7 : Memref sig .tc .vmem S1x128 .f32} {M8 : Memref sig .tc .vmem S1x128 .f32} {M9 : Memref sig .tc .vmem S128x128 .bf16} {M10 : Memref sig .tc .vmem S128x512 .bf16} {M11 : Memref sig .tc .vmem S128x512 .bf16} {M12 : Memref sig .tc .vmem S1x512x512 .bf16} {M13 : Memref sig .tc .vmem S4x128x128 .f32} {M14 : Memref sig .tc .vmem S8x1536 .f32} {M15 : Memref sig .tc .vmem S136x1536 .f32}
  {X2 : S1x512x1536.Idx → Elt F .bf16} {X3 : S1x512x128.Idx → Elt F .f32} {X4 : S1x512x512.Idx → Elt F .bf16} {X5 : S4x1536.Idx → Elt F .f32} {X6 : S1x128.Idx → Elt F .f32} {X7 : S1x128.Idx → Elt F .f32} {X8 : S1x128.Idx → Elt F .f32} {X9 : S128x128.Idx → Elt F .bf16} {X10 : S128x512.Idx → Elt F .bf16} {X11 : S128x512.Idx → Elt F .bf16}

theorem reach2 : Reads (F := F) c (heldAt c P O M2 M3 M4 M5 M6 M7 M8 M9 M10 M11 M12 M13 M14 M15 X2 X3 X4 X5 X6 X7 X8 X9 X10 X11) M2 := by
  unfold heldAt; exact .right (.right (.left (reads_owns M2 X2)))
theorem reach3 : Reads (F := F) c (heldAt c P O M2 M3 M4 M5 M6 M7 M8 M9 M10 M11 M12 M13 M14 M15 X2 X3 X4 X5 X6 X7 X8 X9 X10 X11) M3 := by
  unfold heldAt; exact .right (.right (.right (.left (reads_owns M3 X3))))
theorem reach4 : Reads (F := F) c (heldAt c P O M2 M3 M4 M5 M6 M7 M8 M9 M10 M11 M12 M13 M14 M15 X2 X3 X4 X5 X6 X7 X8 X9 X10 X11) M4 := by
  unfold heldAt; exact .right (.right (.right (.right (.left (reads_owns M4 X4)))))
theorem reach5 : Reads (F := F) c (heldAt c P O M2 M3 M4 M5 M6 M7 M8 M9 M10 M11 M12 M13 M14 M15 X2 X3 X4 X5 X6 X7 X8 X9 X10 X11) M5 := by
  unfold heldAt; exact .right (.right (.right (.right (.right (.left (reads_owns M5 X5))))))
theorem reach6 : Reads (F := F) c (heldAt c P O M2 M3 M4 M5 M6 M7 M8 M9 M10 M11 M12 M13 M14 M15 X2 X3 X4 X5 X6 X7 X8 X9 X10 X11) M6 := by
  unfold heldAt; exact .right (.right (.right (.right (.right (.right (.left (reads_owns M6 X6)))))))
theorem reach7 : Reads (F := F) c (heldAt c P O M2 M3 M4 M5 M6 M7 M8 M9 M10 M11 M12 M13 M14 M15 X2 X3 X4 X5 X6 X7 X8 X9 X10 X11) M7 := by
  unfold heldAt; exact .right (.right (.right (.right (.right (.right (.right (.left (reads_owns M7 X7))))))))
theorem reach8 : Reads (F := F) c (heldAt c P O M2 M3 M4 M5 M6 M7 M8 M9 M10 M11 M12 M13 M14 M15 X2 X3 X4 X5 X6 X7 X8 X9 X10 X11) M8 := by
  unfold heldAt; exact .right (.right (.right (.right (.right (.right (.right (.right (.left (reads_owns M8 X8)))))))))
theorem reach9 : Reads (F := F) c (heldAt c P O M2 M3 M4 M5 M6 M7 M8 M9 M10 M11 M12 M13 M14 M15 X2 X3 X4 X5 X6 X7 X8 X9 X10 X11) M9 := by
  unfold heldAt; exact .right (.right (.right (.right (.right (.right (.right (.right (.right (.left (reads_owns M9 X9))))))))))
theorem reach10 : Reads (F := F) c (heldAt c P O M2 M3 M4 M5 M6 M7 M8 M9 M10 M11 M12 M13 M14 M15 X2 X3 X4 X5 X6 X7 X8 X9 X10 X11) M10 := by
  unfold heldAt; exact .right (.right (.right (.right (.right (.right (.right (.right (.right (.right (.left (reads_owns M10 X10)))))))))))
theorem reach11 : Reads (F := F) c (heldAt c P O M2 M3 M4 M5 M6 M7 M8 M9 M10 M11 M12 M13 M14 M15 X2 X3 X4 X5 X6 X7 X8 X9 X10 X11) M11 := by
  unfold heldAt; exact .right (.right (.right (.right (.right (.right (.right (.right (.right (.right (.right (.left (reads_owns M11 X11))))))))))))
theorem reach12 : Writes (F := F) c (heldAt c P O M2 M3 M4 M5 M6 M7 M8 M9 M10 M11 M12 M13 M14 M15 X2 X3 X4 X5 X6 X7 X8 X9 X10 X11) M12 := by
  unfold heldAt; exact .right (.right (.right (.right (.right (.right (.right (.right (.right (.right (.right (.right (writes_owns M12))))))))))))
theorem reach13 (h : M13.view.set = Finset.univ) : Writes (F := F) c (heldAt c P O M2 M3 M4 M5 M6 M7 M8 M9 M10 M11 M12 M13 M14 M15 X2 X3 X4 X5 X6 X7 X8 X9 X10 X11) M13 := by
  unfold heldAt; exact .left (.left (.left (writes_whole M13 h)))
theorem reach14 (h : M14.view.set = Finset.univ) : Writes (F := F) c (heldAt c P O M2 M3 M4 M5 M6 M7 M8 M9 M10 M11 M12 M13 M14 M15 X2 X3 X4 X5 X6 X7 X8 X9 X10 X11) M14 := by
  unfold heldAt; exact .left (.left (.right (.left (writes_whole M14 h))))
theorem reach15 (h : M15.view.set = Finset.univ) : Writes (F := F) c (heldAt c P O M2 M3 M4 M5 M6 M7 M8 M9 M10 M11 M12 M13 M14 M15 X2 X3 X4 X5 X6 X7 X8 X9 X10 X11) M15 := by
  unfold heldAt; exact .left (.left (.right (.right (writes_whole M15 h))))

/-- Over any such memrefs, the three scratch ones whole, what is held reaches every buffer. -/
theorem accessAt (h13 : M13.view.set = Finset.univ) (h14 : M14.view.set = Finset.univ) (h15 : M15.view.set = Finset.univ) :
    Access c (heldAt c P O M2 M3 M4 M5 M6 M7 M8 M9 M10 M11 M12 M13 M14 M15 X2 X3 X4 X5 X6 X7 X8 X9 X10 X11) M2 M3 M4 M5 M6 M7 M8 M9 M10 M11 M12 M13 M14 M15 :=
  ⟨reach2, reach3, reach4, reach5, reach6, reach7, reach8, reach9, reach10, reach11, reach12, reach13 h13, reach14 h14, reach15 h15⟩

end Reach

/-- The result's window, the one whose contents are not named. -/
def forgotten : Fin cfg0.W → Bool := fun w => w == 10

/-- What the body holds at point `t`: the scratch, the generator register, what the core owes, the inputs at their
    blocks and the result's buffer at anything. -/
def held (c : Dev nD) (t : Fin cfg0.N) : Res F :=
  heldAt c iprop(∃ r, prngReg c r) ((dats m 0 c).owesAt () t.castSucc)
    (st0_0 t) (st0_1 t) (st0_2 t) (st0_3 t) (st0_4 t) (st0_5 t) (st0_6 t) (st0_7 t) (st0_8 t) (st0_9 t) (st0_10 t)
    (Memref.whole cc0_scratch0) (Memref.whole cc0_scratch1) (Memref.whole cc0_scratch2)
    (X0_0 m c t) (iblk m c 1 t) (X0_2 m c t) (iblk m c 3 t) (iblk m c 4 t) (iblk m c 5 t) (iblk m c 6 t) (iblk m c 7 t) (iblk m c 8 t) (iblk m c 9 t)

/-- What is held reaches each of the fourteen buffers. -/
theorem access (c : Dev nD) (t : Fin cfg0.N) : Access c (held m c t) (st0_0 t) (st0_1 t) (st0_2 t) (st0_3 t) (st0_4 t) (st0_5 t) (st0_6 t) (st0_7 t) (st0_8 t) (st0_9 t) (st0_10 t) (Memref.whole cc0_scratch0) (Memref.whole cc0_scratch1) (Memref.whole cc0_scratch2) := by
  unfold held
  exact accessAt (View.set_whole _) (View.set_whole _) (View.set_whole _)

/-- The body ends holding what it began with. -/
theorem body_keeps (c : Dev nD) (t : Fin cfg0.N) :
    held m c t ⊢ wp frame (wpE (defs₀ (F := F)) Variants.none (c : Thread nD τ) none) Set.univ (bodyAt0 (F := F) t)
      (fun _ => held m c t) := by
  have h : Keeps (F := F) c (held m c t) (bodyAt0 (F := F) t) := root (access m c t)
  unfold Keeps at h
  exact h

/-- What the pipeline hands the body at point `t`, window by window, -/
def pre (c : Dev nD) (t : Fin cfg0.N) : Res F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ X, owns (c : Thread nD τ) (st0_10 t) fullShare X))

/-- and what it takes back. -/
def post (c : Dev nD) (t : Fin cfg0.N) : Res F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ X, owns (c : Thread nD τ) (st0_10 t) fullShare X))

theorem phi_eq (c : Dev nD) (t : Fin (cfg0.N + 1)) : (dats m 0 c).Φ t
    = iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f))
      ∗ ∃ r, prngReg c r) := by
  show Pipeline.ΦA spec0 c = _
  unfold Pipeline.ΦA
  rw [scopedRest0_eq]

theorem pre_held (c : Dev nD) (t : Fin cfg0.N) : pre m c t ⊢ held m c t := by
  unfold pre held heldAt
  rw [phi_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
  isplitl [HΦ]; · iexact HΦ
  isplitl [Ho]; · iexact Ho
  isplitl [H0]; · rw [← before_0 m c t d0]; iexact H0
  isplitl [H1]; · rw [← before_1 m c t d1]; iexact H1
  isplitl [H2]; · rw [← before_2 m c t d2]; iexact H2
  isplitl [H3]; · rw [← before_3 m c t d3]; iexact H3
  isplitl [H4]; · rw [← before_4 m c t d4]; iexact H4
  isplitl [H5]; · rw [← before_5 m c t d5]; iexact H5
  isplitl [H6]; · rw [← before_6 m c t d6]; iexact H6
  isplitl [H7]; · rw [← before_7 m c t d7]; iexact H7
  isplitl [H8]; · rw [← before_8 m c t d8]; iexact H8
  isplitl [H9]; · rw [← before_9 m c t d9]; iexact H9
  iexact H10

theorem held_post (c : Dev nD) (t : Fin cfg0.N) : held m c t ⊢ post m c t := by
  unfold post held heldAt
  rw [phi_eq, show (dats m 0 c).owesAt () t.succ = (dats m 0 c).owesAt () t.castSucc from rfl]
  iintro ⟨HΦ, Ho, H0, H1, H2, H3, H4, H5, H6, H7, H8, H9, H10⟩
  isplitl [HΦ]; · iexact HΦ
  isplitl [Ho]; · iexact Ho
  isplitl [H0]; · rw [after_0 m c t]; iexact H0
  isplitl [H1]; · rw [after_1 m c t]; iexact H1
  isplitl [H2]; · rw [after_2 m c t]; iexact H2
  isplitl [H3]; · rw [after_3 m c t]; iexact H3
  isplitl [H4]; · rw [after_4 m c t]; iexact H4
  isplitl [H5]; · rw [after_5 m c t]; iexact H5
  isplitl [H6]; · rw [after_6 m c t]; iexact H6
  isplitl [H7]; · rw [after_7 m c t]; iexact H7
  isplitl [H8]; · rw [after_8 m c t]; iexact H8
  isplitl [H9]; · rw [after_9 m c t]; iexact H9
  iexact H10

/-- The body table's row at point `t`'s slots is the body. -/
theorem row (t : Fin cfg0.N) :
    defs₀ (F := F) .tc cfg0.body (cfg0.bodyArgs t (cfg0.slots t)) = bodyAt0 t := by
  unfold defs₀; rw [Defs.onTc_tc]

theorem obligation (c : Dev nD) :
    BodyObligation (dats m 0 c) (defs₀ (F := F)) Variants.none () Set.univ forgotten := fun t => by
  rw [bigSep_W0, bigSep_W0, row]
  exact triple_restated (body_keeps m c t) rfl (pre_held m c t) fun _ => held_post m c t

/-- The whole run, over any float values: the six arguments end unchanged and every counter ends at zero. -/
theorem run (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_forget_shared cfgs (dats m) 0 launch₀0 defs₀ Variants.none forgotten m g main
    (fun c => (obligation m c).loose) (fun _ _ _ => rfl) (fun _ _ => rfl) (V m) (hmain m Variants.none)
    (fun c w => A_eq m c w) (fun _ _ => rfl) (Q' := _)
    (fun _ h => ⟨fun c =>
      ⟨(h.1.arr_in c 0 rfl).trans ((A_eq m c 0).trans (V_main_arg0 m c)),
       (h.1.arr_in c 1 rfl).trans ((A_eq m c 1).trans (V_main_arg1 m c)),
       (h.1.arr_in c 3 rfl).trans ((A_eq m c 3).trans (V_main_arg2 m c)),
       ((h.1 c).2 main_arg3 (Pipeline.mem_restRefs_of main_arg3 (by decide) (by decide))).trans (V_main_arg3 m c),
       ((h.1 c).2 main_arg4 (Pipeline.mem_restRefs_of main_arg4 (by decide) (by decide))).trans (V_main_arg4 m c),
       ((h.1 c).2 main_arg5 (Pipeline.mem_restRefs_of main_arg5 (by decide) (by decide))).trans (V_main_arg5 m c)⟩,
      h.2⟩)

end Cert.Gdn.Delta

end
-- ==== Proof.lean ====
/-
  The claims, assembled: the sparse attention call's run (`Proof/DsaFrame.lean`), the merge's claims
  (`Proof/MergeClaims.lean`), the input projection's (`Proof/InProjClaims.lean`), the spatial gating's (`Proof/SgClaims.lean`),
  the memory projection's (`Proof/MemKvClaims.lean`), those of the attention over the memory
  (`Proof/MemAttnClaims.lean`), the state space scan's run (`Proof/SsdFrame.lean`) and the gated delta rule's
  (`Proof/GdnFrame.lean`).
-/
module

public import proofs.«01_k».proof.Defs
public import proofs.«01_k».proof.Proof.Gen.Kernel
public import proofs.«01_k».proof.Proof.DsaFrame
public import proofs.«01_k».proof.Proof.MergeClaims
public import proofs.«01_k».proof.Proof.InProjClaims
public import proofs.«01_k».proof.Proof.SgClaims
public import proofs.«01_k».proof.Proof.MemKvClaims
public import proofs.«01_k».proof.Proof.MemAttnClaims
public import proofs.«01_k».proof.Proof.Gen.Ssd
public import proofs.«01_k».proof.Proof.SsdFrame
public import proofs.«01_k».proof.Proof.GdnFrame
public import proofs.«01_k».proof.Proof.Gen.Gdn

@[expose] public section

noncomputable section

namespace Cert.Proof

open Idealize.ShloMosaic Idealize.SL.Sem

/-- Every claim of the certificate. -/
theorem claim : Cert.Claim :=
  ⟨Cert.Kernel.Gen.facts, Cert.Merge.Gen.facts, Cert.MergeIdeal.Gen.facts, Cert.MergeRefIdeal.Gen.facts,
    Cert.InProj.Gen.facts, Cert.InProjIdeal.Gen.facts, Cert.InProjRefIdeal.Gen.facts,
    Cert.Sg.Gen.facts, Cert.SgIdeal.Gen.facts, Cert.SgRefIdeal.Gen.facts,
    Cert.MemKv.Gen.facts, Cert.MemKvIdeal.Gen.facts, Cert.MemKvRefIdeal.Gen.facts,
    Cert.MemAttn.Gen.facts, Cert.MemAttnIdeal.Gen.facts, Cert.MemAttnRefIdeal.Gen.facts, Cert.Ssd.Gen.facts, Cert.Gdn.Gen.facts, Cert.Pre_finite_keys.facts,
    fun m g _ => Cert.Kernel.Dsa.run (F := Bits) m g,
    fun m ρ _ => Cert.Merge.Gen.frame m ρ,
    fun m ρ _ => Cert.MergeIdeal.Gen.frame m ρ,
    Cert.MergeClaims.frame_ref,
    fun m ρ _ => Cert.InProj.Gen.frame m ρ,
    fun m ρ _ => Cert.InProjIdeal.Gen.frame m ρ,
    Cert.InProjClaims.frame_ref,
    fun m ρ _ => Cert.Sg.Gen.frame m ρ,
    fun m ρ _ => Cert.SgIdeal.Gen.frame m ρ,
    Cert.SgClaims.frame_ref,
    fun m ρ _ => Cert.MemKv.Gen.frame m ρ,
    fun m ρ _ => Cert.MemKvIdeal.Gen.frame m ρ,
    Cert.MemKvClaims.frame_ref,
    fun m ρ _ => Cert.MemAttn.Gen.frame m ρ,
    fun m ρ _ => Cert.MemAttnIdeal.Gen.frame m ρ,
    fun m ρ _ => Cert.MemAttnIdeal.Gen.frame m ρ,
    Cert.MemAttnClaims.frame_ref,
    fun m ρ _ => Cert.MemAttnClaims.frame_ref m ρ trivial,
    fun m g _ => Cert.Ssd.Scan.run (F := Bits) m g,
    fun m g _ => Cert.Gdn.Delta.run (F := Bits) m g,
    trivial, Cert.MergeClaims.algebraic,
    trivial, Cert.InProjClaims.algebraic,
    trivial, Cert.SgClaims.algebraic,
    trivial, Cert.MemKvClaims.algebraic,
    trivial, Cert.MemAttnClaims.algebraic⟩

end Cert.Proof

end
